-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  IdealRules.named_const.Statement Cert.Kernel3Ideal.κ "log2e" .f32 0x3FB8AA3B#32 (((Real.log 2)⁻¹ : ℝ) : EReal)
  ∧ IdealRules.named_const.Statement Cert.Kernel3Ideal.κ "floor" .f32 0xC3160A50#32 ⊥

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v17)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v26) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v88) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v19_0)) (v1 : (c : Dev Cert.Kernel5Ideal.nD) → Buf (Elt Ideal) ((c.tc : Thread Cert.Kernel5Ideal.nD Cert.Kernel5Ideal.τ).loc Cert.Kernel5Ideal.main_v19_1)) (v2 : (c : Dev Cert.Kernel5Ideal.nD) → Buf (Elt Ideal) ((c.tc : Thread Cert.Kernel5Ideal.nD Cert.Kernel5Ideal.τ).loc Cert.Kernel5Ideal.main_v19_2)) (v3 : (c : Dev Cert.Kernel5Ideal.nD) → Buf (Elt Ideal) ((c.tc : Thread Cert.Kernel5Ideal.nD Cert.Kernel5Ideal.τ).loc Cert.Kernel5Ideal.main_v19_3)) (v4 : (c : Dev Cert.Kernel5Ideal.nD) → Buf (Elt Ideal) ((c.tc : Thread Cert.Kernel5Ideal.nD Cert.Kernel5Ideal.τ).loc Cert.Kernel5Ideal.main_v19_4)) (v5 : (c : Dev Cert.Kernel5Ideal.nD) → Buf (Elt Ideal) ((c.tc : Thread Cert.Kernel5Ideal.nD Cert.Kernel5Ideal.τ).loc Cert.Kernel5Ideal.main_v19_5)) (v6 : (c : Dev Cert.Kernel5Ideal.nD) → Buf (Elt Ideal) ((c.tc : Thread Cert.Kernel5Ideal.nD Cert.Kernel5Ideal.τ).loc Cert.Kernel5Ideal.main_v19_6)) (v7 : (c : Dev Cert.Kernel5Ideal.nD) → Buf (Elt Ideal) ((c.tc : Thread Cert.Kernel5Ideal.nD Cert.Kernel5Ideal.τ).loc Cert.Kernel5Ideal.main_v19_7)) (v8 : (c : Dev Cert.Kernel5Ideal.nD) → Buf (Elt Ideal) ((c.tc : Thread Cert.Kernel5Ideal.nD Cert.Kernel5Ideal.τ).loc Cert.Kernel5Ideal.main_v19_8)) (v9 : (c : Dev Cert.Kernel5Ideal.nD) → Buf (Elt Ideal) ((c.tc : Thread Cert.Kernel5Ideal.nD Cert.Kernel5Ideal.τ).loc Cert.Kernel5Ideal.main_v19_9)) (v10 : (c : Dev Cert.Kernel5Ideal.nD) → Buf (Elt Ideal) ((c.tc : Thread Cert.Kernel5Ideal.nD Cert.Kernel5Ideal.τ).loc Cert.Kernel5Ideal.main_v19_10)) (v11 : (c : Dev Cert.Kernel5Ideal.nD) → Buf (Elt Ideal) ((c.tc : Thread Cert.Kernel5Ideal.nD Cert.Kernel5Ideal.τ).loc Cert.Kernel5Ideal.main_v19_11)) (v12 : (c : Dev Cert.Kernel5Ideal.nD) → Buf (Elt Ideal) ((c.tc : Thread Cert.Kernel5Ideal.nD Cert.Kernel5Ideal.τ).loc Cert.Kernel5Ideal.main_v19_12)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v19_0) = v0 c
          ∧ r.2.mem ((c.tc : Thread Cert.Kernel5Ideal.nD Cert.Kernel5Ideal.τ).loc Cert.Kernel5Ideal.main_v19_1) = v1 c
          ∧ r.2.mem ((c.tc : Thread Cert.Kernel5Ideal.nD Cert.Kernel5Ideal.τ).loc Cert.Kernel5Ideal.main_v19_2) = v2 c
          ∧ r.2.mem ((c.tc : Thread Cert.Kernel5Ideal.nD Cert.Kernel5Ideal.τ).loc Cert.Kernel5Ideal.main_v19_3) = v3 c
          ∧ r.2.mem ((c.tc : Thread Cert.Kernel5Ideal.nD Cert.Kernel5Ideal.τ).loc Cert.Kernel5Ideal.main_v19_4) = v4 c
          ∧ r.2.mem ((c.tc : Thread Cert.Kernel5Ideal.nD Cert.Kernel5Ideal.τ).loc Cert.Kernel5Ideal.main_v19_5) = v5 c
          ∧ r.2.mem ((c.tc : Thread Cert.Kernel5Ideal.nD Cert.Kernel5Ideal.τ).loc Cert.Kernel5Ideal.main_v19_6) = v6 c
          ∧ r.2.mem ((c.tc : Thread Cert.Kernel5Ideal.nD Cert.Kernel5Ideal.τ).loc Cert.Kernel5Ideal.main_v19_7) = v7 c
          ∧ r.2.mem ((c.tc : Thread Cert.Kernel5Ideal.nD Cert.Kernel5Ideal.τ).loc Cert.Kernel5Ideal.main_v19_8) = v8 c
          ∧ r.2.mem ((c.tc : Thread Cert.Kernel5Ideal.nD Cert.Kernel5Ideal.τ).loc Cert.Kernel5Ideal.main_v19_9) = v9 c
          ∧ r.2.mem ((c.tc : Thread Cert.Kernel5Ideal.nD Cert.Kernel5Ideal.τ).loc Cert.Kernel5Ideal.main_v19_10) = v10 c
          ∧ r.2.mem ((c.tc : Thread Cert.Kernel5Ideal.nD Cert.Kernel5Ideal.τ).loc Cert.Kernel5Ideal.main_v19_11) = v11 c
          ∧ r.2.mem ((c.tc : Thread Cert.Kernel5Ideal.nD Cert.Kernel5Ideal.τ).loc Cert.Kernel5Ideal.main_v19_12) = v12 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v74) = v0 c
          ∧ r.2.mem ((c.tc : Thread Cert.Reference5Ideal.nD Cert.Reference5Ideal.τ).loc Cert.Reference5Ideal.main_v75) = v1 c
          ∧ r.2.mem ((c.tc : Thread Cert.Reference5Ideal.nD Cert.Reference5Ideal.τ).loc Cert.Reference5Ideal.main_v76) = v2 c
          ∧ r.2.mem ((c.tc : Thread Cert.Reference5Ideal.nD Cert.Reference5Ideal.τ).loc Cert.Reference5Ideal.main_v77) = v3 c
          ∧ r.2.mem ((c.tc : Thread Cert.Reference5Ideal.nD Cert.Reference5Ideal.τ).loc Cert.Reference5Ideal.main_v78) = v4 c
          ∧ r.2.mem ((c.tc : Thread Cert.Reference5Ideal.nD Cert.Reference5Ideal.τ).loc Cert.Reference5Ideal.main_v79) = v5 c
          ∧ r.2.mem ((c.tc : Thread Cert.Reference5Ideal.nD Cert.Reference5Ideal.τ).loc Cert.Reference5Ideal.main_v80) = v6 c
          ∧ r.2.mem ((c.tc : Thread Cert.Reference5Ideal.nD Cert.Reference5Ideal.τ).loc Cert.Reference5Ideal.main_v81) = v7 c
          ∧ r.2.mem ((c.tc : Thread Cert.Reference5Ideal.nD Cert.Reference5Ideal.τ).loc Cert.Reference5Ideal.main_v82) = v8 c
          ∧ r.2.mem ((c.tc : Thread Cert.Reference5Ideal.nD Cert.Reference5Ideal.τ).loc Cert.Reference5Ideal.main_v83) = v9 c
          ∧ r.2.mem ((c.tc : Thread Cert.Reference5Ideal.nD Cert.Reference5Ideal.τ).loc Cert.Reference5Ideal.main_v84) = v10 c
          ∧ r.2.mem ((c.tc : Thread Cert.Reference5Ideal.nD Cert.Reference5Ideal.τ).loc Cert.Reference5Ideal.main_v87) = v11 c
          ∧ r.2.mem ((c.tc : Thread Cert.Reference5Ideal.nD Cert.Reference5Ideal.τ).loc Cert.Reference5Ideal.main_v88) = v12 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S2x16384x512 : Shape := ⟨3, ![2, 16384, 512]⟩
abbrev S2x16384x128 : Shape := ⟨3, ![2, 16384, 128]⟩
abbrev S32x12 : Shape := ⟨2, ![32, 12]⟩
abbrev S8 : Shape := ⟨1, ![8]⟩
abbrev S_ : Shape := ⟨0, ![]⟩

class Facts : Prop where
  bcast_S_S2x16384x512 : S_.BroadcastsInDim S2x16384x512 (![] : Fin 0 → Fin S2x16384x512.rank)
  reducesTo_S2x16384x512_S_d0_1_2 : S2x16384x512.ReducesTo [0, 1, 2] S_
  h_S_ : 0 < S_.numel
  bcast_S_S2x16384x128 : S_.BroadcastsInDim S2x16384x128 (![] : Fin 0 → Fin S2x16384x128.rank)
  reducesTo_S2x16384x128_S_d0_1_2 : S2x16384x128.ReducesTo [0, 1, 2] S_
  bcast_S_S32x12 : S_.BroadcastsInDim S32x12 (![] : Fin 0 → Fin S32x12.rank)
  reducesTo_S32x12_S_d0_1 : S32x12.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  main_v18

def fn {F : FTy → Type} [FloatOps F] (main_arg0 : FVec F S2x16384x512 .f32) (main_arg1 : FVec F S2x16384x128 .f32) (main_arg2 : FVec F S2x16384x128 .f32) (main_arg3 : FVec F S32x12 .f32) (main_arg4 : FVec F S8 .f32) : IVec S_ 1 :=
  let main_v0 : FVec F S2x16384x512 .f32 := Host.absf main_arg0
  let main_cst : FVec F S_ .f32 := constant S_ .f32 0x7F800000#32
  let main_v1 : FVec F S2x16384x512 .f32 := broadcastInDim S2x16384x512 ![] bcast_S_S2x16384x512 main_cst
  let main_v2 : IVec S2x16384x512 1 := cmpf .olt main_v0 main_v1
  let main_c : IVec S_ 1 := constantI S_ 1 1#1
  let main_v3 : IVec S_ 1 := (fun x v => Host.reduce IntOp.andi x v reducesTo_S2x16384x512_S_d0_1_2 h_S_) main_v2 main_c
  let main_v4 : FVec F S2x16384x128 .f32 := Host.absf main_arg1
  let main_cst_0 : FVec F S_ .f32 := constant S_ .f32 0x7F800000#32
  let main_v5 : FVec F S2x16384x128 .f32 := broadcastInDim S2x16384x128 ![] bcast_S_S2x16384x128 main_cst_0
  let main_v6 : IVec S2x16384x128 1 := cmpf .olt main_v4 main_v5
  let main_c_1 : IVec S_ 1 := constantI S_ 1 1#1
  let main_v7 : IVec S_ 1 := (fun x v => Host.reduce IntOp.andi x v reducesTo_S2x16384x128_S_d0_1_2 h_S_) main_v6 main_c_1
  let main_v8 : IVec S_ 1 := andi main_v3 main_v7
  let main_v9 : FVec F S32x12 .f32 := Host.absf main_arg3
  let main_cst_2 : FVec F S_ .f32 := constant S_ .f32 0x7F800000#32
  let main_v10 : FVec F S32x12 .f32 := broadcastInDim S32x12 ![] bcast_S_S32x12 main_cst_2
  let main_v11 : IVec S32x12 1 := cmpf .olt main_v9 main_v10
  let main_c_3 : IVec S_ 1 := constantI S_ 1 1#1
  let main_v12 : IVec S_ 1 := (fun x v => Host.reduce IntOp.andi x v reducesTo_S32x12_S_d0_1 h_S_) main_v11 main_c_3
  let main_v13 : IVec S_ 1 := andi main_v8 main_v12
  let main_v14 : FVec F S8 .f32 := Host.absf main_arg4
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_v13 main_v16
-- ==== Pre_finite3.lean ====
abbrev S2x16384x256 : Shape := ⟨3, ![2, 16384, 256]⟩
abbrev S_ : Shape := ⟨0, ![]⟩

class Facts : Prop where
  bcast_S_S2x16384x256 : S_.BroadcastsInDim S2x16384x256 (![] : Fin 0 → Fin S2x16384x256.rank)
  reducesTo_S2x16384x256_S_d0_1_2 : S2x16384x256.ReducesTo [0, 1, 2] S_
  h_S_ : 0 < S_.numel

variable [Facts]

def fn {F : FTy → Type} [FloatOps F] (main_arg0 : FVec F S2x16384x256 .f32) (main_arg1 : FVec F S2x16384x256 .f32) (main_arg2 : FVec F S2x16384x256 .f32) : IVec S_ 1 :=
  let main_v0 : FVec F S2x16384x256 .f32 := Host.absf main_arg0
  let main_cst : FVec F S_ .f32 := constant S_ .f32 0x7F800000#32
  let main_v1 : FVec F S2x16384x256 .f32 := broadcastInDim S2x16384x256 ![] bcast_S_S2x16384x256 main_cst
  let main_v2 : IVec S2x16384x256 1 := cmpf .olt main_v0 main_v1
  let main_c : IVec S_ 1 := constantI S_ 1 1#1
  let main_v3 : IVec S_ 1 := (fun x v => Host.reduce IntOp.andi x v reducesTo_S2x16384x256_S_d0_1_2 h_S_) main_v2 main_c
  let main_v4 : FVec F S2x16384x256 .f32 := Host.absf main_arg1
  let main_cst_0 : FVec F S_ .f32 := constant S_ .f32 0x7F800000#32
  let main_v5 : FVec F S2x16384x256 .f32 := broadcastInDim S2x16384x256 ![] bcast_S_S2x16384x256 main_cst_0
  let main_v6 : IVec S2x16384x256 1 := cmpf .olt main_v4 main_v5
  let main_c_1 : IVec S_ 1 := constantI S_ 1 1#1
  let main_v7 : IVec S_ 1 := (fun x v => Host.reduce IntOp.andi x v reducesTo_S2x16384x256_S_d0_1_2 h_S_) main_v6 main_c_1
  let main_v8 : IVec S_ 1 := andi main_v3 main_v7
  main_v8
-- ==== Kernel.lean ====
abbrev S2x16384x512 : Shape := ⟨3, ![2, 16384, 512]⟩
abbrev S2x16384x128 : Shape := ⟨3, ![2, 16384, 128]⟩
abbrev S32x12 : Shape := ⟨2, ![32, 12]⟩
abbrev S8 : Shape := ⟨1, ![8]⟩
abbrev S2x128x1024 : Shape := ⟨3, ![2, 128, 1024]⟩
abbrev S2x128x128 : Shape := ⟨3, ![2, 128, 128]⟩
abbrev S128x128 : Shape := ⟨2, ![128, 128]⟩
abbrev S1x1 : Shape := ⟨2, ![1, 1]⟩
abbrev S1x128x128 : Shape := ⟨3, ![1, 128, 128]⟩
abbrev S2x1x4x1 : Shape := ⟨4, ![2, 1, 4, 1]⟩
abbrev S2x1x4x128 : Shape := ⟨4, ![2, 1, 4, 128]⟩
abbrev S2x1x512 : Shape := ⟨3, ![2, 1, 512]⟩
abbrev S_ : Shape := ⟨0, ![]⟩
abbrev S2x128x128x8x64 : Shape := ⟨5, ![2, 128, 128, 8, 64]⟩
abbrev S2x128x64x8x128 : Shape := ⟨5, ![2, 128, 64, 8, 128]⟩
abbrev S2x128x64x1024 : Shape := ⟨4, ![2, 128, 64, 1024]⟩
abbrev S2x16384x2x64 : Shape := ⟨4, ![2, 16384, 2, 64]⟩
abbrev S2x2x16384x64 : Shape := ⟨4, ![2, 2, 16384, 64]⟩
abbrev S2x2x64x16384 : Shape := ⟨4, ![2, 2, 64, 16384]⟩
abbrev S2x2x16x16384 : Shape := ⟨4, ![2, 2, 16, 16384]⟩
abbrev S2x2x80x16384 : Shape := ⟨4, ![2, 2, 80, 16384]⟩
abbrev S1x8x64x1024 : Shape := ⟨4, ![1, 8, 64, 1024]⟩
abbrev S1x2x128x64 : Shape := ⟨4, ![1, 2, 128, 64]⟩
abbrev S1x2x1024x64 : Shape := ⟨4, ![1, 2, 1024, 64]⟩
abbrev S1x2x80x128 : Shape := ⟨4, ![1, 2, 80, 128]⟩
abbrev S1x2x80x1024 : Shape := ⟨4, ![1, 2, 80, 1024]⟩
abbrev S1x1024x512 : Shape := ⟨3, ![1, 1024, 512]⟩
abbrev S256x512 : Shape := ⟨2, ![256, 512]⟩
abbrev S1x1x128x64 : Shape := ⟨4, ![1, 1, 128, 64]⟩
abbrev S128x64 : Shape := ⟨2, ![128, 64]⟩
abbrev S1x1x1024x64 : Shape := ⟨4, ![1, 1, 1024, 64]⟩
abbrev S1024x64 : Shape := ⟨2, ![1024, 64]⟩
abbrev S1152x64 : Shape := ⟨2, ![1152, 64]⟩
abbrev S1x1x80x128 : Shape := ⟨4, ![1, 1, 80, 128]⟩
abbrev S80x128 : Shape := ⟨2, ![80, 128]⟩
abbrev S1x1x80x1024 : Shape := ⟨4, ![1, 1, 80, 1024]⟩
abbrev S80x1024 : Shape := ⟨2, ![80, 1024]⟩
abbrev S80x1152 : Shape := ⟨2, ![80, 1152]⟩
abbrev S1x128x512 : Shape := ⟨3, ![1, 128, 512]⟩
abbrev S128x512 : Shape := ⟨2, ![128, 512]⟩
abbrev S256x64 : Shape := ⟨2, ![256, 64]⟩
abbrev S1x1x64x512 : Shape := ⟨4, ![1, 1, 64, 512]⟩
abbrev S64x512 : Shape := ⟨2, ![64, 512]⟩
abbrev S512 : Shape := ⟨1, ![512]⟩
abbrev S1x512 : Shape := ⟨2, ![1, 512]⟩
abbrev S1x1x512 : Shape := ⟨3, ![1, 1, 512]⟩
abbrev S80x256 : Shape := ⟨2, ![80, 256]⟩
abbrev S80x512 : Shape := ⟨2, ![80, 512]⟩
abbrev S64x128 : Shape := ⟨2, ![64, 128]⟩
abbrev S128x256 : Shape := ⟨2, ![128, 256]⟩
abbrev S1x128x256 : Shape := ⟨3, ![1, 128, 256]⟩

abbrev nBuf : Space → Nat
  | .hbm => 34
  | .vmem => 16
  | .smem => 1
  | _ => 0

abbrev bufTy : (tb : Table) → Fin (tcTables nBuf tb) → BufTy
  | .hbm, ⟨0, _⟩ => ⟨S2x16384x512, .f32⟩
  | .hbm, ⟨1, _⟩ => ⟨S2x16384x128, .f32⟩
  | .hbm, ⟨2, _⟩ => ⟨S2x16384x128, .f32⟩
  | .hbm, ⟨3, _⟩ => ⟨S32x12, .f32⟩
  | .hbm, ⟨4, _⟩ => ⟨S8, .f32⟩
  | .hbm, ⟨5, _⟩ => ⟨S2x128x1024, .f32⟩
  | .hbm, ⟨6, _⟩ => ⟨S2x1x4x1, .f32⟩
  | .hbm, ⟨7, _⟩ => ⟨S2x1x4x128, .f32⟩
  | .hbm, ⟨8, _⟩ => ⟨S2x1x512, .f32⟩
  | .hbm, ⟨9, _⟩ => ⟨S_, .f32⟩
  | .hbm, ⟨10, _⟩ => ⟨S2x16384x512, .f32⟩
  | .hbm, ⟨11, _⟩ => ⟨S2x16384x512, .f32⟩
  | .hbm, ⟨12, _⟩ => ⟨S2x128x128x8x64, .f32⟩
  | .hbm, ⟨13, _⟩ => ⟨S2x128x64x8x128, .f32⟩
  | .hbm, ⟨14, _⟩ => ⟨S2x128x64x1024, .f32⟩
  | .hbm, ⟨15, _⟩ => ⟨S2x128x64x1024, .bf16⟩
  | .hbm, ⟨16, _⟩ => ⟨S2x16384x2x64, .f32⟩
  | .hbm, ⟨17, _⟩ => ⟨S2x2x16384x64, .f32⟩
  | .hbm, ⟨18, _⟩ => ⟨S2x2x16384x64, .bf16⟩
  | .hbm, ⟨19, _⟩ => ⟨S2x16384x2x64, .f32⟩
  | .hbm, ⟨20, _⟩ => ⟨S2x2x64x16384, .f32⟩
  | .hbm, ⟨21, _⟩ => ⟨S2x2x16x16384, .i32⟩
  | .hbm, ⟨22, _⟩ => ⟨S_, .i32⟩
  | .hbm, ⟨23, _⟩ => ⟨S2x2x16x16384, .i32⟩
  | .hbm, ⟨24, _⟩ => ⟨S2x2x16x16384, .i1⟩
  | .hbm, ⟨25, _⟩ => ⟨S_, .f32⟩
  | .hbm, ⟨26, _⟩ => ⟨S_, .f32⟩
  | .hbm, ⟨27, _⟩ => ⟨S2x2x16x16384, .f32⟩
  | .hbm, ⟨28, _⟩ => ⟨S2x2x16x16384, .f32⟩
  | .hbm, ⟨29, _⟩ => ⟨S2x2x16x16384, .f32⟩
  | .hbm, ⟨30, _⟩ => ⟨S2x2x16x16384, .f32⟩
  | .hbm, ⟨31, _⟩ => ⟨S2x2x80x16384, .f32⟩
  | .hbm, ⟨32, _⟩ => ⟨S2x2x80x16384, .bf16⟩
  | .hbm, ⟨33, _⟩ => ⟨S2x16384x512, .f32⟩
  | .local _ .vmem, ⟨0, _⟩ => ⟨S2x128x128, .f32⟩
  | .local _ .vmem, ⟨1, _⟩ => ⟨S2x128x128, .f32⟩
  | .local _ .vmem, ⟨2, _⟩ => ⟨S1x8x64x1024, .bf16⟩
  | .local _ .vmem, ⟨3, _⟩ => ⟨S1x8x64x1024, .bf16⟩
  | .local _ .vmem, ⟨4, _⟩ => ⟨S1x2x128x64, .bf16⟩
  | .local _ .vmem, ⟨5, _⟩ => ⟨S1x2x128x64, .bf16⟩
  | .local _ .vmem, ⟨6, _⟩ => ⟨S1x2x1024x64, .bf16⟩
  | .local _ .vmem, ⟨7, _⟩ => ⟨S1x2x1024x64, .bf16⟩
  | .local _ .vmem, ⟨8, _⟩ => ⟨S1x2x80x128, .bf16⟩
  | .local _ .vmem, ⟨9, _⟩ => ⟨S1x2x80x128, .bf16⟩
  | .local _ .vmem, ⟨10, _⟩ => ⟨S1x2x80x1024, .bf16⟩
  | .local _ .vmem, ⟨11, _⟩ => ⟨S1x2x80x1024, .bf16⟩
  | .local _ .vmem, ⟨12, _⟩ => ⟨S2x128x1024, .f32⟩
  | .local _ .vmem, ⟨13, _⟩ => ⟨S2x1x512, .f32⟩
  | .local _ .vmem, ⟨14, _⟩ => ⟨S1x1024x512, .f32⟩
  | .local _ .vmem, ⟨15, _⟩ => ⟨S1x1024x512, .f32⟩
  | .local _ .smem, ⟨0, _⟩ => ⟨S32x12, .f32⟩
  | _, _ => ⟨S2x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_cst_1 : Ref sig .tc := ⟨.hbm, 26, rfl⟩
abbrev main_call0_v0 : Ref sig .tc := ⟨.hbm, 27, rfl⟩
abbrev main_call0_v1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg1_0 : Ref sig .tc := ⟨.vmem, 0, rfl⟩
abbrev cc0_stg1_1 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem6_0 : DmaSem sig := 14
abbrev cc1_sem7_0 : DmaSem sig := 15
abbrev cc1_sem7_1 : DmaSem sig := 16

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c2_i32 : BitVec 32 := 2#32
  let v1 : BitVec 32 := Scalar.addi c0_i32 c2_i32
  let c1_i32 : BitVec 32 := 1#32
  ⟨c0_i32, v1, c1_i32⟩
def k0_off1 (i : grid0.Coords) : Fin 2 → Nat :=
  let c0 : Index := 0#32
  let arg0 : BitVec 32 := BitVec.ofNat 32 (i 0).val
  let c4_i32 : BitVec 32 := 4#32
  let v0 : BitVec 32 := Scalar.addi arg0 c4_i32
  let v28 : Index := Scalar.indexCast v0
  ![0, v28.toNat]
def k0_off2 (i : grid0.Coords) : Fin 2 → Nat :=
  let c1 : Index := 1#32
  let arg0 : BitVec 32 := BitVec.ofNat 32 (i 0).val
  let c4_i32 : BitVec 32 := 4#32
  let v0 : BitVec 32 := Scalar.addi arg0 c4_i32
  let v33 : Index := Scalar.indexCast v0
  ![1, v33.toNat]
def k0_off3 (i : grid0.Coords) : Fin 2 → Nat :=
  let c2 : Index := 2#32
  let arg0 : BitVec 32 := BitVec.ofNat 32 (i 0).val
  let c4_i32 : BitVec 32 := 4#32
  let v0 : BitVec 32 := Scalar.addi arg0 c4_i32
  let v39 : Index := Scalar.indexCast v0
  ![2, v39.toNat]
def k0_off4 (i : grid0.Coords) : Fin 2 → Nat :=
  let c3 : Index := 3#32
  let arg0 : BitVec 32 := BitVec.ofNat 32 (i 0).val
  let c4_i32 : BitVec 32 := 4#32
  let v0 : BitVec 32 := Scalar.addi arg0 c4_i32
  let v45 : Index := Scalar.indexCast v0
  ![3, v45.toNat]
def k0_off5 (i : grid0.Coords) : Fin 2 → Nat :=
  let c4 : Index := 4#32
  let arg0 : BitVec 32 := BitVec.ofNat 32 (i 0).val
  let c4_i32 : BitVec 32 := 4#32
  let v0 : BitVec 32 := Scalar.addi arg0 c4_i32
  let v51 : Index := Scalar.indexCast v0
  ![4, v51.toNat]
def k0_off6 (i : grid0.Coords) : Fin 2 → Nat :=
  let c5 : Index := 5#32
  let arg0 : BitVec 32 := BitVec.ofNat 32 (i 0).val
  let c4_i32 : BitVec 32 := 4#32
  let v0 : BitVec 32 := Scalar.addi arg0 c4_i32
  let v57 : Index := Scalar.indexCast v0
  ![5, v57.toNat]
def k0_off7 (i : grid0.Coords) : Fin 2 → Nat :=
  let c6 : Index := 6#32
  let arg0 : BitVec 32 := BitVec.ofNat 32 (i 0).val
  let c4_i32 : BitVec 32 := 4#32
  let v0 : BitVec 32 := Scalar.addi arg0 c4_i32
  let v63 : Index := Scalar.indexCast v0
  ![6, v63.toNat]
def k0_off8 (i : grid0.Coords) : Fin 2 → Nat :=
  let c7 : Index := 7#32
  let arg0 : BitVec 32 := BitVec.ofNat 32 (i 0).val
  let c4_i32 : BitVec 32 := 4#32
  let v0 : BitVec 32 := Scalar.addi arg0 c4_i32
  let v69 : Index := Scalar.indexCast v0
  ![7, v69.toNat]
def k0_off9 (i : grid0.Coords) : Fin 2 → Nat :=
  let c8 : Index := 8#32
  let arg0 : BitVec 32 := BitVec.ofNat 32 (i 0).val
  let c4_i32 : BitVec 32 := 4#32
  let v0 : BitVec 32 := Scalar.addi arg0 c4_i32
  let v75 : Index := Scalar.indexCast v0
  ![8, v75.toNat]
def k0_off10 (i : grid0.Coords) : Fin 2 → Nat :=
  let c9 : Index := 9#32
  let arg0 : BitVec 32 := BitVec.ofNat 32 (i 0).val
  let c4_i32 : BitVec 32 := 4#32
  let v0 : BitVec 32 := Scalar.addi arg0 c4_i32
  let v81 : Index := Scalar.indexCast v0
  ![9, v81.toNat]
def k0_off11 (i : grid0.Coords) : Fin 2 → Nat :=
  let c10 : Index := 10#32
  let arg0 : BitVec 32 := BitVec.ofNat 32 (i 0).val
  let c4_i32 : BitVec 32 := 4#32
  let v0 : BitVec 32 := Scalar.addi arg0 c4_i32
  let v87 : Index := Scalar.indexCast v0
  ![10, v87.toNat]
def k0_off12 (i : grid0.Coords) : Fin 2 → Nat :=
  let c11 : Index := 11#32
  let arg0 : BitVec 32 := BitVec.ofNat 32 (i 0).val
  let c4_i32 : BitVec 32 := 4#32
  let v0 : BitVec 32 := Scalar.addi arg0 c4_i32
  let v93 : Index := Scalar.indexCast v0
  ![11, v93.toNat]
def k0_off13 (i : grid0.Coords) : Fin 2 → Nat :=
  let c12 : Index := 12#32
  let arg0 : BitVec 32 := BitVec.ofNat 32 (i 0).val
  let c4_i32 : BitVec 32 := 4#32
  let v0 : BitVec 32 := Scalar.addi arg0 c4_i32
  let v99 : Index := Scalar.indexCast v0
  ![12, v99.toNat]
def k0_off14 (i : grid0.Coords) : Fin 2 → Nat :=
  let c13 : Index := 13#32
  let arg0 : BitVec 32 := BitVec.ofNat 32 (i 0).val
  let c4_i32 : BitVec 32 := 4#32
  let v0 : BitVec 32 := Scalar.addi arg0 c4_i32
  let v105 : Index := Scalar.indexCast v0
  ![13, v105.toNat]
def k0_off15 (i : grid0.Coords) : Fin 2 → Nat :=
  let c14 : Index := 14#32
  let arg0 : BitVec 32 := BitVec.ofNat 32 (i 0).val
  let c4_i32 : BitVec 32 := 4#32
  let v0 : BitVec 32 := Scalar.addi arg0 c4_i32
  let v111 : Index := Scalar.indexCast v0
  ![14, v111.toNat]
def k0_off16 (i : grid0.Coords) : Fin 2 → Nat :=
  let c15 : Index := 15#32
  let arg0 : BitVec 32 := BitVec.ofNat 32 (i 0).val
  let c4_i32 : BitVec 32 := 4#32
  let v0 : BitVec 32 := Scalar.addi arg0 c4_i32
  let v117 : Index := Scalar.indexCast v0
  ![15, v117.toNat]
def k0_off17 (i : grid0.Coords) : Fin 2 → Nat :=
  let c16 : Index := 16#32
  let arg0 : BitVec 32 := BitVec.ofNat 32 (i 0).val
  let c4_i32 : BitVec 32 := 4#32
  let v0 : BitVec 32 := Scalar.addi arg0 c4_i32
  let v123 : Index := Scalar.indexCast v0
  ![16, v123.toNat]
def k0_off18 (i : grid0.Coords) : Fin 2 → Nat :=
  let c17 : Index := 17#32
  let arg0 : BitVec 32 := BitVec.ofNat 32 (i 0).val
  let c4_i32 : BitVec 32 := 4#32
  let v0 : BitVec 32 := Scalar.addi arg0 c4_i32
  let v129 : Index := Scalar.indexCast v0
  ![17, v129.toNat]
def k0_off19 (i : grid0.Coords) : Fin 2 → Nat :=
  let c18 : Index := 18#32
  let arg0 : BitVec 32 := BitVec.ofNat 32 (i 0).val
  let c4_i32 : BitVec 32 := 4#32
  let v0 : BitVec 32 := Scalar.addi arg0 c4_i32
  let v135 : Index := Scalar.indexCast v0
  ![18, v135.toNat]
def k0_off20 (i : grid0.Coords) : Fin 2 → Nat :=
  let c19 : Index := 19#32
  let arg0 : BitVec 32 := BitVec.ofNat 32 (i 0).val
  let c4_i32 : BitVec 32 := 4#32
  let v0 : BitVec 32 := Scalar.addi arg0 c4_i32
  let v141 : Index := Scalar.indexCast v0
  ![19, v141.toNat]
def k0_off21 (i : grid0.Coords) : Fin 2 → Nat :=
  let c20 : Index := 20#32
  let arg0 : BitVec 32 := BitVec.ofNat 32 (i 0).val
  let c4_i32 : BitVec 32 := 4#32
  let v0 : BitVec 32 := Scalar.addi arg0 c4_i32
  let v147 : Index := Scalar.indexCast v0
  ![20, v147.toNat]
def k0_off22 (i : grid0.Coords) : Fin 2 → Nat :=
  let c21 : Index := 21#32
  let arg0 : BitVec 32 := BitVec.ofNat 32 (i 0).val
  let c4_i32 : BitVec 32 := 4#32
  let v0 : BitVec 32 := Scalar.addi arg0 c4_i32
  let v153 : Index := Scalar.indexCast v0
  ![21, v153.toNat]
def k0_off23 (i : grid0.Coords) : Fin 2 → Nat :=
  let c22 : Index := 22#32
  let arg0 : BitVec 32 := BitVec.ofNat 32 (i 0).val
  let c4_i32 : BitVec 32 := 4#32
  let v0 : BitVec 32 := Scalar.addi arg0 c4_i32
  let v159 : Index := Scalar.indexCast v0
  ![22, v159.toNat]
def k0_off24 (i : grid0.Coords) : Fin 2 → Nat :=
  let c23 : Index := 23#32
  let arg0 : BitVec 32 := BitVec.ofNat 32 (i 0).val
  let c4_i32 : BitVec 32 := 4#32
  let v0 : BitVec 32 := Scalar.addi arg0 c4_i32
  let v165 : Index := Scalar.indexCast v0
  ![23, v165.toNat]
def k0_off25 (i : grid0.Coords) : Fin 2 → Nat :=
  let c24 : Index := 24#32
  let arg0 : BitVec 32 := BitVec.ofNat 32 (i 0).val
  let c4_i32 : BitVec 32 := 4#32
  let v0 : BitVec 32 := Scalar.addi arg0 c4_i32
  let v171 : Index := Scalar.indexCast v0
  ![24, v171.toNat]
def k0_off26 (i : grid0.Coords) : Fin 2 → Nat :=
  let c25 : Index := 25#32
  let arg0 : BitVec 32 := BitVec.ofNat 32 (i 0).val
  let c4_i32 : BitVec 32 := 4#32
  let v0 : BitVec 32 := Scalar.addi arg0 c4_i32
  let v177 : Index := Scalar.indexCast v0
  ![25, v177.toNat]
def k0_off27 (i : grid0.Coords) : Fin 2 → Nat :=
  let c26 : Index := 26#32
  let arg0 : BitVec 32 := BitVec.ofNat 32 (i 0).val
  let c4_i32 : BitVec 32 := 4#32
  let v0 : BitVec 32 := Scalar.addi arg0 c4_i32
  let v183 : Index := Scalar.indexCast v0
  ![26, v183.toNat]
def k0_off28 (i : grid0.Coords) : Fin 2 → Nat :=
  let c27 : Index := 27#32
  let arg0 : BitVec 32 := BitVec.ofNat 32 (i 0).val
  let c4_i32 : BitVec 32 := 4#32
  let v0 : BitVec 32 := Scalar.addi arg0 c4_i32
  let v189 : Index := Scalar.indexCast v0
  ![27, v189.toNat]
def k0_off29 (i : grid0.Coords) : Fin 2 → Nat :=
  let c28 : Index := 28#32
  let arg0 : BitVec 32 := BitVec.ofNat 32 (i 0).val
  let c4_i32 : BitVec 32 := 4#32
  let v0 : BitVec 32 := Scalar.addi arg0 c4_i32
  let v195 : Index := Scalar.indexCast v0
  ![28, v195.toNat]
def k0_off30 (i : grid0.Coords) : Fin 2 → Nat :=
  let c29 : Index := 29#32
  let arg0 : BitVec 32 := BitVec.ofNat 32 (i 0).val
  let c4_i32 : BitVec 32 := 4#32
  let v0 : BitVec 32 := Scalar.addi arg0 c4_i32
  let v201 : Index := Scalar.indexCast v0
  ![29, v201.toNat]
def k0_off31 (i : grid0.Coords) : Fin 2 → Nat :=
  let c30 : Index := 30#32
  let arg0 : BitVec 32 := BitVec.ofNat 32 (i 0).val
  let c4_i32 : BitVec 32 := 4#32
  let v0 : BitVec 32 := Scalar.addi arg0 c4_i32
  let v207 : Index := Scalar.indexCast v0
  ![30, v207.toNat]
def k0_off32 (i : grid0.Coords) : Fin 2 → Nat :=
  let c31 : Index := 31#32
  let arg0 : BitVec 32 := BitVec.ofNat 32 (i 0).val
  let c4_i32 : BitVec 32 := 4#32
  let v0 : BitVec 32 := Scalar.addi arg0 c4_i32
  let v213 : Index := Scalar.indexCast v0
  ![31, v213.toNat]
def k0_off33 (k0_t1 : Fin k0_t1_loop.trips) : Fin 3 → Nat :=
  let c0_i32 : BitVec 32 := 0#32
  let c1_i32 : BitVec 32 := 1#32
  let arg3 : BitVec 32 := Scf.iv c0_i32 c1_i32 k0_t1
  let v217 : Index := Scalar.indexCast arg3
  let c0_11 : Index := 0#32
  let c0_12 : Index := 0#32
  ![v217.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .smem S32x12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, c0_i32_0.toNat, v2.toNat, c0_i32_1.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_3 (i : grid1.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, c0_i32_0.toNat, c0_i32_1.toNat, v2.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x8x64x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2x128x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x2x1024x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x2x80x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x2x80x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 1 → Memref sig .tc .vmem S2x128x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S2x1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x1024x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== KernelIdeal.lean ====
variable {F : FTy → Type} [FloatOps F] [Named F]
def κ : String → Option EReal := fun
  | "mask" => some ⊥
  | _ => none
-- ==== ReferenceIdeal.lean ====
abbrev S2x16384x512 : Shape := ⟨3, ![2, 16384, 512]⟩
abbrev S2x16384x128 : Shape := ⟨3, ![2, 16384, 128]⟩
abbrev S32x12 : Shape := ⟨2, ![32, 12]⟩
abbrev S8 : Shape := ⟨1, ![8]⟩
abbrev S2x16384x8x64 : Shape := ⟨4, ![2, 16384, 8, 64]⟩
abbrev S2x8x16384x64 : Shape := ⟨4, ![2, 8, 16384, 64]⟩
abbrev S2x2x4x16384x64 : Shape := ⟨5, ![2, 2, 4, 16384, 64]⟩
abbrev S2x16384x2x64 : Shape := ⟨4, ![2, 16384, 2, 64]⟩
abbrev S2x2x16384x64 : Shape := ⟨4, ![2, 2, 16384, 64]⟩
abbrev S32x8 : Shape := ⟨2, ![32, 8]⟩
abbrev S_ : Shape := ⟨0, ![]⟩
abbrev S2x2x16512x64 : Shape := ⟨4, ![2, 2, 16512, 64]⟩
abbrev S2x2x128x128x64 : Shape := ⟨5, ![2, 2, 128, 128, 64]⟩
abbrev S2x2x128x256x64 : Shape := ⟨5, ![2, 2, 128, 256, 64]⟩
abbrev S2x2x4x128x128x64 : Shape := ⟨6, ![2, 2, 4, 128, 128, 64]⟩
abbrev S2x2x128x256x4x128 : Shape := ⟨6, ![2, 2, 128, 256, 4, 128]⟩
abbrev S2x2x4x128x128x256 : Shape := ⟨6, ![2, 2, 4, 128, 128, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S256 : Shape := ⟨1, ![256]⟩
abbrev S1x256 : Shape := ⟨2, ![1, 256]⟩
abbrev S128x256 : Shape := ⟨2, ![128, 256]⟩
abbrev S128x128x1 : Shape := ⟨3, ![128, 128, 1]⟩
abbrev S128x1x256 : Shape := ⟨3, ![128, 1, 256]⟩
abbrev S128x128x256 : Shape := ⟨3, ![128, 128, 256]⟩
abbrev S128x128x256x1 : Shape := ⟨4, ![128, 128, 256, 1]⟩
abbrev S128x128x256x8 : Shape := ⟨4, ![128, 128, 256, 8]⟩
abbrev S8x128x128x256 : Shape := ⟨4, ![8, 128, 128, 256]⟩
abbrev S2x4x128x128x256 : Shape := ⟨5, ![2, 4, 128, 128, 256]⟩
abbrev S1x2x4x128x128x256 : Shape := ⟨6, ![1, 2, 4, 128, 128, 256]⟩
abbrev S2x2x4x128x128 : Shape := ⟨5, ![2, 2, 4, 128, 128]⟩
abbrev S2x2x4x128x128x1 : Shape := ⟨6, ![2, 2, 4, 128, 128, 1]⟩
abbrev S1x2x4x1x1x1 : Shape := ⟨6, ![1, 2, 4, 1, 1, 1]⟩
abbrev S2x2x128x64x4x128 : Shape := ⟨6, ![2, 2, 128, 64, 4, 128]⟩

abbrev nBuf : Space → Nat
  | .hbm => 151
  | .vmem => 0
  | .smem => 0
  | _ => 0

abbrev hbmTy0_0 (i : Nat) : BufTy := match i % 128 with
  | 0 => ⟨S2x16384x512, .f32⟩
  | 1 => ⟨S2x16384x128, .f32⟩
  | 2 => ⟨S2x16384x128, .f32⟩
  | 3 => ⟨S32x12, .f32⟩
  | 4 => ⟨S8, .f32⟩
  | 5 => ⟨S2x16384x8x64, .f32⟩
  | 6 => ⟨S2x8x16384x64, .f32⟩
  | 7 => ⟨S2x2x4x16384x64, .f32⟩
  | 8 => ⟨S2x16384x2x64, .f32⟩
  | 9 => ⟨S2x2x16384x64, .f32⟩
  | 10 => ⟨S2x16384x2x64, .f32⟩
  | 11 => ⟨S2x2x16384x64, .f32⟩
  | 12 => ⟨S32x8, .f32⟩
  | 13 => ⟨S_, .i32⟩
  | 14 => ⟨S_, .f32⟩
  | 15 => ⟨S2x2x16512x64, .f32⟩
  | 16 => ⟨S2x2x16384x64, .f32⟩
  | 17 => ⟨S2x2x128x128x64, .f32⟩
  | 18 => ⟨S2x2x16384x64, .f32⟩
  | 19 => ⟨S2x2x128x128x64, .f32⟩
  | 20 => ⟨S2x2x128x256x64, .f32⟩
  | 21 => ⟨S_, .i32⟩
  | 22 => ⟨S_, .f32⟩
  | 23 => ⟨S2x2x16512x64, .f32⟩
  | 24 => ⟨S2x2x16384x64, .f32⟩
  | 25 => ⟨S2x2x128x128x64, .f32⟩
  | 26 => ⟨S2x2x16384x64, .f32⟩
  | 27 => ⟨S2x2x128x128x64, .f32⟩
  | 28 => ⟨S2x2x128x256x64, .f32⟩
  | 29 => ⟨S2x2x4x128x128x64, .f32⟩
  | 30 => ⟨S2x2x128x256x4x128, .f32⟩
  | 31 => ⟨S2x2x4x128x128x256, .f32⟩
  | 32 => ⟨S_, .f32⟩
  | 33 => ⟨S2x2x4x128x128x256, .f32⟩
  | 34 => ⟨S2x2x4x128x128x256, .f32⟩
  | 35 => ⟨S128, .i32⟩
  | 36 => ⟨S128x1, .i32⟩
  | 37 => ⟨S_, .i32⟩
  | 38 => ⟨S128x1, .i32⟩
  | 39 => ⟨S128x1, .i32⟩
  | 40 => ⟨S128, .i32⟩
  | 41 => ⟨S1x128, .i32⟩
  | 42 => ⟨S128x128, .i32⟩
  | 43 => ⟨S128x128, .i32⟩
  | 44 => ⟨S128x128, .i32⟩
  | 45 => ⟨S128, .i32⟩
  | 46 => ⟨S128x1, .i32⟩
  | 47 => ⟨S_, .i32⟩
  | 48 => ⟨S128x1, .i32⟩
  | 49 => ⟨S128x1, .i32⟩
  | 50 => ⟨S_, .i32⟩
  | 51 => ⟨S128x1, .i32⟩
  | 52 => ⟨S128x1, .i32⟩
  | 53 => ⟨S256, .i32⟩
  | 54 => ⟨S1x256, .i32⟩
  | 55 => ⟨S128x256, .i32⟩
  | 56 => ⟨S128x256, .i32⟩
  | 57 => ⟨S128x256, .i32⟩
  | 58 => ⟨S128x128x1, .i32⟩
  | 59 => ⟨S128x1x256, .i32⟩
  | 60 => ⟨S128x128x256, .i32⟩
  | 61 => ⟨S128x128x256, .i32⟩
  | 62 => ⟨S128x128x256, .i32⟩
  | 63 => ⟨S_, .i32⟩
  | 64 => ⟨S128x128x256, .i32⟩
  | 65 => ⟨S128x128x256, .i1⟩
  | 66 => ⟨S_, .i32⟩
  | 67 => ⟨S128x128x256, .i32⟩
  | 68 => ⟨S128x128x256, .i1⟩
  | 69 => ⟨S128x128x256, .i1⟩
  | 70 => ⟨S128x1x256, .i32⟩
  | 71 => ⟨S_, .i32⟩
  | 72 => ⟨S128x1x256, .i32⟩
  | 73 => ⟨S128x1x256, .i1⟩
  | 74 => ⟨S128x128x256, .i1⟩
  | 75 => ⟨S128x128x256, .i1⟩
  | 76 => ⟨S_, .i32⟩
  | 77 => ⟨S128x128x256, .i32⟩
  | 78 => ⟨S128x128x256, .i32⟩
  | 79 => ⟨S_, .i32⟩
  | 80 => ⟨S128x128x256, .i32⟩
  | 81 => ⟨S128x128x256, .i32⟩
  | 82 => ⟨S128x128x256, .f32⟩
  | 83 => ⟨S_, .f32⟩
  | 84 => ⟨S128x128x256, .f32⟩
  | 85 => ⟨S128x128x256, .f32⟩
  | 86 => ⟨S128x128x256, .f32⟩
  | 87 => ⟨S_, .f32⟩
  | 88 => ⟨S128x128x256, .f32⟩
  | 89 => ⟨S128x128x256, .f32⟩
  | 90 => ⟨S_, .f32⟩
  | 91 => ⟨S128x128x256, .f32⟩
  | 92 => ⟨S128x128x256, .f32⟩
  | 93 => ⟨S128x128x256, .i32⟩
  | 94 => ⟨S_, .i32⟩
  | 95 => ⟨S128x128x256, .i32⟩
  | 96 => ⟨S128x128x256, .i32⟩
  | 97 => ⟨S_, .i32⟩
  | 98 => ⟨S128x128x256, .i32⟩
  | 99 => ⟨S128x128x256, .i32⟩
  | 100 => ⟨S_, .i32⟩
  | 101 => ⟨S128x128x256, .i32⟩
  | 102 => ⟨S128x128x256, .i1⟩
  | 103 => ⟨S128x128x256, .i32⟩
  | 104 => ⟨S_, .i32⟩
  | 105 => ⟨S128x128x256, .i32⟩
  | 106 => ⟨S128x128x256, .i1⟩
  | 107 => ⟨S_, .i32⟩
  | 108 => ⟨S128x128x256, .i32⟩
  | 109 => ⟨S128x128x256, .i32⟩
  | 110 => ⟨S128x128x256, .i32⟩
  | 111 => ⟨S128x128x256x1, .i32⟩
  | 112 => ⟨S128x128x256x8, .f32⟩
  | 113 => ⟨S8x128x128x256, .f32⟩
  | 114 => ⟨S2x4x128x128x256, .f32⟩
  | 115 => ⟨S1x2x4x128x128x256, .f32⟩
  | 116 => ⟨S2x2x4x128x128x256, .f32⟩
  | 117 => ⟨S2x2x4x128x128x256, .f32⟩
  | 118 => ⟨S_, .f32⟩
  | 119 => ⟨S_, .f32⟩
  | 120 => ⟨S2x2x4x128x128x256, .i1⟩
  | 121 => ⟨S2x2x4x128x128x256, .f32⟩
  | 122 => ⟨S2x2x4x128x128x256, .f32⟩
  | 123 => ⟨S_, .f32⟩
  | 124 => ⟨S2x2x4x128x128, .f32⟩
  | 125 => ⟨S2x2x4x128x128x1, .f32⟩
  | 126 => ⟨S1x2x4x1x1x1, .f32⟩
  | 127 => ⟨S2x2x4x128x128x1, .f32⟩
  | _ => ⟨S2x16384x512, .f32⟩

abbrev hbmTy0_1 (i : Nat) : BufTy := match i % 128 with
  | 0 => ⟨S2x2x4x128x128x1, .f32⟩
  | 1 => ⟨S2x2x4x128x128x256, .f32⟩
  | 2 => ⟨S2x2x4x128x128x256, .f32⟩
  | 3 => ⟨S2x2x4x128x128x256, .f32⟩
  | 4 => ⟨S_, .f32⟩
  | 5 => ⟨S_, .f32⟩
  | 6 => ⟨S2x2x4x128x128x256, .i1⟩
  | 7 => ⟨S2x2x4x128x128x256, .f32⟩
  | 8 => ⟨S2x2x4x128x128x256, .f32⟩
  | 9 => ⟨S_, .f32⟩
  | 10 => ⟨S2x2x4x128x128, .f32⟩
  | 11 => ⟨S2x2x4x128x128x1, .f32⟩
  | 12 => ⟨S2x2x4x128x128x1, .f32⟩
  | 13 => ⟨S2x2x4x128x128x1, .f32⟩
  | 14 => ⟨S2x2x4x128x128x1, .f32⟩
  | 15 => ⟨S2x2x4x128x128x1, .f32⟩
  | 16 => ⟨S2x2x4x128x128x256, .f32⟩
  | 17 => ⟨S2x2x4x128x128x256, .f32⟩
  | 18 => ⟨S2x2x128x64x4x128, .f32⟩
  | 19 => ⟨S2x2x4x128x128x64, .f32⟩
  | 20 => ⟨S2x8x16384x64, .f32⟩
  | 21 => ⟨S2x16384x8x64, .f32⟩
  | 22 => ⟨S2x16384x512, .f32⟩
  | _ => ⟨S2x16384x512, .f32⟩

abbrev hbmTy (i : Nat) : BufTy := match i / 128 with
  | 0 => hbmTy0_0 i
  | 1 => hbmTy0_1 i
  | _ => ⟨S2x16384x512, .f32⟩

abbrev bufTy : (tb : Table) → Fin (tcTables nBuf tb) → BufTy
  | .hbm, ⟨i, _⟩ => hbmTy i
  | _, _ => ⟨S2x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_call1_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c_2 : Ref sig .tc := ⟨.hbm, 47, rfl⟩
abbrev main_v36 : Ref sig .tc := ⟨.hbm, 48, rfl⟩
abbrev main_v37 : Ref sig .tc := ⟨.hbm, 49, rfl⟩
abbrev main_c_3 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_c_4 : Ref sig .tc := ⟨.hbm, 63, rfl⟩
abbrev main_v50 : Ref sig .tc := ⟨.hbm, 64, rfl⟩
abbrev main_v51 : Ref sig .tc := ⟨.hbm, 65, rfl⟩
abbrev main_c_5 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_c_6 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_c_7 : Ref sig .tc := ⟨.hbm, 76, rfl⟩
abbrev main_v60 : Ref sig .tc := ⟨.hbm, 77, rfl⟩
abbrev main_v61 : Ref sig .tc := ⟨.hbm, 78, rfl⟩
abbrev main_c_8 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_9 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_10 : Ref sig .tc := ⟨.hbm, 87, rfl⟩
abbrev main_v68 : Ref sig .tc := ⟨.hbm, 88, rfl⟩
abbrev main_v69 : Ref sig .tc := ⟨.hbm, 89, rfl⟩
abbrev main_cst_11 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_c_12 : Ref sig .tc := ⟨.hbm, 94, rfl⟩
abbrev main_v73 : Ref sig .tc := ⟨.hbm, 95, rfl⟩
abbrev main_v74 : Ref sig .tc := ⟨.hbm, 96, rfl⟩
abbrev main_c_13 : Ref sig .tc := ⟨.hbm, 97, rfl⟩
abbrev main_v75 : Ref sig .tc := ⟨.hbm, 98, rfl⟩
abbrev main_v76 : Ref sig .tc := ⟨.hbm, 99, rfl⟩
abbrev main_c_14 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_c_15 : Ref sig .tc := ⟨.hbm, 104, rfl⟩
abbrev main_v80 : Ref sig .tc := ⟨.hbm, 105, rfl⟩
abbrev main_v81 : Ref sig .tc := ⟨.hbm, 106, rfl⟩
abbrev main_c_16 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_17 : Ref sig .tc := ⟨.hbm, 118, rfl⟩
abbrev main_call3_v0 : Ref sig .tc := ⟨.hbm, 119, rfl⟩
abbrev main_call3_v1 : Ref sig .tc := ⟨.hbm, 120, rfl⟩
abbrev main_call3_v2 : Ref sig .tc := ⟨.hbm, 121, rfl⟩
abbrev main_v92 : Ref sig .tc := ⟨.hbm, 122, rfl⟩
abbrev main_cst_18 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_19 : Ref sig .tc := ⟨.hbm, 132, rfl⟩
abbrev main_call4_v0 : Ref sig .tc := ⟨.hbm, 133, rfl⟩
abbrev main_call4_v1 : Ref sig .tc := ⟨.hbm, 134, rfl⟩
abbrev main_call4_v2 : Ref sig .tc := ⟨.hbm, 135, rfl⟩
abbrev main_v101 : Ref sig .tc := ⟨.hbm, 136, rfl⟩
abbrev main_cst_20 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩

abbrev nD : Nat := 1
abbrev τ : Topo := Topo.v7x

variable {F : FTy → Type} [FloatOps F]
-- ==== Kernel2.lean ====
abbrev S2x16384x1024 : Shape := ⟨3, ![2, 16384, 1024]⟩
abbrev S1024 : Shape := ⟨1, ![1024]⟩
abbrev S1024x2816 : Shape := ⟨2, ![1024, 2816]⟩
abbrev S2816x1024 : Shape := ⟨2, ![2816, 1024]⟩
abbrev S32768x1024 : Shape := ⟨2, ![32768, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩
abbrev S1024x768 : Shape := ⟨2, ![1024, 768]⟩
abbrev S512x768 : Shape := ⟨2, ![512, 768]⟩
abbrev S768x1024 : Shape := ⟨2, ![768, 1024]⟩

abbrev nBuf : Space → Nat
  | .hbm => 13
  | .vmem => 9
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S32768x1024, .f32⟩
  | .hbm, ⟨7, _⟩ => ⟨S1x1024, .f32⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S1x1024, .f32⟩
  | .hbm, ⟨12, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S2x16384x1024 : Shape := ⟨3, ![2, 16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x2816 : Shape := ⟨3, ![2, 16384, 2816]⟩
abbrev S32768x1024 : Shape := ⟨2, ![32768, 1024]⟩

abbrev nBuf : Space → Nat
  | .hbm => 53
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S2x16384x1024, .f32⟩
  | .hbm, ⟨7, _⟩ => ⟨S_, .f32⟩
  | .hbm, ⟨8, _⟩ => ⟨S2x16384, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S2x16384x1, .f32⟩
  | .hbm, ⟨17, _⟩ => ⟨S2x16384x1024, .f32⟩
  | .hbm, ⟨18, _⟩ => ⟨S2x16384x1024, .f32⟩
  | .hbm, ⟨19, _⟩ => ⟨S1x1x1024, .f32⟩
  | .hbm, ⟨20, _⟩ => ⟨S2x16384x1024, .f32⟩
  | .hbm, ⟨21, _⟩ => ⟨S2x16384x1024, .f32⟩
  | .hbm, ⟨22, _⟩ => ⟨S2x16384x2816, .f32⟩
  | .hbm, ⟨23, _⟩ => ⟨S2x16384x2816, .f32⟩
  | .hbm, ⟨24, _⟩ => ⟨S2x16384x2816, .f32⟩
  | .hbm, ⟨25, _⟩ => ⟨S_, .f32⟩
  | .hbm, ⟨26, _⟩ => ⟨S2x16384x2816, .f32⟩
  | .hbm, ⟨27, _⟩ => ⟨S2x16384x2816, .f32⟩
  | .hbm, ⟨28, _⟩ => ⟨S_, .f32⟩
  | .hbm, ⟨29, _⟩ => ⟨S2x16384x2816, .f32⟩
  | .hbm, ⟨30, _⟩ => ⟨S2x16384x2816, .f32⟩
  | .hbm, ⟨31, _⟩ => ⟨S2x16384x2816, .f32⟩
  | .hbm, ⟨32, _⟩ => ⟨S2x16384x2816, .f32⟩
  | .hbm, ⟨33, _⟩ => ⟨S2x16384x2816, .f32⟩
  | .hbm, ⟨34, _⟩ => ⟨S2x16384x1024, .f32⟩
  | .hbm, ⟨35, _⟩ => ⟨S2x16384x1024, .f32⟩
  | .hbm, ⟨36, _⟩ => ⟨S_, .f32⟩
  | .hbm, ⟨37, _⟩ => ⟨S2x16384, .f32⟩
  | .hbm, ⟨38, _⟩ => ⟨S2x16384x1, .f32⟩
  | .hbm, ⟨39, _⟩ => ⟨S_, .f32⟩
  | .hbm, ⟨40, _⟩ => ⟨S2x16384x1, .f32⟩
  | .hbm, ⟨41, _⟩ => ⟨S2x16384x1, .f32⟩
  | .hbm, ⟨42, _⟩ => ⟨S_, .f32⟩
  | .hbm, ⟨43, _⟩ => ⟨S2x16384x1, .f32⟩
  | .hbm, ⟨44, _⟩ => ⟨S2x16384x1, .f32⟩
  | .hbm, ⟨45, _⟩ => ⟨S2x16384x1, .f32⟩
  | .hbm, ⟨46, _⟩ => ⟨S2x16384x1024, .f32⟩
  | .hbm, ⟨47, _⟩ => ⟨S2x16384x1024, .f32⟩
  | .hbm, ⟨48, _⟩ => ⟨S1x1x1024, .f32⟩
  | .hbm, ⟨49, _⟩ => ⟨S2x16384x1024, .f32⟩
  | .hbm, ⟨50, _⟩ => ⟨S2x16384x1024, .f32⟩
  | .hbm, ⟨51, _⟩ => ⟨S2x16384x1024, .f32⟩
  | .hbm, ⟨52, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Kernel3.lean ====
abbrev S2x16384x256 : Shape := ⟨3, ![2, 16384, 256]⟩
abbrev S_ : Shape := ⟨0, ![]⟩
abbrev S2x128x128x4x64 : Shape := ⟨5, ![2, 128, 128, 4, 64]⟩
abbrev S2x128x64x4x128 : Shape := ⟨5, ![2, 128, 64, 4, 128]⟩
abbrev S2x128x64x512 : Shape := ⟨4, ![2, 128, 64, 512]⟩
abbrev S2x256x16384 : Shape := ⟨3, ![2, 256, 16384]⟩
abbrev S768 : Shape := ⟨1, ![768]⟩
abbrev S1x768 : Shape := ⟨2, ![1, 768]⟩
abbrev S384 : Shape := ⟨1, ![384]⟩
abbrev S384x1 : Shape := ⟨2, ![384, 1]⟩
abbrev S384x768 : Shape := ⟨2, ![384, 768]⟩
abbrev S1x4x64x512 : Shape := ⟨4, ![1, 4, 64, 512]⟩
abbrev S1x16384x256 : Shape := ⟨3, ![1, 16384, 256]⟩
abbrev S1x256x16384 : Shape := ⟨3, ![1, 256, 16384]⟩
abbrev S1x512x256 : Shape := ⟨3, ![1, 512, 256]⟩
abbrev S128x512 : Shape := ⟨2, ![128, 512]⟩
abbrev S64x128 : Shape := ⟨2, ![64, 128]⟩
abbrev S1x1x64x128 : Shape := ⟨4, ![1, 1, 64, 128]⟩
abbrev S256x128 : Shape := ⟨2, ![256, 128]⟩
abbrev S256x512 : Shape := ⟨2, ![256, 512]⟩
abbrev S1x512 : Shape := ⟨2, ![1, 512]⟩
abbrev S1x1x512 : Shape := ⟨3, ![1, 1, 512]⟩
abbrev S1 : Shape := ⟨1, ![1]⟩
abbrev S1x1x1 : Shape := ⟨3, ![1, 1, 1]⟩
abbrev S1x128x256 : Shape := ⟨3, ![1, 128, 256]⟩
abbrev S128x256 : Shape := ⟨2, ![128, 256]⟩
abbrev S1x256x128 : Shape := ⟨3, ![1, 256, 128]⟩
abbrev S384x256 : Shape := ⟨2, ![384, 256]⟩
abbrev S256x384 : Shape := ⟨2, ![256, 384]⟩
abbrev S384x512 : Shape := ⟨2, ![384, 512]⟩
abbrev S768x512 : Shape := ⟨2, ![768, 512]⟩
abbrev S512 : Shape := ⟨1, ![512]⟩
abbrev S128x128 : Shape := ⟨2, ![128, 128]⟩
abbrev S128x64 : Shape := ⟨2, ![128, 64]⟩

abbrev nBuf : Space → Nat
  | .hbm => 43
  | .vmem => 9
  | .smem => 0
  | _ => 0

abbrev bufTy : (tb : Table) → Fin (tcTables nBuf tb) → BufTy
  | .hbm, ⟨0, _⟩ => ⟨S2x16384x256, .f32⟩
  | .hbm, ⟨1, _⟩ => ⟨S2x16384x256, .f32⟩
  | .hbm, ⟨2, _⟩ => ⟨S2x16384x256, .f32⟩
  | .hbm, ⟨3, _⟩ => ⟨S_, .f32⟩
  | .hbm, ⟨4, _⟩ => ⟨S2x16384x256, .f32⟩
  | .hbm, ⟨5, _⟩ => ⟨S2x16384x256, .f32⟩
  | .hbm, ⟨6, _⟩ => ⟨S2x128x128x4x64, .f32⟩
  | .hbm, ⟨7, _⟩ => ⟨S2x128x64x4x128, .f32⟩
  | .hbm, ⟨8, _⟩ => ⟨S2x128x64x512, .f32⟩
  | .hbm, ⟨9, _⟩ => ⟨S2x16384x256, .bf16⟩
  | .hbm, ⟨10, _⟩ => ⟨S2x256x16384, .f32⟩
  | .hbm, ⟨11, _⟩ => ⟨S2x256x16384, .bf16⟩
  | .hbm, ⟨12, _⟩ => ⟨S768, .i32⟩
  | .hbm, ⟨13, _⟩ => ⟨S1x768, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S1x768, .i32⟩
  | .hbm, ⟨21, _⟩ => ⟨S1x768, .i32⟩
  | .hbm, ⟨22, _⟩ => ⟨S_, .i32⟩
  | .hbm, ⟨23, _⟩ => ⟨S1x768, .i32⟩
  | .hbm, ⟨24, _⟩ => ⟨S1x768, .i1⟩
  | .hbm, ⟨25, _⟩ => ⟨S_, .i32⟩
  | .hbm, ⟨26, _⟩ => ⟨S1x768, .i32⟩
  | .hbm, ⟨27, _⟩ => ⟨S1x768, .i1⟩
  | .hbm, ⟨28, _⟩ => ⟨S_, .i32⟩
  | .hbm, ⟨29, _⟩ => ⟨S_, .i1⟩
  | .hbm, ⟨30, _⟩ => ⟨S1x768, .i1⟩
  | .hbm, ⟨31, _⟩ => ⟨S1x768, .i1⟩
  | .hbm, ⟨32, _⟩ => ⟨S1x768, .i1⟩
  | .hbm, ⟨33, _⟩ => ⟨S1x768, .i32⟩
  | .hbm, ⟨34, _⟩ => ⟨S1x768, .i32⟩
  | .hbm, ⟨35, _⟩ => ⟨S1x768, .i32⟩
  | .hbm, ⟨36, _⟩ => ⟨S384, .i32⟩
  | .hbm, ⟨37, _⟩ => ⟨S384x1, .i32⟩
  | .hbm, ⟨38, _⟩ => ⟨S384x768, .i32⟩
  | .hbm, ⟨39, _⟩ => ⟨S384x768, .i32⟩
  | .hbm, ⟨40, _⟩ => ⟨S384x768, .i1⟩
  | .hbm, ⟨41, _⟩ => ⟨S384x768, .bf16⟩
  | .hbm, ⟨42, _⟩ => ⟨S2x16384x256, .f32⟩
  | .local _ .vmem, ⟨0, _⟩ => ⟨S1x4x64x512, .f32⟩
  | .local _ .vmem, ⟨1, _⟩ => ⟨S1x4x64x512, .f32⟩
  | .local _ .vmem, ⟨2, _⟩ => ⟨S1x16384x256, .bf16⟩
  | .local _ .vmem, ⟨3, _⟩ => ⟨S1x16384x256, .bf16⟩
  | .local _ .vmem, ⟨4, _⟩ => ⟨S1x256x16384, .bf16⟩
  | .local _ .vmem, ⟨5, _⟩ => ⟨S1x256x16384, .bf16⟩
  | .local _ .vmem, ⟨6, _⟩ => ⟨S384x768, .bf16⟩
  | .local _ .vmem, ⟨7, _⟩ => ⟨S1x512x256, .f32⟩
  | .local _ .vmem, ⟨8, _⟩ => ⟨S1x512x256, .f32⟩
  | _, _ => ⟨S2x16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_1 : Ref sig .tc := ⟨.hbm, 22, rfl⟩
abbrev main_call0_v5 : Ref sig .tc := ⟨.hbm, 23, rfl⟩
abbrev main_call0_v6 : Ref sig .tc := ⟨.hbm, 24, rfl⟩
abbrev main_call0_c_2 : Ref sig .tc := ⟨.hbm, 25, rfl⟩
abbrev main_call0_v7 : Ref sig .tc := ⟨.hbm, 26, rfl⟩
abbrev main_call0_v8 : Ref sig .tc := ⟨.hbm, 27, rfl⟩
abbrev main_call0_c_3 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 32], ![false, false]⟩

def k0_mult1 (i : grid0.Coords) (arg7 : BitVec 32) : BitVec 32 :=
  let c4_i32 : BitVec 32 := 4#32
  let arg1 : BitVec 32 := BitVec.ofNat 32 (i 1).val
  let v0 : BitVec 32 := Scalar.muli c4_i32 arg1
  let c0_i32_123 : BitVec 32 := 0#32
  let v209 : BitVec 32 := Scalar.addi v0 c0_i32_123
  let c3_i32 : BitVec 32 := 3#32
  let v210 : BitVec 32 := Scalar.muli c3_i32 arg7
  let v211 : BitVec 32 := Scalar.subi v209 v210
  let c2_i32 : BitVec 32 := 2#32
  let v212 : BitVec 32 := Scalar.subi v211 c2_i32
  let c0_i32_124 : BitVec 32 := 0#32
  let v213 : BitVec 32 := Scalar.maxsi v212 c0_i32_124
  let c128_i32 : BitVec 32 := 128#32
  let v214 : BitVec 32 := Scalar.muli v213 c128_i32
  v214

def k0_off1 (i : grid0.Coords) (arg7 : BitVec 32) (c0_i32_123 : BitVec 32) (c2_i32 : BitVec 32) : Fin 3 → Nat :=
  let c0_125 : Index := 0#32
  let c4_i32 : BitVec 32 := 4#32
  let arg1 : BitVec 32 := BitVec.ofNat 32 (i 1).val
  let v0 : BitVec 32 := Scalar.muli c4_i32 arg1
  let v209 : BitVec 32 := Scalar.addi v0 c0_i32_123
  let c3_i32 : BitVec 32 := 3#32
  let v210 : BitVec 32 := Scalar.muli c3_i32 arg7
  let v211 : BitVec 32 := Scalar.subi v209 v210
  let v212 : BitVec 32 := Scalar.subi v211 c2_i32
  let c0_i32_124 : BitVec 32 := 0#32
  let v213 : BitVec 32 := Scalar.maxsi v212 c0_i32_124
  let c128_i32 : BitVec 32 := 128#32
  let v214 : BitVec 32 := Scalar.muli v213 c128_i32
  let v215 : BitVec 32 := v214
  let v216 : Index := Scalar.indexCast v215
  let c0_126 : Index := 0#32
  ![0, v216.toNat, 0]
def k0_off2 (i : grid0.Coords) (arg7 : BitVec 32) (c0_i32_123 : BitVec 32) (c2_i32 : BitVec 32) : Fin 3 → Nat :=
  let c0_127 : Index := 0#32
  let c0_128 : Index := 0#32
  let c4_i32 : BitVec 32 := 4#32
  let arg1 : BitVec 32 := BitVec.ofNat 32 (i 1).val
  let v0 : BitVec 32 := Scalar.muli c4_i32 arg1
  let v209 : BitVec 32 := Scalar.addi v0 c0_i32_123
  let c3_i32 : BitVec 32 := 3#32
  let v210 : BitVec 32 := Scalar.muli c3_i32 arg7
  let v211 : BitVec 32 := Scalar.subi v209 v210
  let v212 : BitVec 32 := Scalar.subi v211 c2_i32
  let c0_i32_124 : BitVec 32 := 0#32
  let v213 : BitVec 32 := Scalar.maxsi v212 c0_i32_124
  let c128_i32 : BitVec 32 := 128#32
  let v214 : BitVec 32 := Scalar.muli v213 c128_i32
  let v215 : BitVec 32 := v214
  let v219 : Index := Scalar.indexCast v215
  ![0, 0, v219.toNat]
def k0_mult2 (i : grid0.Coords) (arg7 : BitVec 32) : BitVec 32 :=
  let c4_i32 : BitVec 32 := 4#32
  let arg1 : BitVec 32 := BitVec.ofNat 32 (i 1).val
  let v0 : BitVec 32 := Scalar.muli c4_i32 arg1
  let c0_i32_123 : BitVec 32 := 0#32
  let v209 : BitVec 32 := Scalar.addi v0 c0_i32_123
  let c3_i32 : BitVec 32 := 3#32
  let v210 : BitVec 32 := Scalar.muli c3_i32 arg7
  let v211 : BitVec 32 := Scalar.subi v209 v210
  let c1_i32 : BitVec 32 := 1#32
  let v232 : BitVec 32 := Scalar.subi v211 c1_i32
  let c0_i32_132 : BitVec 32 := 0#32
  let v233 : BitVec 32 := Scalar.maxsi v232 c0_i32_132
  let c128_i32_133 : BitVec 32 := 128#32
  let v234 : BitVec 32 := Scalar.muli v233 c128_i32_133
  v234
def k0_mult3 (i : grid0.Coords) (arg7 : BitVec 32) : BitVec 32 :=
  let c4_i32 : BitVec 32 := 4#32
  let arg1 : BitVec 32 := BitVec.ofNat 32 (i 1).val
  let v0 : BitVec 32 := Scalar.muli c4_i32 arg1
  let c0_i32_123 : BitVec 32 := 0#32
  let v209 : BitVec 32 := Scalar.addi v0 c0_i32_123
  let c3_i32 : BitVec 32 := 3#32
  let v210 : BitVec 32 := Scalar.muli c3_i32 arg7
  let v211 : BitVec 32 := Scalar.subi v209 v210
  let c0_i32_141 : BitVec 32 := 0#32
  let v252 : BitVec 32 := Scalar.subi v211 c0_i32_141
  let c0_i32_142 : BitVec 32 := 0#32
  let v253 : BitVec 32 := Scalar.maxsi v252 c0_i32_142
  let c128_i32_143 : BitVec 32 := 128#32
  let v254 : BitVec 32 := Scalar.muli v253 c128_i32_143
  v254
def k0_mult4 (i : grid0.Coords) (arg7 : BitVec 32) : BitVec 32 :=
  let c4_i32 : BitVec 32 := 4#32
  let arg1 : BitVec 32 := BitVec.ofNat 32 (i 1).val
  let v0 : BitVec 32 := Scalar.muli c4_i32 arg1
  let c1_i32_151 : BitVec 32 := 1#32
  let v275 : BitVec 32 := Scalar.addi v0 c1_i32_151
  let c3_i32_152 : BitVec 32 := 3#32
  let v276 : BitVec 32 := Scalar.muli c3_i32_152 arg7
  let v277 : BitVec 32 := Scalar.subi v275 v276
  let c2_i32_153 : BitVec 32 := 2#32
  let v278 : BitVec 32 := Scalar.subi v277 c2_i32_153
  let c0_i32_154 : BitVec 32 := 0#32
  let v279 : BitVec 32 := Scalar.maxsi v278 c0_i32_154
  let c128_i32_155 : BitVec 32 := 128#32
  let v280 : BitVec 32 := Scalar.muli v279 c128_i32_155
  v280
def k0_mult5 (i : grid0.Coords) (arg7 : BitVec 32) : BitVec 32 :=
  let c4_i32 : BitVec 32 := 4#32
  let arg1 : BitVec 32 := BitVec.ofNat 32 (i 1).val
  let v0 : BitVec 32 := Scalar.muli c4_i32 arg1
  let c1_i32_151 : BitVec 32 := 1#32
  let v275 : BitVec 32 := Scalar.addi v0 c1_i32_151
  let c3_i32_152 : BitVec 32 := 3#32
  let v276 : BitVec 32 := Scalar.muli c3_i32_152 arg7
  let v277 : BitVec 32 := Scalar.subi v275 v276
  let c1_i32_163 : BitVec 32 := 1#32
  let v298 : BitVec 32 := Scalar.subi v277 c1_i32_163
  let c0_i32_164 : BitVec 32 := 0#32
  let v299 : BitVec 32 := Scalar.maxsi v298 c0_i32_164
  let c128_i32_165 : BitVec 32 := 128#32
  let v300 : BitVec 32 := Scalar.muli v299 c128_i32_165
  v300
def k0_mult6 (i : grid0.Coords) (arg7 : BitVec 32) : BitVec 32 :=
  let c4_i32 : BitVec 32 := 4#32
  let arg1 : BitVec 32 := BitVec.ofNat 32 (i 1).val
  let v0 : BitVec 32 := Scalar.muli c4_i32 arg1
  let c1_i32_151 : BitVec 32 := 1#32
  let v275 : BitVec 32 := Scalar.addi v0 c1_i32_151
  let c3_i32_152 : BitVec 32 := 3#32
  let v276 : BitVec 32 := Scalar.muli c3_i32_152 arg7
  let v277 : BitVec 32 := Scalar.subi v275 v276
  let c0_i32_173 : BitVec 32 := 0#32
  let v318 : BitVec 32 := Scalar.subi v277 c0_i32_173
  let c0_i32_174 : BitVec 32 := 0#32
  let v319 : BitVec 32 := Scalar.maxsi v318 c0_i32_174
  let c128_i32_175 : BitVec 32 := 128#32
  let v320 : BitVec 32 := Scalar.muli v319 c128_i32_175
  v320
def k0_mult7 (i : grid0.Coords) (arg7 : BitVec 32) : BitVec 32 :=
  let c4_i32 : BitVec 32 := 4#32
  let arg1 : BitVec 32 := BitVec.ofNat 32 (i 1).val
  let v0 : BitVec 32 := Scalar.muli c4_i32 arg1
  let c2_i32_183 : BitVec 32 := 2#32
  let v341 : BitVec 32 := Scalar.addi v0 c2_i32_183
  let c3_i32_184 : BitVec 32 := 3#32
  let v342 : BitVec 32 := Scalar.muli c3_i32_184 arg7
  let v343 : BitVec 32 := Scalar.subi v341 v342
  let c2_i32_185 : BitVec 32 := 2#32
  let v344 : BitVec 32 := Scalar.subi v343 c2_i32_185
  let c0_i32_186 : BitVec 32 := 0#32
  let v345 : BitVec 32 := Scalar.maxsi v344 c0_i32_186
  let c128_i32_187 : BitVec 32 := 128#32
  let v346 : BitVec 32 := Scalar.muli v345 c128_i32_187
  v346
def k0_mult8 (i : grid0.Coords) (arg7 : BitVec 32) : BitVec 32 :=
  let c4_i32 : BitVec 32 := 4#32
  let arg1 : BitVec 32 := BitVec.ofNat 32 (i 1).val
  let v0 : BitVec 32 := Scalar.muli c4_i32 arg1
  let c2_i32_183 : BitVec 32 := 2#32
  let v341 : BitVec 32 := Scalar.addi v0 c2_i32_183
  let c3_i32_184 : BitVec 32 := 3#32
  let v342 : BitVec 32 := Scalar.muli c3_i32_184 arg7
  let v343 : BitVec 32 := Scalar.subi v341 v342
  let c1_i32_195 : BitVec 32 := 1#32
  let v364 : BitVec 32 := Scalar.subi v343 c1_i32_195
  let c0_i32_196 : BitVec 32 := 0#32
  let v365 : BitVec 32 := Scalar.maxsi v364 c0_i32_196
  let c128_i32_197 : BitVec 32 := 128#32
  let v366 : BitVec 32 := Scalar.muli v365 c128_i32_197
  v366
def k0_mult9 (i : grid0.Coords) (arg7 : BitVec 32) : BitVec 32 :=
  let c4_i32 : BitVec 32 := 4#32
  let arg1 : BitVec 32 := BitVec.ofNat 32 (i 1).val
  let v0 : BitVec 32 := Scalar.muli c4_i32 arg1
  let c2_i32_183 : BitVec 32 := 2#32
  let v341 : BitVec 32 := Scalar.addi v0 c2_i32_183
  let c3_i32_184 : BitVec 32 := 3#32
  let v342 : BitVec 32 := Scalar.muli c3_i32_184 arg7
  let v343 : BitVec 32 := Scalar.subi v341 v342
  let c0_i32_205 : BitVec 32 := 0#32
  let v384 : BitVec 32 := Scalar.subi v343 c0_i32_205
  let c0_i32_206 : BitVec 32 := 0#32
  let v385 : BitVec 32 := Scalar.maxsi v384 c0_i32_206
  let c128_i32_207 : BitVec 32 := 128#32
  let v386 : BitVec 32 := Scalar.muli v385 c128_i32_207
  v386
def k0_mult10 (i : grid0.Coords) (arg7 : BitVec 32) : BitVec 32 :=
  let c4_i32 : BitVec 32 := 4#32
  let arg1 : BitVec 32 := BitVec.ofNat 32 (i 1).val
  let v0 : BitVec 32 := Scalar.muli c4_i32 arg1
  let c3_i32_215 : BitVec 32 := 3#32
  let v407 : BitVec 32 := Scalar.addi v0 c3_i32_215
  let c3_i32_216 : BitVec 32 := 3#32
  let v408 : BitVec 32 := Scalar.muli c3_i32_216 arg7
  let v409 : BitVec 32 := Scalar.subi v407 v408
  let c2_i32_217 : BitVec 32 := 2#32
  let v410 : BitVec 32 := Scalar.subi v409 c2_i32_217
  let c0_i32_218 : BitVec 32 := 0#32
  let v411 : BitVec 32 := Scalar.maxsi v410 c0_i32_218
  let c128_i32_219 : BitVec 32 := 128#32
  let v412 : BitVec 32 := Scalar.muli v411 c128_i32_219
  v412
def k0_mult11 (i : grid0.Coords) (arg7 : BitVec 32) : BitVec 32 :=
  let c4_i32 : BitVec 32 := 4#32
  let arg1 : BitVec 32 := BitVec.ofNat 32 (i 1).val
  let v0 : BitVec 32 := Scalar.muli c4_i32 arg1
  let c3_i32_215 : BitVec 32 := 3#32
  let v407 : BitVec 32 := Scalar.addi v0 c3_i32_215
  let c3_i32_216 : BitVec 32 := 3#32
  let v408 : BitVec 32 := Scalar.muli c3_i32_216 arg7
  let v409 : BitVec 32 := Scalar.subi v407 v408
  let c1_i32_227 : BitVec 32 := 1#32
  let v430 : BitVec 32 := Scalar.subi v409 c1_i32_227
  let c0_i32_228 : BitVec 32 := 0#32
  let v431 : BitVec 32 := Scalar.maxsi v430 c0_i32_228
  let c128_i32_229 : BitVec 32 := 128#32
  let v432 : BitVec 32 := Scalar.muli v431 c128_i32_229
  v432
def k0_mult12 (i : grid0.Coords) (arg7 : BitVec 32) : BitVec 32 :=
  let c4_i32 : BitVec 32 := 4#32
  let arg1 : BitVec 32 := BitVec.ofNat 32 (i 1).val
  let v0 : BitVec 32 := Scalar.muli c4_i32 arg1
  let c3_i32_215 : BitVec 32 := 3#32
  let v407 : BitVec 32 := Scalar.addi v0 c3_i32_215
  let c3_i32_216 : BitVec 32 := 3#32
  let v408 : BitVec 32 := Scalar.muli c3_i32_216 arg7
  let v409 : BitVec 32 := Scalar.subi v407 v408
  let c0_i32_237 : BitVec 32 := 0#32
  let v450 : BitVec 32 := Scalar.subi v409 c0_i32_237
  let c0_i32_238 : BitVec 32 := 0#32
  let v451 : BitVec 32 := Scalar.maxsi v450 c0_i32_238
  let c128_i32_239 : BitVec 32 := 128#32
  let v452 : BitVec 32 := Scalar.muli v451 c128_i32_239
  v452

def k0_chk1 (i : grid0.Coords) (arg7 : BitVec 32) : Prop :=
  (128 ∣ (k0_mult1 i arg7).toNat) ∧
  (∀ (r₁ : Fin 4) (r₂ : Fin 3), ∀ a, (k0_off1 i arg7 (BitVec.ofNat 32 r₁.val) (BitVec.ofNat 32 r₂.val)) a + S1x128x256.size a ≤ S1x16384x256.size a) ∧
  (∀ (r₁ : Fin 4) (r₂ : Fin 3), ∀ a, (k0_off2 i arg7 (BitVec.ofNat 32 r₁.val) (BitVec.ofNat 32 r₂.val)) a + S1x256x128.size a ≤ S1x256x16384.size a) ∧
  (128 ∣ (k0_mult2 i arg7).toNat) ∧
  (128 ∣ (k0_mult3 i arg7).toNat) ∧
  (128 ∣ (k0_mult4 i arg7).toNat) ∧
  (128 ∣ (k0_mult5 i arg7).toNat) ∧
  (128 ∣ (k0_mult6 i arg7).toNat) ∧
  (128 ∣ (k0_mult7 i arg7).toNat) ∧
  (128 ∣ (k0_mult8 i arg7).toNat) ∧
  (128 ∣ (k0_mult9 i arg7).toNat) ∧
  (128 ∣ (k0_mult10 i arg7).toNat) ∧
  (128 ∣ (k0_mult11 i arg7).toNat) ∧
  (128 ∣ (k0_mult12 i arg7).toNat)
theorem k0_mult1_dvd : ∀ (i : grid0.Coords) (arg7 : BitVec 32) (k0_hw1 : k0_chk1 i arg7), 128 ∣ (k0_mult1 i arg7).toNat := fun i arg7 k0_hw1 => k0_hw1.1
theorem k0_off1_inb : ∀ (i : grid0.Coords) (arg7 : BitVec 32) (k0_hw1 : k0_chk1 i arg7), ∀ (r₁ : Fin 4) (r₂ : Fin 3), ∀ a, (k0_off1 i arg7 (BitVec.ofNat 32 r₁.val) (BitVec.ofNat 32 r₂.val)) a + S1x128x256.size a ≤ S1x16384x256.size a := fun i arg7 k0_hw1 r₁ r₂ => k0_hw1.2.1 r₁ r₂
theorem k0_off2_inb : ∀ (i : grid0.Coords) (arg7 : BitVec 32) (k0_hw1 : k0_chk1 i arg7), ∀ (r₁ : Fin 4) (r₂ : Fin 3), ∀ a, (k0_off2 i arg7 (BitVec.ofNat 32 r₁.val) (BitVec.ofNat 32 r₂.val)) a + S1x256x128.size a ≤ S1x256x16384.size a := fun i arg7 k0_hw1 r₁ r₂ => k0_hw1.2.2.1 r₁ r₂
theorem k0_mult2_dvd : ∀ (i : grid0.Coords) (arg7 : BitVec 32) (k0_hw1 : k0_chk1 i arg7), 128 ∣ (k0_mult2 i arg7).toNat := fun i arg7 k0_hw1 => k0_hw1.2.2.2.1
theorem k0_mult3_dvd : ∀ (i : grid0.Coords) (arg7 : BitVec 32) (k0_hw1 : k0_chk1 i arg7), 128 ∣ (k0_mult3 i arg7).toNat := fun i arg7 k0_hw1 => k0_hw1.2.2.2.2.1
theorem k0_mult4_dvd : ∀ (i : grid0.Coords) (arg7 : BitVec 32) (k0_hw1 : k0_chk1 i arg7), 128 ∣ (k0_mult4 i arg7).toNat := fun i arg7 k0_hw1 => k0_hw1.2.2.2.2.2.1
theorem k0_mult5_dvd : ∀ (i : grid0.Coords) (arg7 : BitVec 32) (k0_hw1 : k0_chk1 i arg7), 128 ∣ (k0_mult5 i arg7).toNat := fun i arg7 k0_hw1 => k0_hw1.2.2.2.2.2.2.1
theorem k0_mult6_dvd : ∀ (i : grid0.Coords) (arg7 : BitVec 32) (k0_hw1 : k0_chk1 i arg7), 128 ∣ (k0_mult6 i arg7).toNat := fun i arg7 k0_hw1 => k0_hw1.2.2.2.2.2.2.2.1
theorem k0_mult7_dvd : ∀ (i : grid0.Coords) (arg7 : BitVec 32) (k0_hw1 : k0_chk1 i arg7), 128 ∣ (k0_mult7 i arg7).toNat := fun i arg7 k0_hw1 => k0_hw1.2.2.2.2.2.2.2.2.1
theorem k0_mult8_dvd : ∀ (i : grid0.Coords) (arg7 : BitVec 32) (k0_hw1 : k0_chk1 i arg7), 128 ∣ (k0_mult8 i arg7).toNat := fun i arg7 k0_hw1 => k0_hw1.2.2.2.2.2.2.2.2.2.1
theorem k0_mult9_dvd : ∀ (i : grid0.Coords) (arg7 : BitVec 32) (k0_hw1 : k0_chk1 i arg7), 128 ∣ (k0_mult9 i arg7).toNat := fun i arg7 k0_hw1 => k0_hw1.2.2.2.2.2.2.2.2.2.2.1
theorem k0_mult10_dvd : ∀ (i : grid0.Coords) (arg7 : BitVec 32) (k0_hw1 : k0_chk1 i arg7), 128 ∣ (k0_mult10 i arg7).toNat := fun i arg7 k0_hw1 => k0_hw1.2.2.2.2.2.2.2.2.2.2.2.1
theorem k0_mult11_dvd : ∀ (i : grid0.Coords) (arg7 : BitVec 32) (k0_hw1 : k0_chk1 i arg7), 128 ∣ (k0_mult11 i arg7).toNat := fun i arg7 k0_hw1 => k0_hw1.2.2.2.2.2.2.2.2.2.2.2.2.1
theorem k0_mult12_dvd : ∀ (i : grid0.Coords) (arg7 : BitVec 32) (k0_hw1 : k0_chk1 i arg7), 128 ∣ (k0_mult12 i arg7).toNat := fun i arg7 k0_hw1 => k0_hw1.2.2.2.2.2.2.2.2.2.2.2.2.2

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x16384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S384x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel3Ideal.lean ====
variable {F : FTy → Type} [FloatOps F] [Named F]
def κ : String → Option EReal := fun
  | "floor" => some ⊥
  | "log2e" => some (((Real.log 2)⁻¹ : ℝ) : EReal)
  | _ => none
-- ==== Reference3Ideal.lean ====
abbrev S2x16384x256 : Shape := ⟨3, ![2, 16384, 256]⟩
abbrev S2x16384x4x64 : Shape := ⟨4, ![2, 16384, 4, 64]⟩
abbrev S2x4x16384x64 : Shape := ⟨4, ![2, 4, 16384, 64]⟩
abbrev S2x4x16384x16384 : Shape := ⟨4, ![2, 4, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩

abbrev nBuf : Space → Nat
  | .hbm => 71
  | .vmem => 0
  | .smem => 0
  | _ => 0

abbrev bufTy : (tb : Table) → Fin (tcTables nBuf tb) → BufTy
  | .hbm, ⟨0, _⟩ => ⟨S2x16384x256, .f32⟩
  | .hbm, ⟨1, _⟩ => ⟨S2x16384x256, .f32⟩
  | .hbm, ⟨2, _⟩ => ⟨S2x16384x256, .f32⟩
  | .hbm, ⟨3, _⟩ => ⟨S2x16384x4x64, .f32⟩
  | .hbm, ⟨4, _⟩ => ⟨S2x4x16384x64, .f32⟩
  | .hbm, ⟨5, _⟩ => ⟨S2x16384x4x64, .f32⟩
  | .hbm, ⟨6, _⟩ => ⟨S2x4x16384x64, .f32⟩
  | .hbm, ⟨7, _⟩ => ⟨S2x16384x4x64, .f32⟩
  | .hbm, ⟨8, _⟩ => ⟨S2x4x16384x64, .f32⟩
  | .hbm, ⟨9, _⟩ => ⟨S2x4x16384x16384, .f32⟩
  | .hbm, ⟨10, _⟩ => ⟨S_, .f32⟩
  | .hbm, ⟨11, _⟩ => ⟨S2x4x16384x16384, .f32⟩
  | .hbm, ⟨12, _⟩ => ⟨S2x4x16384x16384, .f32⟩
  | .hbm, ⟨13, _⟩ => ⟨S16384, .i32⟩
  | .hbm, ⟨14, _⟩ => ⟨S1x16384, .i32⟩
  | .hbm, ⟨15, _⟩ => ⟨S16384x1, .i32⟩
  | .hbm, ⟨16, _⟩ => ⟨S16384x16384, .i32⟩
  | .hbm, ⟨17, _⟩ => ⟨S16384x16384, .i32⟩
  | .hbm, ⟨18, _⟩ => ⟨S16384x16384, .i1⟩
  | .hbm, ⟨19, _⟩ => ⟨S2x4x16384x16384, .f32⟩
  | .hbm, ⟨20, _⟩ => ⟨S2x4x16384x16384, .f32⟩
  | .hbm, ⟨21, _⟩ => ⟨S_, .f32⟩
  | .hbm, ⟨22, _⟩ => ⟨S2x4x16384x16384, .f32⟩
  | .hbm, ⟨23, _⟩ => ⟨S2x4x16384x16384, .f32⟩
  | .hbm, ⟨24, _⟩ => ⟨S2x4x16384x16384, .f32⟩
  | .hbm, ⟨25, _⟩ => ⟨S2x4x16384x16384, .f32⟩
  | .hbm, ⟨26, _⟩ => ⟨S2x4x16384x16384, .i1⟩
  | .hbm, ⟨27, _⟩ => ⟨S2x4x16384x16384, .f32⟩
  | .hbm, ⟨28, _⟩ => ⟨S2x4x16384x16384, .f32⟩
  | .hbm, ⟨29, _⟩ => ⟨S2x4x16384x16384, .f32⟩
  | .hbm, ⟨30, _⟩ => ⟨S2x4x16384x16384, .f32⟩
  | .hbm, ⟨31, _⟩ => ⟨S2x4x16384x16384, .f32⟩
  | .hbm, ⟨32, _⟩ => ⟨S2x4x16384x16384, .f32⟩
  | .hbm, ⟨33, _⟩ => ⟨S2x4x16384x16384, .f32⟩
  | .hbm, ⟨34, _⟩ => ⟨S2x4x16384x16384, .f32⟩
  | .hbm, ⟨35, _⟩ => ⟨S2x4x16384x16384, .f32⟩
  | .hbm, ⟨36, _⟩ => ⟨S_, .f32⟩
  | .hbm, ⟨37, _⟩ => ⟨S_, .f32⟩
  | .hbm, ⟨38, _⟩ => ⟨S2x4x16384x16384, .i1⟩
  | .hbm, ⟨39, _⟩ => ⟨S2x4x16384x16384, .f32⟩
  | .hbm, ⟨40, _⟩ => ⟨S2x4x16384x16384, .f32⟩
  | .hbm, ⟨41, _⟩ => ⟨S_, .f32⟩
  | .hbm, ⟨42, _⟩ => ⟨S_, .f32⟩
  | .hbm, ⟨43, _⟩ => ⟨S2x4x16384x16384, .f32⟩
  | .hbm, ⟨44, _⟩ => ⟨S2x4x16384x16384, .f32⟩
  | .hbm, ⟨45, _⟩ => ⟨S2x4x16384x16384, .f32⟩
  | .hbm, ⟨46, _⟩ => ⟨S_, .f32⟩
  | .hbm, ⟨47, _⟩ => ⟨S2x4x16384x16384, .f32⟩
  | .hbm, ⟨48, _⟩ => ⟨S2x4x16384x16384, .f32⟩
  | .hbm, ⟨49, _⟩ => ⟨S2x4x16384x16384, .f32⟩
  | .hbm, ⟨50, _⟩ => ⟨S2x4x16384x16384, .f32⟩
  | .hbm, ⟨51, _⟩ => ⟨S2x4x16384x16384, .i1⟩
  | .hbm, ⟨52, _⟩ => ⟨S2x4x16384x16384, .f32⟩
  | .hbm, ⟨53, _⟩ => ⟨S2x4x16384x16384, .f32⟩
  | .hbm, ⟨54, _⟩ => ⟨S2x4x16384x16384, .f32⟩
  | .hbm, ⟨55, _⟩ => ⟨S2x4x16384x16384, .f32⟩
  | .hbm, ⟨56, _⟩ => ⟨S2x4x16384x16384, .f32⟩
  | .hbm, ⟨57, _⟩ => ⟨S2x4x16384x16384, .f32⟩
  | .hbm, ⟨58, _⟩ => ⟨S2x4x16384x16384, .f32⟩
  | .hbm, ⟨59, _⟩ => ⟨S2x4x16384x16384, .f32⟩
  | .hbm, ⟨60, _⟩ => ⟨S2x4x16384x16384, .f32⟩
  | .hbm, ⟨61, _⟩ => ⟨S2x4x16384x16384, .f32⟩
  | .hbm, ⟨62, _⟩ => ⟨S2x4x16384x16384, .f32⟩
  | .hbm, ⟨63, _⟩ => ⟨S_, .f32⟩
  | .hbm, ⟨64, _⟩ => ⟨S_, .f32⟩
  | .hbm, ⟨65, _⟩ => ⟨S2x4x16384x16384, .i1⟩
  | .hbm, ⟨66, _⟩ => ⟨S2x4x16384x16384, .f32⟩
  | .hbm, ⟨67, _⟩ => ⟨S2x4x16384x16384, .f32⟩
  | .hbm, ⟨68, _⟩ => ⟨S2x4x16384x64, .f32⟩
  | .hbm, ⟨69, _⟩ => ⟨S2x16384x4x64, .f32⟩
  | .hbm, ⟨70, _⟩ => ⟨S2x16384x256, .f32⟩
  | _, _ => ⟨S2x16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v16 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v17 : Ref sig .tc := ⟨.hbm, 40, rfl⟩
abbrev main_call2_cst : Ref sig .tc := ⟨.hbm, 41, rfl⟩
abbrev main_call2_v0 : Ref sig .tc := ⟨.hbm, 42, rfl⟩
abbrev main_v18 : Ref sig .tc := ⟨.hbm, 43, rfl⟩
abbrev main_v19 : Ref sig .tc := ⟨.hbm, 44, rfl⟩
abbrev main_call3_v0 : Ref sig .tc := ⟨.hbm, 45, rfl⟩
abbrev main_call3_call0_cst : Ref sig .tc := ⟨.hbm, 46, rfl⟩
abbrev main_call3_call0_v0 : Ref sig .tc := ⟨.hbm, 47, rfl⟩
abbrev main_call3_call0_v1 : Ref sig .tc := ⟨.hbm, 48, rfl⟩
abbrev main_call3_call0_v2 : Ref sig .tc := ⟨.hbm, 49, rfl⟩
abbrev main_call3_call0_v3 : Ref sig .tc := ⟨.hbm, 50, rfl⟩
abbrev main_call3_call0_v4 : Ref sig .tc := ⟨.hbm, 51, rfl⟩
abbrev main_call3_call0_v5 : Ref sig .tc := ⟨.hbm, 52, rfl⟩
abbrev main_call3_call0_v6 : Ref sig .tc := ⟨.hbm, 53, rfl⟩
abbrev main_call3_call0_v7 : Ref sig .tc := ⟨.hbm, 54, rfl⟩
abbrev main_call3_call0_v8 : Ref sig .tc := ⟨.hbm, 55, rfl⟩
abbrev main_call3_call0_v9 : Ref sig .tc := ⟨.hbm, 56, rfl⟩
abbrev main_call3_call0_v10 : Ref sig .tc := ⟨.hbm, 57, rfl⟩
abbrev main_call3_call0_v11 : Ref sig .tc := ⟨.hbm, 58, rfl⟩
abbrev main_call3_v1 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_cst_1 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩

abbrev nD : Nat := 1
abbrev τ : Topo := Topo.v7x

variable {F : FTy → Type} [FloatOps F]
-- ==== Kernel4.lean ====
abbrev S2x16384x1024 : Shape := ⟨3, ![2, 16384, 1024]⟩
abbrev S2x16384x256 : Shape := ⟨3, ![2, 16384, 256]⟩
abbrev S2x16384x12 : Shape := ⟨3, ![2, 16384, 12]⟩
abbrev S2x16384x512 : Shape := ⟨3, ![2, 16384, 512]⟩
abbrev S1024 : Shape := ⟨1, ![1024]⟩
abbrev S1024x1024 : Shape := ⟨2, ![1024, 1024]⟩
abbrev S_ : Shape := ⟨0, ![]⟩
abbrev S2x16384x128 : Shape := ⟨3, ![2, 16384, 128]⟩
abbrev S1x1024 : Shape := ⟨2, ![1, 1024]⟩
abbrev S1x1024x1024 : Shape := ⟨3, ![1, 1024, 1024]⟩
abbrev S1x1024x256 : Shape := ⟨3, ![1, 1024, 256]⟩
abbrev S1x1024x128 : Shape := ⟨3, ![1, 1024, 128]⟩
abbrev S1x1024x512 : Shape := ⟨3, ![1, 1024, 512]⟩
abbrev S128x256 : Shape := ⟨2, ![128, 256]⟩
abbrev S1x128x128 : Shape := ⟨3, ![1, 128, 128]⟩
abbrev S128x128 : Shape := ⟨2, ![128, 128]⟩
abbrev S128x1 : Shape := ⟨2, ![128, 1]⟩
abbrev S1x128x256 : Shape := ⟨3, ![1, 128, 256]⟩
abbrev S1x256 : Shape := ⟨2, ![1, 256]⟩
abbrev S128 : Shape := ⟨1, ![128]⟩
abbrev S1x128x512 : Shape := ⟨3, ![1, 128, 512]⟩
abbrev S128x512 : Shape := ⟨2, ![128, 512]⟩
abbrev S1x512 : Shape := ⟨2, ![1, 512]⟩
abbrev S128x1024 : Shape := ⟨2, ![128, 1024]⟩
abbrev S1x128x1024 : Shape := ⟨3, ![1, 128, 1024]⟩

abbrev nBuf : Space → Nat
  | .hbm => 17
  | .vmem => 19
  | .smem => 0
  | _ => 0

abbrev bufTy : (tb : Table) → Fin (tcTables nBuf tb) → BufTy
  | .hbm, ⟨0, _⟩ => ⟨S2x16384x1024, .f32⟩
  | .hbm, ⟨1, _⟩ => ⟨S2x16384x256, .f32⟩
  | .hbm, ⟨2, _⟩ => ⟨S2x16384x256, .f32⟩
  | .hbm, ⟨3, _⟩ => ⟨S2x16384x256, .f32⟩
  | .hbm, ⟨4, _⟩ => ⟨S2x16384x12, .f32⟩
  | .hbm, ⟨5, _⟩ => ⟨S2x16384x512, .f32⟩
  | .hbm, ⟨6, _⟩ => ⟨S2x16384x256, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S_, .i32⟩
  | .hbm, ⟨11, _⟩ => ⟨S_, .f32⟩
  | .hbm, ⟨12, _⟩ => ⟨S2x16384x128, .f32⟩
  | .hbm, ⟨13, _⟩ => ⟨S1x1024, .f32⟩
  | .hbm, ⟨14, _⟩ => ⟨S1024x1024, .bf16⟩
  | .hbm, ⟨15, _⟩ => ⟨S1x1024, .f32⟩
  | .hbm, ⟨16, _⟩ => ⟨S2x16384x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | .local _ .vmem, ⟨8, _⟩ => ⟨S1x1024x128, .f32⟩
  | .local _ .vmem, ⟨9, _⟩ => ⟨S1x1024x128, .f32⟩
  | .local _ .vmem, ⟨10, _⟩ => ⟨S1x1024x512, .f32⟩
  | .local _ .vmem, ⟨11, _⟩ => ⟨S1x1024x512, .f32⟩
  | .local _ .vmem, ⟨12, _⟩ => ⟨S1x1024x256, .f32⟩
  | .local _ .vmem, ⟨13, _⟩ => ⟨S1x1024x256, .f32⟩
  | .local _ .vmem, ⟨14, _⟩ => ⟨S1x1024, .f32⟩
  | .local _ .vmem, ⟨15, _⟩ => ⟨S1024x1024, .bf16⟩
  | .local _ .vmem, ⟨16, _⟩ => ⟨S1x1024, .f32⟩
  | .local _ .vmem, ⟨17, _⟩ => ⟨S1x1024x1024, .f32⟩
  | .local _ .vmem, ⟨18, _⟩ => ⟨S1x1024x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference4Ideal.lean ====
abbrev S2x16384x1024 : Shape := ⟨3, ![2, 16384, 1024]⟩
abbrev S2x16384x256 : Shape := ⟨3, ![2, 16384, 256]⟩
abbrev S2x16384x12 : Shape := ⟨3, ![2, 16384, 12]⟩
abbrev S2x16384x512 : Shape := ⟨3, ![2, 16384, 512]⟩
abbrev S1024 : Shape := ⟨1, ![1024]⟩
abbrev S1024x1024 : Shape := ⟨2, ![1024, 1024]⟩
abbrev S_ : Shape := ⟨0, ![]⟩
abbrev S2x16384x3x4 : Shape := ⟨4, ![2, 16384, 3, 4]⟩
abbrev S3x2x4x16384 : Shape := ⟨4, ![3, 2, 4, 16384]⟩
abbrev S3x2x4x16384x1 : Shape := ⟨5, ![3, 2, 4, 16384, 1]⟩
abbrev S1x2x4x16384x1 : Shape := ⟨5, ![1, 2, 4, 16384, 1]⟩
abbrev S2x4x16384x1 : Shape := ⟨4, ![2, 4, 16384, 1]⟩
abbrev S2x16384x4x64 : Shape := ⟨4, ![2, 16384, 4, 64]⟩
abbrev S2x4x16384x64 : Shape := ⟨4, ![2, 4, 16384, 64]⟩
abbrev S256 : Shape := ⟨1, ![256]⟩
abbrev S2x16384 : Shape := ⟨2, ![2, 16384]⟩
abbrev S2x16384x1 : Shape := ⟨3, ![2, 16384, 1]⟩
abbrev S1x1x256 : Shape := ⟨3, ![1, 1, 256]⟩
abbrev S512 : Shape := ⟨1, ![512]⟩
abbrev S1x1x512 : Shape := ⟨3, ![1, 1, 512]⟩
abbrev S1x1x1024 : Shape := ⟨3, ![1, 1, 1024]⟩

abbrev nBuf : Space → Nat
  | .hbm => 113
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x256, .f32⟩
  | .hbm, ⟨2, _⟩ => ⟨S2x16384x256, .f32⟩
  | .hbm, ⟨3, _⟩ => ⟨S2x16384x256, .f32⟩
  | .hbm, ⟨4, _⟩ => ⟨S2x16384x12, .f32⟩
  | .hbm, ⟨5, _⟩ => ⟨S2x16384x512, .f32⟩
  | .hbm, ⟨6, _⟩ => ⟨S2x16384x256, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S2x16384x12, .f32⟩
  | .hbm, ⟨11, _⟩ => ⟨S2x16384x12, .f32⟩
  | .hbm, ⟨12, _⟩ => ⟨S_, .f32⟩
  | .hbm, ⟨13, _⟩ => ⟨S2x16384x12, .f32⟩
  | .hbm, ⟨14, _⟩ => ⟨S2x16384x12, .f32⟩
  | .hbm, ⟨15, _⟩ => ⟨S_, .f32⟩
  | .hbm, ⟨16, _⟩ => ⟨S2x16384x12, .f32⟩
  | .hbm, ⟨17, _⟩ => ⟨S2x16384x12, .f32⟩
  | .hbm, ⟨18, _⟩ => ⟨S2x16384x3x4, .f32⟩
  | .hbm, ⟨19, _⟩ => ⟨S3x2x4x16384, .f32⟩
  | .hbm, ⟨20, _⟩ => ⟨S3x2x4x16384x1, .f32⟩
  | .hbm, ⟨21, _⟩ => ⟨S1x2x4x16384x1, .f32⟩
  | .hbm, ⟨22, _⟩ => ⟨S2x4x16384x1, .f32⟩
  | .hbm, ⟨23, _⟩ => ⟨S2x16384x4x64, .f32⟩
  | .hbm, ⟨24, _⟩ => ⟨S2x4x16384x64, .f32⟩
  | .hbm, ⟨25, _⟩ => ⟨S2x4x16384x64, .f32⟩
  | .hbm, ⟨26, _⟩ => ⟨S2x4x16384x64, .f32⟩
  | .hbm, ⟨27, _⟩ => ⟨S1x2x4x16384x1, .f32⟩
  | .hbm, ⟨28, _⟩ => ⟨S2x4x16384x1, .f32⟩
  | .hbm, ⟨29, _⟩ => ⟨S2x16384x4x64, .f32⟩
  | .hbm, ⟨30, _⟩ => ⟨S2x4x16384x64, .f32⟩
  | .hbm, ⟨31, _⟩ => ⟨S2x4x16384x64, .f32⟩
  | .hbm, ⟨32, _⟩ => ⟨S2x4x16384x64, .f32⟩
  | .hbm, ⟨33, _⟩ => ⟨S2x4x16384x64, .f32⟩
  | .hbm, ⟨34, _⟩ => ⟨S1x2x4x16384x1, .f32⟩
  | .hbm, ⟨35, _⟩ => ⟨S2x4x16384x1, .f32⟩
  | .hbm, ⟨36, _⟩ => ⟨S2x16384x4x64, .f32⟩
  | .hbm, ⟨37, _⟩ => ⟨S2x4x16384x64, .f32⟩
  | .hbm, ⟨38, _⟩ => ⟨S2x4x16384x64, .f32⟩
  | .hbm, ⟨39, _⟩ => ⟨S2x4x16384x64, .f32⟩
  | .hbm, ⟨40, _⟩ => ⟨S2x4x16384x64, .f32⟩
  | .hbm, ⟨41, _⟩ => ⟨S2x16384x4x64, .f32⟩
  | .hbm, ⟨42, _⟩ => ⟨S2x16384x256, .f32⟩
  | .hbm, ⟨43, _⟩ => ⟨S256, .f32⟩
  | .hbm, ⟨44, _⟩ => ⟨S2x16384x256, .f32⟩
  | .hbm, ⟨45, _⟩ => ⟨S_, .f32⟩
  | .hbm, ⟨46, _⟩ => ⟨S2x16384, .f32⟩
  | .hbm, ⟨47, _⟩ => ⟨S2x16384x1, .f32⟩
  | .hbm, ⟨48, _⟩ => ⟨S_, .f32⟩
  | .hbm, ⟨49, _⟩ => ⟨S2x16384x1, .f32⟩
  | .hbm, ⟨50, _⟩ => ⟨S2x16384x1, .f32⟩
  | .hbm, ⟨51, _⟩ => ⟨S_, .f32⟩
  | .hbm, ⟨52, _⟩ => ⟨S2x16384x1, .f32⟩
  | .hbm, ⟨53, _⟩ => ⟨S2x16384x1, .f32⟩
  | .hbm, ⟨54, _⟩ => ⟨S2x16384x1, .f32⟩
  | .hbm, ⟨55, _⟩ => ⟨S2x16384x256, .f32⟩
  | .hbm, ⟨56, _⟩ => ⟨S2x16384x256, .f32⟩
  | .hbm, ⟨57, _⟩ => ⟨S1x1x256, .f32⟩
  | .hbm, ⟨58, _⟩ => ⟨S2x16384x256, .f32⟩
  | .hbm, ⟨59, _⟩ => ⟨S2x16384x256, .f32⟩
  | .hbm, ⟨60, _⟩ => ⟨S512, .f32⟩
  | .hbm, ⟨61, _⟩ => ⟨S2x16384x512, .f32⟩
  | .hbm, ⟨62, _⟩ => ⟨S_, .f32⟩
  | .hbm, ⟨63, _⟩ => ⟨S2x16384, .f32⟩
  | .hbm, ⟨64, _⟩ => ⟨S2x16384x1, .f32⟩
  | .hbm, ⟨65, _⟩ => ⟨S_, .f32⟩
  | .hbm, ⟨66, _⟩ => ⟨S2x16384x1, .f32⟩
  | .hbm, ⟨67, _⟩ => ⟨S2x16384x1, .f32⟩
  | .hbm, ⟨68, _⟩ => ⟨S_, .f32⟩
  | .hbm, ⟨69, _⟩ => ⟨S2x16384x1, .f32⟩
  | .hbm, ⟨70, _⟩ => ⟨S2x16384x1, .f32⟩
  | .hbm, ⟨71, _⟩ => ⟨S2x16384x1, .f32⟩
  | .hbm, ⟨72, _⟩ => ⟨S2x16384x512, .f32⟩
  | .hbm, ⟨73, _⟩ => ⟨S2x16384x512, .f32⟩
  | .hbm, ⟨74, _⟩ => ⟨S1x1x512, .f32⟩
  | .hbm, ⟨75, _⟩ => ⟨S2x16384x512, .f32⟩
  | .hbm, ⟨76, _⟩ => ⟨S2x16384x512, .f32⟩
  | .hbm, ⟨77, _⟩ => ⟨S256, .f32⟩
  | .hbm, ⟨78, _⟩ => ⟨S2x16384x256, .f32⟩
  | .hbm, ⟨79, _⟩ => ⟨S_, .f32⟩
  | .hbm, ⟨80, _⟩ => ⟨S2x16384, .f32⟩
  | .hbm, ⟨81, _⟩ => ⟨S2x16384x1, .f32⟩
  | .hbm, ⟨82, _⟩ => ⟨S_, .f32⟩
  | .hbm, ⟨83, _⟩ => ⟨S2x16384x1, .f32⟩
  | .hbm, ⟨84, _⟩ => ⟨S2x16384x1, .f32⟩
  | .hbm, ⟨85, _⟩ => ⟨S_, .f32⟩
  | .hbm, ⟨86, _⟩ => ⟨S2x16384x1, .f32⟩
  | .hbm, ⟨87, _⟩ => ⟨S2x16384x1, .f32⟩
  | .hbm, ⟨88, _⟩ => ⟨S2x16384x1, .f32⟩
  | .hbm, ⟨89, _⟩ => ⟨S2x16384x256, .f32⟩
  | .hbm, ⟨90, _⟩ => ⟨S2x16384x256, .f32⟩
  | .hbm, ⟨91, _⟩ => ⟨S1x1x256, .f32⟩
  | .hbm, ⟨92, _⟩ => ⟨S2x16384x256, .f32⟩
  | .hbm, ⟨93, _⟩ => ⟨S2x16384x256, .f32⟩
  | .hbm, ⟨94, _⟩ => ⟨S2x16384x1024, .f32⟩
  | .hbm, ⟨95, _⟩ => ⟨S2x16384x1024, .f32⟩
  | .hbm, ⟨96, _⟩ => ⟨S2x16384x1024, .f32⟩
  | .hbm, ⟨97, _⟩ => ⟨S_, .f32⟩
  | .hbm, ⟨98, _⟩ => ⟨S2x16384, .f32⟩
  | .hbm, ⟨99, _⟩ => ⟨S2x16384x1, .f32⟩
  | .hbm, ⟨100, _⟩ => ⟨S_, .f32⟩
  | .hbm, ⟨101, _⟩ => ⟨S2x16384x1, .f32⟩
  | .hbm, ⟨102, _⟩ => ⟨S2x16384x1, .f32⟩
  | .hbm, ⟨103, _⟩ => ⟨S_, .f32⟩
  | .hbm, ⟨104, _⟩ => ⟨S2x16384x1, .f32⟩
  | .hbm, ⟨105, _⟩ => ⟨S2x16384x1, .f32⟩
  | .hbm, ⟨106, _⟩ => ⟨S2x16384x1, .f32⟩
  | .hbm, ⟨107, _⟩ => ⟨S2x16384x1024, .f32⟩
  | .hbm, ⟨108, _⟩ => ⟨S2x16384x1024, .f32⟩
  | .hbm, ⟨109, _⟩ => ⟨S1x1x1024, .f32⟩
  | .hbm, ⟨110, _⟩ => ⟨S2x16384x1024, .f32⟩
  | .hbm, ⟨111, _⟩ => ⟨S2x16384x1024, .f32⟩
  | .hbm, ⟨112, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_1 : Ref sig .tc := ⟨.hbm, 45, rfl⟩
abbrev main_v33 : Ref sig .tc := ⟨.hbm, 46, rfl⟩
abbrev main_v34 : Ref sig .tc := ⟨.hbm, 47, rfl⟩
abbrev main_cst_2 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_4 : Ref sig .tc := ⟨.hbm, 62, rfl⟩
abbrev main_v47 : Ref sig .tc := ⟨.hbm, 63, rfl⟩
abbrev main_v48 : Ref sig .tc := ⟨.hbm, 64, rfl⟩
abbrev main_cst_5 : Ref sig .tc := ⟨.hbm, 65, rfl⟩
abbrev main_v49 : Ref sig .tc := ⟨.hbm, 66, rfl⟩
abbrev main_v50 : Ref sig .tc := ⟨.hbm, 67, rfl⟩
abbrev main_cst_6 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_7 : Ref sig .tc := ⟨.hbm, 79, rfl⟩
abbrev main_v61 : Ref sig .tc := ⟨.hbm, 80, rfl⟩
abbrev main_v62 : Ref sig .tc := ⟨.hbm, 81, rfl⟩
abbrev main_cst_8 : Ref sig .tc := ⟨.hbm, 82, rfl⟩
abbrev main_v63 : Ref sig .tc := ⟨.hbm, 83, rfl⟩
abbrev main_v64 : Ref sig .tc := ⟨.hbm, 84, rfl⟩
abbrev main_cst_9 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_10 : Ref sig .tc := ⟨.hbm, 97, rfl⟩
abbrev main_v76 : Ref sig .tc := ⟨.hbm, 98, rfl⟩
abbrev main_v77 : Ref sig .tc := ⟨.hbm, 99, rfl⟩
abbrev main_cst_11 : Ref sig .tc := ⟨.hbm, 100, rfl⟩
abbrev main_v78 : Ref sig .tc := ⟨.hbm, 101, rfl⟩
abbrev main_v79 : Ref sig .tc := ⟨.hbm, 102, rfl⟩
abbrev main_cst_12 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩

abbrev nD : Nat := 1
abbrev τ : Topo := Topo.v7x

variable {F : FTy → Type} [FloatOps F]
-- ==== Kernel5.lean ====
abbrev S2x16384x1024 : Shape := ⟨3, ![2, 16384, 1024]⟩
abbrev S1024 : Shape := ⟨1, ![1024]⟩
abbrev S1024x2188 : Shape := ⟨2, ![1024, 2188]⟩
abbrev S1x1024 : Shape := ⟨2, ![1, 1024]⟩
abbrev S1024x256 : Shape := ⟨2, ![1024, 256]⟩
abbrev S1024x64 : Shape := ⟨2, ![1024, 64]⟩
abbrev S1024x12 : Shape := ⟨2, ![1024, 12]⟩
abbrev S1024x512 : Shape := ⟨2, ![1024, 512]⟩
abbrev S_ : Shape := ⟨0, ![]⟩
abbrev S1024x116 : Shape := ⟨2, ![1024, 116]⟩
abbrev S1024x2304 : Shape := ⟨2, ![1024, 2304]⟩
abbrev S2x128x64x512 : Shape := ⟨4, ![2, 128, 64, 512]⟩
abbrev S2x16384x128 : Shape := ⟨3, ![2, 16384, 128]⟩
abbrev S2x80x16384 : Shape := ⟨3, ![2, 80, 16384]⟩
abbrev S2x16384x64 : Shape := ⟨3, ![2, 16384, 64]⟩
abbrev S2x128x64x1024 : Shape := ⟨4, ![2, 128, 64, 1024]⟩
abbrev S2x2x16384x64 : Shape := ⟨4, ![2, 2, 16384, 64]⟩
abbrev S2x2x80x16384 : Shape := ⟨4, ![2, 2, 80, 16384]⟩
abbrev S2x16384x256 : Shape := ⟨3, ![2, 16384, 256]⟩
abbrev S2x256x16384 : Shape := ⟨3, ![2, 256, 16384]⟩
abbrev S1x512x1024 : Shape := ⟨3, ![1, 512, 1024]⟩
abbrev S1x4x64x512 : Shape := ⟨4, ![1, 4, 64, 512]⟩
abbrev S1x512x128 : Shape := ⟨3, ![1, 512, 128]⟩
abbrev S1x80x512 : Shape := ⟨3, ![1, 80, 512]⟩
abbrev S1x512x64 : Shape := ⟨3, ![1, 512, 64]⟩
abbrev S1x4x64x1024 : Shape := ⟨4, ![1, 4, 64, 1024]⟩
abbrev S1x2x512x64 : Shape := ⟨4, ![1, 2, 512, 64]⟩
abbrev S1x2x80x512 : Shape := ⟨4, ![1, 2, 80, 512]⟩
abbrev S1x512x256 : Shape := ⟨3, ![1, 512, 256]⟩
abbrev S1x256x512 : Shape := ⟨3, ![1, 256, 512]⟩
abbrev S2x1x512x64 : Shape := ⟨4, ![2, 1, 512, 64]⟩
abbrev S512x1024 : Shape := ⟨2, ![512, 1024]⟩
abbrev S512 : Shape := ⟨1, ![512]⟩
abbrev S512x1 : Shape := ⟨2, ![512, 1]⟩
abbrev S16x512 : Shape := ⟨2, ![16, 512]⟩
abbrev S512x256 : Shape := ⟨2, ![512, 256]⟩
abbrev S256x512 : Shape := ⟨2, ![256, 512]⟩
abbrev S64x128 : Shape := ⟨2, ![64, 128]⟩
abbrev S1x1x64x128 : Shape := ⟨4, ![1, 1, 64, 128]⟩
abbrev S512x128 : Shape := ⟨2, ![512, 128]⟩
abbrev S128x512 : Shape := ⟨2, ![128, 512]⟩
abbrev S64x512 : Shape := ⟨2, ![64, 512]⟩
abbrev S80x512 : Shape := ⟨2, ![80, 512]⟩
abbrev S512x64 : Shape := ⟨2, ![512, 64]⟩
abbrev S512x512 : Shape := ⟨2, ![512, 512]⟩
abbrev S1024x128 : Shape := ⟨2, ![1024, 128]⟩
abbrev S1x1x512x64 : Shape := ⟨4, ![1, 1, 512, 64]⟩
abbrev S1x1x80x512 : Shape := ⟨4, ![1, 1, 80, 512]⟩

abbrev nBuf : Space → Nat
  | .hbm => 39
  | .vmem => 30
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x2188, .f32⟩
  | .hbm, ⟨3, _⟩ => ⟨S1x1024, .f32⟩
  | .hbm, ⟨4, _⟩ => ⟨S1024x256, .f32⟩
  | .hbm, ⟨5, _⟩ => ⟨S1024x64, .f32⟩
  | .hbm, ⟨6, _⟩ => ⟨S1024x64, .f32⟩
  | .hbm, ⟨7, _⟩ => ⟨S1024x256, .f32⟩
  | .hbm, ⟨8, _⟩ => ⟨S1024x12, .f32⟩
  | .hbm, ⟨9, _⟩ => ⟨S1024x512, .f32⟩
  | .hbm, ⟨10, _⟩ => ⟨S1024x256, .f32⟩
  | .hbm, ⟨11, _⟩ => ⟨S1024x256, .f32⟩
  | .hbm, ⟨12, _⟩ => ⟨S1024x512, .f32⟩
  | .hbm, ⟨13, _⟩ => ⟨S_, .f32⟩
  | .hbm, ⟨14, _⟩ => ⟨S1024x116, .f32⟩
  | .hbm, ⟨15, _⟩ => ⟨S_, .f32⟩
  | .hbm, ⟨16, _⟩ => ⟨S1024x256, .f32⟩
  | .hbm, ⟨17, _⟩ => ⟨S1024x256, .f32⟩
  | .hbm, ⟨18, _⟩ => ⟨S_, .f32⟩
  | .hbm, ⟨19, _⟩ => ⟨S1024x512, .f32⟩
  | .hbm, ⟨20, _⟩ => ⟨S1024x512, .f32⟩
  | .hbm, ⟨21, _⟩ => ⟨S_, .f32⟩
  | .hbm, ⟨22, _⟩ => ⟨S1024x256, .f32⟩
  | .hbm, ⟨23, _⟩ => ⟨S1024x256, .f32⟩
  | .hbm, ⟨24, _⟩ => ⟨S1024x2304, .f32⟩
  | .hbm, ⟨25, _⟩ => ⟨S1024x2304, .bf16⟩
  | .hbm, ⟨26, _⟩ => ⟨S2x128x64x512, .bf16⟩
  | .hbm, ⟨27, _⟩ => ⟨S2x16384x128, .bf16⟩
  | .hbm, ⟨28, _⟩ => ⟨S2x80x16384, .bf16⟩
  | .hbm, ⟨29, _⟩ => ⟨S2x16384x64, .bf16⟩
  | .hbm, ⟨30, _⟩ => ⟨S2x80x16384, .bf16⟩
  | .hbm, ⟨31, _⟩ => ⟨S2x128x64x1024, .bf16⟩
  | .hbm, ⟨32, _⟩ => ⟨S2x2x16384x64, .bf16⟩
  | .hbm, ⟨33, _⟩ => ⟨S2x2x80x16384, .bf16⟩
  | .hbm, ⟨34, _⟩ => ⟨S2x128x64x512, .bf16⟩
  | .hbm, ⟨35, _⟩ => ⟨S2x16384x256, .bf16⟩
  | .hbm, ⟨36, _⟩ => ⟨S2x256x16384, .bf16⟩
  | .hbm, ⟨37, _⟩ => ⟨S2x2x16384x64, .f32⟩
  | .hbm, ⟨38, _⟩ => ⟨S2x16384x128, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2304, .bf16⟩
  | .local _ .vmem, ⟨4, _⟩ => ⟨S1x4x64x512, .bf16⟩
  | .local _ .vmem, ⟨5, _⟩ => ⟨S1x4x64x512, .bf16⟩
  | .local _ .vmem, ⟨6, _⟩ => ⟨S1x512x128, .bf16⟩
  | .local _ .vmem, ⟨7, _⟩ => ⟨S1x512x128, .bf16⟩
  | .local _ .vmem, ⟨8, _⟩ => ⟨S1x80x512, .bf16⟩
  | .local _ .vmem, ⟨9, _⟩ => ⟨S1x80x512, .bf16⟩
  | .local _ .vmem, ⟨10, _⟩ => ⟨S1x512x64, .bf16⟩
  | .local _ .vmem, ⟨11, _⟩ => ⟨S1x512x64, .bf16⟩
  | .local _ .vmem, ⟨12, _⟩ => ⟨S1x80x512, .bf16⟩
  | .local _ .vmem, ⟨13, _⟩ => ⟨S1x80x512, .bf16⟩
  | .local _ .vmem, ⟨14, _⟩ => ⟨S1x4x64x1024, .bf16⟩
  | .local _ .vmem, ⟨15, _⟩ => ⟨S1x4x64x1024, .bf16⟩
  | .local _ .vmem, ⟨16, _⟩ => ⟨S1x2x512x64, .bf16⟩
  | .local _ .vmem, ⟨17, _⟩ => ⟨S1x2x512x64, .bf16⟩
  | .local _ .vmem, ⟨18, _⟩ => ⟨S1x2x80x512, .bf16⟩
  | .local _ .vmem, ⟨19, _⟩ => ⟨S1x2x80x512, .bf16⟩
  | .local _ .vmem, ⟨20, _⟩ => ⟨S1x4x64x512, .bf16⟩
  | .local _ .vmem, ⟨21, _⟩ => ⟨S1x4x64x512, .bf16⟩
  | .local _ .vmem, ⟨22, _⟩ => ⟨S1x512x256, .bf16⟩
  | .local _ .vmem, ⟨23, _⟩ => ⟨S1x512x256, .bf16⟩
  | .local _ .vmem, ⟨24, _⟩ => ⟨S1x256x512, .bf16⟩
  | .local _ .vmem, ⟨25, _⟩ => ⟨S1x256x512, .bf16⟩
  | .local _ .vmem, ⟨26, _⟩ => ⟨S2x1x512x64, .f32⟩
  | .local _ .vmem, ⟨27, _⟩ => ⟨S2x1x512x64, .f32⟩
  | .local _ .vmem, ⟨28, _⟩ => ⟨S1x512x128, .f32⟩
  | .local _ .vmem, ⟨29, _⟩ => ⟨S1x512x128, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19_0 : Ref sig .tc := ⟨.hbm, 26, rfl⟩
abbrev main_v19_1 : Ref sig .tc := ⟨.hbm, 27, rfl⟩
abbrev main_v19_2 : Ref sig .tc := ⟨.hbm, 28, rfl⟩
abbrev main_v19_3 : Ref sig .tc := ⟨.hbm, 29, rfl⟩
abbrev main_v19_4 : Ref sig .tc := ⟨.hbm, 30, rfl⟩
abbrev main_v19_5 : Ref sig .tc := ⟨.hbm, 31, rfl⟩
abbrev main_v19_6 : Ref sig .tc := ⟨.hbm, 32, rfl⟩
abbrev main_v19_7 : Ref sig .tc := ⟨.hbm, 33, rfl⟩
abbrev main_v19_8 : Ref sig .tc := ⟨.hbm, 34, rfl⟩
abbrev main_v19_9 : Ref sig .tc := ⟨.hbm, 35, rfl⟩
abbrev main_v19_10 : Ref sig .tc := ⟨.hbm, 36, rfl⟩
abbrev main_v19_11 : Ref sig .tc := ⟨.hbm, 37, rfl⟩
abbrev main_v19_12 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x4x64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x80x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x80x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x64x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x512x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x80x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x64x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S2x1x512x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference5Ideal.lean ====
abbrev S2x16384x1024 : Shape := ⟨3, ![2, 16384, 1024]⟩
abbrev S1024 : Shape := ⟨1, ![1024]⟩
abbrev S1024x2188 : Shape := ⟨2, ![1024, 2188]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x2188 : Shape := ⟨3, ![2, 16384, 2188]⟩
abbrev S2x16384x256 : Shape := ⟨3, ![2, 16384, 256]⟩
abbrev S2x16384x64 : Shape := ⟨3, ![2, 16384, 64]⟩
abbrev S2x16384x12 : Shape := ⟨3, ![2, 16384, 12]⟩
abbrev S2x16384x512 : Shape := ⟨3, ![2, 16384, 512]⟩
abbrev S2x16384x128 : Shape := ⟨3, ![2, 16384, 128]⟩
abbrev S8x64 : Shape := ⟨2, ![8, 64]⟩
abbrev S1x1x8x1x64 : Shape := ⟨5, ![1, 1, 8, 1, 64]⟩
abbrev S2x32x8x64x64 : Shape := ⟨5, ![2, 32, 8, 64, 64]⟩
abbrev S2x128x128x4x64 : Shape := ⟨5, ![2, 128, 128, 4, 64]⟩
abbrev S2x128x64x4x128 : Shape := ⟨5, ![2, 128, 64, 4, 128]⟩
abbrev S2x128x64x512 : Shape := ⟨4, ![2, 128, 64, 512]⟩
abbrev S2x1x16384 : Shape := ⟨3, ![2, 1, 16384]⟩
abbrev S2x15x16384 : Shape := ⟨3, ![2, 15, 16384]⟩
abbrev S2x64x16384 : Shape := ⟨3, ![2, 64, 16384]⟩
abbrev S2x80x16384 : Shape := ⟨3, ![2, 80, 16384]⟩
abbrev S2x128x128x8x64 : Shape := ⟨5, ![2, 128, 128, 8, 64]⟩
abbrev S2x128x64x8x128 : Shape := ⟨5, ![2, 128, 64, 8, 128]⟩
abbrev S2x128x64x1024 : Shape := ⟨4, ![2, 128, 64, 1024]⟩
abbrev S2x16384x2x64 : Shape := ⟨4, ![2, 16384, 2, 64]⟩
abbrev S2x2x16384x64 : Shape := ⟨4, ![2, 2, 16384, 64]⟩
abbrev S2x2x1x16384 : Shape := ⟨4, ![2, 2, 1, 16384]⟩
abbrev S2x2x15x16384 : Shape := ⟨4, ![2, 2, 15, 16384]⟩
abbrev S2x2x64x16384 : Shape := ⟨4, ![2, 2, 64, 16384]⟩
abbrev S2x2x80x16384 : Shape := ⟨4, ![2, 2, 80, 16384]⟩
abbrev S2x256x16384 : Shape := ⟨3, ![2, 256, 16384]⟩
abbrev S1x2x16384x64 : Shape := ⟨4, ![1, 2, 16384, 64]⟩

abbrev nBuf : Space → Nat
  | .hbm => 109
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x2188, .f32⟩
  | .hbm, ⟨3, _⟩ => ⟨S2x16384x1024, .f32⟩
  | .hbm, ⟨4, _⟩ => ⟨S_, .f32⟩
  | .hbm, ⟨5, _⟩ => ⟨S2x16384, .f32⟩
  | .hbm, ⟨6, _⟩ => ⟨S2x16384x1, .f32⟩
  | .hbm, ⟨7, _⟩ => ⟨S_, .f32⟩
  | .hbm, ⟨8, _⟩ => ⟨S2x16384x1, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S2x16384x1, .f32⟩
  | .hbm, ⟨14, _⟩ => ⟨S2x16384x1024, .f32⟩
  | .hbm, ⟨15, _⟩ => ⟨S2x16384x1024, .f32⟩
  | .hbm, ⟨16, _⟩ => ⟨S1x1x1024, .f32⟩
  | .hbm, ⟨17, _⟩ => ⟨S2x16384x1024, .f32⟩
  | .hbm, ⟨18, _⟩ => ⟨S2x16384x1024, .f32⟩
  | .hbm, ⟨19, _⟩ => ⟨S2x16384x2188, .f32⟩
  | .hbm, ⟨20, _⟩ => ⟨S2x16384x256, .f32⟩
  | .hbm, ⟨21, _⟩ => ⟨S2x16384x64, .f32⟩
  | .hbm, ⟨22, _⟩ => ⟨S2x16384x64, .f32⟩
  | .hbm, ⟨23, _⟩ => ⟨S2x16384x64, .f32⟩
  | .hbm, ⟨24, _⟩ => ⟨S2x16384x64, .f32⟩
  | .hbm, ⟨25, _⟩ => ⟨S2x16384x64, .f32⟩
  | .hbm, ⟨26, _⟩ => ⟨S2x16384x64, .f32⟩
  | .hbm, ⟨27, _⟩ => ⟨S2x16384x12, .f32⟩
  | .hbm, ⟨28, _⟩ => ⟨S2x16384x512, .f32⟩
  | .hbm, ⟨29, _⟩ => ⟨S2x16384x128, .f32⟩
  | .hbm, ⟨30, _⟩ => ⟨S2x16384x128, .f32⟩
  | .hbm, ⟨31, _⟩ => ⟨S2x16384x256, .f32⟩
  | .hbm, ⟨32, _⟩ => ⟨S2x16384x256, .f32⟩
  | .hbm, ⟨33, _⟩ => ⟨S2x16384x256, .f32⟩
  | .hbm, ⟨34, _⟩ => ⟨S8x64, .i32⟩
  | .hbm, ⟨35, _⟩ => ⟨S8x64, .i32⟩
  | .hbm, ⟨36, _⟩ => ⟨S_, .i32⟩
  | .hbm, ⟨37, _⟩ => ⟨S8x64, .i32⟩
  | .hbm, ⟨38, _⟩ => ⟨S8x64, .i32⟩
  | .hbm, ⟨39, _⟩ => ⟨S8x64, .i1⟩
  | .hbm, ⟨40, _⟩ => ⟨S8x64, .f32⟩
  | .hbm, ⟨41, _⟩ => ⟨S1x1x8x1x64, .f32⟩
  | .hbm, ⟨42, _⟩ => ⟨S2x32x8x64x64, .f32⟩
  | .hbm, ⟨43, _⟩ => ⟨S2x16384x64, .f32⟩
  | .hbm, ⟨44, _⟩ => ⟨S_, .f32⟩
  | .hbm, ⟨45, _⟩ => ⟨S2x16384x256, .f32⟩
  | .hbm, ⟨46, _⟩ => ⟨S2x16384x256, .f32⟩
  | .hbm, ⟨47, _⟩ => ⟨S_, .f32⟩
  | .hbm, ⟨48, _⟩ => ⟨S2x16384x256, .f32⟩
  | .hbm, ⟨49, _⟩ => ⟨S2x16384x256, .f32⟩
  | .hbm, ⟨50, _⟩ => ⟨S2x128x128x4x64, .f32⟩
  | .hbm, ⟨51, _⟩ => ⟨S2x128x64x4x128, .f32⟩
  | .hbm, ⟨52, _⟩ => ⟨S2x128x64x512, .f32⟩
  | .hbm, ⟨53, _⟩ => ⟨S2x16384x128, .f32⟩
  | .hbm, ⟨54, _⟩ => ⟨S_, .f32⟩
  | .hbm, ⟨55, _⟩ => ⟨S2x1x16384, .f32⟩
  | .hbm, ⟨56, _⟩ => ⟨S_, .f32⟩
  | .hbm, ⟨57, _⟩ => ⟨S2x15x16384, .f32⟩
  | .hbm, ⟨58, _⟩ => ⟨S2x64x16384, .f32⟩
  | .hbm, ⟨59, _⟩ => ⟨S2x80x16384, .f32⟩
  | .hbm, ⟨60, _⟩ => ⟨S_, .f32⟩
  | .hbm, ⟨61, _⟩ => ⟨S2x1x16384, .f32⟩
  | .hbm, ⟨62, _⟩ => ⟨S_, .f32⟩
  | .hbm, ⟨63, _⟩ => ⟨S2x15x16384, .f32⟩
  | .hbm, ⟨64, _⟩ => ⟨S2x64x16384, .f32⟩
  | .hbm, ⟨65, _⟩ => ⟨S2x80x16384, .f32⟩
  | .hbm, ⟨66, _⟩ => ⟨S_, .f32⟩
  | .hbm, ⟨67, _⟩ => ⟨S2x16384x512, .f32⟩
  | .hbm, ⟨68, _⟩ => ⟨S2x16384x512, .f32⟩
  | .hbm, ⟨69, _⟩ => ⟨S2x128x128x8x64, .f32⟩
  | .hbm, ⟨70, _⟩ => ⟨S2x128x64x8x128, .f32⟩
  | .hbm, ⟨71, _⟩ => ⟨S2x128x64x1024, .f32⟩
  | .hbm, ⟨72, _⟩ => ⟨S2x16384x2x64, .f32⟩
  | .hbm, ⟨73, _⟩ => ⟨S2x2x16384x64, .f32⟩
  | .hbm, ⟨74, _⟩ => ⟨S2x16384x2x64, .f32⟩
  | .hbm, ⟨75, _⟩ => ⟨S2x2x16384x64, .f32⟩
  | .hbm, ⟨76, _⟩ => ⟨S_, .f32⟩
  | .hbm, ⟨77, _⟩ => ⟨S2x2x1x16384, .f32⟩
  | .hbm, ⟨78, _⟩ => ⟨S_, .f32⟩
  | .hbm, ⟨79, _⟩ => ⟨S2x2x15x16384, .f32⟩
  | .hbm, ⟨80, _⟩ => ⟨S2x2x64x16384, .f32⟩
  | .hbm, ⟨81, _⟩ => ⟨S2x2x80x16384, .f32⟩
  | .hbm, ⟨82, _⟩ => ⟨S_, .f32⟩
  | .hbm, ⟨83, _⟩ => ⟨S2x16384x256, .f32⟩
  | .hbm, ⟨84, _⟩ => ⟨S2x16384x256, .f32⟩
  | .hbm, ⟨85, _⟩ => ⟨S_, .f32⟩
  | .hbm, ⟨86, _⟩ => ⟨S2x16384x256, .f32⟩
  | .hbm, ⟨87, _⟩ => ⟨S2x16384x256, .f32⟩
  | .hbm, ⟨88, _⟩ => ⟨S2x128x128x4x64, .f32⟩
  | .hbm, ⟨89, _⟩ => ⟨S2x128x64x4x128, .f32⟩
  | .hbm, ⟨90, _⟩ => ⟨S2x128x64x512, .f32⟩
  | .hbm, ⟨91, _⟩ => ⟨S2x256x16384, .f32⟩
  | .hbm, ⟨92, _⟩ => ⟨S2x128x64x512, .bf16⟩
  | .hbm, ⟨93, _⟩ => ⟨S2x16384x128, .bf16⟩
  | .hbm, ⟨94, _⟩ => ⟨S2x80x16384, .bf16⟩
  | .hbm, ⟨95, _⟩ => ⟨S2x16384x64, .bf16⟩
  | .hbm, ⟨96, _⟩ => ⟨S2x80x16384, .bf16⟩
  | .hbm, ⟨97, _⟩ => ⟨S2x128x64x1024, .bf16⟩
  | .hbm, ⟨98, _⟩ => ⟨S2x2x16384x64, .bf16⟩
  | .hbm, ⟨99, _⟩ => ⟨S2x2x80x16384, .bf16⟩
  | .hbm, ⟨100, _⟩ => ⟨S2x128x64x512, .bf16⟩
  | .hbm, ⟨101, _⟩ => ⟨S2x16384x256, .bf16⟩
  | .hbm, ⟨102, _⟩ => ⟨S2x256x16384, .bf16⟩
  | .hbm, ⟨103, _⟩ => ⟨S1x2x16384x64, .f32⟩
  | .hbm, ⟨104, _⟩ => ⟨S1x2x16384x64, .f32⟩
  | .hbm, ⟨105, _⟩ => ⟨S2x2x16384x64, .f32⟩
  | .hbm, ⟨106, _⟩ => ⟨S_, .i32⟩
  | .hbm, ⟨107, _⟩ => ⟨S_, .f32⟩
  | .hbm, ⟨108, _⟩ => ⟨S2x16384x128, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_c : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_2 : Ref sig .tc := ⟨.hbm, 44, rfl⟩
abbrev main_v37 : Ref sig .tc := ⟨.hbm, 45, rfl⟩
abbrev main_v38 : Ref sig .tc := ⟨.hbm, 46, rfl⟩
abbrev main_cst_3 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_4 : Ref sig .tc := ⟨.hbm, 54, rfl⟩
abbrev main_v45 : Ref sig .tc := ⟨.hbm, 55, rfl⟩
abbrev main_cst_5 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_6 : Ref sig .tc := ⟨.hbm, 60, rfl⟩
abbrev main_v49 : Ref sig .tc := ⟨.hbm, 61, rfl⟩
abbrev main_cst_7 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_8 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_9 : Ref sig .tc := ⟨.hbm, 76, rfl⟩
abbrev main_v62 : Ref sig .tc := ⟨.hbm, 77, rfl⟩
abbrev main_cst_10 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_11 : Ref sig .tc := ⟨.hbm, 82, rfl⟩
abbrev main_v66 : Ref sig .tc := ⟨.hbm, 83, rfl⟩
abbrev main_v67 : Ref sig .tc := ⟨.hbm, 84, rfl⟩
abbrev main_cst_12 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_c_13 : Ref sig .tc := ⟨.hbm, 106, rfl⟩
abbrev main_call0_v0 : Ref sig .tc := ⟨.hbm, 107, rfl⟩
abbrev main_v88 : Ref sig .tc := ⟨.hbm, 108, rfl⟩

abbrev nD : Nat := 1
abbrev τ : Topo := Topo.v7x

variable {F : FTy → Type} [FloatOps F]
-- ==== Proof.PreFinite.lean ====
module

public import proofs.«01_k».proof.Pre_finite
public import Idealize.ShloMosaic.Lib.ReduceAll
public import Idealize.ShloMosaic.Lib.Claim
public import Idealize.ShloMosaic.Lib.Pointwise

@[expose] public section

noncomputable section

namespace Cert.Pre_finite

open Idealize.ShloMosaic

/-- The precondition's shape relations hold. -/
theorem factsHold : Facts where
  bcast_S_S2x16384x512 := by decide
  reducesTo_S2x16384x512_S_d0_1_2 := by decide
  h_S_ := by decide
  bcast_S_S2x16384x128 := by decide
  reducesTo_S2x16384x128_S_d0_1_2 := by decide
  bcast_S_S32x12 := by decide
  reducesTo_S32x12_S_d0_1 := by decide
  bcast_S_S8 := by decide
  reducesTo_S8_S_d0 := by decide

theorem bits_top : Ideal.ofBits .f32 0x7F800000#32 = ⊤ := by
  simp [Ideal.ofBits, Ideal.ieee]

/-- A number whose absolute value is below infinity is real. -/
theorem real_of_abs (a : EReal) (h : max a (-a) < ⊤) : ∃ r : ℝ, a = (r : EReal) := by
  induction a with
  | bot => exact absurd h (by simp)
  | top => exact absurd h (by simp)
  | coe r => exact ⟨r, rfl⟩

theorem elem {s : Shape} (hb : S_.BroadcastsInDim s (![] : Fin 0 → Fin s.rank)) (x : FVec Ideal s .f32) (i : s.Idx)
    (h : cmpf .olt (Host.absf x) (broadcastInDim s ![] hb (constant (F := Ideal) S_ .f32 0x7F800000#32)) i = 1#1) : ∃ r : ℝ, (x i : EReal) = (r : EReal) := by
  refine real_of_abs _ ?_
  have h' : BitVec.ofBool (decide (max (x i : EReal) (-(x i)) < Ideal.ofBits .f32 0x7F800000#32)) = 1#1 := h
  rw [bits_top] at h'
  by_contra hc
  rw [decide_eq_false hc] at h'
  exact absurd h' (by decide)

theorem and_one (a b : BitVec 1) (h : IntOp.andi a b = 1#1) : a = 1#1 ∧ b = 1#1 := by
  revert a b
  decide

instance : Subsingleton S_.Idx := ⟨fun a b => funext fun i => i.elim0⟩

theorem real_args (Q : FVec Ideal S2x16384x512 .f32) (K V : FVec Ideal S2x16384x128 .f32) (T : FVec Ideal S32x12 .f32) (S : FVec Ideal S8 .f32)
    (h : @fn factsHold Ideal _ Q K V T S = fun _ => 1#1) :
    (∀ i, ∃ r : ℝ, (Q i : EReal) = (r : EReal)) ∧ (∀ i, ∃ r : ℝ, (K i : EReal) = (r : EReal)) ∧ (∀ i, ∃ r : ℝ, (T i : EReal) = (r : EReal))
      ∧ ∀ i, ∃ r : ℝ, (S i : EReal) = (r : EReal) := by
  have h0 := congrFun h (Shape.Idx.first factsHold.h_S_)
  dsimp only [fn, fn_part1] at h0
  obtain ⟨h1, hS⟩ := and_one _ _ h0
  obtain ⟨h2, hT⟩ := and_one _ _ h1
  obtain ⟨hQ, hK⟩ := and_one _ _ h2
  exact ⟨fun i => elem _ Q i (Host.reduce_andi_all _ _ _ _ _ hQ i), fun i => elem _ K i (Host.reduce_andi_all _ _ _ _ _ hK i),
    fun i => elem _ T i (Host.reduce_andi_all _ _ _ _ _ hT i), fun i => elem _ S i (Host.reduce_andi_all _ _ _ _ _ hS i)⟩

end Cert.Pre_finite

end
-- ==== Proof.FfnSpec.lean ====
module

public import Idealize.ShloMosaic.Lib.Claim
public import Idealize.ShloMosaic.Lib.Pipeline.ValueKit
public import Idealize.ShloMosaic.Lib.Pointwise

@[expose] public section

set_option maxRecDepth 16384

noncomputable section

namespace Cert.Ffn

open Idealize.ShloMosaic

/-- One row of the root-mean-square norm: the row over the root of its mean square, times the gains. -/
def nrm (x g : Fin 1024 → EReal) (k : Fin 1024) : EReal :=
  x k * Ideal.rsqrt (Ideal.div (∑ j, x j * x j) (Ideal.ofBits FTy.f32 1149239296#32) + Ideal.ofBits FTy.f32 897988541#32) * g k

/-- One row times a matrix of 2816 columns. -/
def up (h : Fin 1024 → EReal) (w : Fin 1024 → Fin 2816 → EReal) (f : Fin 2816) : EReal := ∑ k, h k * w k f

/-- The gated activation of one hidden unit. -/
def act (g u : EReal) : EReal := g * Ideal.logistic g * u

/-- The hidden row of one token. -/
def hid (x g : Fin 1024 → EReal) (wg wu : Fin 1024 → Fin 2816 → EReal) (f : Fin 2816) : EReal :=
  act (up (nrm x g) wg f) (up (nrm x g) wu f)

/-- The hidden row times the second matrix. -/
def down (a : Fin 2816 → EReal) (w : Fin 2816 → Fin 1024 → EReal) (k : Fin 1024) : EReal := ∑ f, a f * w f k

/-- One row of the block's result: the residual plus the normed feed-forward row. -/
def row (x g1 : Fin 1024 → EReal) (wg wu : Fin 1024 → Fin 2816 → EReal) (wd : Fin 2816 → Fin 1024 → EReal) (g2 : Fin 1024 → EReal)
    (k : Fin 1024) : EReal :=
  x k + nrm (down (hid x g1 wg wu) wd) g2 k

/-- A sum over 2816 terms is the sum of its first 1024, its next 1024 and its last 768. -/
theorem sum_chunks (F : Fin 2816 → EReal) :
    ∑ f, F f = ((∑ f : Fin 1024, F ⟨f, by omega⟩) + ∑ f : Fin 1024, F ⟨1024 + f, by omega⟩) + ∑ f : Fin 768, F ⟨2048 + f, by omega⟩ := by
  have h1 := Fin.sum_univ_add (a := 2048) (b := 768) (f := F)
  have h2 := Fin.sum_univ_add (a := 1024) (b := 1024) (f := fun i : Fin 2048 => F ⟨i, by omega⟩)
  exact h1.trans (congrArg₂ (· + ·) h2 rfl)

end Cert.Ffn
-- ==== Proof.FfnKernel.lean ====
module

public import proofs.«01_k».proof.Proof.Gen.Kernel2Ideal.Value
public import proofs.«01_k».proof.Proof.FfnSpec

@[expose] public section

set_option maxRecDepth 16384

noncomputable section

namespace Cert.Ffn

open Cert.Kernel2Ideal Cert.Kernel2Ideal.Gen Idealize.ShloMosaic Idealize.ShloMosaic.TcCoe Idealize.SL.Sem

/-- The normed block. -/
theorem pay2_apply (x : FVec Ideal S512x1024 .f32) (g : FVec Ideal S1x1024 .f32) (r : Fin 512) (k : Fin 1024) :
    k0_pay2 (F := Ideal) x g (ix2 r k) = nrm (fun j => x (ix2 r j)) (fun j => g (ix2 0 j)) k := by
  unfold nrm
  pointwise [k0_pay2, k0_pay1]

/-- The first chunk's product. -/
theorem pay3_apply (x : FVec Ideal S512x1024 .f32) (g : FVec Ideal S1x1024 .f32) (a b e : FVec Ideal S1024x1024 .bf16) (r : Fin 512) (k : Fin 1024) :
    k0_pay3 (F := Ideal) x g a b e (ix2 r k) = ∑ f : Fin 1024, act (∑ j, k0_pay2 (F := Ideal) x g (ix2 r j) * a (ix2 j f))
      (∑ j, k0_pay2 (F := Ideal) x g (ix2 r j) * b (ix2 j f)) * e (ix2 f k) := by
  unfold k0_pay3 act
  generalize k0_pay2 (F := Ideal) x g = h
  pointwise []

theorem pay4_apply (x : FVec Ideal S512x1024 .f32) (g : FVec Ideal S1x1024 .f32) (a : FVec Ideal S1024x1024 .bf16) (r : Fin 512) (f : Fin 1024) :
    k0_pay4 (F := Ideal) x g a (ix2 r f) = ∑ j, k0_pay2 (F := Ideal) x g (ix2 r j) * a (ix2 j f) := by
  unfold k0_pay4
  generalize k0_pay2 (F := Ideal) x g = h
  pointwise []

/-- The sum of the three chunks' products, as the body forms it. -/
def acc (h : FVec Ideal S512x1024 .bf16) (p q : FVec Ideal S512x1024 .f32) (w : FVec Ideal S1024x1024 .bf16) (e : FVec Ideal S1024x1024 .bf16)
    (a b : FVec Ideal S1024x768 .bf16) (d : FVec Ideal S768x1024 .bf16) : FVec Ideal S512x1024 .f32 :=
  addf (addf p (matmul dot_S512x1024_S1024x1024_S512x1024_1_0_0_1_n_n none
      (truncf .bf16 (mulf (mulf q (logistic q)) (matmul dot_S512x1024_S1024x1024_S512x1024_1_0_0_1_n_n none h w (constant S512x1024 .f32 0x00000000#32))) bitsLt_bf16_f32)
      (shapeCast S1024x1024 e shapeCasts_S1024x1024_S1024x1024) (constant S512x1024 .f32 0x00000000#32)))
    (matmul dot_S512x768_S768x1024_S512x1024_1_0_0_1_n_n none
      (truncf .bf16 (mulf (mulf (matmul dot_S512x1024_S1024x768_S512x768_1_0_0_1_n_n none h (shapeCast S1024x768 a shapeCasts_S1024x768_S1024x768) (constant S512x768 .f32 0x00000000#32))
          (logistic (matmul dot_S512x1024_S1024x768_S512x768_1_0_0_1_n_n none h (shapeCast S1024x768 a shapeCasts_S1024x768_S1024x768) (constant S512x768 .f32 0x00000000#32))))
        (matmul dot_S512x1024_S1024x768_S512x768_1_0_0_1_n_n none h (shapeCast S1024x768 b shapeCasts_S1024x768_S1024x768) (constant S512x768 .f32 0x00000000#32))) bitsLt_bf16_f32)
      (shapeCast S768x1024 d shapeCasts_S768x1024_S768x1024) (constant S512x1024 .f32 0x00000000#32))

theorem acc_apply (h : FVec Ideal S512x1024 .bf16) (p q : FVec Ideal S512x1024 .f32) (w : FVec Ideal S1024x1024 .bf16) (e : FVec Ideal S1024x1024 .bf16)
    (a b : FVec Ideal S1024x768 .bf16) (d : FVec Ideal S768x1024 .bf16) (r : Fin 512) (k : Fin 1024) :
    acc h p q w e a b d (ix2 r k) = p (ix2 r k)
      + (∑ f : Fin 1024, act (q (ix2 r f)) (∑ j, h (ix2 r j) * w (ix2 j f)) * e (ix2 f k))
      + ∑ f : Fin 768, act (∑ j, h (ix2 r j) * a (ix2 j f)) (∑ j, h (ix2 r j) * b (ix2 j f)) * d (ix2 f k) := by
  unfold act
  pointwise [acc]

/-- The closing norm and the residual over a block already summed. -/
def fin (x z : FVec Ideal S512x1024 .f32) (g : FVec Ideal S1x1024 .f32) : FVec Ideal S512x1024 .f32 :=
  addf x (mulf (mulf z (broadcastTo S512x1024 (rsqrt (addf (divf (shapeCast S512x1 (multiReduction .add [1] S512 (mulf z z) 0x00000000#32 reduces_S512x1024_S512 (.inl rfl) rfl) shapeCasts_S512_S512x1) (broadcast S512x1 (Scalar.ofBits .f32 0x44800000#32))) (broadcast S512x1 (Scalar.ofBits .f32 0x358637BD#32)))) broadcasts_S512x1_S512x1024)) (broadcastTo S512x1024 (shapeCast S1x1024 g shapeCasts_S1x1024_S1x1024) broadcasts_S1x1024_S512x1024))

theorem fin_apply (x z : FVec Ideal S512x1024 .f32) (g : FVec Ideal S1x1024 .f32) (r : Fin 512) (k : Fin 1024) :
    fin x z g (ix2 r k) = x (ix2 r k) + nrm (fun j => z (ix2 r j)) (fun j => g (ix2 0 j)) k := by
  unfold nrm
  pointwise [fin]

theorem pay6_eq (x : FVec Ideal S512x1024 .f32) (h : FVec Ideal S512x1024 .bf16) (p q : FVec Ideal S512x1024 .f32) (w : FVec Ideal S1024x1024 .bf16) (e : FVec Ideal S1024x1024 .bf16)
    (a b : FVec Ideal S1024x768 .bf16) (d : FVec Ideal S768x1024 .bf16) (g : FVec Ideal S1x1024 .f32) :
    k0_pay6 (F := Ideal) x h p q w e a b d g = fin x (acc h p q w e a b d) g := rfl

theorem pay1_apply (x : FVec Ideal S512x1024 .f32) (r : Fin 512) (k : Fin 1024) : k0_pay1 (F := Ideal) x (ix2 r k) = x (ix2 r k) := by
  pointwise [k0_pay1]

theorem pay5_apply (x : FVec Ideal S1024x1024 .bf16) (r : Fin 1024) (k : Fin 1024) : k0_pay5 (F := Ideal) x (ix2 r k) = x (ix2 r k) := by
  pointwise [k0_pay5]

theorem ld2 (w : Vec Ideal S1024x2816 .bf16) (i : Fin 1024) (j : Fin 1024) : View.ld w r0_2 (ix2 i j) = w (ix2 i ⟨j, by omega⟩) := by
  show w (r0_2.emb (ix2 i j)) = _
  blk_ext []

theorem ld4 (w : Vec Ideal S1024x2816 .bf16) (i : Fin 1024) (j : Fin 1024) : View.ld w r0_4 (ix2 i j) = w (ix2 i ⟨1024 + j, by omega⟩) := by
  show w (r0_4.emb (ix2 i j)) = _
  blk_ext []

theorem ld6 (w : Vec Ideal S1024x2816 .bf16) (i : Fin 1024) (j : Fin 768) : View.ld w r0_6 (ix2 i j) = w (ix2 i ⟨2048 + j, by omega⟩) := by
  show w (r0_6.emb (ix2 i j)) = _
  blk_ext []

theorem ld3 (w : Vec Ideal S2816x1024 .bf16) (i : Fin 1024) (j : Fin 1024) : View.ld w r0_3 (ix2 i j) = w (ix2 ⟨i, by omega⟩ j) := by
  show w (r0_3.emb (ix2 i j)) = _
  blk_ext []

theorem ld5 (w : Vec Ideal S2816x1024 .bf16) (i : Fin 1024) (j : Fin 1024) : View.ld w r0_5 (ix2 i j) = w (ix2 ⟨1024 + i, by omega⟩ j) := by
  show w (r0_5.emb (ix2 i j)) = _
  blk_ext []

theorem ld7 (w : Vec Ideal S2816x1024 .bf16) (i : Fin 768) (j : Fin 1024) : View.ld w r0_7 (ix2 i j) = w (ix2 ⟨2048 + i, by omega⟩ j) := by
  show w (r0_7.emb (ix2 i j)) = _
  blk_ext []

/-- What the body leaves at a row and a feature of its block, from the loaded pieces of the weights. -/
theorem out_apply (x : FVec Ideal S512x1024 .f32) (g1 : FVec Ideal S1x1024 .f32) (wg wu : FVec Ideal S1024x2816 .bf16) (wd : FVec Ideal S2816x1024 .bf16) (g2 : FVec Ideal S1x1024 .f32)
    (r : Fin 512) (k : Fin 1024) :
    out0_6 (F := Ideal) x g1 wg wu wd g2 (ix2 r k) = row (fun j => x (ix2 r j)) (fun j => g1 (ix2 0 j))
      (fun k f => wg (ix2 k f)) (fun k f => wu (ix2 k f)) (fun f k => wd (ix2 f k)) (fun j => g2 (ix2 0 j)) k := by
  unfold out0_6
  frame_out
  rw [pay6_eq, fin_apply]
  unfold row down
  simp only [acc_apply, pay1_apply, pay3_apply, pay4_apply, pay5_apply, pay2_apply, sum_chunks]
  unfold hid up
  blk_point []
  all_goals first
    | exact ld3 _ _ _
    | exact ld5 _ _ _
    | exact ld7 _ _ _
    | exact congrArg (_ * ·) (ld2 _ _ _)
    | exact congrArg (_ * ·) (ld4 _ _ _)
    | exact congrArg (_ * ·) (ld6 _ _ _)

end Cert.Ffn
-- ==== Proof.FfnRef.lean ====
module

public import proofs.«01_k».proof.Proof.Gen.Reference2Ideal.Run
public import proofs.«01_k».proof.Proof.FfnSpec

@[expose] public section

set_option maxRecDepth 16384

noncomputable section

namespace Cert.Ffn

open Cert.Reference2Ideal Cert.Reference2Ideal.Gen Idealize.ShloMosaic Idealize.ShloMosaic.TcCoe Idealize.SL.Sem

def rNorm (x : FVec Ideal S2x16384x1024 .f32) (g : FVec Ideal S1024 .f32) : FVec Ideal S2x16384x1024 .f32 :=
  mulf (mulf x (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf x x) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 g))

def rUp (h : FVec Ideal S2x16384x1024 .f32) (w : FVec Ideal S1024x2816 .f32) : FVec Ideal S2x16384x2816 .f32 :=
  Host.dotGeneral dot_S2x16384x1024_S1024x2816_S2x16384x2816_2_0_01_1_n_n none h w

def rAct (g u : FVec Ideal S2x16384x2816 .f32) : FVec Ideal S2x16384x2816 .f32 :=
  mulf (mulf g (Host.divf (broadcastInDim S2x16384x2816 ![] bcast_S_S2x16384x2816 (constant S_ .f32 0x3F800000#32)) (addf (broadcastInDim S2x16384x2816 ![] bcast_S_S2x16384x2816 (constant S_ .f32 0x3F800000#32)) (Host.exp (Host.negf g))))) u

def rDown (h : FVec Ideal S2x16384x2816 .f32) (w : FVec Ideal S2816x1024 .f32) : FVec Ideal S2x16384x1024 .f32 :=
  Host.dotGeneral dot_S2x16384x2816_S2816x1024_S2x16384x1024_2_0_01_1_n_n none h w

def rFlat (x z : FVec Ideal S2x16384x1024 .f32) : FVec Ideal S32768x1024 .f32 :=
  shapeCast _ (addf x z) shapeCasts_S2x16384x1024_S32768x1024

/-- The reference's result, stage by stage. -/
def rOut (x : FVec Ideal S2x16384x1024 .f32) (g1 : FVec Ideal S1024 .f32) (wg wu : FVec Ideal S1024x2816 .f32) (wd : FVec Ideal S2816x1024 .f32) (g2 : FVec Ideal S1024 .f32) : FVec Ideal S32768x1024 .f32 :=
  rFlat x (rNorm (rDown (rAct (rUp (rNorm x g1) wg) (rUp (rNorm x g1) wu)) wd) g2)

theorem res_eq (m) (c : Dev nD) : Cert.Reference2Ideal.Value.res_out0 (F := Ideal) m c =
    rOut (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := rfl

theorem rNorm_apply (x : FVec Ideal S2x16384x1024 .f32) (g : FVec Ideal S1024 .f32) (b : Fin 2) (s : Fin 16384) (k : Fin 1024) :
    rNorm x g (ix3 b s k) = nrm (fun j => x (ix3 b s j)) (fun j => g (ix1 j)) k := by
  unfold nrm
  pointwise [rNorm]

theorem rUp_apply (h : FVec Ideal S2x16384x1024 .f32) (w : FVec Ideal S1024x2816 .f32) (b : Fin 2) (s : Fin 16384) (f : Fin 2816) :
    rUp h w (ix3 b s f) = up (fun j => h (ix3 b s j)) (fun k f => w (ix2 k f)) f := by
  unfold up
  pointwise [rUp]

theorem rAct_apply (g u : FVec Ideal S2x16384x2816 .f32) (b : Fin 2) (s : Fin 16384) (f : Fin 2816) :
    rAct g u (ix3 b s f) = act (g (ix3 b s f)) (u (ix3 b s f)) := by
  unfold act Ideal.logistic
  pointwise [rAct]

theorem rDown_apply (h : FVec Ideal S2x16384x2816 .f32) (w : FVec Ideal S2816x1024 .f32) (b : Fin 2) (s : Fin 16384) (k : Fin 1024) :
    rDown h w (ix3 b s k) = down (fun j => h (ix3 b s j)) (fun f k => w (ix2 f k)) k := by
  unfold down
  pointwise [rDown]

theorem rFlat_apply (x z : FVec Ideal S2x16384x1024 .f32) (q : Fin 32768) (k : Fin 1024) :
    rFlat x z (ix2 q k) = x (ix3 ⟨q / 16384, by omega⟩ ⟨q % 16384, by omega⟩ k) + z (ix3 ⟨q / 16384, by omega⟩ ⟨q % 16384, by omega⟩ k) := by
  pointwise [rFlat]

/-- The reference's result at a token and a feature. -/
theorem rOut_apply (x : FVec Ideal S2x16384x1024 .f32) (g1 : FVec Ideal S1024 .f32) (wg wu : FVec Ideal S1024x2816 .f32) (wd : FVec Ideal S2816x1024 .f32) (g2 : FVec Ideal S1024 .f32)
    (q : Fin 32768) (k : Fin 1024) :
    rOut x g1 wg wu wd g2 (ix2 q k) = row (fun j => x (ix3 ⟨q / 16384, by omega⟩ ⟨q % 16384, by omega⟩ j)) (fun j => g1 (ix1 j))
      (fun k f => wg (ix2 k f)) (fun k f => wu (ix2 k f)) (fun f k => wd (ix2 f k)) (fun j => g2 (ix1 j)) k := by
  unfold rOut row hid
  rw [rFlat_apply, rNorm_apply]
  simp only [rDown_apply, rAct_apply, rUp_apply, rNorm_apply]

end Cert.Ffn
-- ==== Proof.FfnValue.lean ====
module

public import proofs.«01_k».proof.Defs
public import proofs.«01_k».proof.Proof.FfnKernel
public import proofs.«01_k».proof.Proof.FfnRef

@[expose] public section

set_option maxRecDepth 16384

noncomputable section

namespace Cert.Ffn

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

/-- The result as one function of the arguments. -/
def ref (c : Dev nD) : FVec Ideal S32768x1024 .f32 :=
  rOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem point (c : Dev nD) (t : Fin cfg0.N) (y : S512x1024.Idx) :
    out0_6 (F := Ideal) (iblk m c 0 t) (iblk m c 1 t) (iblk m c 2 t) (iblk m c 3 t) (iblk m c 4 t) (iblk m c 5 t) y
      = ref m c (((cfg0.win 6).blk t).view.emb y) := by
  have ht : t.val < 64 := lt_of_lt_of_eq t.isLt N_0
  idx_vars y
  have e : ((cfg0.win 6).blk t).view.emb (ix2 y0 y1) = (ix2 ⟨512 * t.val + y0, by omega⟩ y1 : S32768x1024.Idx) := by
    blk_ext [idx t]
  rw [e]
  unfold ref
  rw [rOut_apply, out_apply]
  congr 1
  · funext j
    blk_point [iblk, V, idx t]
  · funext j
    blk_point [iblk, V, idx t]
  · funext j f
    blk_point [iblk, V, idx t]
  · funext j f
    blk_point [iblk, V, idx t]
  · funext j f
    blk_point [iblk, V, idx t]
  · funext j
    blk_point [iblk, V, idx t]

theorem final (c : Dev nD) : (dats m 0 c).arrAt 6 (cfgs 0).N = ref m c := by
  refine (dats m 0 c).arrAt_eq_of_covers 6 _ (by decide +kernel) fun t _ y => ?_
  blk_simp
  rw [after0_6]
  exact point m c t y

theorem algebraic : Cert.algebraic_Kernel2Ideal_Reference2Ideal := by
  pair_intro
  · run_from Cert.Kernel2Ideal.Gen.run_main m g
  · run_from Cert.Reference2Ideal.Value.run m' g'
    obtain ⟨h0, h1, h2, h3, h4, h5⟩ := hagree c
    rw [final m c]
    refine (res_eq m' c).trans ?_
    unfold ref
    rw [h0, h1, h2, h3, h4, h5]

end Cert.Ffn
-- ==== Proof.SwaKernel.lean ====
module

public import proofs.«01_k».proof.Proof.Gen.KernelIdeal.Frame
public import Idealize.ShloMosaic.Lib.Claim
public import Idealize.ShloMosaic.Lib.Pipeline.ValueKit
public import Idealize.ShloMosaic.Lib.Pointwise

@[expose] public section

set_option maxRecDepth 16384

noncomputable section

namespace Cert.Swa

open Cert.KernelIdeal Cert.KernelIdeal.Gen Idealize.ShloMosaic Idealize.ShloMosaic.TcCoe Idealize.SL.Sem

/-- The first key row a step's query block may read, as the body computes it. -/
def lo (step w : BitVec 32) : BitVec 32 := Scalar.muli (Scalar.subi (Scalar.subi 1#32 (Scalar.muli 8#32 step)) w) 128#32

/-- The scores before the mask: keys of the window against the queries. -/
def kSc (kw : FVec Ideal S1152x64 .bf16) (o : Nat) (h : S1152x64.Slices ![o, 0] S256x64) (q : FVec Ideal S64x512 .bf16) : FVec Ideal S256x512 .f32 :=
  matmul dot_S256x64_S64x512_S256x512_1_0_0_1_n_n none (extractStridedSlice S256x64 ![o, 0] kw h) q (constant S256x512 .f32 0x00000000#32)

/-- The masked scores with the bias added. -/
def kS (l : BitVec 32) (sc b : FVec Ideal S256x512 .f32) : FVec Ideal S256x512 .f32 :=
  select (andi k1_pay2 (cmpi .sge (iota .tc S256x512 32 [0] iota_S256x512_d0_w32) (broadcast S256x512 l))) (addf sc b)
    (broadcast S256x512 (Named.named κ "mask" 0xF149F2CA#32))

/-- The maximum down each column, the sink's score with it. -/
def kMx (s : FVec Ideal S256x512 .f32) (sk : FVec Ideal S1x512 .f32) : FVec Ideal S1x512 .f32 :=
  maximumf (shapeCast S1x512 (multiReduction .maximumf [0] S512 s 0xFF800000#32 reduces_S256x512_S512 (.inl rfl) rfl) shapeCasts_S512_S1x512) sk

/-- The weights before the division. -/
def kP (s : FVec Ideal S256x512 .f32) (mx : FVec Ideal S1x512 .f32) : FVec Ideal S256x512 .bf16 :=
  truncf .bf16 (exp (subf s (broadcastTo S256x512 mx broadcasts_S1x512_S256x512))) bitsLt_bf16_f32

/-- The values (and the row of ones below them) summed under the weights. -/
def kAcc (vw : FVec Ideal S80x1152 .bf16) (o : Nat) (h : S80x1152.Slices ![0, o] S80x256) (p : FVec Ideal S256x512 .bf16) : FVec Ideal S80x512 .f32 :=
  matmul dot_S80x256_S256x512_S80x512_1_0_0_1_n_n none (extractStridedSlice S80x256 ![0, o] vw h) p (constant S80x512 .f32 0x00000000#32)

/-- The division by the sum of the weights and the sink's. -/
def kO (acc : FVec Ideal S80x512 .f32) (mx sk : FVec Ideal S1x512 .f32) : FVec Ideal S64x512 .f32 :=
  divf (extractStridedSlice S64x512 ![0, 0] acc slices_S80x512_o0_0_S64x512)
    (broadcastTo S64x512 (addf (extractStridedSlice S1x512 ![64, 0] acc slices_S80x512_o64_0_S1x512) (exp (subf sk mx))) broadcasts_S1x512_S64x512)

/-- The four heads laid side by side, each turned to rows of queries. -/
def kPut (o : FVec Ideal S64x512 .f32) : FVec Ideal S1x128x256 .f32 :=
  shapeCast S1x128x256 (concatenate S128x256 1
    [⟨S128x64, extractStridedSlice S128x64 ![0, 0] (transpose S128x128 [1, 0] (concatenate S128x128 0 [⟨S64x128, extractStridedSlice S64x128 ![0, 0] o slices_S64x512_o0_0_S64x128⟩, ⟨S64x128, broadcast S64x128 (Scalar.ofBits .f32 0x00000000#32)⟩] concatenates_S64x128_S64x128_S128x128_d0) transposes_S128x128_p1_0_S128x128) slices_S128x128_o0_0_S128x64⟩,
     ⟨S128x64, extractStridedSlice S128x64 ![0, 0] (transpose S128x128 [1, 0] (concatenate S128x128 0 [⟨S64x128, extractStridedSlice S64x128 ![0, 128] o slices_S64x512_o0_128_S64x128⟩, ⟨S64x128, broadcast S64x128 (Scalar.ofBits .f32 0x00000000#32)⟩] concatenates_S64x128_S64x128_S128x128_d0) transposes_S128x128_p1_0_S128x128) slices_S128x128_o0_0_S128x64⟩,
     ⟨S128x64, extractStridedSlice S128x64 ![0, 0] (transpose S128x128 [1, 0] (concatenate S128x128 0 [⟨S64x128, extractStridedSlice S64x128 ![0, 256] o slices_S64x512_o0_256_S64x128⟩, ⟨S64x128, broadcast S64x128 (Scalar.ofBits .f32 0x00000000#32)⟩] concatenates_S64x128_S64x128_S128x128_d0) transposes_S128x128_p1_0_S128x128) slices_S128x128_o0_0_S128x64⟩,
     ⟨S128x64, extractStridedSlice S128x64 ![0, 0] (transpose S128x128 [1, 0] (concatenate S128x128 0 [⟨S64x128, extractStridedSlice S64x128 ![0, 384] o slices_S64x512_o0_384_S64x128⟩, ⟨S64x128, broadcast S64x128 (Scalar.ofBits .f32 0x00000000#32)⟩] concatenates_S64x128_S64x128_S128x128_d0) transposes_S128x128_p1_0_S128x128) slices_S128x128_o0_0_S128x64⟩]
    concatenates_S128x64_S128x64_S128x64_S128x64_S128x256_d1) shapeCasts_S128x256_S1x128x256

/-- One query block of one group, from its window's keys, values and biases. -/
def kBlk (l : BitVec 32) (kw : FVec Ideal S1152x64 .bf16) (vw : FVec Ideal S80x1152 .bf16) (b : FVec Ideal S256x512 .f32) (sk : FVec Ideal S1x512 .f32)
    (q : FVec Ideal S64x512 .bf16) (o : Nat) (hk : S1152x64.Slices ![o, 0] S256x64) (hv : S80x1152.Slices ![0, o] S80x256) : FVec Ideal S1x128x256 .f32 :=
  kPut (kO (kAcc vw o hv (kP (kS l (kSc kw o hk q) b) (kMx (kS l (kSc kw o hk q) b) sk))) (kMx (kS l (kSc kw o hk q) b) sk) sk)

def ldQ (x : Vec Ideal S1x1x64x512 .bf16) : FVec Ideal S64x512 .bf16 := shapeCast S64x512 x shapeCasts_S1x1x64x512_S64x512
def ldSk (x : Vec Ideal S1x1x512 .f32) : FVec Ideal S1x512 .f32 := shapeCast S1x512 x shapeCasts_S1x1x512_S1x512

/-- What the body leaves in its block. -/
def out (i : grid1.Coords) (x0 : Vec Ideal S1x8x64x1024 .bf16) (x1 : Vec Ideal S1x2x128x64 .bf16) (x2 : Vec Ideal S1x2x1024x64 .bf16) (x3 : Vec Ideal S1x2x80x128 .bf16) (x4 : Vec Ideal S1x2x80x1024 .bf16) (x5 : Vec Ideal S2x128x1024 .f32) (x6 : Vec Ideal S2x1x512 .f32) : Vec Ideal S1x1024x512 .f32 :=
  View.canon [
    ⟨r1_45, kBlk (lo (BitVec.ofNat 32 (i 1).val) 7#32) (k1_pay4 (View.ld x1 r1_2) (View.ld x2 r1_3)) (k1_pay6 (View.ld x3 r1_6) (View.ld x4 r1_7)) (k1_pay8 (View.ld x5 r1_10) (View.ld x5 r1_11)) (ldSk (View.ld x6 r1_29)) (ldQ (View.ld x0 r1_27)) 896 slices_S1152x64_o896_0_S256x64 slices_S80x1152_o0_896_S80x256⟩,
    ⟨r1_44, kBlk (lo (BitVec.ofNat 32 (i 1).val) 6#32) (k1_pay4 (View.ld x1 r1_2) (View.ld x2 r1_3)) (k1_pay6 (View.ld x3 r1_6) (View.ld x4 r1_7)) (k1_pay8 (View.ld x5 r1_10) (View.ld x5 r1_11)) (ldSk (View.ld x6 r1_29)) (ldQ (View.ld x0 r1_26)) 768 slices_S1152x64_o768_0_S256x64 slices_S80x1152_o0_768_S80x256⟩,
    ⟨r1_43, kBlk (lo (BitVec.ofNat 32 (i 1).val) 5#32) (k1_pay4 (View.ld x1 r1_2) (View.ld x2 r1_3)) (k1_pay6 (View.ld x3 r1_6) (View.ld x4 r1_7)) (k1_pay8 (View.ld x5 r1_10) (View.ld x5 r1_11)) (ldSk (View.ld x6 r1_29)) (ldQ (View.ld x0 r1_25)) 640 slices_S1152x64_o640_0_S256x64 slices_S80x1152_o0_640_S80x256⟩,
    ⟨r1_42, kBlk (lo (BitVec.ofNat 32 (i 1).val) 4#32) (k1_pay4 (View.ld x1 r1_2) (View.ld x2 r1_3)) (k1_pay6 (View.ld x3 r1_6) (View.ld x4 r1_7)) (k1_pay8 (View.ld x5 r1_10) (View.ld x5 r1_11)) (ldSk (View.ld x6 r1_29)) (ldQ (View.ld x0 r1_24)) 512 slices_S1152x64_o512_0_S256x64 slices_S80x1152_o0_512_S80x256⟩,
    ⟨r1_41, kBlk (lo (BitVec.ofNat 32 (i 1).val) 3#32) (k1_pay4 (View.ld x1 r1_2) (View.ld x2 r1_3)) (k1_pay6 (View.ld x3 r1_6) (View.ld x4 r1_7)) (k1_pay8 (View.ld x5 r1_10) (View.ld x5 r1_11)) (ldSk (View.ld x6 r1_29)) (ldQ (View.ld x0 r1_23)) 384 slices_S1152x64_o384_0_S256x64 slices_S80x1152_o0_384_S80x256⟩,
    ⟨r1_40, kBlk (lo (BitVec.ofNat 32 (i 1).val) 2#32) (k1_pay4 (View.ld x1 r1_2) (View.ld x2 r1_3)) (k1_pay6 (View.ld x3 r1_6) (View.ld x4 r1_7)) (k1_pay8 (View.ld x5 r1_10) (View.ld x5 r1_11)) (ldSk (View.ld x6 r1_29)) (ldQ (View.ld x0 r1_22)) 256 slices_S1152x64_o256_0_S256x64 slices_S80x1152_o0_256_S80x256⟩,
    ⟨r1_39, kBlk (lo (BitVec.ofNat 32 (i 1).val) 1#32) (k1_pay4 (View.ld x1 r1_2) (View.ld x2 r1_3)) (k1_pay6 (View.ld x3 r1_6) (View.ld x4 r1_7)) (k1_pay8 (View.ld x5 r1_10) (View.ld x5 r1_11)) (ldSk (View.ld x6 r1_29)) (ldQ (View.ld x0 r1_21)) 128 slices_S1152x64_o128_0_S256x64 slices_S80x1152_o0_128_S80x256⟩,
    ⟨r1_38, kBlk (lo (BitVec.ofNat 32 (i 1).val) 0#32) (k1_pay4 (View.ld x1 r1_2) (View.ld x2 r1_3)) (k1_pay6 (View.ld x3 r1_6) (View.ld x4 r1_7)) (k1_pay8 (View.ld x5 r1_10) (View.ld x5 r1_11)) (ldSk (View.ld x6 r1_29)) (ldQ (View.ld x0 r1_20)) 0 slices_S1152x64_o0_0_S256x64 slices_S80x1152_o0_0_S80x256⟩,
    ⟨r1_37, kBlk (lo (BitVec.ofNat 32 (i 1).val) 7#32) (k1_pay3 (View.ld x1 r1_0) (View.ld x2 r1_1)) (k1_pay5 (View.ld x3 r1_4) (View.ld x4 r1_5)) (k1_pay7 (View.ld x5 r1_8) (View.ld x5 r1_9)) (ldSk (View.ld x6 r1_28)) (ldQ (View.ld x0 r1_19)) 896 slices_S1152x64_o896_0_S256x64 slices_S80x1152_o0_896_S80x256⟩,
    ⟨r1_36, kBlk (lo (BitVec.ofNat 32 (i 1).val) 6#32) (k1_pay3 (View.ld x1 r1_0) (View.ld x2 r1_1)) (k1_pay5 (View.ld x3 r1_4) (View.ld x4 r1_5)) (k1_pay7 (View.ld x5 r1_8) (View.ld x5 r1_9)) (ldSk (View.ld x6 r1_28)) (ldQ (View.ld x0 r1_18)) 768 slices_S1152x64_o768_0_S256x64 slices_S80x1152_o0_768_S80x256⟩,
    ⟨r1_35, kBlk (lo (BitVec.ofNat 32 (i 1).val) 5#32) (k1_pay3 (View.ld x1 r1_0) (View.ld x2 r1_1)) (k1_pay5 (View.ld x3 r1_4) (View.ld x4 r1_5)) (k1_pay7 (View.ld x5 r1_8) (View.ld x5 r1_9)) (ldSk (View.ld x6 r1_28)) (ldQ (View.ld x0 r1_17)) 640 slices_S1152x64_o640_0_S256x64 slices_S80x1152_o0_640_S80x256⟩,
    ⟨r1_34, kBlk (lo (BitVec.ofNat 32 (i 1).val) 4#32) (k1_pay3 (View.ld x1 r1_0) (View.ld x2 r1_1)) (k1_pay5 (View.ld x3 r1_4) (View.ld x4 r1_5)) (k1_pay7 (View.ld x5 r1_8) (View.ld x5 r1_9)) (ldSk (View.ld x6 r1_28)) (ldQ (View.ld x0 r1_16)) 512 slices_S1152x64_o512_0_S256x64 slices_S80x1152_o0_512_S80x256⟩,
    ⟨r1_33, kBlk (lo (BitVec.ofNat 32 (i 1).val) 3#32) (k1_pay3 (View.ld x1 r1_0) (View.ld x2 r1_1)) (k1_pay5 (View.ld x3 r1_4) (View.ld x4 r1_5)) (k1_pay7 (View.ld x5 r1_8) (View.ld x5 r1_9)) (ldSk (View.ld x6 r1_28)) (ldQ (View.ld x0 r1_15)) 384 slices_S1152x64_o384_0_S256x64 slices_S80x1152_o0_384_S80x256⟩,
    ⟨r1_32, kBlk (lo (BitVec.ofNat 32 (i 1).val) 2#32) (k1_pay3 (View.ld x1 r1_0) (View.ld x2 r1_1)) (k1_pay5 (View.ld x3 r1_4) (View.ld x4 r1_5)) (k1_pay7 (View.ld x5 r1_8) (View.ld x5 r1_9)) (ldSk (View.ld x6 r1_28)) (ldQ (View.ld x0 r1_14)) 256 slices_S1152x64_o256_0_S256x64 slices_S80x1152_o0_256_S80x256⟩,
    ⟨r1_31, kBlk (lo (BitVec.ofNat 32 (i 1).val) 1#32) (k1_pay3 (View.ld x1 r1_0) (View.ld x2 r1_1)) (k1_pay5 (View.ld x3 r1_4) (View.ld x4 r1_5)) (k1_pay7 (View.ld x5 r1_8) (View.ld x5 r1_9)) (ldSk (View.ld x6 r1_28)) (ldQ (View.ld x0 r1_13)) 128 slices_S1152x64_o128_0_S256x64 slices_S80x1152_o0_128_S80x256⟩,
    ⟨r1_30, kBlk (lo (BitVec.ofNat 32 (i 1).val) 0#32) (k1_pay3 (View.ld x1 r1_0) (View.ld x2 r1_1)) (k1_pay5 (View.ld x3 r1_4) (View.ld x4 r1_5)) (k1_pay7 (View.ld x5 r1_8) (View.ld x5 r1_9)) (ldSk (View.ld x6 r1_28)) (ldQ (View.ld x0 r1_12)) 0 slices_S1152x64_o0_0_S256x64 slices_S80x1152_o0_0_S80x256⟩]

theorem out_eq (i : grid1.Coords) (x0 : Vec Ideal S1x8x64x1024 .bf16) (x1 : Vec Ideal S1x2x128x64 .bf16) (x2 : Vec Ideal S1x2x1024x64 .bf16) (x3 : Vec Ideal S1x2x80x128 .bf16) (x4 : Vec Ideal S1x2x80x1024 .bf16) (x5 : Vec Ideal S2x128x1024 .f32) (x6 : Vec Ideal S2x1x512 .f32) :
    out1_7 (F := Ideal) i x0 x1 x2 x3 x4 x5 x6 = out i x0 x1 x2 x3 x4 x5 x6 := rfl

/-- A small integer read back from its word. -/
theorem toInt_ofInt_small (z : Int) (h0 : -2147483648 ≤ z) (h1 : z < 2147483648) : (BitVec.ofInt 32 z).toInt = z := by
  rw [BitVec.toInt_ofInt]
  exact Int.bmod_eq_of_le (by norm_num; omega) (by norm_num; omega)

theorem ofInt_sub' (a b : Int) : BitVec.ofInt 32 (a - b) = BitVec.ofInt 32 a - BitVec.ofInt 32 b := by
  apply BitVec.eq_of_toInt_eq
  rw [BitVec.toInt_sub, BitVec.toInt_ofInt, BitVec.toInt_ofInt, BitVec.toInt_ofInt]
  simp

theorem and127 (c : Nat) (hc : c < 512) : IntOp.andi (BitVec.ofNat 32 c) 127#32 = BitVec.ofNat 32 (c % 128) := by
  apply BitVec.eq_of_toNat_eq
  show (BitVec.ofNat 32 c &&& 127#32).toNat = _
  rw [BitVec.toNat_and, BitVec.toNat_ofNat, BitVec.toNat_ofNat, BitVec.toNat_ofNat]
  rw [show (127 % 2 ^ 32 : Nat) = 2 ^ 7 - 1 by norm_num, Nat.and_two_pow_sub_one_eq_mod, Nat.mod_eq_of_lt (by omega : c < 2 ^ 32)]
  omega

theorem dist_word (c u : Nat) (hc : c < 512) :
    IntOp.subi (IntOp.addi (128#32) (IntOp.andi (BitVec.ofNat 32 c) 127#32)) (BitVec.ofNat 32 u) = BitVec.ofInt 32 (128 + (c % 128 : Nat) - u) := by
  rw [and127 c hc, ofInt_sub', BitVec.ofInt_add]
  rfl

theorem lo_word (s q : Nat) : lo (BitVec.ofNat 32 s) (BitVec.ofNat 32 q) = BitVec.ofInt 32 ((1 - 8 * s - q) * 128) := by
  rw [BitVec.ofInt_mul, ofInt_sub', ofInt_sub', BitVec.ofInt_mul]
  rfl

/-- Which rows of its window a query of a block reads. -/
def ok (n x u : Nat) : Prop := x < u ∧ u ≤ 128 + x ∧ 128 ≤ 128 * n + u

instance (n x u : Nat) : Decidable (ok n x u) := inferInstanceAs (Decidable (_ ∧ _))

theorem mask_word (s q c u : Nat) (hs : s < 16) (hq : q < 8) (hc : c < 512) (hu : u < 256) {α : Type} (a b : α) :
    Scalar.select (IntOp.andi (IntOp.andi
          (IntOp.cmpi CmpIPredicate.sge (IntOp.subi (IntOp.addi (128#32) (IntOp.andi (BitVec.ofNat 32 c) 127#32)) (BitVec.ofNat 32 u)) 0#32)
          (IntOp.cmpi CmpIPredicate.slt (IntOp.subi (IntOp.addi (128#32) (IntOp.andi (BitVec.ofNat 32 c) 127#32)) (BitVec.ofNat 32 u)) 128#32))
        (IntOp.cmpi CmpIPredicate.sge (BitVec.ofNat 32 u) (lo (BitVec.ofNat 32 s) (BitVec.ofNat 32 q)))) a b
      = if ok (8 * s + q) (c % 128) u then a else b := by
  rw [dist_word c u hc, lo_word, WordCmp.cmpi_sge_eq, WordCmp.cmpi_slt_eq, WordCmp.cmpi_sge_eq, toInt_ofInt_small _ (by omega) (by omega), toInt_ofInt_small _ (by omega) (by omega),
    show (BitVec.ofNat 32 u) = BitVec.ofInt 32 (u : Int) from rfl, toInt_ofInt_small _ (by omega) (by omega)]
  unfold Scalar.select
  refine if_congr ?_ rfl rfl
  have e0 : (0#32 : BitVec 32).toInt = 0 := rfl
  have e1 : (128#32 : BitVec 32).toInt = 128 := rfl
  rw [e0, e1]
  unfold ok
  by_cases h1 : (0 : Int) ≤ 128 + ((c % 128 : Nat) : Int) - u <;> by_cases h2 : (128 + ((c % 128 : Nat) : Int) - u) < 128 <;> by_cases h3 : ((1 - 8 * (s : Int) - q) * 128) ≤ u <;>
    simp only [h1, h2, h3, decide_true, decide_false, BitVec.ofBool_true, BitVec.ofBool_false, IntOp.andi]
  all_goals first
    | (refine iff_of_true (by decide) ⟨by omega, by omega, by omega⟩)
    | (refine iff_of_false (by decide) (fun h => ?_); obtain ⟨g1, g2, g3⟩ := h; omega)

theorem kSc_apply (kw : FVec Ideal S1152x64 .bf16) (o : Nat) (h : S1152x64.Slices ![o, 0] S256x64) (ho : o + 256 ≤ 1152) (q : FVec Ideal S64x512 .bf16) (u : Fin 256) (c : Fin 512) :
    kSc kw o h q (ix2 u c) = ∑ d : Fin 64, kw (ix2 ⟨o + u, by omega⟩ d) * q (ix2 d c) := by
  pointwise [kSc]

theorem bits_bot : Ideal.ofBits FTy.f32 4286578688#32 = (⊥ : EReal) := by
  simp [Ideal.ofBits, Ideal.ieee]

theorem kMx_apply (s : FVec Ideal S256x512 .f32) (sk : FVec Ideal S1x512 .f32) (c : Fin 512) :
    kMx s sk (ix2 0 c) = max (Finset.univ.fold max ⊥ fun u : Fin 256 => s (ix2 u c)) (sk (ix2 0 c)) := by
  pointwise [kMx]
  rw [bits_bot]

theorem kP_apply (s : FVec Ideal S256x512 .f32) (mx : FVec Ideal S1x512 .f32) (u : Fin 256) (c : Fin 512) :
    kP s mx (ix2 u c) = Ideal.exp (s (ix2 u c) - mx (ix2 0 c)) := by
  pointwise [kP]

theorem kAcc_apply (vw : FVec Ideal S80x1152 .bf16) (o : Nat) (h : S80x1152.Slices ![0, o] S80x256) (ho : o + 256 ≤ 1152) (p : FVec Ideal S256x512 .bf16) (d : Fin 80) (c : Fin 512) :
    kAcc vw o h p (ix2 d c) = ∑ u : Fin 256, vw (ix2 d ⟨o + u, by omega⟩) * p (ix2 u c) := by
  pointwise [kAcc]

theorem kO_apply (acc : FVec Ideal S80x512 .f32) (mx sk : FVec Ideal S1x512 .f32) (d : Fin 64) (c : Fin 512) :
    kO acc mx sk (ix2 d c) = Ideal.div (acc (ix2 ⟨d, by omega⟩ c)) (acc (ix2 64 c) + Ideal.exp (sk (ix2 0 c) - mx (ix2 0 c))) := by
  pointwise [kO]

theorem kS_apply (s q : Nat) (hs : s < 16) (hq : q < 8) (sc b : FVec Ideal S256x512 .f32) (u : Fin 256) (c : Fin 512) :
    kS (lo (BitVec.ofNat 32 s) (BitVec.ofNat 32 q)) sc b (ix2 u c) = if ok (8 * s + q) (c % 128) u then sc (ix2 u c) + b (ix2 u c) else ⊥ := by
  rw [← mask_word s q c u hs hq c.isLt u.isLt]
  pointwise [kS, k1_pay2]
  rfl

theorem kPut_apply (o : FVec Ideal S64x512 .f32) (r : Fin 4) (x : Fin 128) (d : Fin 64) :
    kPut o (ix3 0 x ⟨64 * r + d, by omega⟩) = o (ix2 d ⟨128 * r + x, by omega⟩) := by
  fin_vals r with hr
  all_goals
    pointwise [kPut]
    split_ifs
    all_goals first
      | (exfalso; omega)
      | (congr 2 <;> (apply Fin.ext; simp only; omega))

/-- The largest of a row's scores and its sink's. -/
def top (s : Fin 256 → EReal) (k : EReal) : EReal := max (Finset.univ.fold max ⊥ s) k

/-- A row of the attention as the kernel computes it: the weighted sum over the sum of the weights. -/
def krow (s : Fin 256 → EReal) (k : EReal) (v e : Fin 256 → EReal) : EReal :=
  Ideal.div (∑ u, v u * Ideal.exp (s u - top s k)) ((∑ u, e u * Ideal.exp (s u - top s k)) + Ideal.exp (k - top s k))

theorem kBlk_apply (s q : Nat) (hs : s < 16) (hq : q < 8) (kw : FVec Ideal S1152x64 .bf16) (vw : FVec Ideal S80x1152 .bf16) (b : FVec Ideal S256x512 .f32) (sk : FVec Ideal S1x512 .f32)
    (qv : FVec Ideal S64x512 .bf16) (o : Nat) (hk : S1152x64.Slices ![o, 0] S256x64) (hv : S80x1152.Slices ![0, o] S80x256) (ho : o + 256 ≤ 1152)
    (r : Fin 4) (x : Fin 128) (d : Fin 64) :
    kBlk (lo (BitVec.ofNat 32 s) (BitVec.ofNat 32 q)) kw vw b sk qv o hk hv (ix3 0 x ⟨64 * r + d, by omega⟩)
      = krow (fun u => if ok (8 * s + q) x u then (∑ e : Fin 64, kw (ix2 ⟨o + u, by omega⟩ e) * qv (ix2 e ⟨128 * r + x, by omega⟩)) + b (ix2 u ⟨128 * r + x, by omega⟩) else ⊥)
          (sk (ix2 0 ⟨128 * r + x, by omega⟩)) (fun u => vw (ix2 ⟨d, by omega⟩ ⟨o + u, by omega⟩)) (fun u => vw (ix2 64 ⟨o + u, by omega⟩)) := by
  unfold kBlk
  rw [kPut_apply, kO_apply, kAcc_apply _ _ _ ho, kAcc_apply _ _ _ ho]
  unfold krow top
  have e : (128 * (r : Nat) + x) % 128 = x := by omega
  simp only [kP_apply, kMx_apply, kS_apply s q hs hq, kSc_apply _ _ _ ho, e]

theorem pay3_apply (a : Vec Ideal S1x1x128x64 .bf16) (b : Vec Ideal S1x1x1024x64 .bf16) (u : Fin 1152) (e : Fin 64) :
    k1_pay3 (F := Ideal) a b (ix2 u e) = if h : (u : Nat) < 128 then a (ix4 0 0 ⟨u, h⟩ e) else b (ix4 0 0 ⟨u - 128, by omega⟩ e) := by
  pointwise [k1_pay3]

theorem pay4_apply (a : Vec Ideal S1x1x128x64 .bf16) (b : Vec Ideal S1x1x1024x64 .bf16) (u : Fin 1152) (e : Fin 64) :
    k1_pay4 (F := Ideal) a b (ix2 u e) = if h : (u : Nat) < 128 then a (ix4 0 0 ⟨u, h⟩ e) else b (ix4 0 0 ⟨u - 128, by omega⟩ e) := by
  pointwise [k1_pay4]

theorem pay5_apply (a : Vec Ideal S1x1x80x128 .bf16) (b : Vec Ideal S1x1x80x1024 .bf16) (d : Fin 80) (u : Fin 1152) :
    k1_pay5 (F := Ideal) a b (ix2 d u) = if h : (u : Nat) < 128 then a (ix4 0 0 d ⟨u, h⟩) else b (ix4 0 0 d ⟨u - 128, by omega⟩) := by
  pointwise [k1_pay5]

theorem pay6_apply (a : Vec Ideal S1x1x80x128 .bf16) (b : Vec Ideal S1x1x80x1024 .bf16) (d : Fin 80) (u : Fin 1152) :
    k1_pay6 (F := Ideal) a b (ix2 d u) = if h : (u : Nat) < 128 then a (ix4 0 0 d ⟨u, h⟩) else b (ix4 0 0 d ⟨u - 128, by omega⟩) := by
  pointwise [k1_pay6]

theorem pay7_apply (a b : Vec Ideal S1x128x512 .f32) (u : Fin 256) (c : Fin 512) :
    k1_pay7 (F := Ideal) a b (ix2 u c) = if h : (u : Nat) < 128 then a (ix3 0 ⟨u, h⟩ c) else b (ix3 0 ⟨u - 128, by omega⟩ c) := by
  pointwise [k1_pay7]

theorem pay8_apply (a b : Vec Ideal S1x128x512 .f32) (u : Fin 256) (c : Fin 512) :
    k1_pay8 (F := Ideal) a b (ix2 u c) = if h : (u : Nat) < 128 then a (ix3 0 ⟨u, h⟩ c) else b (ix3 0 ⟨u - 128, by omega⟩ c) := by
  pointwise [k1_pay8]

theorem ldQ_apply (x : Vec Ideal S1x1x64x512 .bf16) (e : Fin 64) (c : Fin 512) : ldQ x (ix2 e c) = x (ix4 0 0 e c) := by
  pointwise [ldQ]

theorem ldSk_apply (x : Vec Ideal S1x1x512 .f32) (c : Fin 512) : ldSk x (ix2 0 c) = x (ix3 0 0 c) := by
  pointwise [ldSk]

theorem ldk00 (w : Vec Ideal S1x2x128x64 .bf16) (u : Fin 128) (e : Fin 64) : View.ld w r1_0 (ix4 0 0 u e) = w (ix4 0 0 u e) := by
  show w (r1_0.emb (ix4 0 0 u e)) = _
  blk_ext []

theorem ldk10 (w : Vec Ideal S1x2x1024x64 .bf16) (u : Fin 1024) (e : Fin 64) : View.ld w r1_1 (ix4 0 0 u e) = w (ix4 0 0 u e) := by
  show w (r1_1.emb (ix4 0 0 u e)) = _
  blk_ext []

theorem ldv00 (w : Vec Ideal S1x2x80x128 .bf16) (d : Fin 80) (u : Fin 128) : View.ld w r1_4 (ix4 0 0 d u) = w (ix4 0 0 d u) := by
  show w (r1_4.emb (ix4 0 0 d u)) = _
  blk_ext []

theorem ldv10 (w : Vec Ideal S1x2x80x1024 .bf16) (d : Fin 80) (u : Fin 1024) : View.ld w r1_5 (ix4 0 0 d u) = w (ix4 0 0 d u) := by
  show w (r1_5.emb (ix4 0 0 d u)) = _
  blk_ext []

theorem ldb10 (w : Vec Ideal S2x128x1024 .f32) (u : Fin 128) (c : Fin 512) : View.ld w r1_8 (ix3 0 u c) = w (ix3 1 u ⟨0 + c, by omega⟩) := by
  show w (r1_8.emb (ix3 0 u c)) = _
  blk_ext []

theorem ldb00 (w : Vec Ideal S2x128x1024 .f32) (u : Fin 128) (c : Fin 512) : View.ld w r1_9 (ix3 0 u c) = w (ix3 0 u ⟨0 + c, by omega⟩) := by
  show w (r1_9.emb (ix3 0 u c)) = _
  blk_ext []

theorem lds0 (w : Vec Ideal S2x1x512 .f32) (c : Fin 512) : View.ld w r1_28 (ix3 0 0 c) = w (ix3 0 0 c) := by
  show w (r1_28.emb (ix3 0 0 c)) = _
  blk_ext []

theorem ldq00 (w : Vec Ideal S1x8x64x1024 .bf16) (e : Fin 64) (c : Fin 512) : View.ld w r1_12 (ix4 0 0 e c) = w (ix4 0 0 e ⟨0 + c, by omega⟩) := by
  show w (r1_12.emb (ix4 0 0 e c)) = _
  blk_ext []

theorem ldq01 (w : Vec Ideal S1x8x64x1024 .bf16) (e : Fin 64) (c : Fin 512) : View.ld w r1_13 (ix4 0 0 e c) = w (ix4 0 1 e ⟨0 + c, by omega⟩) := by
  show w (r1_13.emb (ix4 0 0 e c)) = _
  blk_ext []

theorem ldq02 (w : Vec Ideal S1x8x64x1024 .bf16) (e : Fin 64) (c : Fin 512) : View.ld w r1_14 (ix4 0 0 e c) = w (ix4 0 2 e ⟨0 + c, by omega⟩) := by
  show w (r1_14.emb (ix4 0 0 e c)) = _
  blk_ext []

theorem ldq03 (w : Vec Ideal S1x8x64x1024 .bf16) (e : Fin 64) (c : Fin 512) : View.ld w r1_15 (ix4 0 0 e c) = w (ix4 0 3 e ⟨0 + c, by omega⟩) := by
  show w (r1_15.emb (ix4 0 0 e c)) = _
  blk_ext []

theorem ldq04 (w : Vec Ideal S1x8x64x1024 .bf16) (e : Fin 64) (c : Fin 512) : View.ld w r1_16 (ix4 0 0 e c) = w (ix4 0 4 e ⟨0 + c, by omega⟩) := by
  show w (r1_16.emb (ix4 0 0 e c)) = _
  blk_ext []

theorem ldq05 (w : Vec Ideal S1x8x64x1024 .bf16) (e : Fin 64) (c : Fin 512) : View.ld w r1_17 (ix4 0 0 e c) = w (ix4 0 5 e ⟨0 + c, by omega⟩) := by
  show w (r1_17.emb (ix4 0 0 e c)) = _
  blk_ext []

theorem ldq06 (w : Vec Ideal S1x8x64x1024 .bf16) (e : Fin 64) (c : Fin 512) : View.ld w r1_18 (ix4 0 0 e c) = w (ix4 0 6 e ⟨0 + c, by omega⟩) := by
  show w (r1_18.emb (ix4 0 0 e c)) = _
  blk_ext []

theorem ldq07 (w : Vec Ideal S1x8x64x1024 .bf16) (e : Fin 64) (c : Fin 512) : View.ld w r1_19 (ix4 0 0 e c) = w (ix4 0 7 e ⟨0 + c, by omega⟩) := by
  show w (r1_19.emb (ix4 0 0 e c)) = _
  blk_ext []

theorem ldk01 (w : Vec Ideal S1x2x128x64 .bf16) (u : Fin 128) (e : Fin 64) : View.ld w r1_2 (ix4 0 0 u e) = w (ix4 0 1 u e) := by
  show w (r1_2.emb (ix4 0 0 u e)) = _
  blk_ext []

theorem ldk11 (w : Vec Ideal S1x2x1024x64 .bf16) (u : Fin 1024) (e : Fin 64) : View.ld w r1_3 (ix4 0 0 u e) = w (ix4 0 1 u e) := by
  show w (r1_3.emb (ix4 0 0 u e)) = _
  blk_ext []

theorem ldv01 (w : Vec Ideal S1x2x80x128 .bf16) (d : Fin 80) (u : Fin 128) : View.ld w r1_6 (ix4 0 0 d u) = w (ix4 0 1 d u) := by
  show w (r1_6.emb (ix4 0 0 d u)) = _
  blk_ext []

theorem ldv11 (w : Vec Ideal S1x2x80x1024 .bf16) (d : Fin 80) (u : Fin 1024) : View.ld w r1_7 (ix4 0 0 d u) = w (ix4 0 1 d u) := by
  show w (r1_7.emb (ix4 0 0 d u)) = _
  blk_ext []

theorem ldb11 (w : Vec Ideal S2x128x1024 .f32) (u : Fin 128) (c : Fin 512) : View.ld w r1_10 (ix3 0 u c) = w (ix3 1 u ⟨512 + c, by omega⟩) := by
  show w (r1_10.emb (ix3 0 u c)) = _
  blk_ext []

theorem ldb01 (w : Vec Ideal S2x128x1024 .f32) (u : Fin 128) (c : Fin 512) : View.ld w r1_11 (ix3 0 u c) = w (ix3 0 u ⟨512 + c, by omega⟩) := by
  show w (r1_11.emb (ix3 0 u c)) = _
  blk_ext []

theorem lds1 (w : Vec Ideal S2x1x512 .f32) (c : Fin 512) : View.ld w r1_29 (ix3 0 0 c) = w (ix3 1 0 c) := by
  show w (r1_29.emb (ix3 0 0 c)) = _
  blk_ext []

theorem ldq10 (w : Vec Ideal S1x8x64x1024 .bf16) (e : Fin 64) (c : Fin 512) : View.ld w r1_20 (ix4 0 0 e c) = w (ix4 0 0 e ⟨512 + c, by omega⟩) := by
  show w (r1_20.emb (ix4 0 0 e c)) = _
  blk_ext []

theorem ldq11 (w : Vec Ideal S1x8x64x1024 .bf16) (e : Fin 64) (c : Fin 512) : View.ld w r1_21 (ix4 0 0 e c) = w (ix4 0 1 e ⟨512 + c, by omega⟩) := by
  show w (r1_21.emb (ix4 0 0 e c)) = _
  blk_ext []

theorem ldq12 (w : Vec Ideal S1x8x64x1024 .bf16) (e : Fin 64) (c : Fin 512) : View.ld w r1_22 (ix4 0 0 e c) = w (ix4 0 2 e ⟨512 + c, by omega⟩) := by
  show w (r1_22.emb (ix4 0 0 e c)) = _
  blk_ext []

theorem ldq13 (w : Vec Ideal S1x8x64x1024 .bf16) (e : Fin 64) (c : Fin 512) : View.ld w r1_23 (ix4 0 0 e c) = w (ix4 0 3 e ⟨512 + c, by omega⟩) := by
  show w (r1_23.emb (ix4 0 0 e c)) = _
  blk_ext []

theorem ldq14 (w : Vec Ideal S1x8x64x1024 .bf16) (e : Fin 64) (c : Fin 512) : View.ld w r1_24 (ix4 0 0 e c) = w (ix4 0 4 e ⟨512 + c, by omega⟩) := by
  show w (r1_24.emb (ix4 0 0 e c)) = _
  blk_ext []

theorem ldq15 (w : Vec Ideal S1x8x64x1024 .bf16) (e : Fin 64) (c : Fin 512) : View.ld w r1_25 (ix4 0 0 e c) = w (ix4 0 5 e ⟨512 + c, by omega⟩) := by
  show w (r1_25.emb (ix4 0 0 e c)) = _
  blk_ext []

theorem ldq16 (w : Vec Ideal S1x8x64x1024 .bf16) (e : Fin 64) (c : Fin 512) : View.ld w r1_26 (ix4 0 0 e c) = w (ix4 0 6 e ⟨512 + c, by omega⟩) := by
  show w (r1_26.emb (ix4 0 0 e c)) = _
  blk_ext []

theorem ldq17 (w : Vec Ideal S1x8x64x1024 .bf16) (e : Fin 64) (c : Fin 512) : View.ld w r1_27 (ix4 0 0 e c) = w (ix4 0 7 e ⟨512 + c, by omega⟩) := by
  show w (r1_27.emb (ix4 0 0 e c)) = _
  blk_ext []

end Cert.Swa
-- ==== Proof.SwaTable.lean ====
module

public import proofs.«01_k».proof.Proof.SwaKernel
public import Idealize.ShloMosaic.Lib.WholeRead

@[expose] public section

set_option maxRecDepth 16384

noncomputable section

namespace Cert.Swa

open Cert.KernelIdeal Cert.KernelIdeal.Gen Idealize.ShloMosaic Idealize.ShloMosaic.TcCoe Idealize.SL.Sem

/-- The bucket of a distance, as the words compute it. -/
def bkt (d : BitVec 32) : BitVec 32 :=
  Scalar.select (IntOp.cmpi .slt (IntOp.maxsi d 0#32) 16#32) (IntOp.maxsi d 0#32)
    (IntOp.minsi (IntOp.addi 16#32 (FloatOps.fptosi (F := Ideal) (φ := .f32) 32
      (Ideal.div (Ideal.log (Ideal.div (FloatOps.sitofp (F := Ideal) .f32 (IntOp.maxsi (IntOp.maxsi d 0#32) 1#32)) (Ideal.ofBits .f32 1098907648#32)))
        (Ideal.ofBits .f32 1085370904#32) * Ideal.ofBits .f32 1098907648#32))) 31#32)

theorem bits16 : Ideal.ofBits .f32 1098907648#32 = ((16 : ℝ) : EReal) := by
  simp [Ideal.ofBits, Ideal.ieee, -EReal.coe_mul]; norm_num

theorem bitsLog : ∃ c : ℝ, 1 ≤ c ∧ Ideal.ofBits .f32 1085370904#32 = (c : EReal) := by
  refine ⟨_, ?_, by simp [Ideal.ofBits, Ideal.ieee, -EReal.coe_mul]; rfl⟩
  norm_num

theorem div_coe (a b : ℝ) (hb : b ≠ 0) : Ideal.div (a : EReal) (b : EReal) = ((a / b : ℝ) : EReal) := by
  unfold Ideal.div
  rw [if_neg (by exact_mod_cast hb), div_eq_mul_inv, EReal.coe_mul, EReal.coe_inv]

theorem minsi31 (z : Int) (h0 : 0 ≤ z) (h1 : z < 2147483648) : (IntOp.minsi (BitVec.ofInt 32 z) 31#32).toNat < 32 := by
  unfold IntOp.minsi
  have e := toInt_ofInt_small z (by omega) h1
  have e1 : (31#32 : BitVec 32).toInt = 31 := rfl
  rw [BitVec.slt, e, e1]
  by_cases h : z < 31
  · rw [if_pos (by simpa using h)]
    obtain ⟨m, rfl⟩ := Int.eq_ofNat_of_zero_le h0
    show (BitVec.ofNat 32 m).toNat < 32
    rw [BitVec.toNat_ofNat]
    omega
  · rw [if_neg (by simpa using h)]
    decide

theorem bkt_lt (d : BitVec 32) (hd : d.toInt < 4096) : (bkt d).toNat < 32 := by
  unfold bkt
  obtain ⟨N, hN, hn⟩ : ∃ N : Nat, N < 4096 ∧ IntOp.maxsi d 0#32 = BitVec.ofInt 32 N := by
    unfold IntOp.maxsi
    have e0 : (0#32 : BitVec 32).toInt = 0 := rfl
    rw [BitVec.slt, e0]
    by_cases h : 0 < d.toInt
    · refine ⟨d.toInt.toNat, by omega, ?_⟩
      rw [if_pos (by simpa using h)]
      apply BitVec.eq_of_toInt_eq
      rw [toInt_ofInt_small _ (by omega) (by omega)]
      omega
    · exact ⟨0, by norm_num, by rw [if_neg (by simpa using h)]; rfl⟩
  rw [hn]
  have eN := toInt_ofInt_small N (by omega) (by omega)
  unfold Scalar.select
  rw [WordCmp.cmpi_slt_eq, eN, show (16#32 : BitVec 32).toInt = 16 from rfl]
  by_cases h : (N : Int) < 16
  · rw [if_pos (by simp [h])]
    have : (BitVec.ofInt 32 (N : Int)) = BitVec.ofNat 32 N := rfl
    rw [this, BitVec.toNat_ofNat]
    omega
  · rw [if_neg (by simp [h])]
    have e1 : IntOp.maxsi (BitVec.ofInt 32 (N : Int)) 1#32 = BitVec.ofInt 32 N := by
      unfold IntOp.maxsi
      rw [BitVec.slt, eN, show (1#32 : BitVec 32).toInt = 1 from rfl, if_pos (by simp only [decide_eq_true_eq]; omega)]
    rw [e1]
    have hs : FloatOps.sitofp (F := Ideal) .f32 (BitVec.ofInt 32 (N : Int)) = (((N : Int) : ℝ) : EReal) := by
      show (((BitVec.ofInt 32 (N : Int)).toInt : ℝ) : EReal) = _
      rw [eN]
    obtain ⟨c, hc, ec⟩ := bitsLog
    have hN16 : (16 : ℝ) ≤ ((N : Int) : ℝ) := by
      have : (16 : Int) ≤ N := by omega
      exact_mod_cast this
    have hN4 : ((N : Int) : ℝ) < 4096 := by
      have : (N : Int) < 4096 := by omega
      exact_mod_cast this
    have hq : (1 : ℝ) ≤ ((N : Int) : ℝ) / 16 := by rw [le_div_iff₀ (by norm_num)]; linarith
    rw [hs, bits16, ec, div_coe _ _ (by norm_num), Ideal.log_coe, if_neg (by linarith), div_coe _ _ (by linarith), ← EReal.coe_mul]
    have hl0 : 0 ≤ Real.log (((N : Int) : ℝ) / 16) := Real.log_nonneg hq
    have hl1 : Real.log (((N : Int) : ℝ) / 16) ≤ ((N : Int) : ℝ) / 16 - 1 := Real.log_le_sub_one_of_pos (by linarith)
    have hr0 : 0 ≤ Real.log (((N : Int) : ℝ) / 16) / c * 16 := by positivity
    have hr1 : Real.log (((N : Int) : ℝ) / 16) / c * 16 ≤ 4096 := by
      have : Real.log (((N : Int) : ℝ) / 16) / c ≤ Real.log (((N : Int) : ℝ) / 16) := div_le_self hl0 hc
      linarith
    generalize Real.log (((N : Int) : ℝ) / 16) / c * 16 = r at hr0 hr1
    have hf0 : 0 ≤ ⌊r⌋ := Int.floor_nonneg.mpr hr0
    have hf1 : ⌊r⌋ ≤ 4096 := by
      have : (⌊r⌋ : ℝ) ≤ 4096 := (Int.floor_le r).trans hr1
      exact_mod_cast this
    have hf : FloatOps.fptosi (F := Ideal) (φ := .f32) 32 ((r : ℝ) : EReal) = BitVec.ofInt 32 ⌊r⌋ := by
      show BitVec.ofInt 32 (max (-(2 ^ 31 : Nat)) (min ((2 ^ 31 : Nat) - 1) (if 0 ≤ r then ⌊r⌋ else ⌈r⌉))) = _
      rw [if_pos hr0]
      congr 1
      omega
    rw [hf]
    have ha : IntOp.addi 16#32 (BitVec.ofInt 32 ⌊r⌋) = BitVec.ofInt 32 (16 + ⌊r⌋) := by
      rw [BitVec.ofInt_add]; rfl
    rw [ha]
    exact minsi31 _ (by omega) (by omega)

theorem word (k : Fin k0_t1_loop.trips) (y x : Fin 128) :
    k0_pay2 (F := Ideal) 0#32 1#32 k (ix2 y x) = bkt (BitVec.ofInt 32 (128 * (k : Nat) + x - y)) := by
  have e : IntOp.subi (IntOp.addi (Scalar.muli (128#32) (Scf.iv 0#32 1#32 ↑k)) (BitVec.ofNat 32 ↑x)) (BitVec.ofNat 32 ↑y) = BitVec.ofInt 32 (128 * (k : Nat) + x - y) := by
    rw [ofInt_sub', BitVec.ofInt_add, BitVec.ofInt_mul]
    have : Scf.iv 0#32 1#32 (k : Nat) = BitVec.ofInt 32 (k : Nat) := by
      apply BitVec.eq_of_toNat_eq
      simp [Scf.iv]
    rw [this]
    rfl
  rw [← e]
  pointwise [k0_pay2]
  rfl

/-- The chain of selects that picks a row of a bias table by its number. -/
def chain (w : IVec S128x128 32) : Nat → List EReal → FVec Ideal S128x128 .f32 → FVec Ideal S128x128 .f32
  | _, [], b => b
  | n, t :: ts, b => chain w (n + 1) ts (select (cmpi .eq w (broadcast S128x128 (BitVec.ofNat 32 n))) (broadcast S128x128 t) b)

theorem chain_apply (w : IVec S128x128 32) (j : S128x128.Idx) : ∀ (ts : List EReal) (n : Nat) (b : FVec Ideal S128x128 .f32), n + ts.length ≤ 32 →
    chain w n ts b j = if h : n ≤ (w j).toNat ∧ (w j).toNat < n + ts.length then ts[(w j).toNat - n]'(by omega) else b j
  | [], n, b, _ => by
    rw [dif_neg (by simp only [List.length_nil]; omega)]
    rfl
  | t :: ts, n, b, hn => by
    have hn' : n + (ts.length + 1) ≤ 32 := hn
    unfold chain
    rw [chain_apply w j ts (n + 1) _ (by omega)]
    have hsel : (select (cmpi .eq w (broadcast S128x128 (BitVec.ofNat 32 n))) (broadcast S128x128 t) b : FVec Ideal S128x128 .f32) j = if (w j).toNat = n then t else b j := by
      show Scalar.select (IntOp.cmpi .eq (w j) (BitVec.ofNat 32 n)) t (b j) = _
      rw [WordCmp.cmpi_eq_eq_toNat, BitVec.toNat_ofNat, Nat.mod_eq_of_lt (by omega)]
      unfold Scalar.select
      by_cases e : (w j).toNat = n <;> simp [e]
    by_cases e : (w j).toNat = n
    · rw [dif_neg (by omega), hsel, if_pos e, dif_pos (by simp only [List.length_cons]; omega)]
      simp [e]
    · by_cases h : n + 1 ≤ (w j).toNat ∧ (w j).toNat < n + 1 + ts.length
      · rw [dif_pos h, dif_pos (by simp only [List.length_cons]; omega)]
        rw [List.getElem_cons, dif_neg (by omega)]
        congr 1
      · rw [dif_neg h, hsel, if_neg e, dif_neg (by simp only [List.length_cons]; omega)]

theorem chain_at (w : IVec S128x128 32) (j : S128x128.Idx) (ts : List EReal) (n : Nat) (b : FVec Ideal S128x128 .f32) (hn : n + ts.length ≤ 32) (v : Nat) (hv : (w j).toNat = v) :
    chain w n ts b j = if h : n ≤ v ∧ v < n + ts.length then ts[v - n]'(by omega) else b j := by
  subst hv
  exact chain_apply w j ts n b hn

theorem trip_eq (c : Dev nD) (i : grid0.Coords) (arg1 : Memref sig .tc .smem S32x12 .f32) (harg1 : arg1.IsWhole) (arg2 : Memref sig .tc .vmem S2x128x128 .f32) (harg2 : arg2.IsWhole)
    (v0 : BitVec 32) (x0 : Vec Ideal S32x12 .f32) (k : Fin k0_t1_loop.trips) :
    tripL_k0_t1 (F := Ideal) Variants.none c none i arg1 harg1 arg2 harg2 v0 (harg1.unread x0) k
      = [⟨Rect.unit (k0_off33 k) S1x128x128.size (k0_off33_inb k), shapeCast S1x128x128 (chain (k0_pay2 (F := Ideal) 0#32 1#32 k) 1
          [(View.readAt (Elt Ideal) arg1.view (Rect.unit (s := S32x12) (k0_off2 i) S1x1.size (k0_off2_inb i)).toLoadRect (harg1.unread x0) (Shape.Idx.first (show 0 < S1x1.numel by decide))), (View.readAt (Elt Ideal) arg1.view (Rect.unit (s := S32x12) (k0_off3 i) S1x1.size (k0_off3_inb i)).toLoadRect (harg1.unread x0) (Shape.Idx.first (show 0 < S1x1.numel by decide))), (View.readAt (Elt Ideal) arg1.view (Rect.unit (s := S32x12) (k0_off4 i) S1x1.size (k0_off4_inb i)).toLoadRect (harg1.unread x0) (Shape.Idx.first (show 0 < S1x1.numel by decide))), (View.readAt (Elt Ideal) arg1.view (Rect.unit (s := S32x12) (k0_off5 i) S1x1.size (k0_off5_inb i)).toLoadRect (harg1.unread x0) (Shape.Idx.first (show 0 < S1x1.numel by decide))), (View.readAt (Elt Ideal) arg1.view (Rect.unit (s := S32x12) (k0_off6 i) S1x1.size (k0_off6_inb i)).toLoadRect (harg1.unread x0) (Shape.Idx.first (show 0 < S1x1.numel by decide))), (View.readAt (Elt Ideal) arg1.view (Rect.unit (s := S32x12) (k0_off7 i) S1x1.size (k0_off7_inb i)).toLoadRect (harg1.unread x0) (Shape.Idx.first (show 0 < S1x1.numel by decide))), (View.readAt (Elt Ideal) arg1.view (Rect.unit (s := S32x12) (k0_off8 i) S1x1.size (k0_off8_inb i)).toLoadRect (harg1.unread x0) (Shape.Idx.first (show 0 < S1x1.numel by decide))), (View.readAt (Elt Ideal) arg1.view (Rect.unit (s := S32x12) (k0_off9 i) S1x1.size (k0_off9_inb i)).toLoadRect (harg1.unread x0) (Shape.Idx.first (show 0 < S1x1.numel by decide))), (View.readAt (Elt Ideal) arg1.view (Rect.unit (s := S32x12) (k0_off10 i) S1x1.size (k0_off10_inb i)).toLoadRect (harg1.unread x0) (Shape.Idx.first (show 0 < S1x1.numel by decide))), (View.readAt (Elt Ideal) arg1.view (Rect.unit (s := S32x12) (k0_off11 i) S1x1.size (k0_off11_inb i)).toLoadRect (harg1.unread x0) (Shape.Idx.first (show 0 < S1x1.numel by decide))), (View.readAt (Elt Ideal) arg1.view (Rect.unit (s := S32x12) (k0_off12 i) S1x1.size (k0_off12_inb i)).toLoadRect (harg1.unread x0) (Shape.Idx.first (show 0 < S1x1.numel by decide))), (View.readAt (Elt Ideal) arg1.view (Rect.unit (s := S32x12) (k0_off13 i) S1x1.size (k0_off13_inb i)).toLoadRect (harg1.unread x0) (Shape.Idx.first (show 0 < S1x1.numel by decide))), (View.readAt (Elt Ideal) arg1.view (Rect.unit (s := S32x12) (k0_off14 i) S1x1.size (k0_off14_inb i)).toLoadRect (harg1.unread x0) (Shape.Idx.first (show 0 < S1x1.numel by decide))), (View.readAt (Elt Ideal) arg1.view (Rect.unit (s := S32x12) (k0_off15 i) S1x1.size (k0_off15_inb i)).toLoadRect (harg1.unread x0) (Shape.Idx.first (show 0 < S1x1.numel by decide))), (View.readAt (Elt Ideal) arg1.view (Rect.unit (s := S32x12) (k0_off16 i) S1x1.size (k0_off16_inb i)).toLoadRect (harg1.unread x0) (Shape.Idx.first (show 0 < S1x1.numel by decide))), (View.readAt (Elt Ideal) arg1.view (Rect.unit (s := S32x12) (k0_off17 i) S1x1.size (k0_off17_inb i)).toLoadRect (harg1.unread x0) (Shape.Idx.first (show 0 < S1x1.numel by decide))), (View.readAt (Elt Ideal) arg1.view (Rect.unit (s := S32x12) (k0_off18 i) S1x1.size (k0_off18_inb i)).toLoadRect (harg1.unread x0) (Shape.Idx.first (show 0 < S1x1.numel by decide))), (View.readAt (Elt Ideal) arg1.view (Rect.unit (s := S32x12) (k0_off19 i) S1x1.size (k0_off19_inb i)).toLoadRect (harg1.unread x0) (Shape.Idx.first (show 0 < S1x1.numel by decide))), (View.readAt (Elt Ideal) arg1.view (Rect.unit (s := S32x12) (k0_off20 i) S1x1.size (k0_off20_inb i)).toLoadRect (harg1.unread x0) (Shape.Idx.first (show 0 < S1x1.numel by decide))), (View.readAt (Elt Ideal) arg1.view (Rect.unit (s := S32x12) (k0_off21 i) S1x1.size (k0_off21_inb i)).toLoadRect (harg1.unread x0) (Shape.Idx.first (show 0 < S1x1.numel by decide))), (View.readAt (Elt Ideal) arg1.view (Rect.unit (s := S32x12) (k0_off22 i) S1x1.size (k0_off22_inb i)).toLoadRect (harg1.unread x0) (Shape.Idx.first (show 0 < S1x1.numel by decide))), (View.readAt (Elt Ideal) arg1.view (Rect.unit (s := S32x12) (k0_off23 i) S1x1.size (k0_off23_inb i)).toLoadRect (harg1.unread x0) (Shape.Idx.first (show 0 < S1x1.numel by decide))), (View.readAt (Elt Ideal) arg1.view (Rect.unit (s := S32x12) (k0_off24 i) S1x1.size (k0_off24_inb i)).toLoadRect (harg1.unread x0) (Shape.Idx.first (show 0 < S1x1.numel by decide))), (View.readAt (Elt Ideal) arg1.view (Rect.unit (s := S32x12) (k0_off25 i) S1x1.size (k0_off25_inb i)).toLoadRect (harg1.unread x0) (Shape.Idx.first (show 0 < S1x1.numel by decide))), (View.readAt (Elt Ideal) arg1.view (Rect.unit (s := S32x12) (k0_off26 i) S1x1.size (k0_off26_inb i)).toLoadRect (harg1.unread x0) (Shape.Idx.first (show 0 < S1x1.numel by decide))), (View.readAt (Elt Ideal) arg1.view (Rect.unit (s := S32x12) (k0_off27 i) S1x1.size (k0_off27_inb i)).toLoadRect (harg1.unread x0) (Shape.Idx.first (show 0 < S1x1.numel by decide))), (View.readAt (Elt Ideal) arg1.view (Rect.unit (s := S32x12) (k0_off28 i) S1x1.size (k0_off28_inb i)).toLoadRect (harg1.unread x0) (Shape.Idx.first (show 0 < S1x1.numel by decide))), (View.readAt (Elt Ideal) arg1.view (Rect.unit (s := S32x12) (k0_off29 i) S1x1.size (k0_off29_inb i)).toLoadRect (harg1.unread x0) (Shape.Idx.first (show 0 < S1x1.numel by decide))), (View.readAt (Elt Ideal) arg1.view (Rect.unit (s := S32x12) (k0_off30 i) S1x1.size (k0_off30_inb i)).toLoadRect (harg1.unread x0) (Shape.Idx.first (show 0 < S1x1.numel by decide))), (View.readAt (Elt Ideal) arg1.view (Rect.unit (s := S32x12) (k0_off31 i) S1x1.size (k0_off31_inb i)).toLoadRect (harg1.unread x0) (Shape.Idx.first (show 0 < S1x1.numel by decide))), (View.readAt (Elt Ideal) arg1.view (Rect.unit (s := S32x12) (k0_off32 i) S1x1.size (k0_off32_inb i)).toLoadRect (harg1.unread x0) (Shape.Idx.first (show 0 < S1x1.numel by decide)))] (broadcast S128x128 (View.readAt (Elt Ideal) arg1.view (Rect.unit (s := S32x12) (k0_off1 i) S1x1.size (k0_off1_inb i)).toLoadRect (harg1.unread x0) (Shape.Idx.first (show 0 < S1x1.numel by decide))))) shapeCasts_S128x128_S1x128x128⟩] := by
  unfold tripL_k0_t1 trip_k0_t1
  simp only [chain]
  rfl
/-- A head's bias at a distance, read from the table. -/
def bias (T : Vec Ideal S32x12 .f32) (h : Fin 8) (z : Int) : EReal :=
  if hb : (bkt (BitVec.ofInt 32 z)).toNat < 32 then T (ix2 ⟨(bkt (BitVec.ofInt 32 z)).toNat, hb⟩ ⟨h + 4, by omega⟩) else 0

theorem bkt_lt' (z : Int) (h0 : -256 ≤ z) (h1 : z < 256) : (bkt (BitVec.ofInt 32 z)).toNat < 32 :=
  bkt_lt _ (by rw [toInt_ofInt_small z (by omega) (by omega)]; omega)

theorem readAt_tab (i : grid0.Coords) (arg1 : Memref sig .tc .smem S32x12 .f32) (harg1 : arg1.IsWhole) (x0 : Vec Ideal S32x12 .f32)
    (off : Fin 2 → Nat) (inb : ∀ a, off a + S1x1.size a ≤ S32x12.size a) (j : Fin 32) (h : Fin 8) (h0 : off 0 = j) (h1 : off 1 = h + 4) (hp : 0 < S1x1.numel) :
    View.readAt (Elt Ideal) arg1.view (Rect.unit (s := S32x12) off S1x1.size inb).toLoadRect (harg1.unread x0) (Shape.Idx.first hp) = x0 (ix2 j ⟨h + 4, by omega⟩) := by
  rw [harg1.readAt_unread]
  congr 1
  funext a
  apply Fin.ext
  have hz : ((Shape.Idx.first hp : S1x1.Idx) a : Nat) = 0 := by
    have hlt : ((Shape.Idx.first hp : S1x1.Idx) a : Nat) < S1x1.size a := ((Shape.Idx.first hp : S1x1.Idx) a).isLt
    fin_cases a
    · exact Nat.lt_one_iff.mp hlt
    · exact Nat.lt_one_iff.mp hlt
  refine (Rect.idx_unit_val (s := S32x12) off S1x1.size inb (Shape.Idx.first hp) a).trans ?_
  rw [hz]
  fin_cases a
  · exact h0
  · exact h1

/-- The head's number as a word, four heads further. -/
theorem word4 (i : grid0.Coords) : (Scalar.indexCast (Scalar.addi (BitVec.ofNat 32 (i 0).val) 4#32) : Index).toNat = (i 0).val + 4 := by
  have : (i 0).val < 8 := (i 0).isLt
  show (BitVec.ofNat 32 (i 0).val + 4#32).toNat = _
  rw [BitVec.toNat_add, BitVec.toNat_ofNat]
  simp only [BitVec.toNat_ofNat]
  omega

/-- A head's column of the table, its rows from the second one on. -/
def rows (T : Vec Ideal S32x12 .f32) (h : Fin 8) : List EReal := List.ofFn fun j : Fin 31 => T (ix2 ⟨j + 1, by omega⟩ ⟨h + 4, by omega⟩)

theorem rows_eq (T : Vec Ideal S32x12 .f32) (h : Fin 8) : [T (ix2 1 ⟨h + 4, by omega⟩), T (ix2 2 ⟨h + 4, by omega⟩), T (ix2 3 ⟨h + 4, by omega⟩), T (ix2 4 ⟨h + 4, by omega⟩), T (ix2 5 ⟨h + 4, by omega⟩), T (ix2 6 ⟨h + 4, by omega⟩), T (ix2 7 ⟨h + 4, by omega⟩), T (ix2 8 ⟨h + 4, by omega⟩), T (ix2 9 ⟨h + 4, by omega⟩), T (ix2 10 ⟨h + 4, by omega⟩), T (ix2 11 ⟨h + 4, by omega⟩), T (ix2 12 ⟨h + 4, by omega⟩), T (ix2 13 ⟨h + 4, by omega⟩), T (ix2 14 ⟨h + 4, by omega⟩), T (ix2 15 ⟨h + 4, by omega⟩), T (ix2 16 ⟨h + 4, by omega⟩), T (ix2 17 ⟨h + 4, by omega⟩), T (ix2 18 ⟨h + 4, by omega⟩), T (ix2 19 ⟨h + 4, by omega⟩), T (ix2 20 ⟨h + 4, by omega⟩), T (ix2 21 ⟨h + 4, by omega⟩), T (ix2 22 ⟨h + 4, by omega⟩), T (ix2 23 ⟨h + 4, by omega⟩), T (ix2 24 ⟨h + 4, by omega⟩), T (ix2 25 ⟨h + 4, by omega⟩), T (ix2 26 ⟨h + 4, by omega⟩), T (ix2 27 ⟨h + 4, by omega⟩), T (ix2 28 ⟨h + 4, by omega⟩), T (ix2 29 ⟨h + 4, by omega⟩), T (ix2 30 ⟨h + 4, by omega⟩), T (ix2 31 ⟨h + 4, by omega⟩)] = rows T h := by
  unfold rows
  simp only [List.ofFn_succ, List.ofFn_zero]
  rfl

theorem trip_eq' (c : Dev nD) (i : grid0.Coords) (arg1 : Memref sig .tc .smem S32x12 .f32) (harg1 : arg1.IsWhole) (arg2 : Memref sig .tc .vmem S2x128x128 .f32) (harg2 : arg2.IsWhole)
    (v0 : BitVec 32) (x0 : Vec Ideal S32x12 .f32) (k : Fin k0_t1_loop.trips) (h : Fin 8) (hh : (i 0).val = h) :
    tripL_k0_t1 (F := Ideal) Variants.none c none i arg1 harg1 arg2 harg2 v0 (harg1.unread x0) k
      = [⟨Rect.unit (s := S2x128x128) (k0_off33 k) S1x128x128.size (k0_off33_inb k), shapeCast S1x128x128 (chain (k0_pay2 (F := Ideal) 0#32 1#32 k) 1
          (rows x0 h) (broadcast S128x128 (x0 (ix2 0 ⟨h + 4, by omega⟩)))) shapeCasts_S128x128_S1x128x128⟩] := by
  have hw := (word4 i).trans (congrArg (· + 4) hh)
  rw [trip_eq, ← rows_eq]
  have e0 := readAt_tab i arg1 harg1 x0 (k0_off1 i) (k0_off1_inb i) 0 h rfl hw (show 0 < S1x1.numel by decide)
  have e1 := readAt_tab i arg1 harg1 x0 (k0_off2 i) (k0_off2_inb i) 1 h rfl hw (show 0 < S1x1.numel by decide)
  have e2 := readAt_tab i arg1 harg1 x0 (k0_off3 i) (k0_off3_inb i) 2 h rfl hw (show 0 < S1x1.numel by decide)
  have e3 := readAt_tab i arg1 harg1 x0 (k0_off4 i) (k0_off4_inb i) 3 h rfl hw (show 0 < S1x1.numel by decide)
  have e4 := readAt_tab i arg1 harg1 x0 (k0_off5 i) (k0_off5_inb i) 4 h rfl hw (show 0 < S1x1.numel by decide)
  have e5 := readAt_tab i arg1 harg1 x0 (k0_off6 i) (k0_off6_inb i) 5 h rfl hw (show 0 < S1x1.numel by decide)
  have e6 := readAt_tab i arg1 harg1 x0 (k0_off7 i) (k0_off7_inb i) 6 h rfl hw (show 0 < S1x1.numel by decide)
  have e7 := readAt_tab i arg1 harg1 x0 (k0_off8 i) (k0_off8_inb i) 7 h rfl hw (show 0 < S1x1.numel by decide)
  have e8 := readAt_tab i arg1 harg1 x0 (k0_off9 i) (k0_off9_inb i) 8 h rfl hw (show 0 < S1x1.numel by decide)
  have e9 := readAt_tab i arg1 harg1 x0 (k0_off10 i) (k0_off10_inb i) 9 h rfl hw (show 0 < S1x1.numel by decide)
  have e10 := readAt_tab i arg1 harg1 x0 (k0_off11 i) (k0_off11_inb i) 10 h rfl hw (show 0 < S1x1.numel by decide)
  have e11 := readAt_tab i arg1 harg1 x0 (k0_off12 i) (k0_off12_inb i) 11 h rfl hw (show 0 < S1x1.numel by decide)
  have e12 := readAt_tab i arg1 harg1 x0 (k0_off13 i) (k0_off13_inb i) 12 h rfl hw (show 0 < S1x1.numel by decide)
  have e13 := readAt_tab i arg1 harg1 x0 (k0_off14 i) (k0_off14_inb i) 13 h rfl hw (show 0 < S1x1.numel by decide)
  have e14 := readAt_tab i arg1 harg1 x0 (k0_off15 i) (k0_off15_inb i) 14 h rfl hw (show 0 < S1x1.numel by decide)
  have e15 := readAt_tab i arg1 harg1 x0 (k0_off16 i) (k0_off16_inb i) 15 h rfl hw (show 0 < S1x1.numel by decide)
  have e16 := readAt_tab i arg1 harg1 x0 (k0_off17 i) (k0_off17_inb i) 16 h rfl hw (show 0 < S1x1.numel by decide)
  have e17 := readAt_tab i arg1 harg1 x0 (k0_off18 i) (k0_off18_inb i) 17 h rfl hw (show 0 < S1x1.numel by decide)
  have e18 := readAt_tab i arg1 harg1 x0 (k0_off19 i) (k0_off19_inb i) 18 h rfl hw (show 0 < S1x1.numel by decide)
  have e19 := readAt_tab i arg1 harg1 x0 (k0_off20 i) (k0_off20_inb i) 19 h rfl hw (show 0 < S1x1.numel by decide)
  have e20 := readAt_tab i arg1 harg1 x0 (k0_off21 i) (k0_off21_inb i) 20 h rfl hw (show 0 < S1x1.numel by decide)
  have e21 := readAt_tab i arg1 harg1 x0 (k0_off22 i) (k0_off22_inb i) 21 h rfl hw (show 0 < S1x1.numel by decide)
  have e22 := readAt_tab i arg1 harg1 x0 (k0_off23 i) (k0_off23_inb i) 22 h rfl hw (show 0 < S1x1.numel by decide)
  have e23 := readAt_tab i arg1 harg1 x0 (k0_off24 i) (k0_off24_inb i) 23 h rfl hw (show 0 < S1x1.numel by decide)
  have e24 := readAt_tab i arg1 harg1 x0 (k0_off25 i) (k0_off25_inb i) 24 h rfl hw (show 0 < S1x1.numel by decide)
  have e25 := readAt_tab i arg1 harg1 x0 (k0_off26 i) (k0_off26_inb i) 25 h rfl hw (show 0 < S1x1.numel by decide)
  have e26 := readAt_tab i arg1 harg1 x0 (k0_off27 i) (k0_off27_inb i) 26 h rfl hw (show 0 < S1x1.numel by decide)
  have e27 := readAt_tab i arg1 harg1 x0 (k0_off28 i) (k0_off28_inb i) 27 h rfl hw (show 0 < S1x1.numel by decide)
  have e28 := readAt_tab i arg1 harg1 x0 (k0_off29 i) (k0_off29_inb i) 28 h rfl hw (show 0 < S1x1.numel by decide)
  have e29 := readAt_tab i arg1 harg1 x0 (k0_off30 i) (k0_off30_inb i) 29 h rfl hw (show 0 < S1x1.numel by decide)
  have e30 := readAt_tab i arg1 harg1 x0 (k0_off31 i) (k0_off31_inb i) 30 h rfl hw (show 0 < S1x1.numel by decide)
  have e31 := readAt_tab i arg1 harg1 x0 (k0_off32 i) (k0_off32_inb i) 31 h rfl hw (show 0 < S1x1.numel by decide)
  rw [e0, e1, e2, e3, e4, e5, e6, e7, e8, e9, e10, e11, e12, e13, e14, e15, e16, e17, e18, e19, e20, e21, e22, e23, e24, e25, e26, e27, e28, e29, e30, e31]

theorem rows_length (T : Vec Ideal S32x12 .f32) (h : Fin 8) : (rows T h).length = 31 := by unfold rows; simp

theorem rows_get (T : Vec Ideal S32x12 .f32) (h : Fin 8) (n : Nat) (hn : n < (rows T h).length) (hn' : n + 1 < 32) : (rows T h)[n] = T (ix2 ⟨n + 1, hn'⟩ ⟨h + 4, by omega⟩) :=
  List.getElem_ofFn _

theorem pick (T : Vec Ideal S32x12 .f32) (h : Fin 8) (v : Nat) (hv : v < 32) :
    (if g : 1 ≤ v ∧ v < 1 + (rows T h).length then (rows T h)[v - 1]'(by omega) else T (ix2 0 ⟨h + 4, by omega⟩)) = T (ix2 ⟨v, hv⟩ ⟨h + 4, by omega⟩) := by
  have hlen := rows_length T h
  by_cases h0 : v = 0
  · subst h0
    rw [dif_neg (by omega)]
    rfl
  · rw [dif_pos (by omega)]
    rw [rows_get T h (v - 1) (by omega) (by omega)]
    congr 2
    apply Fin.ext
    simp only
    omega

/-- What a trip stores, at a row and a column. -/
theorem band_apply (x0 : Vec Ideal S32x12 .f32) (h : Fin 8) (k : Fin k0_t1_loop.trips) (hk : (k : Nat) < 2) (y x : Fin 128) :
    (shapeCast S1x128x128 (chain (k0_pay2 (F := Ideal) 0#32 1#32 k) 1 (rows x0 h) (broadcast S128x128 (x0 (ix2 0 ⟨h + 4, by omega⟩)))) shapeCasts_S128x128_S1x128x128 : FVec Ideal S1x128x128 .f32) (ix3 0 y x)
      = bias x0 h (128 * (k : Nat) + x - y) := by
  have e : (shapeCast S1x128x128 (chain (k0_pay2 (F := Ideal) 0#32 1#32 k) 1 (rows x0 h) (broadcast S128x128 (x0 (ix2 0 ⟨h + 4, by omega⟩)))) shapeCasts_S128x128_S1x128x128 : FVec Ideal S1x128x128 .f32) (ix3 0 y x)
      = chain (k0_pay2 (F := Ideal) 0#32 1#32 k) 1 (rows x0 h) (broadcast S128x128 (x0 (ix2 0 ⟨h + 4, by omega⟩))) (ix2 y x) := by
    generalize chain (k0_pay2 (F := Ideal) 0#32 1#32 k) 1 (rows x0 h) (broadcast S128x128 (x0 (ix2 0 ⟨h + 4, by omega⟩))) = C
    pointwise []
  rw [e, chain_at _ _ _ _ _ (by rw [rows_length]) (bkt (BitVec.ofInt 32 (128 * (k : Nat) + x - y))).toNat (by rw [word])]
  unfold bias
  rw [dif_pos (bkt_lt' (128 * (k : Nat) + x - y) (by omega) (by omega))]
  exact pick x0 h _ _

theorem off33_0 (k : Fin k0_t1_loop.trips) : k0_off33 k 0 = k := by
  have kl : (k : Nat) < 2 := Nat.lt_of_lt_of_le k.isLt k0_t1_abs.2.1
  show ((Scf.iv 0#32 1#32 (k : Nat)) : BitVec 32).toNat = k
  simp [Scf.iv]
  omega

theorem piece_apply (x0 : Vec Ideal S32x12 .f32) (h : Fin 8) (k : Fin k0_t1_loop.trips) (kl : (k : Nat) < 2) (P : FVec Ideal S1x128x128 .f32)
    (hP : ∀ y x : Fin 128, P (ix3 0 y x) = bias x0 h (128 * (k : Nat) + x - y)) (x : S1x128x128.Idx) :
    P x = (fun y : S2x128x128.Idx => bias x0 h (128 * (y 0 : Nat) + (y 2 : Nat) - (y 1 : Nat)))
      ((Rect.unit (s := S2x128x128) (k0_off33 k) S1x128x128.size (k0_off33_inb k)).emb x) := by
  have x1 : (x 1 : Nat) < 128 := (x 1).isLt
  have x2 : (x 2 : Nat) < 128 := (x 2).isLt
  have hx : x = ix3 0 ⟨x 1, x1⟩ ⟨x 2, x2⟩ := by
    funext a
    fin_cases a
    · exact Subsingleton.elim (α := Fin 1) _ _
    · rfl
    · rfl
  have a0 := ValueKit.rect_emb_unit_val (s := S2x128x128) (k0_off33 k) S1x128x128.size (k0_off33_inb k) x 0
  have a1 := ValueKit.rect_emb_unit_val (s := S2x128x128) (k0_off33 k) S1x128x128.size (k0_off33_inb k) x 1
  have a2 := ValueKit.rect_emb_unit_val (s := S2x128x128) (k0_off33 k) S1x128x128.size (k0_off33_inb k) x 2
  have a3 : (x 0 : Nat) = 0 := by have : (x 0 : Nat) < 1 := (x 0).isLt; omega
  rw [off33_0, a3, Nat.add_zero] at a0
  rw [show k0_off33 k 1 = 0 from rfl, Nat.zero_add] at a1
  rw [show k0_off33 k 2 = 0 from rfl, Nat.zero_add] at a2
  dsimp only
  rw [a0, a1, a2]
  exact (congrArg P hx).trans (hP _ _)

theorem trip_apply (c : Dev nD) (i : grid0.Coords) (arg1 : Memref sig .tc .smem S32x12 .f32) (harg1 : arg1.IsWhole) (arg2 : Memref sig .tc .vmem S2x128x128 .f32) (harg2 : arg2.IsWhole)
    (v0 : BitVec 32) (x0 : Vec Ideal S32x12 .f32) (k : Fin k0_t1_loop.trips) (h : Fin 8) (hh : (i 0).val = h) :
    ∀ p ∈ tripL_k0_t1 (F := Ideal) Variants.none c none i arg1 harg1 arg2 harg2 v0 (harg1.unread x0) k, ∀ x : p.1.shape.Idx,
      p.2 x = (fun y : S2x128x128.Idx => bias x0 h (128 * (y 0 : Nat) + (y 2 : Nat) - (y 1 : Nat))) (p.1.emb x) := by
  rw [trip_eq' c i arg1 harg1 arg2 harg2 v0 x0 k h hh]
  have kl : (k : Nat) < 2 := Nat.lt_of_lt_of_le k.isLt k0_t1_abs.2.1
  have hP := fun y x => band_apply x0 h k kl y x
  generalize (shapeCast S1x128x128 (chain (k0_pay2 (F := Ideal) 0#32 1#32 k) 1 (rows x0 h) (broadcast S128x128 (x0 (ix2 0 ⟨h + 4, by omega⟩)))) shapeCasts_S128x128_S1x128x128 : FVec Ideal S1x128x128 .f32) = P at hP ⊢
  intro p hp
  rw [List.mem_singleton] at hp
  subst hp
  exact piece_apply x0 h k kl P hP

/-- The table a grid point leaves: its head's bias at every distance of the two tiles. -/
theorem out0_apply (c : Dev nD) (i : grid0.Coords) (arg1 : Memref sig .tc .smem S32x12 .f32) (harg1 : arg1.IsWhole) (arg2 : Memref sig .tc .vmem S2x128x128 .f32) (harg2 : arg2.IsWhole)
    (x0 : Vec Ideal S32x12 .f32) (y : S2x128x128.Idx) (h : Fin 8) (hh : (i 0).val = h) :
    out0_A_1 (F := Ideal) c i arg1 harg1 arg2 harg2 x0 y = bias x0 h (128 * (y 0 : Nat) + (y 2 : Nat) - (y 1 : Nat)) := by
  unfold out0_A_1
  refine View.read_writes_apply_of_pieces VO0_1 _ (fun y : S2x128x128.Idx => bias x0 h (128 * (y 0 : Nat) + (y 2 : Nat) - (y 1 : Nat))) _ ?_ y (cover0_A_1 c i arg1 harg1 arg2 harg2 x0 y)
  have hL : (kernelRun0_A (F := Ideal) c i arg1 harg1 arg2 harg2 x0).1
      = tripL_k0_t1 (F := Ideal) Variants.none c none i arg1 harg1 arg2 harg2 (kernelRun0_A.sl.v0 i) (harg1.unread x0) ⟨1, by decide⟩
        ++ (tripL_k0_t1 (F := Ideal) Variants.none c none i arg1 harg1 arg2 harg2 (kernelRun0_A.sl.v0 i) (harg1.unread x0) ⟨0, by decide⟩ ++ []) := by
    have s1 := pb_k0_t1_succ (F := Ideal) Variants.none c none i arg1 harg1 arg2 harg2 (kernelRun0_A.sl.v0 i) (harg1.unread x0) ⟨1, by decide⟩
    have s0 := pb_k0_t1_succ (F := Ideal) Variants.none c none i arg1 harg1 arg2 harg2 (kernelRun0_A.sl.v0 i) (harg1.unread x0) ⟨0, by decide⟩
    have s2 : pb_k0_t1 (F := Ideal) Variants.none c none i arg1 harg1 arg2 harg2 (kernelRun0_A.sl.v0 i) (harg1.unread x0) 0 = [] := rfl
    rw [← s2]
    refine Eq.trans ?_ (s1.trans (congrArg _ s0))
    unfold kernelRun0_A
    rfl
  rw [hL]
  intro p hp
  rcases List.mem_append.mp hp with hm | hm
  · exact trip_apply c i arg1 harg1 arg2 harg2 _ x0 _ h hh p hm
  · rcases List.mem_append.mp hm with hm | hm
    · exact trip_apply c i arg1 harg1 arg2 harg2 _ x0 _ h hh p hm
    · exact absurd hm List.not_mem_nil

end Cert.Swa
-- ==== Proof.SwaRun.lean ====
module

public import proofs.«01_k».proof.Defs
public import proofs.«01_k».proof.Proof.Gen.KernelIdeal.Frame
public import proofs.«01_k».proof.Proof.SwaTable
public import Idealize.ShloMosaic.Lib.Pipeline.ValueKit
public import Idealize.ShloMosaic.Lib.Claim
public import Idealize.ShloMosaic.Lib.Pointwise

@[expose] public section

set_option maxRecDepth 16384

noncomputable section

namespace Cert.Swa

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

local notation "𝕄" => MT nD τ sig Unit (Elt Ideal) ℕ (UR sig nD τ) ℕ

variable (m : (ℓ : Loc nD τ sig) → Buf (Elt Ideal) ℓ) (ρ : Dev nD → PrngReg)

/-- The array the second call leaves. -/
def result (c : Dev nD) := (dat1 (F := Ideal) (V4 m ρ) c).arrAt 7 cfg1.N

theorem W5_result (c : Dev nD) : W5 m ρ c (Proc.devRef .tc main_v22) = result m ρ c := W5_arr m ρ c 7

theorem v9_eq (c : Dev nD) : W4 m ρ c (Proc.devRef .tc main_v9) = W2 m ρ c (Proc.devRef .tc main_v9) :=
  (W4_of m ρ c main_v9 (by decide)).trans (W3_of m ρ c main_v9 (by decide))

theorem q_eq (c : Dev nD) : W4 m ρ c (Proc.devRef .tc main_v9)
    = truncf (F := Ideal) .bf16 (shapeCast S2x128x64x1024 (transpose S2x128x64x8x128 [0, 1, 4, 3, 2]
        (shapeCast S2x128x128x8x64 (mulf (F := Ideal) (φ := .f32) (m ((c : Thread nD τ).loc main_arg0))
          (broadcastInDim S2x16384x512 ![] bcast_S_S2x16384x512 (constant (F := Ideal) S_ .f32 0x3E000000#32)))
          shapeCasts_S2x16384x512_S2x128x128x8x64) transposes_S2x128x128x8x64_S2x128x64x8x128_0_1_4_3_2)
        shapeCasts_S2x128x64x8x128_S2x128x64x1024) bitsLt_bf16_f32 := by
  rw [v9_eq]
  after_results
  rw [W1_args m ρ c main_arg0 (by decide)]
  rfl

theorem k_eq (c : Dev nD) : W4 m ρ c (Proc.devRef .tc main_v12)
    = truncf (F := Ideal) .bf16 (transpose S2x2x16384x64 [0, 2, 1, 3]
        (shapeCast S2x16384x2x64 (m ((c : Thread nD τ).loc main_arg1)) shapeCasts_S2x16384x128_S2x16384x2x64)
        transposes_S2x16384x2x64_S2x2x16384x64_0_2_1_3) bitsLt_bf16_f32 := by
  rw [W4_of m ρ c main_v12 (by decide), W3_of m ρ c main_v12 (by decide)]
  after_results
  rw [W1_args m ρ c main_arg1 (by decide)]
  rfl

theorem s_eq (c : Dev nD) : W4 m ρ c (Proc.devRef .tc main_v3)
    = shapeCast S2x1x512 (broadcastInDim S2x1x4x128 ![0, 1, 2, 3] bcast_S2x1x4x1_S2x1x4x128_0_1_2_3
        (shapeCast S2x1x4x1 (m ((c : Thread nD τ).loc main_arg4)) shapeCasts_S8_S2x1x4x1)) shapeCasts_S2x1x4x128_S2x1x512 := by
  rw [W4_of m ρ c main_v3 (by decide), W3_of m ρ c main_v3 (by decide)]
  after_results
  rw [W1_args m ρ c main_arg4 (by decide)]
  rfl

theorem b_eq (c : Dev nD) : W4 m ρ c (Proc.devRef .tc main_v0) = (dat0 (F := Ideal) (V0 m ρ) c).arrAt 1 cfg0.N := by
  rw [W4_of m ρ c main_v0 (by decide), W3_of m ρ c main_v0 (by decide), W2_of m ρ c main_v0 (by decide)]
  exact W1_arr m ρ c 1

theorem v14_eq (c : Dev nD) : W3 m ρ c (Proc.devRef .tc main_v14)
    = transpose S2x2x64x16384 [0, 2, 3, 1]
        (shapeCast S2x16384x2x64 (m ((c : Thread nD τ).loc main_arg2)) shapeCasts_S2x16384x128_S2x16384x2x64)
        transposes_S2x16384x2x64_S2x2x64x16384_0_2_3_1 := by
  rw [W3_of m ρ c main_v14 (by decide)]
  after_results
  rw [W1_args m ρ c main_arg2 (by decide)]
  rfl

theorem v18_eq (c : Dev nD) : W3 m ρ c (Proc.devRef .tc main_v18)
    = select (cmpi .eq (iotaInDim S2x2x16x16384 32 2) (broadcastInDim S2x2x16x16384 ![] bcast_S_S2x2x16x16384 (constantI S_ 32 0#32)))
        (broadcastInDim S2x2x16x16384 ![] bcast_S_S2x2x16x16384 (constant (F := Ideal) S_ .f32 0x3F800000#32))
        (broadcastInDim S2x2x16x16384 ![] bcast_S_S2x2x16x16384 (constant (F := Ideal) S_ .f32 0x00000000#32)) := by
  after_results
  rfl

theorem v_eq (c : Dev nD) : W4 m ρ c (Proc.devRef .tc main_v21)
    = truncf (F := Ideal) .bf16 (concatenate S2x2x80x16384 2 [⟨S2x2x64x16384, W3 m ρ c (Proc.devRef .tc main_v14)⟩,
        ⟨S2x2x16x16384, W3 m ρ c (Proc.devRef .tc main_v18)⟩] concatenates_S2x2x64x16384_S2x2x16x16384_S2x2x80x16384_d2) bitsLt_bf16_f32 := by
  generalize hw : W3 m ρ c = w
  show StableHlo.after hostOps1_2 (W3 m ρ c) _ = _
  rw [hw]
  after_results
  rfl

set_option backward.isDefEq.respectTransparency.types false in
/-- A run of the two calls leaves `result` in the output array and the arguments as they were. -/
theorem run : θ_run (defs (F := Ideal)) (onTc (τ := τ) (main (F := Ideal))) ⟨m, fun _ => 0, ρ⟩ (fun r => ∀ c : Dev nD,
      r.2.mem ((c.tc : Thread nD τ).loc main_v22) = result m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => (fun c =>
      ⟨(h c _ (mem_uc main_v22 (by decide))).trans (W5_result m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩))

end Cert.Swa
-- ==== Proof.SwaBlock.lean ====
module

public import proofs.«01_k».proof.Proof.SwaKernel

@[expose] public section

set_option maxRecDepth 16384

noncomputable section

namespace Cert.Swa

open Cert.KernelIdeal Cert.KernelIdeal.Gen Idealize.ShloMosaic Idealize.ShloMosaic.TcCoe Idealize.SL.Sem

/-- The window's keys, values and biases of a group, read from the blocks. -/
def wk (x1 : Vec Ideal S1x2x128x64 .bf16) (x2 : Vec Ideal S1x2x1024x64 .bf16) (g : Fin 2) (j : Fin 1152) (e : Fin 64) : EReal :=
  if h : (j : Nat) < 128 then x1 (ix4 0 g ⟨j, h⟩ e) else x2 (ix4 0 g ⟨j - 128, by omega⟩ e)

def wv (x3 : Vec Ideal S1x2x80x128 .bf16) (x4 : Vec Ideal S1x2x80x1024 .bf16) (g : Fin 2) (d : Fin 80) (j : Fin 1152) : EReal :=
  if h : (j : Nat) < 128 then x3 (ix4 0 g d ⟨j, h⟩) else x4 (ix4 0 g d ⟨j - 128, by omega⟩)

def wb (x5 : Vec Ideal S2x128x1024 .f32) (u : Fin 256) (c : Fin 1024) : EReal :=
  if h : (u : Nat) < 128 then x5 (ix3 1 ⟨u, h⟩ c) else x5 (ix3 0 ⟨u - 128, by omega⟩ c)

/-- A row of a block's result, from the blocks. -/
def orow (s : Nat) (x0 : Vec Ideal S1x8x64x1024 .bf16) (x1 : Vec Ideal S1x2x128x64 .bf16) (x2 : Vec Ideal S1x2x1024x64 .bf16) (x3 : Vec Ideal S1x2x80x128 .bf16) (x4 : Vec Ideal S1x2x80x1024 .bf16) (x5 : Vec Ideal S2x128x1024 .f32) (x6 : Vec Ideal S2x1x512 .f32)
    (g : Fin 2) (q : Fin 8) (r : Fin 4) (x : Fin 128) (d : Fin 64) : EReal :=
  krow (fun u => if ok (8 * s + q) x u then (∑ e : Fin 64, wk x1 x2 g ⟨128 * q + u, by omega⟩ e * x0 (ix4 0 q e ⟨512 * g + 128 * r + x, by omega⟩)) + wb x5 u ⟨512 * g + 128 * r + x, by omega⟩ else ⊥)
    (x6 (ix3 g 0 ⟨128 * r + x, by omega⟩)) (fun u => wv x3 x4 g ⟨d, by omega⟩ ⟨128 * q + u, by omega⟩) (fun u => wv x3 x4 g 64 ⟨128 * q + u, by omega⟩)

/-- The same row at an index of the block. -/
def oat (s : Nat) (x0 : Vec Ideal S1x8x64x1024 .bf16) (x1 : Vec Ideal S1x2x128x64 .bf16) (x2 : Vec Ideal S1x2x1024x64 .bf16) (x3 : Vec Ideal S1x2x80x128 .bf16) (x4 : Vec Ideal S1x2x80x1024 .bf16) (x5 : Vec Ideal S2x128x1024 .f32) (x6 : Vec Ideal S2x1x512 .f32)
    (a : Fin 1024) (b : Fin 512) : EReal :=
  orow s x0 x1 x2 x3 x4 x5 x6 ⟨b / 256, by omega⟩ ⟨a / 128, by omega⟩ ⟨b % 256 / 64, by omega⟩ ⟨a % 128, by omega⟩ ⟨b % 64, by omega⟩

theorem oat_eq (s : Nat) (x0 : Vec Ideal S1x8x64x1024 .bf16) (x1 : Vec Ideal S1x2x128x64 .bf16) (x2 : Vec Ideal S1x2x1024x64 .bf16) (x3 : Vec Ideal S1x2x80x128 .bf16) (x4 : Vec Ideal S1x2x80x1024 .bf16) (x5 : Vec Ideal S2x128x1024 .f32) (x6 : Vec Ideal S2x1x512 .f32)
    (g : Fin 2) (q : Fin 8) (r : Fin 4) (x : Fin 128) (d : Fin 64) (a : Fin 1024) (b : Fin 512) (ha : (a : Nat) = 128 * q + x) (hb : (b : Nat) = 256 * g + (64 * r + d)) :
    orow s x0 x1 x2 x3 x4 x5 x6 g q r x d = oat s x0 x1 x2 x3 x4 x5 x6 a b := by
  unfold oat
  congr 1 <;> (apply Fin.ext; simp only; omega)

theorem kBlk_at (s q : Nat) (hs : s < 16) (hq : q < 8) (kw : FVec Ideal S1152x64 .bf16) (vw : FVec Ideal S80x1152 .bf16) (b : FVec Ideal S256x512 .f32) (sk : FVec Ideal S1x512 .f32)
    (qv : FVec Ideal S64x512 .bf16) (o : Nat) (hk : S1152x64.Slices ![o, 0] S256x64) (hv : S80x1152.Slices ![0, o] S80x256) (ho : o = 128 * q)
    (x0 : Vec Ideal S1x8x64x1024 .bf16) (x1 : Vec Ideal S1x2x128x64 .bf16) (x2 : Vec Ideal S1x2x1024x64 .bf16) (x3 : Vec Ideal S1x2x80x128 .bf16) (x4 : Vec Ideal S1x2x80x1024 .bf16) (x5 : Vec Ideal S2x128x1024 .f32) (x6 : Vec Ideal S2x1x512 .f32) (g : Fin 2)
    (h1 : ∀ j e, kw (ix2 j e) = wk x1 x2 g j e) (h2 : ∀ d j, vw (ix2 d j) = wv x3 x4 g d j) (h3 : ∀ (u : Fin 256) (c : Fin 512), b (ix2 u c) = wb x5 u ⟨512 * g + c, by omega⟩)
    (h4 : ∀ c : Fin 512, sk (ix2 0 c) = x6 (ix3 g 0 c)) (h5 : ∀ (e : Fin 64) (c : Fin 512), qv (ix2 e c) = x0 (ix4 0 ⟨q, hq⟩ e ⟨512 * g + c, by omega⟩))
    (X : S1x128x256.Idx) (A : Fin 1024) (B : Fin 512) (hA : (A : Nat) = 128 * q + (X 1 : Nat)) (hB : (B : Nat) = 256 * g + (X 2 : Nat)) :
    kBlk (lo (BitVec.ofNat 32 s) (BitVec.ofNat 32 q)) kw vw b sk qv o hk hv X = oat s x0 x1 x2 x3 x4 x5 x6 A B := by
  subst ho
  have b1 : (X 1 : Nat) < 128 := (X 1).isLt
  have b2 : (X 2 : Nat) < 256 := (X 2).isLt
  have hX : X = ix3 0 ⟨X 1, b1⟩ ⟨64 * ((⟨(X 2 : Nat) / 64, by omega⟩ : Fin 4) : Nat) + ((⟨(X 2 : Nat) % 64, by omega⟩ : Fin 64) : Nat), by simp only; omega⟩ := by
    funext k
    fin_cases k
    · exact Subsingleton.elim (α := Fin 1) _ _
    · rfl
    · exact Fin.ext (by show (X 2 : Nat) = 64 * ((X 2 : Nat) / 64) + (X 2 : Nat) % 64; omega)
  rw [hX, kBlk_apply s q hs hq kw vw b sk qv (128 * q) hk hv (by omega), ← oat_eq s x0 x1 x2 x3 x4 x5 x6 g ⟨q, hq⟩ ⟨(X 2 : Nat) / 64, by omega⟩ ⟨X 1, b1⟩ ⟨(X 2 : Nat) % 64, by omega⟩ A B (by simp only; omega) (by simp only; omega)]
  unfold orow
  simp only [h1, h2, h3, h4, h5, Nat.add_assoc]

theorem out_apply (i : grid1.Coords) (x0 : Vec Ideal S1x8x64x1024 .bf16) (x1 : Vec Ideal S1x2x128x64 .bf16) (x2 : Vec Ideal S1x2x1024x64 .bf16) (x3 : Vec Ideal S1x2x80x128 .bf16) (x4 : Vec Ideal S1x2x80x1024 .bf16) (x5 : Vec Ideal S2x128x1024 .f32) (x6 : Vec Ideal S2x1x512 .f32)
    (y : S1x1024x512.Idx) :
    out i x0 x1 x2 x3 x4 x5 x6 y = oat (i 1).val x0 x1 x2 x3 x4 x5 x6 (y 1) (y 2) := by
  unfold out
  canon_tiles x h
  case piece0 =>
    refine kBlk_at (i 1).val 7 (i 1).isLt (by norm_num) _ _ _ _ _ _ _ _ (by norm_num) x0 x1 x2 x3 x4 x5 x6 1 (fun j e => ?_) (fun d j => ?_) (fun u c => ?_) (fun c => ?_) (fun e c => ?_) x (y 1) (y 2) (h1.trans (by norm_num)) (h2.trans (by norm_num))
    · rw [pay4_apply]; unfold wk; split_ifs; exacts [ldk01 _ _ _, ldk11 _ _ _]
    · rw [pay6_apply]; unfold wv; split_ifs; exacts [ldv01 _ _ _, ldv11 _ _ _]
    · rw [pay8_apply]; unfold wb; split_ifs; exacts [ldb11 _ _ _, ldb01 _ _ _]
    · exact (ldSk_apply _ _).trans (lds1 _ _)
    · exact (ldQ_apply _ _ _).trans (ldq17 _ _ _)
  case piece1 =>
    refine kBlk_at (i 1).val 6 (i 1).isLt (by norm_num) _ _ _ _ _ _ _ _ (by norm_num) x0 x1 x2 x3 x4 x5 x6 1 (fun j e => ?_) (fun d j => ?_) (fun u c => ?_) (fun c => ?_) (fun e c => ?_) x (y 1) (y 2) (h1.trans (by norm_num)) (h2.trans (by norm_num))
    · rw [pay4_apply]; unfold wk; split_ifs; exacts [ldk01 _ _ _, ldk11 _ _ _]
    · rw [pay6_apply]; unfold wv; split_ifs; exacts [ldv01 _ _ _, ldv11 _ _ _]
    · rw [pay8_apply]; unfold wb; split_ifs; exacts [ldb11 _ _ _, ldb01 _ _ _]
    · exact (ldSk_apply _ _).trans (lds1 _ _)
    · exact (ldQ_apply _ _ _).trans (ldq16 _ _ _)
  case piece2 =>
    refine kBlk_at (i 1).val 5 (i 1).isLt (by norm_num) _ _ _ _ _ _ _ _ (by norm_num) x0 x1 x2 x3 x4 x5 x6 1 (fun j e => ?_) (fun d j => ?_) (fun u c => ?_) (fun c => ?_) (fun e c => ?_) x (y 1) (y 2) (h1.trans (by norm_num)) (h2.trans (by norm_num))
    · rw [pay4_apply]; unfold wk; split_ifs; exacts [ldk01 _ _ _, ldk11 _ _ _]
    · rw [pay6_apply]; unfold wv; split_ifs; exacts [ldv01 _ _ _, ldv11 _ _ _]
    · rw [pay8_apply]; unfold wb; split_ifs; exacts [ldb11 _ _ _, ldb01 _ _ _]
    · exact (ldSk_apply _ _).trans (lds1 _ _)
    · exact (ldQ_apply _ _ _).trans (ldq15 _ _ _)
  case piece3 =>
    refine kBlk_at (i 1).val 4 (i 1).isLt (by norm_num) _ _ _ _ _ _ _ _ (by norm_num) x0 x1 x2 x3 x4 x5 x6 1 (fun j e => ?_) (fun d j => ?_) (fun u c => ?_) (fun c => ?_) (fun e c => ?_) x (y 1) (y 2) (h1.trans (by norm_num)) (h2.trans (by norm_num))
    · rw [pay4_apply]; unfold wk; split_ifs; exacts [ldk01 _ _ _, ldk11 _ _ _]
    · rw [pay6_apply]; unfold wv; split_ifs; exacts [ldv01 _ _ _, ldv11 _ _ _]
    · rw [pay8_apply]; unfold wb; split_ifs; exacts [ldb11 _ _ _, ldb01 _ _ _]
    · exact (ldSk_apply _ _).trans (lds1 _ _)
    · exact (ldQ_apply _ _ _).trans (ldq14 _ _ _)
  case piece4 =>
    refine kBlk_at (i 1).val 3 (i 1).isLt (by norm_num) _ _ _ _ _ _ _ _ (by norm_num) x0 x1 x2 x3 x4 x5 x6 1 (fun j e => ?_) (fun d j => ?_) (fun u c => ?_) (fun c => ?_) (fun e c => ?_) x (y 1) (y 2) (h1.trans (by norm_num)) (h2.trans (by norm_num))
    · rw [pay4_apply]; unfold wk; split_ifs; exacts [ldk01 _ _ _, ldk11 _ _ _]
    · rw [pay6_apply]; unfold wv; split_ifs; exacts [ldv01 _ _ _, ldv11 _ _ _]
    · rw [pay8_apply]; unfold wb; split_ifs; exacts [ldb11 _ _ _, ldb01 _ _ _]
    · exact (ldSk_apply _ _).trans (lds1 _ _)
    · exact (ldQ_apply _ _ _).trans (ldq13 _ _ _)
  case piece5 =>
    refine kBlk_at (i 1).val 2 (i 1).isLt (by norm_num) _ _ _ _ _ _ _ _ (by norm_num) x0 x1 x2 x3 x4 x5 x6 1 (fun j e => ?_) (fun d j => ?_) (fun u c => ?_) (fun c => ?_) (fun e c => ?_) x (y 1) (y 2) (h1.trans (by norm_num)) (h2.trans (by norm_num))
    · rw [pay4_apply]; unfold wk; split_ifs; exacts [ldk01 _ _ _, ldk11 _ _ _]
    · rw [pay6_apply]; unfold wv; split_ifs; exacts [ldv01 _ _ _, ldv11 _ _ _]
    · rw [pay8_apply]; unfold wb; split_ifs; exacts [ldb11 _ _ _, ldb01 _ _ _]
    · exact (ldSk_apply _ _).trans (lds1 _ _)
    · exact (ldQ_apply _ _ _).trans (ldq12 _ _ _)
  case piece6 =>
    refine kBlk_at (i 1).val 1 (i 1).isLt (by norm_num) _ _ _ _ _ _ _ _ (by norm_num) x0 x1 x2 x3 x4 x5 x6 1 (fun j e => ?_) (fun d j => ?_) (fun u c => ?_) (fun c => ?_) (fun e c => ?_) x (y 1) (y 2) (h1.trans (by norm_num)) (h2.trans (by norm_num))
    · rw [pay4_apply]; unfold wk; split_ifs; exacts [ldk01 _ _ _, ldk11 _ _ _]
    · rw [pay6_apply]; unfold wv; split_ifs; exacts [ldv01 _ _ _, ldv11 _ _ _]
    · rw [pay8_apply]; unfold wb; split_ifs; exacts [ldb11 _ _ _, ldb01 _ _ _]
    · exact (ldSk_apply _ _).trans (lds1 _ _)
    · exact (ldQ_apply _ _ _).trans (ldq11 _ _ _)
  case piece7 =>
    refine kBlk_at (i 1).val 0 (i 1).isLt (by norm_num) _ _ _ _ _ _ _ _ (by norm_num) x0 x1 x2 x3 x4 x5 x6 1 (fun j e => ?_) (fun d j => ?_) (fun u c => ?_) (fun c => ?_) (fun e c => ?_) x (y 1) (y 2) (h1.trans (by norm_num)) (h2.trans (by norm_num))
    · rw [pay4_apply]; unfold wk; split_ifs; exacts [ldk01 _ _ _, ldk11 _ _ _]
    · rw [pay6_apply]; unfold wv; split_ifs; exacts [ldv01 _ _ _, ldv11 _ _ _]
    · rw [pay8_apply]; unfold wb; split_ifs; exacts [ldb11 _ _ _, ldb01 _ _ _]
    · exact (ldSk_apply _ _).trans (lds1 _ _)
    · exact (ldQ_apply _ _ _).trans (ldq10 _ _ _)
  case piece8 =>
    refine kBlk_at (i 1).val 7 (i 1).isLt (by norm_num) _ _ _ _ _ _ _ _ (by norm_num) x0 x1 x2 x3 x4 x5 x6 0 (fun j e => ?_) (fun d j => ?_) (fun u c => ?_) (fun c => ?_) (fun e c => ?_) x (y 1) (y 2) (h1.trans (by norm_num)) (h2.trans (by norm_num))
    · rw [pay3_apply]; unfold wk; split_ifs; exacts [ldk00 _ _ _, ldk10 _ _ _]
    · rw [pay5_apply]; unfold wv; split_ifs; exacts [ldv00 _ _ _, ldv10 _ _ _]
    · rw [pay7_apply]; unfold wb; split_ifs; exacts [ldb10 _ _ _, ldb00 _ _ _]
    · exact (ldSk_apply _ _).trans (lds0 _ _)
    · exact (ldQ_apply _ _ _).trans (ldq07 _ _ _)
  case piece9 =>
    refine kBlk_at (i 1).val 6 (i 1).isLt (by norm_num) _ _ _ _ _ _ _ _ (by norm_num) x0 x1 x2 x3 x4 x5 x6 0 (fun j e => ?_) (fun d j => ?_) (fun u c => ?_) (fun c => ?_) (fun e c => ?_) x (y 1) (y 2) (h1.trans (by norm_num)) (h2.trans (by norm_num))
    · rw [pay3_apply]; unfold wk; split_ifs; exacts [ldk00 _ _ _, ldk10 _ _ _]
    · rw [pay5_apply]; unfold wv; split_ifs; exacts [ldv00 _ _ _, ldv10 _ _ _]
    · rw [pay7_apply]; unfold wb; split_ifs; exacts [ldb10 _ _ _, ldb00 _ _ _]
    · exact (ldSk_apply _ _).trans (lds0 _ _)
    · exact (ldQ_apply _ _ _).trans (ldq06 _ _ _)
  case piece10 =>
    refine kBlk_at (i 1).val 5 (i 1).isLt (by norm_num) _ _ _ _ _ _ _ _ (by norm_num) x0 x1 x2 x3 x4 x5 x6 0 (fun j e => ?_) (fun d j => ?_) (fun u c => ?_) (fun c => ?_) (fun e c => ?_) x (y 1) (y 2) (h1.trans (by norm_num)) (h2.trans (by norm_num))
    · rw [pay3_apply]; unfold wk; split_ifs; exacts [ldk00 _ _ _, ldk10 _ _ _]
    · rw [pay5_apply]; unfold wv; split_ifs; exacts [ldv00 _ _ _, ldv10 _ _ _]
    · rw [pay7_apply]; unfold wb; split_ifs; exacts [ldb10 _ _ _, ldb00 _ _ _]
    · exact (ldSk_apply _ _).trans (lds0 _ _)
    · exact (ldQ_apply _ _ _).trans (ldq05 _ _ _)
  case piece11 =>
    refine kBlk_at (i 1).val 4 (i 1).isLt (by norm_num) _ _ _ _ _ _ _ _ (by norm_num) x0 x1 x2 x3 x4 x5 x6 0 (fun j e => ?_) (fun d j => ?_) (fun u c => ?_) (fun c => ?_) (fun e c => ?_) x (y 1) (y 2) (h1.trans (by norm_num)) (h2.trans (by norm_num))
    · rw [pay3_apply]; unfold wk; split_ifs; exacts [ldk00 _ _ _, ldk10 _ _ _]
    · rw [pay5_apply]; unfold wv; split_ifs; exacts [ldv00 _ _ _, ldv10 _ _ _]
    · rw [pay7_apply]; unfold wb; split_ifs; exacts [ldb10 _ _ _, ldb00 _ _ _]
    · exact (ldSk_apply _ _).trans (lds0 _ _)
    · exact (ldQ_apply _ _ _).trans (ldq04 _ _ _)
  case piece12 =>
    refine kBlk_at (i 1).val 3 (i 1).isLt (by norm_num) _ _ _ _ _ _ _ _ (by norm_num) x0 x1 x2 x3 x4 x5 x6 0 (fun j e => ?_) (fun d j => ?_) (fun u c => ?_) (fun c => ?_) (fun e c => ?_) x (y 1) (y 2) (h1.trans (by norm_num)) (h2.trans (by norm_num))
    · rw [pay3_apply]; unfold wk; split_ifs; exacts [ldk00 _ _ _, ldk10 _ _ _]
    · rw [pay5_apply]; unfold wv; split_ifs; exacts [ldv00 _ _ _, ldv10 _ _ _]
    · rw [pay7_apply]; unfold wb; split_ifs; exacts [ldb10 _ _ _, ldb00 _ _ _]
    · exact (ldSk_apply _ _).trans (lds0 _ _)
    · exact (ldQ_apply _ _ _).trans (ldq03 _ _ _)
  case piece13 =>
    refine kBlk_at (i 1).val 2 (i 1).isLt (by norm_num) _ _ _ _ _ _ _ _ (by norm_num) x0 x1 x2 x3 x4 x5 x6 0 (fun j e => ?_) (fun d j => ?_) (fun u c => ?_) (fun c => ?_) (fun e c => ?_) x (y 1) (y 2) (h1.trans (by norm_num)) (h2.trans (by norm_num))
    · rw [pay3_apply]; unfold wk; split_ifs; exacts [ldk00 _ _ _, ldk10 _ _ _]
    · rw [pay5_apply]; unfold wv; split_ifs; exacts [ldv00 _ _ _, ldv10 _ _ _]
    · rw [pay7_apply]; unfold wb; split_ifs; exacts [ldb10 _ _ _, ldb00 _ _ _]
    · exact (ldSk_apply _ _).trans (lds0 _ _)
    · exact (ldQ_apply _ _ _).trans (ldq02 _ _ _)
  case piece14 =>
    refine kBlk_at (i 1).val 1 (i 1).isLt (by norm_num) _ _ _ _ _ _ _ _ (by norm_num) x0 x1 x2 x3 x4 x5 x6 0 (fun j e => ?_) (fun d j => ?_) (fun u c => ?_) (fun c => ?_) (fun e c => ?_) x (y 1) (y 2) (h1.trans (by norm_num)) (h2.trans (by norm_num))
    · rw [pay3_apply]; unfold wk; split_ifs; exacts [ldk00 _ _ _, ldk10 _ _ _]
    · rw [pay5_apply]; unfold wv; split_ifs; exacts [ldv00 _ _ _, ldv10 _ _ _]
    · rw [pay7_apply]; unfold wb; split_ifs; exacts [ldb10 _ _ _, ldb00 _ _ _]
    · exact (ldSk_apply _ _).trans (lds0 _ _)
    · exact (ldQ_apply _ _ _).trans (ldq01 _ _ _)
  case piece15 =>
    refine kBlk_at (i 1).val 0 (i 1).isLt (by norm_num) _ _ _ _ _ _ _ _ (by norm_num) x0 x1 x2 x3 x4 x5 x6 0 (fun j e => ?_) (fun d j => ?_) (fun u c => ?_) (fun c => ?_) (fun e c => ?_) x (y 1) (y 2) (h1.trans (by norm_num)) (h2.trans (by norm_num))
    · rw [pay3_apply]; unfold wk; split_ifs; exacts [ldk00 _ _ _, ldk10 _ _ _]
    · rw [pay5_apply]; unfold wv; split_ifs; exacts [ldv00 _ _ _, ldv10 _ _ _]
    · rw [pay7_apply]; unfold wb; split_ifs; exacts [ldb10 _ _ _, ldb00 _ _ _]
    · exact (ldSk_apply _ _).trans (lds0 _ _)
    · exact (ldQ_apply _ _ _).trans (ldq00 _ _ _)

end Cert.Swa
-- ==== Proof.SwaArrays.lean ====
module

public import proofs.«01_k».proof.Proof.SwaRun
public import proofs.«01_k».proof.Proof.SwaBlock

@[expose] public section

set_option maxRecDepth 16384

noncomputable section

namespace Cert.Swa

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The arguments as arrays. -/
abbrev aq (c : Dev nD) : FVec Ideal S2x16384x512 .f32 := m ((c : Thread nD τ).loc main_arg0)
abbrev ak (c : Dev nD) : FVec Ideal S2x16384x128 .f32 := m ((c : Thread nD τ).loc main_arg1)
abbrev av (c : Dev nD) : FVec Ideal S2x16384x128 .f32 := m ((c : Thread nD τ).loc main_arg2)
abbrev at' (c : Dev nD) : FVec Ideal S32x12 .f32 := m ((c : Thread nD τ).loc main_arg3)
abbrev asink (c : Dev nD) : FVec Ideal S8 .f32 := m ((c : Thread nD τ).loc main_arg4)

theorem q_cast1 (Y : FVec Ideal S2x128x64x8x128 .f32) (b : Fin 2) (n : Fin 128) (e : Fin 64) (h : Fin 8) (x : Fin 128) :
    shapeCast S2x128x64x1024 Y shapeCasts_S2x128x64x8x128_S2x128x64x1024 (ix4 b n e ⟨128 * h + x, by omega⟩) = Y (ix5 b n e h x) := by
  pointwise

theorem q_cast2 (Y : FVec Ideal S2x128x128x8x64 .f32) (b : Fin 2) (n : Fin 128) (e : Fin 64) (h : Fin 8) (x : Fin 128) :
    transpose S2x128x64x8x128 [0, 1, 4, 3, 2] Y transposes_S2x128x128x8x64_S2x128x64x8x128_0_1_4_3_2 (ix5 b n e h x) = Y (ix5 b n x h e) := by
  pointwise

theorem q_cast3 (Y : FVec Ideal S2x16384x512 .f32) (b : Fin 2) (n : Fin 128) (e : Fin 64) (h : Fin 8) (x : Fin 128) :
    shapeCast S2x128x128x8x64 Y shapeCasts_S2x16384x512_S2x128x128x8x64 (ix5 b n x h e)
      = Y (ix3 b ⟨128 * n + x, by omega⟩ ⟨64 * h + e, by omega⟩) := by
  pointwise
  simp only [Nat.mul_comm]

theorem q_at (c : Dev nD) (b : Fin 2) (n : Fin 128) (e : Fin 64) (h : Fin 8) (x : Fin 128) :
    (W4 m ρ c (Proc.devRef .tc main_v9) : FVec Ideal S2x128x64x1024 .bf16) (ix4 b n e ⟨128 * h + x, by omega⟩)
      = aq m c (ix3 b ⟨128 * n + x, by omega⟩ ⟨64 * h + e, by omega⟩) * Ideal.ofBits .f32 0x3E000000#32 := by
  have hX : (mulf (F := Ideal) (φ := .f32) (aq m c) (broadcastInDim S2x16384x512 ![] bcast_S_S2x16384x512
      (constant (F := Ideal) S_ .f32 0x3E000000#32))) (ix3 b ⟨128 * n + x, by omega⟩ ⟨64 * h + e, by omega⟩)
      = aq m c (ix3 b ⟨128 * n + x, by omega⟩ ⟨64 * h + e, by omega⟩) * Ideal.ofBits .f32 0x3E000000#32 := rfl
  rw [q_eq, ← hX]
  generalize mulf (F := Ideal) (φ := .f32) (aq m c) (broadcastInDim S2x16384x512 ![] bcast_S_S2x16384x512
      (constant (F := Ideal) S_ .f32 0x3E000000#32)) = X
  rw [← q_cast3 X b n e h x]
  generalize hA : shapeCast S2x128x128x8x64 X shapeCasts_S2x16384x512_S2x128x128x8x64 = A
  rw [← q_cast2 A b n e h x]
  generalize hB : transpose S2x128x64x8x128 [0, 1, 4, 3, 2] A transposes_S2x128x128x8x64_S2x128x64x8x128_0_1_4_3_2 = B
  rw [← q_cast1 B b n e h x, ← hB, ← hA]
  rfl

theorem k_at (c : Dev nD) (b g : Fin 2) (t : Fin 16384) (e : Fin 64) :
    (W4 m ρ c (Proc.devRef .tc main_v12) : FVec Ideal S2x2x16384x64 .bf16) (ix4 b g t e)
      = ak m c (ix3 b t ⟨64 * g + e, by omega⟩) := by
  rw [k_eq]
  pointwise
  simp only [ak, Nat.mul_comm]

theorem s_at (c : Dev nD) (g : Fin 2) (r : Fin 4) (x : Fin 128) :
    (W4 m ρ c (Proc.devRef .tc main_v3) : FVec Ideal S2x1x512 .f32) (ix3 g 0 ⟨128 * r + x, by omega⟩)
      = asink m c (ix1 ⟨4 * g + r, by omega⟩) := by
  rw [s_eq]
  pointwise
  simp only [asink, Nat.mul_comm]

theorem v_at (c : Dev nD) (b g : Fin 2) (d : Fin 64) (t : Fin 16384) :
    (W4 m ρ c (Proc.devRef .tc main_v21) : FVec Ideal S2x2x80x16384 .bf16) (ix4 b g ⟨d, by omega⟩ t)
      = av m c (ix3 b t ⟨64 * g + d, by omega⟩) := by
  rw [v_eq, v14_eq]
  pointwise
  simp only [av, Nat.mul_comm]

theorem v1_at (c : Dev nD) (b g : Fin 2) (t : Fin 16384) :
    (W4 m ρ c (Proc.devRef .tc main_v21) : FVec Ideal S2x2x80x16384 .bf16) (ix4 b g 64 t) = (1 : EReal) := by
  rw [v_eq, v18_eq]
  pointwise

theorem idx0 : ∀ t : Fin cfg0.N, (grid0.coords t 0).val = t.val ∧ win0_1.index t = ![0, 0, t.val] ∧ win0_0.index t = ![0, 0] :=
  (by decide +kernel : ∀ t : Fin grid0.N, _)

/-- The bias table the first call leaves. -/
def bandF (T : FVec Ideal S32x12 .f32) : FVec Ideal S2x128x1024 .f32 := fun y =>
  bias T ⟨(y 2).val / 128, by have := (y 2).isLt; simp at this; omega⟩ (128 * (y 0 : Nat) + ((y 2).val % 128 : Nat) - (y 1 : Nat))

theorem b_at (c : Dev nD) :
    (W4 m ρ c (Proc.devRef .tc main_v0) : FVec Ideal S2x128x1024 .f32) = bandF (at' m c) := by
  rw [b_eq]
  refine (dat0 (V0 m ρ) c).arrAt_eq_of_covers 1 _ (by decide +kernel) fun t _ y => ?_
  have ht : t.val < 8 := lt_of_lt_of_eq t.isLt N_0
  blk_simp
  rw [after0_1]
  unfold outsAt0
  rw [out0_apply _ _ _ _ _ _ _ y ⟨t.val, ht⟩ (idx0 t).1]
  idx_vars y
  have e : ((cfg0.win 1).blk t).view.emb (ix3 y0 y1 y2) = (ix3 y0 y1 ⟨128 * t.val + y2, by omega⟩ : S2x128x1024.Idx) := by
    blk_ext [idx0 t]
  rw [e]
  have e0 : iblk0 (V0 m ρ) c 0 t = at' m c := by
    funext z
    idx_vars z
    blk_point [iblk0, idx0 t]
  rw [e0]
  unfold bandF
  have e1 : (128 * t.val + y2.val) / 128 = t.val := by omega
  have e2 : (128 * t.val + y2.val) % 128 = y2.val := by omega
  simp only [show ∀ (a : Fin 2) (b : Fin 128) (k : Fin 1024), (ix3 a b k : S2x128x1024.Idx) 0 = a from fun _ _ _ => rfl,
    show ∀ (a : Fin 2) (b : Fin 128) (k : Fin 1024), (ix3 a b k : S2x128x1024.Idx) 1 = b from fun _ _ _ => rfl,
    show ∀ (a : Fin 2) (b : Fin 128) (k : Fin 1024), (ix3 a b k : S2x128x1024.Idx) 2 = k from fun _ _ _ => rfl, e1, e2]

end Cert.Swa
-- ==== Proof.SwaResult.lean ====
module

public import proofs.«01_k».proof.Proof.SwaArrays

@[expose] public section

set_option maxRecDepth 16384

noncomputable section

namespace Cert.Swa

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem idx1 : ∀ t : Fin cfg1.N, (grid1.coords t 1).val = t.val % 16
    ∧ win1_0.index t = ![t.val / 16, t.val % 16, 0, 0] ∧ win1_1.index t = ![t.val / 16, 0, 8 * (t.val % 16) - 1, 0]
    ∧ win1_2.index t = ![t.val / 16, 0, t.val % 16, 0] ∧ win1_3.index t = ![t.val / 16, 0, 0, 8 * (t.val % 16) - 1]
    ∧ win1_4.index t = ![t.val / 16, 0, 0, t.val % 16] ∧ win1_5.index t = ![0, 0, 0] ∧ win1_6.index t = ![0, 0, 0]
    ∧ win1_7.index t = ![t.val / 16, t.val % 16, 0] :=
  (by decide +kernel : ∀ t : Fin grid1.N, _)

section Blocks

variable (c : Dev nD) (t : Fin cfg1.N) (b : Fin 2) (s : Fin 16) (hb : (b : Nat) = t.val / 16) (hs : (s : Nat) = t.val % 16)
include hb hs

theorem blk0 (q : Fin 8) (e : Fin 64) (k : Fin 1024) :
    iblk1 (V4 m ρ) c 0 t (ix4 0 q e k) = (W4 m ρ c (Proc.devRef .tc main_v9) : FVec Ideal S2x128x64x1024 .bf16) (ix4 b ⟨8 * s + q, by omega⟩ e k) := by
  refine congrArg (W4 m ρ c (Proc.devRef .tc main_v9) : FVec Ideal S2x128x64x1024 .bf16) ?_
  blk_ext [idx1 t]

theorem blk1 (g : Fin 2) (j : Fin 128) (e : Fin 64) :
    iblk1 (V4 m ρ) c 1 t (ix4 0 g j e) = (W4 m ρ c (Proc.devRef .tc main_v12) : FVec Ideal S2x2x16384x64 .bf16) (ix4 b g ⟨128 * (8 * s - 1) + j, by omega⟩ e) := by
  refine congrArg (W4 m ρ c (Proc.devRef .tc main_v12) : FVec Ideal S2x2x16384x64 .bf16) ?_
  blk_ext [idx1 t]

theorem blk2 (g : Fin 2) (j : Fin 1024) (e : Fin 64) :
    iblk1 (V4 m ρ) c 2 t (ix4 0 g j e) = (W4 m ρ c (Proc.devRef .tc main_v12) : FVec Ideal S2x2x16384x64 .bf16) (ix4 b g ⟨1024 * s + j, by omega⟩ e) := by
  refine congrArg (W4 m ρ c (Proc.devRef .tc main_v12) : FVec Ideal S2x2x16384x64 .bf16) ?_
  blk_ext [idx1 t]

theorem blk3 (g : Fin 2) (d : Fin 80) (j : Fin 128) :
    iblk1 (V4 m ρ) c 3 t (ix4 0 g d j) = (W4 m ρ c (Proc.devRef .tc main_v21) : FVec Ideal S2x2x80x16384 .bf16) (ix4 b g d ⟨128 * (8 * s - 1) + j, by omega⟩) := by
  refine congrArg (W4 m ρ c (Proc.devRef .tc main_v21) : FVec Ideal S2x2x80x16384 .bf16) ?_
  blk_ext [idx1 t]

theorem blk4 (g : Fin 2) (d : Fin 80) (j : Fin 1024) :
    iblk1 (V4 m ρ) c 4 t (ix4 0 g d j) = (W4 m ρ c (Proc.devRef .tc main_v21) : FVec Ideal S2x2x80x16384 .bf16) (ix4 b g d ⟨1024 * s + j, by omega⟩) := by
  refine congrArg (W4 m ρ c (Proc.devRef .tc main_v21) : FVec Ideal S2x2x80x16384 .bf16) ?_
  blk_ext [idx1 t]

omit hb hs in
theorem blk5 : iblk1 (V4 m ρ) c 5 t = (W4 m ρ c (Proc.devRef .tc main_v0) : FVec Ideal S2x128x1024 .f32) := by
  funext y
  refine congrArg (W4 m ρ c (Proc.devRef .tc main_v0) : FVec Ideal S2x128x1024 .f32) ?_
  idx_vars y
  blk_ext [idx1 t]

omit hb hs in
theorem blk6 : iblk1 (V4 m ρ) c 6 t = (W4 m ρ c (Proc.devRef .tc main_v3) : FVec Ideal S2x1x512 .f32) := by
  funext y
  refine congrArg (W4 m ρ c (Proc.devRef .tc main_v3) : FVec Ideal S2x1x512 .f32) ?_
  idx_vars y
  blk_ext [idx1 t]

end Blocks

/-- The key position behind column `u` of the two blocks read by query block `n`. -/
def pos (n u : Nat) (hn : n < 128) (hu : u < 256) : Fin 16384 :=
  if h : 128 ≤ 128 * n + u then ⟨128 * n + u - 128, by omega⟩ else 0

/-- One result of the attention from the arguments, as the two calls compute it. -/
def kres (Q : FVec Ideal S2x16384x512 .f32) (K V : FVec Ideal S2x16384x128 .f32) (T : FVec Ideal S32x12 .f32) (S : FVec Ideal S8 .f32)
    (b : Fin 2) (h : Fin 8) (n x : Fin 128) (d : Fin 64) : EReal :=
  krow (fun u => if ok n x u then
      (∑ e : Fin 64, K (ix3 b (pos n u n.isLt u.isLt) ⟨64 * (h / 4) + e, by omega⟩)
        * (Q (ix3 b ⟨128 * n + x, by omega⟩ ⟨64 * h + e, by omega⟩) * Ideal.ofBits .f32 0x3E000000#32))
      + bias T h (128 + (x : Nat) - (u : Nat)) else ⊥)
    (S (ix1 h)) (fun u => V (ix3 b (pos n u n.isLt u.isLt) ⟨64 * (h / 4) + d, by omega⟩)) (fun _ => 1)

theorem krow_congr {s s' : Fin 256 → EReal} {k k' : EReal} {v v' e e' : Fin 256 → EReal} (h1 : ∀ u, s u = s' u) (h2 : k = k')
    (h3 : ∀ u, s u ≠ ⊥ → v u = v' u) (h4 : ∀ u, e u = e' u) : krow s k v e = krow s' k' v' e' := by
  obtain rfl : s = s' := funext h1
  obtain rfl : e = e' := funext h4
  subst h2
  unfold krow
  congr 1
  refine Finset.sum_congr rfl fun u _ => ?_
  by_cases hu : s u = ⊥
  · rw [hu, EReal.bot_sub]
    show v u * (0 : EReal) = v' u * 0
    rw [mul_zero, mul_zero]
  · rw [h3 u hu]

theorem bandF_at (T : FVec Ideal S32x12 .f32) (h : Fin 8) (a : Fin 2) (u x : Fin 128) (k : Fin 1024) (hk : (k : Nat) = 128 * h + x) :
    bandF T (ix3 a u k) = bias T h (128 * (a : Nat) + (x : Nat) - (u : Nat)) := by
  have e1 : (k : Nat) / 128 = h := by omega
  have e2 : (k : Nat) % 128 = x := by omega
  show bias T ⟨(k : Nat) / 128, _⟩ (128 * (a : Nat) + ((k : Nat) % 128 : Nat) - (u : Nat)) = _
  rw [e2]
  congr 1
  exact Fin.ext e1

variable (c : Dev nD) (t : Fin cfg1.N) (b : Fin 2) (s : Fin 16)

theorem orow_eq (hb : (b : Nat) = t.val / 16) (hs : (s : Nat) = t.val % 16) (g : Fin 2) (q : Fin 8) (r : Fin 4) (x : Fin 128) (d : Fin 64) :
    orow s (iblk1 (V4 m ρ) c 0 t) (iblk1 (V4 m ρ) c 1 t) (iblk1 (V4 m ρ) c 2 t) (iblk1 (V4 m ρ) c 3 t) (iblk1 (V4 m ρ) c 4 t)
        (iblk1 (V4 m ρ) c 5 t) (iblk1 (V4 m ρ) c 6 t) g q r x d
      = kres (aq m c) (ak m c) (av m c) (at' m c) (asink m c) b ⟨4 * g + r, by omega⟩ ⟨8 * s + q, by omega⟩ x d := by
  have hg : (4 * (g : Nat) + r) / 4 = g := by omega
  have hpos : ∀ u : Fin 256, 128 ≤ 128 * (8 * (s : Nat) + q) + u → ∀ hlt, 128 * (q : Nat) + u < 128 →
      (⟨128 * (8 * s - 1) + (128 * q + u), hlt⟩ : Fin 16384) = pos (8 * s + q) u (by omega) u.isLt := fun u h hlt h' => by
    unfold pos; rw [dif_pos h]; apply Fin.ext; simp only; omega
  have hpos' : ∀ u : Fin 256, 128 ≤ 128 * (8 * (s : Nat) + q) + u → ∀ hlt, ¬ 128 * (q : Nat) + u < 128 →
      (⟨1024 * s + (128 * q + u - 128), hlt⟩ : Fin 16384) = pos (8 * s + q) u (by omega) u.isLt := fun u h hlt h' => by
    unfold pos; rw [dif_pos h]; apply Fin.ext; simp only; omega
  unfold orow kres
  refine krow_congr (fun u => ?_) ?_ (fun u hu => ?_) (fun u => ?_)
  · by_cases ho : ok (8 * s + q) x u
    · rw [if_pos ho, if_pos ho]
      congr 1
      · refine Finset.sum_congr rfl fun e _ => ?_
        congr 1
        · unfold wk
          split_ifs with hj
          · rw [blk1 m ρ c t b s hb hs, k_at, hpos u ho.2.2 _ hj]
            simp only [hg]
          · rw [blk2 m ρ c t b s hb hs, k_at, hpos' u ho.2.2 _ hj]
            simp only [hg]
        · rw [blk0 m ρ c t b s hb hs]
          have := q_at m ρ c b ⟨8 * s + q, by omega⟩ e ⟨4 * g + r, by omega⟩ x
          rw [← this]
          congr 2
          apply Fin.ext
          simp only
          omega
      · unfold wb
        rw [blk5, b_at]
        split_ifs with hj
        · rw [bandF_at _ ⟨4 * g + r, by omega⟩ 1 _ x _ (by simp only; omega)]
          congr 1
        · rw [bandF_at _ ⟨4 * g + r, by omega⟩ 0 _ x _ (by simp only; omega)]
          congr 1
          simp only [Fin.val_zero]
          omega
    · rw [if_neg ho, if_neg ho]
  · rw [blk6, s_at]
  · have ho : ok (8 * s + q) x u := by
      by_contra ho
      exact hu (if_neg ho)
    unfold wv
    split_ifs with hj
    · rw [blk3 m ρ c t b s hb hs, v_at, hpos u ho.2.2 _ hj]
      simp only [hg]
    · rw [blk4 m ρ c t b s hb hs, v_at, hpos' u ho.2.2 _ hj]
      simp only [hg]
  · unfold wv
    split_ifs with hj
    · rw [blk3 m ρ c t b s hb hs, v1_at]
    · rw [blk4 m ρ c t b s hb hs, v1_at]

/-- The whole result from the arguments. -/
def kfull (Q : FVec Ideal S2x16384x512 .f32) (K V : FVec Ideal S2x16384x128 .f32) (T : FVec Ideal S32x12 .f32) (S : FVec Ideal S8 .f32)
    (b : Fin 2) (t : Fin 16384) (k : Fin 512) : EReal :=
  kres Q K V T S b ⟨k / 64, by omega⟩ ⟨t / 128, by omega⟩ ⟨t % 128, by omega⟩ ⟨k % 64, by omega⟩

theorem result_eq : result m ρ c = (fun y => kfull (aq m c) (ak m c) (av m c) (at' m c) (asink m c) (y 0) (y 1) (y 2) : FVec Ideal S2x16384x512 .f32) := by
  refine (dat1 (V4 m ρ) c).arrAt_eq_of_covers 7 _ (by decide +kernel) fun t _ y => ?_
  have ht : t.val < 32 := lt_of_lt_of_eq t.isLt N_1
  blk_simp
  rw [after1_7, out_eq, out_apply, (idx1 t).1]
  idx_vars y
  have e : ((cfg1.win 7).blk t).view.emb (ix3 y0 y1 y2) = (ix3 ⟨t.val / 16, by omega⟩ ⟨1024 * (t.val % 16) + y1, by omega⟩ y2 : S2x16384x512.Idx) := by
    blk_ext [idx1 t]
  rw [e]
  show oat _ _ _ _ _ _ _ _ y1 y2 = kfull _ _ _ _ _ ⟨t.val / 16, by omega⟩ ⟨1024 * (t.val % 16) + y1, by omega⟩ y2
  unfold oat kfull
  refine (orow_eq m ρ c t ⟨t.val / 16, by omega⟩ ⟨t.val % 16, by omega⟩ rfl rfl _ _ _ _ _).trans ?_
  congr 1 <;> (apply Fin.ext; simp only; omega)

end Cert.Swa
-- ==== Proof.SwaRef.lean ====
module

public import proofs.«01_k».proof.Defs
public import proofs.«01_k».proof.Proof.Gen.ReferenceIdeal.Run
public import Idealize.ShloMosaic.Lib.Pipeline.ValueKit
public import Idealize.ShloMosaic.Lib.Claim
public import Idealize.ShloMosaic.Lib.Pointwise

@[expose] public section

set_option maxRecDepth 16384

noncomputable section

namespace Cert.SwaRef

open Cert.ReferenceIdeal Cert.ReferenceIdeal.Gen Idealize.ShloMosaic Idealize.ShloMosaic.TcCoe Idealize.SL.Sem

/-- A number in the positions' shape. -/
abbrev cst (z : BitVec 32) : IVec S128x128x256 32 := broadcastInDim S128x128x256 ![] bcast_S_S128x128x256 (constantI S_ 32 z)
abbrev cstF (z : BitVec 32) : FVec Ideal S128x128x256 .f32 := broadcastInDim S128x128x256 ![] bcast_S_S128x128x256 (constant (F := Ideal) S_ .f32 z)
abbrev all (z : BitVec 32) : FVec Ideal S2x2x4x128x128x256 .f32 := broadcastInDim S2x2x4x128x128x256 ![] bcast_S_S2x2x4x128x128x256 (constant (F := Ideal) S_ .f32 z)

/-- The keys or the values, with a block of zeros before them. -/
def rPad (K : FVec Ideal S2x16384x128 .f32) : FVec Ideal S2x2x16512x64 .f32 :=
  pad S2x2x16512x64 ![0, 0, 128, 0] ![0, 0, 0, 0] ![0, 0, 0, 0]
    (transpose S2x2x16384x64 [0, 2, 1, 3] (shapeCast S2x16384x2x64 K shapeCasts_S2x16384x128_S2x16384x2x64) transposes_S2x16384x2x64_S2x2x16384x64_0_2_1_3)
    (sitofp (F := Ideal) .f32 (constantI S_ 32 0#32)) pads_S2x2x16384x64_S2x2x16512x64_000_000_12800_000 h_S_

/-- The two blocks each query block reads. -/
def rTwo (P : FVec Ideal S2x2x16512x64 .f32) : FVec Ideal S2x2x128x256x64 .f32 :=
  concatenate S2x2x128x256x64 3
    [⟨S2x2x128x128x64, shapeCast S2x2x128x128x64 (extractStridedSlice S2x2x16384x64 ![0, 0, 0, 0] P slices_S2x2x16512x64_S2x2x16384x64_0_0_0_0) shapeCasts_S2x2x16384x64_S2x2x128x128x64⟩,
     ⟨S2x2x128x128x64, shapeCast S2x2x128x128x64 (extractStridedSlice S2x2x16384x64 ![0, 0, 128, 0] P slices_S2x2x16512x64_S2x2x16384x64_0_0_128_0) shapeCasts_S2x2x16384x64_S2x2x128x128x64⟩]
    concatenates_S2x2x128x128x64_S2x2x128x128x64_S2x2x128x256x64_d3

/-- The queries by head and block. -/
def rQ (Q : FVec Ideal S2x16384x512 .f32) : FVec Ideal S2x2x4x128x128x64 .f32 :=
  shapeCast S2x2x4x128x128x64 (shapeCast S2x2x4x16384x64 (transpose S2x8x16384x64 [0, 2, 1, 3]
    (shapeCast S2x16384x8x64 Q shapeCasts_S2x16384x512_S2x16384x8x64) transposes_S2x16384x8x64_S2x8x16384x64_0_2_1_3)
    shapeCasts_S2x8x16384x64_S2x2x4x16384x64) shapeCasts_S2x2x4x16384x64_S2x2x4x128x128x64

/-- The scaled products. -/
def rDot (K2 : FVec Ideal S2x2x128x256x64 .f32) (Q2 : FVec Ideal S2x2x4x128x128x64 .f32) : FVec Ideal S2x2x4x128x128x256 .f32 :=
  Host.divf (transpose S2x2x4x128x128x256 [0, 1, 4, 2, 5, 3]
    (Host.dotGeneral dot_S2x2x128x256x64_S2x2x4x128x128x64_S2x2x128x256x4x128_4_5_3_24_012_013 none K2 Q2)
    transposes_S2x2x128x256x4x128_S2x2x4x128x128x256_0_1_4_2_5_3) (all 0x41000000#32)

/-- The position of a block's first element. -/
def rOff : IVec S128x1 32 :=
  muli (broadcastInDim S128x1 ![0] bcast_S128_S128x1_0 (iotaInDim S128 32 0)) (broadcastInDim S128x1 ![] bcast_S_S128x1 (constantI S_ 32 128#32))

/-- The query positions. -/
def rQpos : IVec S128x128 32 :=
  addi (broadcastInDim S128x128 ![0, 1] bcast_S128x1_S128x128_0_1 rOff)
    (broadcastInDim S128x128 ![0, 1] bcast_S1x128_S128x128_0_1 (broadcastInDim S1x128 ![1] bcast_S128_S1x128_1 (iotaInDim S128 32 0)))

/-- The key positions. -/
def rKpos : IVec S128x256 32 :=
  addi (broadcastInDim S128x256 ![0, 1] bcast_S128x1_S128x256_0_1 (subi rOff (broadcastInDim S128x1 ![] bcast_S_S128x1 (constantI S_ 32 128#32))))
    (broadcastInDim S128x256 ![0, 1] bcast_S1x256_S128x256_0_1 (broadcastInDim S1x256 ![1] bcast_S256_S1x256_1 (iotaInDim S256 32 0)))

/-- The distances. -/
def rDist : IVec S128x128x256 32 :=
  subi (broadcastInDim S128x128x256 ![0, 1, 2] bcast_S128x128x1_S128x128x256_0_1_2 (broadcastInDim S128x128x1 ![0, 1] bcast_S128x128_S128x128x1_0_1 rQpos))
    (broadcastInDim S128x128x256 ![0, 1, 2] bcast_S128x1x256_S128x128x256_0_1_2 (broadcastInDim S128x1x256 ![0, 2] bcast_S128x256_S128x1x256_0_2 rKpos))

/-- Which keys a query sees. -/
def rMask : IVec S128x128x256 1 :=
  andi (andi (cmpi .sge rDist (cst 0#32)) (cmpi .slt rDist (cst 128#32)))
    (broadcastInDim S128x128x256 ![0, 1, 2] bcast_S128x1x256_S128x128x256_0_1_2
      (cmpi .sge (broadcastInDim S128x1x256 ![0, 2] bcast_S128x256_S128x1x256_0_2 rKpos) (broadcastInDim S128x1x256 ![] bcast_S_S128x1x256 (constantI S_ 32 0#32))))

/-- A distance's bucket. -/
def rBkt (D : IVec S128x128x256 32) : IVec S128x128x256 32 :=
  select (cmpi .slt (maxsi D (cst 0#32)) (cst 16#32)) (maxsi D (cst 0#32))
    (minsi (addi (cst 16#32) (fptosi 32 (mulf (Host.divf (Host.log (Host.divf (sitofp (F := Ideal) .f32 (maxsi (maxsi D (cst 0#32)) (cst 1#32))) (cstF 0x41800000#32))) (cstF 0x40B17218#32)) (cstF 0x41800000#32)))) (cst 31#32))

/-- A bucket as a row number. -/
def rWrap (B : IVec S128x128x256 32) : IVec S128x128x256 32 :=
  select (cmpi .slt B (cst 0#32)) (addi B (cst 32#32)) B

/-- The rows of the bias table. -/
def rRows (T : FVec Ideal S32x12 .f32) (B : IVec S128x128x256 32) : FVec Ideal S128x128x256x8 .f32 :=
  Host.gather gather_S32x8_S128x128x256x1_S128x128x256x8_3_0_n_n_0_3_18 (extractStridedSlice S32x8 ![0, 4] T slices_S32x12_S32x8_0_4)
    (broadcastInDim S128x128x256x1 ![0, 1, 2] bcast_S128x128x256_S128x128x256x1_0_1_2 B)

/-- The bias by head. -/
def rBias (R : FVec Ideal S128x128x256x8 .f32) : FVec Ideal S2x2x4x128x128x256 .f32 :=
  broadcastInDim S2x2x4x128x128x256 ![0, 1, 2, 3, 4, 5] bcast_S1x2x4x128x128x256_S2x2x4x128x128x256_0_1_2_3_4_5
    (broadcastInDim S1x2x4x128x128x256 ![1, 2, 3, 4, 5] bcast_S2x4x128x128x256_S1x2x4x128x128x256_1_2_3_4_5
      (shapeCast S2x4x128x128x256 (transpose S8x128x128x256 [3, 0, 1, 2] R transposes_S128x128x256x8_S8x128x128x256_3_0_1_2) shapeCasts_S8x128x128x256_S2x4x128x128x256))

/-- The mask in the logits' shape. -/
def rM : IVec S2x2x4x128x128x256 1 := broadcastInDim S2x2x4x128x128x256 ![3, 4, 5] bcast_S128x128x256_S2x2x4x128x128x256_3_4_5 rMask

/-- The sinks in the rows' shape. -/
def rSink (S : FVec Ideal S8 .f32) : FVec Ideal S2x2x4x128x128x1 .f32 :=
  broadcastInDim S2x2x4x128x128x1 ![0, 1, 2, 3, 4, 5] bcast_S1x2x4x1x1x1_S2x2x4x128x128x1_0_1_2_3_4_5 (shapeCast S1x2x4x1x1x1 S shapeCasts_S8_S1x2x4x1x1x1)

/-- A row per column. -/
abbrev wide (X : FVec Ideal S2x2x4x128x128x1 .f32) : FVec Ideal S2x2x4x128x128x256 .f32 :=
  broadcastInDim S2x2x4x128x128x256 ![0, 1, 2, 3, 4, 5] bcast_S2x2x4x128x128x1_S2x2x4x128x128x256_0_1_2_3_4_5 X
abbrev tall (X : FVec Ideal S2x2x4x128x128 .f32) : FVec Ideal S2x2x4x128x128x1 .f32 :=
  broadcastInDim S2x2x4x128x128x1 ![0, 1, 2, 3, 4] bcast_S2x2x4x128x128_S2x2x4x128x128x1_0_1_2_3_4 X

/-- The rows' maxima, over the keys seen and the sink. -/
def rMx (L : FVec Ideal S2x2x4x128x128x256 .f32) (S : FVec Ideal S2x2x4x128x128x1 .f32) : FVec Ideal S2x2x4x128x128x1 .f32 :=
  maximumf (tall (Host.reduce FloatOps.maximumf (select rM L (all 0xFF800000#32)) (constant (F := Ideal) S_ .f32 0xFF800000#32) reducesTo_S2x2x4x128x128x256_S2x2x4x128x128_d5 h_S_)) S

/-- The weights before division. -/
def rP (L : FVec Ideal S2x2x4x128x128x256 .f32) (X : FVec Ideal S2x2x4x128x128x1 .f32) : FVec Ideal S2x2x4x128x128x256 .f32 :=
  select rM (Host.exp (subf L (wide X))) (all 0x00000000#32)

/-- The divisors. -/
def rDen (P : FVec Ideal S2x2x4x128x128x256 .f32) (X S : FVec Ideal S2x2x4x128x128x1 .f32) : FVec Ideal S2x2x4x128x128x1 .f32 :=
  addf (tall (Host.reduceAdd P (constant (F := Ideal) S_ .f32 0x00000000#32) reducesTo_S2x2x4x128x128x256_S2x2x4x128x128_d5 h_S_)) (Host.exp (subf S X))

/-- The weighted values, by block. -/
def rMix (V2 : FVec Ideal S2x2x128x256x64 .f32) (P : FVec Ideal S2x2x4x128x128x256 .f32) (D : FVec Ideal S2x2x4x128x128x1 .f32) : FVec Ideal S2x2x4x128x128x64 .f32 :=
  transpose S2x2x4x128x128x64 [0, 1, 4, 2, 5, 3]
    (Host.dotGeneral dot_S2x2x128x256x64_S2x2x4x128x128x256_S2x2x128x64x4x128_3_5_4_24_012_013 none V2 (Host.divf P (wide D)))
    transposes_S2x2x128x64x4x128_S2x2x4x128x128x64_0_1_4_2_5_3

/-- The result laid out by token. -/
def rLay (O : FVec Ideal S2x2x4x128x128x64 .f32) : FVec Ideal S2x16384x512 .f32 :=
  shapeCast S2x16384x512 (transpose S2x16384x8x64 [0, 2, 1, 3] (shapeCast S2x8x16384x64 O shapeCasts_S2x2x4x128x128x64_S2x8x16384x64)
    transposes_S2x8x16384x64_S2x16384x8x64_0_2_1_3) shapeCasts_S2x16384x8x64_S2x16384x512

/-- The logits. -/
def rL (Q : FVec Ideal S2x16384x512 .f32) (K : FVec Ideal S2x16384x128 .f32) (T : FVec Ideal S32x12 .f32) : FVec Ideal S2x2x4x128x128x256 .f32 :=
  addf (rDot (rTwo (rPad K)) (rQ Q)) (rBias (rRows T (rWrap (rBkt rDist))))

/-- The result from the logits. -/
def rFrom (V : FVec Ideal S2x16384x128 .f32) (L : FVec Ideal S2x2x4x128x128x256 .f32) (S : FVec Ideal S2x2x4x128x128x1 .f32) : FVec Ideal S2x16384x512 .f32 :=
  rLay (rMix (rTwo (rPad V)) (rP L (rMx L S)) (rDen (rP L (rMx L S)) (rMx L S) S))

theorem res_eq (m) (c : Dev nD) : Cert.ReferenceIdeal.Value.res_out0 (F := Ideal) m c =
    rFrom (m ((c.tc : Thread nD τ).loc main_arg2))
      (rL (m ((c.tc : Thread nD τ).loc main_arg0)) (m ((c.tc : Thread nD τ).loc main_arg1)) (m ((c.tc : Thread nD τ).loc main_arg3)))
      (rSink (m ((c.tc : Thread nD τ).loc main_arg4))) := rfl

end Cert.SwaRef
-- ==== Proof.Fiber.lean ====
module

public import Idealize.ShloMosaic.Lib.Pipeline.ValueKit
public import Idealize.ShloMosaic.Lib.Claim
public import Idealize.ShloMosaic.Lib.Pointwise

@[expose] public section

noncomputable section

namespace Cert.Fiber

open Idealize.ShloMosaic

variable {n0 n1 n2 n3 n4 n5 : Nat}

/-- The elements of a rank 6 array that drop to one element of the result when the last axis is reduced. -/
theorem drop_iff (h : (⟨6, ![n0, n1, n2, n3, n4, n5]⟩ : Shape).ReducesTo [5] ⟨5, ![n0, n1, n2, n3, n4]⟩)
    (a : Fin n0) (b : Fin n1) (c : Fin n2) (d : Fin n3) (e : Fin n4) (i : (⟨6, ![n0, n1, n2, n3, n4, n5]⟩ : Shape).Idx) :
    h.drop i = ix5 a b c d e ↔ ∃ k : Fin n5, ix6 a b c d e k = i := by
  constructor
  · intro q
    refine ⟨i 5, funext fun z => Fin.ext ?_⟩
    match z with
    | ⟨0, _⟩ => exact (congrArg Fin.val (congrFun q 0)).symm
    | ⟨1, _⟩ => exact (congrArg Fin.val (congrFun q 1)).symm
    | ⟨2, _⟩ => exact (congrArg Fin.val (congrFun q 2)).symm
    | ⟨3, _⟩ => exact (congrArg Fin.val (congrFun q 3)).symm
    | ⟨4, _⟩ => exact (congrArg Fin.val (congrFun q 4)).symm
    | ⟨5, _⟩ => rfl
  · rintro ⟨k, rfl⟩
    refine funext fun z => Fin.ext ?_
    match z with
    | ⟨0, _⟩ => rfl
    | ⟨1, _⟩ => rfl
    | ⟨2, _⟩ => rfl
    | ⟨3, _⟩ => rfl
    | ⟨4, _⟩ => rfl

theorem max_last {φ : FTy} {u : Shape} (x : FVec Ideal ⟨6, ![n0, n1, n2, n3, n4, n5]⟩ φ) (init : u.Idx → Ideal φ)
    (h : (⟨6, ![n0, n1, n2, n3, n4, n5]⟩ : Shape).ReducesTo [5] ⟨5, ![n0, n1, n2, n3, n4]⟩) (hu : 0 < u.numel)
    (a : Fin n0) (b : Fin n1) (c : Fin n2) (d : Fin n3) (e : Fin n4) :
    Host.reduce (FloatOps.maximumf (F := Ideal) (φ := φ)) x init h hu (ix5 a b c d e)
      = Finset.univ.fold max (init (Shape.Idx.first hu) : EReal) fun k : Fin n5 => (x (ix6 a b c d e k) : EReal) := by
  show Host.reduce (fun p q : EReal => max p q) x init h hu (ix5 a b c d e) = _
  rw [Host.reduce_eq_fold]
  exact Finset.fold_filter_eq_fold_of_fiber (fun p q : EReal => max p q) _ (fun k : Fin n5 => ix6 a b c d e k)
    (fun _ _ q => congrFun q 5) (fun i => drop_iff h a b c d e i) _ _

theorem add_last {φ : FTy} {u : Shape} (x : FVec Ideal ⟨6, ![n0, n1, n2, n3, n4, n5]⟩ φ) (init : u.Idx → Ideal φ)
    (h : (⟨6, ![n0, n1, n2, n3, n4, n5]⟩ : Shape).ReducesTo [5] ⟨5, ![n0, n1, n2, n3, n4]⟩) (hu : 0 < u.numel)
    (a : Fin n0) (b : Fin n1) (c : Fin n2) (d : Fin n3) (e : Fin n4) :
    Host.reduceAdd x init h hu (ix5 a b c d e)
      = ((init (Shape.Idx.first hu) : EReal) + ∑ k : Fin n5, (x (ix6 a b c d e k) : EReal) : EReal) := by
  show (init (Shape.Idx.first hu) : EReal) + ∑ i ∈ Finset.univ.filter (fun i => h.drop i = ix5 a b c d e), (x i : EReal) = _
  congr 1
  exact Finset.sum_filter_eq_sum_of_fiber _ (fun k : Fin n5 => ix6 a b c d e k)
    (fun _ _ q => congrFun q 5) (fun i => drop_iff h a b c d e i) _

/-- The dimension numbers of a lookup of whole rows of a table at a rank 3 array of row numbers. -/
abbrev rows (N C A B D : Nat)
    (wf : GatherDims.WF ⟨2, ![N, C]⟩ ⟨4, ![A, B, D, 1]⟩ ⟨4, ![A, B, D, C]⟩ [3] [0] [] [0] [] 3 ![1, C]) :
    GatherDims ⟨2, ![N, C]⟩ ⟨4, ![A, B, D, 1]⟩ ⟨4, ![A, B, D, C]⟩ where
  offsetDims := [3]
  collapsedSliceDims := [0]
  operandBatchingDims := []
  startIndicesBatchingDims := []
  startIndexMap := [0]
  indexVectorDim := 3
  sliceSizes := ![1, C]
  wf := wf

theorem rows_apply {α : Type} {N C A B D w : Nat} (hN : 0 < N)
    (wf : GatherDims.WF ⟨2, ![N, C]⟩ ⟨4, ![A, B, D, 1]⟩ ⟨4, ![A, B, D, C]⟩ [3] [0] [] [0] [] 3 ![1, C])
    (x : (⟨2, ![N, C]⟩ : Shape).Idx → α) (idx : IVec ⟨4, ![A, B, D, 1]⟩ w) (a : Fin A) (b : Fin B) (e : Fin D) (c : Fin C) :
    Host.gather (rows N C A B D wf) x idx (ix4 a b e c) = x (ix2 ⟨min (idx (ix4 a b e 0)).toInt.toNat (N - 1), by omega⟩ c) := by
  unfold Host.gather
  refine congrArg x (funext fun z => Fin.ext ?_)
  show (rows N C A B D wf).start (ix4 a b e c) idx z + (rows N C A B D wf).batchCoord (ix4 a b e c) z
      + (rows N C A B D wf).offCoord (ix4 a b e c) z = _
  rw [GatherDims.batchCoord_eq_zero _ _ _ (fun h => by simp at h)]
  have h01 : z = 0 ∨ z = 1 := by
    match z with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ (rows N C A B D wf).startIndexMap from List.mem_singleton.mpr rfl)]
    have hsi : (rows N C A B D wf).siIdx (ix4 a b e c) ⟨List.idxOf (0 : Fin 2) (rows N C A B D wf).startIndexMap,
        List.idxOf_lt_length_iff.2 (List.mem_singleton.mpr rfl)⟩ = ix4 a b e 0 := by
      funext k
      refine Fin.ext ?_
      match k with
      | ⟨0, _⟩ => rfl
      | ⟨1, _⟩ => rfl
      | ⟨2, _⟩ => rfl
      | ⟨3, _⟩ => rfl
    rw [hsi]
    rfl
  · unfold GatherDims.start
    rw [dif_neg (fun h => by simp at h)]
    unfold GatherDims.offCoord
    rw [dif_pos ((GatherDims.mem_sKept _ _).mpr ⟨by simp, by simp⟩)]
    simp only [Nat.zero_add]
    rfl

end Cert.Fiber
-- ==== Proof.SwaRefAt.lean ====
module

public import proofs.«01_k».proof.Proof.SwaRef
public import proofs.«01_k».proof.Proof.SwaTable
public import proofs.«01_k».proof.Proof.Fiber

@[expose] public section

set_option maxRecDepth 16384

noncomputable section

namespace Cert.SwaRef

open Cert.ReferenceIdeal Cert.ReferenceIdeal.Gen Idealize.ShloMosaic Idealize.ShloMosaic.TcCoe Idealize.SL.Sem

theorem rPad_lo (K : FVec Ideal S2x16384x128 .f32) (b g : Fin 2) (t : Fin 16512) (e : Fin 64) (h : ¬ (t : Nat) < 128) :
    rPad K (ix4 b g t e) = K (ix3 b ⟨t - 128, by omega⟩ ⟨64 * g + e, by omega⟩) := by
  pointwise [rPad]
  rw [dif_pos (by omega)]
  simp only [Nat.mul_comm]

theorem rTwo_lo (P : FVec Ideal S2x2x16512x64 .f32) (b g : Fin 2) (n : Fin 128) (u : Fin 256) (e : Fin 64) :
    rTwo P (ix5 b g n u e) = P (ix4 b g ⟨128 * n + u, by omega⟩ e) := by
  pointwise [rTwo]
  by_cases h : (u : Nat) < 128
  · rw [dif_pos h]
    simp only [Nat.mul_comm]
  · rw [dif_neg h]
    refine congrArg (fun k => P (ix4 b g k e)) ?_
    apply Fin.ext
    simp only
    omega

theorem rQ_apply (Q : FVec Ideal S2x16384x512 .f32) (b g : Fin 2) (r : Fin 4) (n x : Fin 128) (e : Fin 64) :
    rQ Q (ix6 b g r n x e) = Q (ix3 b ⟨128 * n + x, by omega⟩ ⟨64 * (4 * g + r) + e, by omega⟩) := by
  pointwise [rQ]
  simp only [Nat.mul_comm]

theorem rDot_apply (K2 : FVec Ideal S2x2x128x256x64 .f32) (Q2 : FVec Ideal S2x2x4x128x128x64 .f32) (b g : Fin 2) (r : Fin 4) (n x : Fin 128) (u : Fin 256) :
    rDot K2 Q2 (ix6 b g r n x u) = Ideal.div (∑ e : Fin 64, K2 (ix5 b g n u e) * Q2 (ix6 b g r n x e)) (Ideal.ofBits .f32 0x41000000#32) := by
  pointwise [rDot]

theorem rDist_apply (n x : Fin 128) (u : Fin 256) :
    rDist (ix3 n x u) = BitVec.ofInt 32 (128 + (x : Nat) - (u : Nat)) := by
  have e : rDist (ix3 n x u) = (BitVec.ofNat 32 n * 128#32 + BitVec.ofNat 32 x) - (BitVec.ofNat 32 n * 128#32 - 128#32 + BitVec.ofNat 32 u) := by
    pointwise [rDist, rQpos, rKpos, rOff]
    rfl
  rw [e, Cert.Swa.ofInt_sub', BitVec.ofInt_add]
  show _ = 128#32 + BitVec.ofNat 32 x - BitVec.ofNat 32 u
  generalize BitVec.ofNat 32 n * 128#32 = a
  generalize BitVec.ofNat 32 x = y
  generalize BitVec.ofNat 32 u = z
  bv_omega

theorem rKpos_apply (n : Fin 128) (u : Fin 256) :
    rKpos (ix2 n u) = BitVec.ofInt 32 (128 * (n : Nat) - 128 + (u : Nat)) := by
  have e : rKpos (ix2 n u) = (BitVec.ofNat 32 n * 128#32 - 128#32 + BitVec.ofNat 32 u) := by
    pointwise [rKpos, rOff]
    rfl
  rw [e, BitVec.ofInt_add, Cert.Swa.ofInt_sub', BitVec.ofInt_mul]
  show _ = 128#32 * BitVec.ofNat 32 n - 128#32 + BitVec.ofNat 32 u
  rw [BitVec.mul_comm]

theorem rMask_apply (n x : Fin 128) (u : Fin 256) {α : Type} (a b : α) :
    Scalar.select (rMask (ix3 n x u)) a b = if Cert.Swa.ok n x u then a else b := by
  have e : rMask (ix3 n x u) = IntOp.andi (IntOp.andi (IntOp.cmpi .sge (rDist (ix3 n x u)) 0#32) (IntOp.cmpi .slt (rDist (ix3 n x u)) 128#32))
      (IntOp.cmpi .sge (rKpos (ix2 n u)) 0#32) := by
    pointwise [rMask]
  rw [e, rDist_apply, rKpos_apply, WordCmp.cmpi_sge_eq, WordCmp.cmpi_slt_eq, WordCmp.cmpi_sge_eq,
    Cert.Swa.toInt_ofInt_small _ (by omega) (by omega), Cert.Swa.toInt_ofInt_small _ (by omega) (by omega)]
  unfold Scalar.select
  refine if_congr ?_ rfl rfl
  have e0 : (0#32 : BitVec 32).toInt = 0 := rfl
  have e1 : (128#32 : BitVec 32).toInt = 128 := rfl
  rw [e0, e1]
  unfold Cert.Swa.ok
  by_cases h1 : (0 : Int) ≤ 128 + (x : Nat) - (u : Nat) <;> by_cases h2 : (128 + (x : Nat) - (u : Nat) : Int) < 128 <;> by_cases h3 : (0 : Int) ≤ 128 * (n : Nat) - 128 + (u : Nat) <;>
    simp only [h1, h2, h3, decide_true, decide_false, BitVec.ofBool_true, BitVec.ofBool_false, IntOp.andi]
  all_goals first
    | (refine iff_of_true (by decide) ⟨by omega, by omega, by omega⟩)
    | (refine iff_of_false (by decide) (fun h => ?_); obtain ⟨g1, g2, g3⟩ := h; omega)

theorem rBkt_apply (D : IVec S128x128x256 32) (n x : Fin 128) (u : Fin 256) :
    rBkt D (ix3 n x u) = Cert.Swa.bkt (D (ix3 n x u)) := rfl

theorem rWrap_apply (B : IVec S128x128x256 32) (n x : Fin 128) (u : Fin 256) (h : (B (ix3 n x u)).toNat < 32) :
    rWrap B (ix3 n x u) = B (ix3 n x u) := by
  have e : rWrap B (ix3 n x u) = Scalar.select (IntOp.cmpi .slt (B (ix3 n x u)) 0#32) (IntOp.addi (B (ix3 n x u)) 32#32) (B (ix3 n x u)) := rfl
  rw [e, WordCmp.cmpi_slt_eq]
  have e0 : (0#32 : BitVec 32).toInt = 0 := rfl
  have e1 : ¬ (B (ix3 n x u)).toInt < (0#32 : BitVec 32).toInt := by
    rw [e0, BitVec.toInt_eq_toNat_of_lt (by omega)]
    omega
  simp only [e1, decide_false]
  rfl

theorem rM_apply (b g : Fin 2) (r : Fin 4) (n x : Fin 128) (u : Fin 256) : rM (ix6 b g r n x u) = rMask (ix3 n x u) := by
  pointwise [rM]

theorem rRows_apply (T : FVec Ideal S32x12 .f32) (B : IVec S128x128x256 32) (n x : Fin 128) (u : Fin 256) (h : Fin 8) (hb : (B (ix3 n x u)).toNat < 32) :
    rRows T B (ix4 n x u h) = T (ix2 ⟨(B (ix3 n x u)).toNat, hb⟩ ⟨h + 4, by omega⟩) := by
  have h0 : (B (ix3 n x u)).toInt.toNat = (B (ix3 n x u)).toNat := by
    rw [BitVec.toInt_eq_toNat_of_lt (by omega)]
    rfl
  have e : rRows T B (ix4 n x u h) = (extractStridedSlice S32x8 ![0, 4] T slices_S32x12_S32x8_0_4) (ix2 ⟨min (B (ix3 n x u)).toInt.toNat (32 - 1), by omega⟩ h) :=
    (Cert.Fiber.rows_apply (by norm_num) _ _ _ n x u h).trans (congrArg (fun z : BitVec 32 => extractStridedSlice S32x8 ![0, 4] T slices_S32x12_S32x8_0_4
      (ix2 ⟨min z.toInt.toNat (32 - 1), by omega⟩ h)) (by pointwise))
  rw [e]
  refine congrArg T (funext fun z => Fin.ext ?_)
  have h01 : z = 0 ∨ z = 1 := by
    match z with
    | ⟨0, _⟩ => exact Or.inl rfl
    | ⟨1, _⟩ => exact Or.inr rfl
  rcases h01 with rfl | rfl
  · show 0 + min (B (ix3 n x u)).toInt.toNat (32 - 1) = (B (ix3 n x u)).toNat
    omega
  · show 4 + (h : Nat) = h + 4
    omega

theorem rMx_red (L : FVec Ideal S2x2x4x128x128x256 .f32) (b g : Fin 2) (r : Fin 4) (n x : Fin 128) :
    Host.reduce (FloatOps.maximumf (F := Ideal) (φ := .f32)) L (constant (F := Ideal) S_ .f32 0xFF800000#32) reducesTo_S2x2x4x128x128x256_S2x2x4x128x128_d5 h_S_ (ix5 b g r n x)
      = Finset.univ.fold max (⊥ : EReal) fun u : Fin 256 => (L (ix6 b g r n x u) : EReal) := by
  rw [← Cert.Swa.bits_bot]
  exact Cert.Fiber.max_last L (constant (F := Ideal) S_ .f32 0xFF800000#32) reducesTo_S2x2x4x128x128x256_S2x2x4x128x128_d5 h_S_ b g r n x

theorem rMx_tall (R : FVec Ideal S2x2x4x128x128 .f32) (S : FVec Ideal S2x2x4x128x128x1 .f32) (b g : Fin 2) (r : Fin 4) (n x : Fin 128) :
    (maximumf (tall R) S : FVec Ideal S2x2x4x128x128x1 .f32) (ix6 b g r n x 0) = max (R (ix5 b g r n x)) (S (ix6 b g r n x 0)) := by
  pointwise

theorem rM_sel (L : FVec Ideal S2x2x4x128x128x256 .f32) (b g : Fin 2) (r : Fin 4) (n x : Fin 128) (u : Fin 256) :
    (select rM L (all 0xFF800000#32)) (ix6 b g r n x u) = if Cert.Swa.ok n x u then L (ix6 b g r n x u) else (⊥ : EReal) := by
  rw [← rMask_apply, ← rM_apply b g r, ← Cert.Swa.bits_bot]
  rfl

theorem rMx_apply (L : FVec Ideal S2x2x4x128x128x256 .f32) (S : FVec Ideal S2x2x4x128x128x1 .f32) (b g : Fin 2) (r : Fin 4) (n x : Fin 128) :
    rMx L S (ix6 b g r n x 0) = max (Finset.univ.fold max ⊥ fun u : Fin 256 => if Cert.Swa.ok n x u then L (ix6 b g r n x u) else ⊥) (S (ix6 b g r n x 0)) := by
  unfold rMx
  rw [rMx_tall, rMx_red]
  simp only [rM_sel]

theorem rP_apply (L : FVec Ideal S2x2x4x128x128x256 .f32) (X : FVec Ideal S2x2x4x128x128x1 .f32) (b g : Fin 2) (r : Fin 4) (n x : Fin 128) (u : Fin 256) :
    rP L X (ix6 b g r n x u) = if Cert.Swa.ok n x u then Ideal.exp (L (ix6 b g r n x u) - X (ix6 b g r n x 0)) else 0 := by
  rw [← rMask_apply, ← rM_apply b g r]
  pointwise [rP]

theorem rDen_apply (P : FVec Ideal S2x2x4x128x128x256 .f32) (X S : FVec Ideal S2x2x4x128x128x1 .f32) (b g : Fin 2) (r : Fin 4) (n x : Fin 128) :
    rDen P X S (ix6 b g r n x 0) = (∑ u : Fin 256, P (ix6 b g r n x u)) + Ideal.exp (S (ix6 b g r n x 0) - X (ix6 b g r n x 0)) := by
  have e : rDen P X S (ix6 b g r n x 0) = Host.reduceAdd P (constant (F := Ideal) S_ .f32 0x00000000#32) reducesTo_S2x2x4x128x128x256_S2x2x4x128x128_d5 h_S_ (ix5 b g r n x)
      + Ideal.exp (S (ix6 b g r n x 0) - X (ix6 b g r n x 0)) := by
    unfold rDen
    generalize Host.reduceAdd P (constant (F := Ideal) S_ .f32 0x00000000#32) reducesTo_S2x2x4x128x128x256_S2x2x4x128x128_d5 h_S_ = R
    pointwise
  rw [e]
  refine congrArg (fun z => z + Ideal.exp (S (ix6 b g r n x 0) - X (ix6 b g r n x 0))) ((Cert.Fiber.add_last _ _ _ _ b g r n x).trans ?_)
  rw [show (constant (F := Ideal) S_ .f32 0x00000000#32 (Shape.Idx.first h_S_) : EReal) = 0 by simp [constant, Ideal.ofBits, Ideal.ieee], zero_add]

theorem rMix_apply (V2 : FVec Ideal S2x2x128x256x64 .f32) (P : FVec Ideal S2x2x4x128x128x256 .f32) (D : FVec Ideal S2x2x4x128x128x1 .f32)
    (b g : Fin 2) (r : Fin 4) (n x : Fin 128) (d : Fin 64) :
    rMix V2 P D (ix6 b g r n x d) = ∑ u : Fin 256, V2 (ix5 b g n u d) * Ideal.div (P (ix6 b g r n x u)) (D (ix6 b g r n x 0)) := by
  pointwise [rMix]

theorem rBias_apply (R : FVec Ideal S128x128x256x8 .f32) (b g : Fin 2) (r : Fin 4) (n x : Fin 128) (u : Fin 256) :
    rBias R (ix6 b g r n x u) = R (ix4 n x u ⟨4 * g + r, by omega⟩) := by
  pointwise [rBias]
  simp only [Nat.mul_comm]

theorem rSink_apply (S : FVec Ideal S8 .f32) (b g : Fin 2) (r : Fin 4) (n x : Fin 128) :
    rSink S (ix6 b g r n x 0) = S (ix1 ⟨4 * g + r, by omega⟩) := by
  pointwise [rSink]
  simp only [Nat.mul_comm]

theorem rLay_apply (O : FVec Ideal S2x2x4x128x128x64 .f32) (b : Fin 2) (t : Fin 16384) (k : Fin 512) :
    rLay O (ix3 b t k) = O (ix6 b ⟨k / 256, by omega⟩ ⟨k % 256 / 64, by omega⟩ ⟨t / 128, by omega⟩ ⟨t % 128, by omega⟩ ⟨k % 64, by omega⟩) := by
  pointwise [rLay]
  congr 2 <;> (apply Fin.ext; simp only; omega)

end Cert.SwaRef
-- ==== Proof.SwaSpec.lean ====
module

public import proofs.«01_k».proof.Proof.SwaKernel
public import proofs.«01_k».proof.Proof.SwaTable

@[expose] public section

noncomputable section

namespace Cert.Swa

open Idealize.ShloMosaic

/-- A masked score: seen ones are real, the others the least value. -/
def Fin' (s : EReal) : Prop := s = ⊥ ∨ ∃ r : ℝ, s = (r : EReal)

theorem fold_fin {n : Type} [Fintype n] [DecidableEq n] (s : n → EReal) (hs : ∀ u, Fin' (s u)) (A : Finset n) : Fin' (A.fold max ⊥ s) := by
  induction A using Finset.induction_on with
  | empty => exact Or.inl rfl
  | insert a A ha ih =>
    rw [Finset.fold_insert ha]
    rcases max_choice (s a) (A.fold max ⊥ s) with h | h <;> rw [h]
    · exact hs a
    · exact ih

theorem top_real (s : Fin 256 → EReal) (hs : ∀ u, Fin' (s u)) (k : ℝ) : ∃ r : ℝ, top s k = (r : EReal) := by
  unfold top
  rcases fold_fin s hs Finset.univ with h | ⟨r, h⟩
  · exact ⟨k, by rw [h]; exact max_eq_right bot_le⟩
  · exact ⟨max r k, by rw [h]; exact (EReal.coe_strictMono.monotone.map_max).symm⟩

theorem exp_coe (r : ℝ) : Ideal.exp (r : EReal) = ((Real.exp r : ℝ) : EReal) := rfl

/-- A weight before division is real and not negative. -/
theorem weight_real (s : EReal) (hs : Fin' s) (t : ℝ) : ∃ r : ℝ, 0 ≤ r ∧ Ideal.exp (s - (t : EReal)) = (r : EReal) := by
  rcases hs with rfl | ⟨a, rfl⟩
  · exact ⟨0, le_refl _, by rw [EReal.bot_sub]; rfl⟩
  · exact ⟨Real.exp (a - t), (Real.exp_pos _).le, by rw [← EReal.coe_sub, exp_coe]⟩

/-- Division by a positive real goes into a sum. -/
theorem sum_div {n : Type} [DecidableEq n] (A : Finset n) (v w : n → EReal) (D : ℝ) (hD : 0 < D) :
    Ideal.div (∑ u ∈ A, v u * w u) (D : EReal) = ∑ u ∈ A, v u * Ideal.div (w u) (D : EReal) := by
  have hne : ¬ ((D : ℝ) : EReal) = 0 := by exact_mod_cast hD.ne'
  have hd : ∀ x : EReal, Ideal.div x (D : EReal) = x * ((D⁻¹ : ℝ) : EReal) := fun x => by
    unfold Ideal.div
    rw [if_neg hne, EReal.coe_inv]
  simp only [hd]
  have h0 : (0 : EReal) ≤ ((D⁻¹ : ℝ) : EReal) := by exact_mod_cast (inv_pos.mpr hD).le
  induction A using Finset.induction_on with
  | empty => simp
  | insert a A ha ih =>
    rw [Finset.sum_insert ha, Finset.sum_insert ha, EReal.right_distrib_of_nonneg_of_ne_top h0 (EReal.coe_ne_top _), ih, mul_assoc]

/-- A row as the reference computes it: each weight divided, then the sum. -/
def rrow (M : Fin 256 → Prop) [DecidablePred M] (l : Fin 256 → EReal) (k : EReal) (v : Fin 256 → EReal) : EReal :=
  ∑ u, v u * Ideal.div (if M u then Ideal.exp (l u - top (fun u => if M u then l u else ⊥) k) else 0)
    ((∑ u, if M u then Ideal.exp (l u - top (fun u => if M u then l u else ⊥) k) else 0) + Ideal.exp (k - top (fun u => if M u then l u else ⊥) k))

/-- The two forms of a row agree where the scores seen and the sink are real. -/
theorem krow_eq (M : Fin 256 → Prop) [DecidablePred M] (l v : Fin 256 → EReal) (k : ℝ) (hl : ∀ u, M u → ∃ r : ℝ, l u = (r : EReal)) :
    krow (fun u => if M u then l u else ⊥) k v (fun _ => 1) = rrow M l k v := by
  have hs : ∀ u, Fin' (if M u then l u else ⊥) := fun u => by
    split_ifs with h
    · exact Or.inr (hl u h)
    · exact Or.inl rfl
  obtain ⟨t, ht⟩ := top_real (fun u => if M u then l u else ⊥) hs k
  unfold krow rrow
  rw [ht]
  have hw : ∀ u, Ideal.exp ((if M u then l u else ⊥) - (t : EReal)) = if M u then Ideal.exp (l u - (t : EReal)) else 0 := fun u => by
    split_ifs
    · rfl
    · rw [EReal.bot_sub]; rfl
  simp only [hw, one_mul]
  have hp : ∀ u, ∃ r : ℝ, 0 ≤ r ∧ (if M u then Ideal.exp (l u - (t : EReal)) else 0) = (r : EReal) := fun u => by
    rw [← hw u]
    exact weight_real _ (hs u) t
  choose p hp0 hp1 using hp
  simp only [hp1]
  have hD : (∑ u, ((p u : ℝ) : EReal)) + Ideal.exp ((k : EReal) - (t : EReal)) = (((∑ u, p u) + Real.exp (k - t) : ℝ) : EReal) := by
    rw [← EReal.coe_sub, exp_coe, EReal.coe_add]
    congr 1
  rw [hD]
  exact sum_div Finset.univ v (fun u => (p u : EReal)) _ (add_pos_of_nonneg_of_pos (Finset.sum_nonneg fun u _ => hp0 u) (Real.exp_pos _))

theorem bits_eighth : Ideal.ofBits .f32 0x3E000000#32 = ((1 / 8 : ℝ) : EReal) := by
  simp [Ideal.ofBits, Ideal.ieee, -EReal.coe_mul]; norm_num

theorem bits_eight : Ideal.ofBits .f32 0x41000000#32 = ((8 : ℝ) : EReal) := by
  simp [Ideal.ofBits, Ideal.ieee, -EReal.coe_mul]; norm_num

theorem coe_sum {n : Type} (A : Finset n) (f : n → ℝ) : ∑ u ∈ A, ((f u : ℝ) : EReal) = ((∑ u ∈ A, f u : ℝ) : EReal) :=
  (map_sum (⟨⟨fun r : ℝ => (r : EReal), rfl⟩, EReal.coe_add⟩ : ℝ →+ EReal) f A).symm

/-- Scaling each query element by an eighth is dividing the product by eight. -/
theorem scaled (a b : Fin 64 → EReal) (ha : ∀ e, ∃ r : ℝ, a e = (r : EReal)) (hb : ∀ e, ∃ r : ℝ, b e = (r : EReal)) :
    (∑ e, a e * (b e * Ideal.ofBits .f32 0x3E000000#32)) = Ideal.div (∑ e, a e * b e) (Ideal.ofBits .f32 0x41000000#32)
      ∧ ∃ r : ℝ, Ideal.div (∑ e, a e * b e) (Ideal.ofBits .f32 0x41000000#32) = (r : EReal) := by
  choose p hp using ha
  choose q hq using hb
  simp only [hp, hq, bits_eighth, bits_eight, ← EReal.coe_mul]
  rw [coe_sum, coe_sum, div_coe _ _ (by norm_num)]
  refine ⟨congrArg _ ?_, _, rfl⟩
  rw [Finset.sum_div]
  exact Finset.sum_congr rfl fun e _ => by ring

end Cert.Swa
-- ==== Proof.SwaValue.lean ====
module

public import proofs.«01_k».proof.Proof.SwaResult
public import proofs.«01_k».proof.Proof.SwaRefAt
public import proofs.«01_k».proof.Proof.SwaSpec
public import proofs.«01_k».proof.Proof.PreFinite

@[expose] public section

set_option maxRecDepth 16384

noncomputable section

namespace Cert.SwaRef

open Cert.ReferenceIdeal Cert.ReferenceIdeal.Gen Idealize.ShloMosaic Idealize.ShloMosaic.TcCoe Idealize.SL.Sem

/-- The keys or values at a column seen. -/
theorem two_apply (K : FVec Ideal S2x16384x128 .f32) (b g : Fin 2) (n : Fin 128) (u : Fin 256) (e : Fin 64) (h : 128 ≤ 128 * (n : Nat) + u) :
    rTwo (rPad K) (ix5 b g n u e) = K (ix3 b (Cert.Swa.pos n u n.isLt u.isLt) ⟨64 * g + e, by omega⟩) := by
  rw [rTwo_lo, rPad_lo _ _ _ _ _ (by simp only; omega)]
  unfold Cert.Swa.pos
  rw [dif_pos h]

theorem rL_apply (Q : FVec Ideal S2x16384x512 .f32) (K : FVec Ideal S2x16384x128 .f32) (T : FVec Ideal S32x12 .f32)
    (b g : Fin 2) (r : Fin 4) (n x : Fin 128) (u : Fin 256) :
    rL Q K T (ix6 b g r n x u)
      = Ideal.div (∑ e : Fin 64, rTwo (rPad K) (ix5 b g n u e) * Q (ix3 b ⟨128 * n + x, by omega⟩ ⟨64 * (4 * g + r) + e, by omega⟩)) (Ideal.ofBits .f32 0x41000000#32)
        + Cert.Swa.bias T ⟨4 * g + r, by omega⟩ (128 + (x : Nat) - (u : Nat)) := by
  have e : rL Q K T (ix6 b g r n x u) = rDot (rTwo (rPad K)) (rQ Q) (ix6 b g r n x u) + rBias (rRows T (rWrap (rBkt rDist))) (ix6 b g r n x u) := rfl
  have hb := Cert.Swa.bkt_lt' (128 + (x : Nat) - (u : Nat)) (by omega) (by omega)
  have hB : rBkt rDist (ix3 n x u) = Cert.Swa.bkt (BitVec.ofInt 32 (128 + (x : Nat) - (u : Nat))) := by
    rw [rBkt_apply, rDist_apply]
  have hW : rWrap (rBkt rDist) (ix3 n x u) = Cert.Swa.bkt (BitVec.ofInt 32 (128 + (x : Nat) - (u : Nat))) := by
    rw [rWrap_apply _ _ _ _ (by rw [hB]; exact hb), hB]
  rw [e, rDot_apply, rBias_apply, rRows_apply _ _ _ _ _ _ (by rw [hW]; exact hb)]
  simp only [rQ_apply]
  refine congrArg _ ?_
  unfold Cert.Swa.bias
  rw [dif_pos hb]
  simp only [hW]

/-- One result as a row. -/
theorem row_apply (V : FVec Ideal S2x16384x128 .f32) (L : FVec Ideal S2x2x4x128x128x256 .f32) (S : FVec Ideal S8 .f32)
    (b g : Fin 2) (r : Fin 4) (n x : Fin 128) (d : Fin 64) :
    rMix (rTwo (rPad V)) (rP L (rMx L (rSink S))) (rDen (rP L (rMx L (rSink S))) (rMx L (rSink S)) (rSink S)) (ix6 b g r n x d)
      = Cert.Swa.rrow (fun u : Fin 256 => Cert.Swa.ok n x u) (fun u => L (ix6 b g r n x u)) (S (ix1 ⟨4 * g + r, by omega⟩)) (fun u => rTwo (rPad V) (ix5 b g n u d)) := by
  rw [rMix_apply, rDen_apply]
  simp only [rP_apply, rMx_apply, rSink_apply]
  rfl

/-- The kernel's row is the reference's, for real queries, keys, biases and sinks. -/
theorem kres_eq (Q : FVec Ideal S2x16384x512 .f32) (K V : FVec Ideal S2x16384x128 .f32) (T : FVec Ideal S32x12 .f32) (S : FVec Ideal S8 .f32)
    (hQ : ∀ i, ∃ r : ℝ, (Q i : EReal) = (r : EReal)) (hK : ∀ i, ∃ r : ℝ, (K i : EReal) = (r : EReal)) (hT : ∀ i, ∃ r : ℝ, (T i : EReal) = (r : EReal))
    (hS : ∀ i, ∃ r : ℝ, (S i : EReal) = (r : EReal)) (b g : Fin 2) (r : Fin 4) (n x : Fin 128) (d : Fin 64) :
    Cert.Swa.kres Q K V T S b ⟨4 * g + r, by omega⟩ n x d
      = Cert.Swa.rrow (fun u : Fin 256 => Cert.Swa.ok n x u) (fun u => rL Q K T (ix6 b g r n x u)) (S (ix1 ⟨4 * g + r, by omega⟩)) (fun u => rTwo (rPad V) (ix5 b g n u d)) := by
  have hg : (4 * (g : Nat) + r) / 4 = g := by omega
  obtain ⟨k, hk⟩ := hS (ix1 ⟨4 * g + r, by omega⟩)
  have hl : ∀ u : Fin 256, Cert.Swa.ok n x u →
      (∑ e : Fin 64, K (ix3 b (Cert.Swa.pos n u n.isLt u.isLt) ⟨64 * ((4 * g + r) / 4) + e, by omega⟩)
          * (Q (ix3 b ⟨128 * n + x, by omega⟩ ⟨64 * (4 * g + r) + e, by omega⟩) * Ideal.ofBits .f32 0x3E000000#32))
        + Cert.Swa.bias T ⟨4 * g + r, by omega⟩ (128 + (x : Nat) - (u : Nat)) = rL Q K T (ix6 b g r n x u)
      ∧ ∃ z : ℝ, (rL Q K T (ix6 b g r n x u) : EReal) = (z : EReal) := fun u ho => by
    rw [rL_apply]
    simp only [two_apply K b g n u _ ho.2.2, hg]
    obtain ⟨h1, z, hz⟩ := Cert.Swa.scaled (fun e : Fin 64 => K (ix3 b (Cert.Swa.pos n u n.isLt u.isLt) ⟨64 * g + e, by omega⟩))
      (fun e : Fin 64 => Q (ix3 b ⟨128 * n + x, by omega⟩ ⟨64 * (4 * g + r) + e, by omega⟩)) (fun e => hK _) (fun e => hQ _)
    refine ⟨congrArg (fun w : EReal => w + _) h1, ?_⟩
    have hb := Cert.Swa.bkt_lt' (128 + (x : Nat) - (u : Nat)) (by omega) (by omega)
    obtain ⟨w, hw⟩ : ∃ w : ℝ, Cert.Swa.bias T ⟨4 * g + r, by omega⟩ (128 + (x : Nat) - (u : Nat)) = (w : EReal) := by
      unfold Cert.Swa.bias
      rw [dif_pos hb]
      exact hT _
    exact ⟨z + w, by rw [hw, EReal.coe_add]; exact congrArg (fun y : EReal => y + _) hz⟩
  refine Eq.trans ?_ (hk ▸ Cert.Swa.krow_eq (fun u : Fin 256 => Cert.Swa.ok n x u) (fun u => rL Q K T (ix6 b g r n x u)) (fun u => rTwo (rPad V) (ix5 b g n u d)) k
    (fun u ho => (hl u ho).2))
  unfold Cert.Swa.kres
  refine Cert.Swa.krow_congr (fun u => ?_) rfl (fun u hu => ?_) (fun u => rfl)
  · by_cases ho : Cert.Swa.ok n x u
    · rw [if_pos ho, if_pos ho]
      exact (hl u ho).1
    · rw [if_neg ho, if_neg ho]
  · have ho : Cert.Swa.ok n x u := by
      by_contra ho
      exact hu (if_neg ho)
    rw [two_apply V b g n u d ho.2.2]
    simp only [hg]

theorem full_eq (Q : FVec Ideal S2x16384x512 .f32) (K V : FVec Ideal S2x16384x128 .f32) (T : FVec Ideal S32x12 .f32) (S : FVec Ideal S8 .f32)
    (hQ : ∀ i, ∃ r : ℝ, (Q i : EReal) = (r : EReal)) (hK : ∀ i, ∃ r : ℝ, (K i : EReal) = (r : EReal)) (hT : ∀ i, ∃ r : ℝ, (T i : EReal) = (r : EReal))
    (hS : ∀ i, ∃ r : ℝ, (S i : EReal) = (r : EReal)) :
    rFrom V (rL Q K T) (rSink S) = fun y => Cert.Swa.kfull Q K V T S (y 0) (y 1) (y 2) := by
  funext y
  idx_vars y
  show rFrom V (rL Q K T) (rSink S) (ix3 y0 y1 y2) = Cert.Swa.kfull Q K V T S y0 y1 y2
  unfold rFrom
  rw [rLay_apply, row_apply, ← kres_eq Q K V T S hQ hK hT hS]
  unfold Cert.Swa.kfull
  congr 1
  apply Fin.ext
  simp only
  omega

end Cert.SwaRef

namespace Cert.Swa

open Idealize.ShloMosaic Idealize.ShloMosaic.TcCoe Idealize.SL.Sem

theorem algebraic : Cert.algebraic_KernelIdeal_ReferenceIdeal_pre_finite (hPre_finite := Cert.Pre_finite.factsHold) := by
  pair_intro
  · run_from Cert.Swa.run m g
  · run_from Cert.ReferenceIdeal.Value.run m' g'
    obtain ⟨h0, h1, h2, h3, h4⟩ := hagree c
    obtain ⟨hQ, hK, hT, hS⟩ := Cert.Pre_finite.real_args _ _ _ _ _ (hpre c)
    rw [result_eq m g c]
    refine (Cert.SwaRef.res_eq m' c).trans ?_
    rw [h0, h1, h2, h3, h4]
    exact Cert.SwaRef.full_eq _ _ _ _ _ hQ hK hT hS

end Cert.Swa
-- ==== Proof.SbKernel3IdealStep.lean ====
module

public import proofs.«01_k».proof.Proof.Gen.Kernel3Ideal.Skeleton
public import Idealize.ShloMosaic.Lib.Pipeline.FrameBody

@[expose] public section

noncomputable section

namespace Cert.Kernel3Ideal.Sb

open Cert.Kernel3Ideal Cert.Kernel3Ideal.Gen
open Idealize.ShloMosaic Idealize.SL.Sem

variable {F : FTy → Type} [FloatOps F] [Named F]

/-- What one trip of the key loop carries: the trip counter, a carry row for each of the four query
    blocks, and for each of them the accumulated outputs of its four heads. -/
abbrev St (F : FTy → Type) : Type :=
  BitVec 32 × FVec F S1x512 .f32 × FVec F S1x512 .f32 × FVec F S1x512 .f32 × FVec F S1x512 .f32 × FVec F S64x128 .f32 × FVec F S64x128 .f32 × FVec F S64x128 .f32 × FVec F S64x128 .f32 × FVec F S64x128 .f32 × FVec F S64x128 .f32 × FVec F S64x128 .f32 × FVec F S64x128 .f32 × FVec F S64x128 .f32 × FVec F S64x128 .f32 × FVec F S64x128 .f32 × FVec F S64x128 .f32 × FVec F S64x128 .f32 × FVec F S64x128 .f32 × FVec F S64x128 .f32 × FVec F S64x128 .f32

/-- Whether the loop goes on: key blocks are left, and some carry is above the floor. -/
def goOn (i : grid0.Coords) (s : St F) : BitVec 1 :=
  Scalar.andi (Scalar.cmpi .sge (Scalar.subi (Scalar.subi (Scalar.addi (Scalar.muli 4#32 (BitVec.ofNat 32 (i 1).val)) 4#32) 1#32) (Scalar.muli 3#32 s.1)) 0#32)
    (Scalar.cmpf .ogt (k0_pay3 s.2.1 s.2.2.1 s.2.2.2.1 s.2.2.2.2.1) (Named.named κ "floor" 0xC3160A50#32 : F .f32))

/-- One trip of the key loop on the keys `X1` and the transposed values `X2`. -/
def trip (i : grid0.Coords) (X1 : Vec F S1x16384x256 .bf16) (X2 : Vec F S1x256x16384 .bf16) (v4 : IVec S128x512 32) (v3 : IVec S128x512 32) (v32 : FVec F S256x512 .bf16) (v57 : FVec F S256x512 .bf16) (v82 : FVec F S256x512 .bf16) (v107 : FVec F S256x512 .bf16) (v6 : FVec F S384x768 .bf16)
    (s : St F) (k0_hw1 : k0_chk1 i s.1) : St F :=
  let arg7 := s.1
  let arg8 := s.2.1
  let arg9 := s.2.2.1
  let arg10 := s.2.2.2.1
  let arg11 := s.2.2.2.2.1
  let arg12 := s.2.2.2.2.2.1
  let arg13 := s.2.2.2.2.2.2.1
  let arg14 := s.2.2.2.2.2.2.2.1
  let arg15 := s.2.2.2.2.2.2.2.2.1
  let arg16 := s.2.2.2.2.2.2.2.2.2.1
  let arg17 := s.2.2.2.2.2.2.2.2.2.2.1
  let arg18 := s.2.2.2.2.2.2.2.2.2.2.2.1
  let arg19 := s.2.2.2.2.2.2.2.2.2.2.2.2.1
  let arg20 := s.2.2.2.2.2.2.2.2.2.2.2.2.2.1
  let arg21 := s.2.2.2.2.2.2.2.2.2.2.2.2.2.2.1
  let arg22 := s.2.2.2.2.2.2.2.2.2.2.2.2.2.2.2.1
  let arg23 := s.2.2.2.2.2.2.2.2.2.2.2.2.2.2.2.2.1
  let arg24 := s.2.2.2.2.2.2.2.2.2.2.2.2.2.2.2.2.2.1
  let arg25 := s.2.2.2.2.2.2.2.2.2.2.2.2.2.2.2.2.2.2.1
  let arg26 := s.2.2.2.2.2.2.2.2.2.2.2.2.2.2.2.2.2.2.2.1
  let arg27 := s.2.2.2.2.2.2.2.2.2.2.2.2.2.2.2.2.2.2.2.2
  let v0 : BitVec 32 := Scalar.muli 4#32 (BitVec.ofNat 32 (i 1).val)
  let v209 : BitVec 32 := Scalar.addi v0 0#32
  let v210 : BitVec 32 := Scalar.muli 3#32 arg7
  let v211 : BitVec 32 := Scalar.subi v209 v210
  let v217 : Vec F S1x128x256 .bf16 := View.ld X1 (Rect.unit (s := S1x16384x256) (k0_off1 i arg7 0#32 2#32) S1x128x256.size (k0_off1_inb i arg7 k0_hw1 0 2))
  let v220 : Vec F S1x256x128 .bf16 := View.ld X2 (Rect.unit (s := S1x256x16384) (k0_off2 i arg7 0#32 2#32) S1x256x128.size (k0_off2_inb i arg7 k0_hw1 0 2))
  let v232 : BitVec 32 := Scalar.subi v211 1#32
  let v237 : Vec F S1x128x256 .bf16 := View.ld X1 (Rect.unit (s := S1x16384x256) (k0_off1 i arg7 0#32 1#32) S1x128x256.size (k0_off1_inb i arg7 k0_hw1 0 1))
  let v240 : Vec F S1x256x128 .bf16 := View.ld X2 (Rect.unit (s := S1x256x16384) (k0_off2 i arg7 0#32 1#32) S1x256x128.size (k0_off2_inb i arg7 k0_hw1 0 1))
  let v242 : BitVec 1 := Scalar.cmpi .sge v232 0#32
  let v245 : BitVec 32 := Scalar.addi v0 0#32
  let v218 := k0_pay44 v217
  let v221 := k0_pay45 v220
  let v231 := k0_pay46 v4 v3 arg7 v0
  let v238 := k0_pay47 v237
  let v241 := k0_pay48 v240
  let v244 := k0_pay49 v4 arg7 v0
  let c128_i32_140 := 128#32
  let v257 : Vec F S1x128x256 .bf16 := View.ld X1 (Rect.unit (s := S1x16384x256) (k0_off1 i arg7 0#32 0#32) S1x128x256.size (k0_off1_inb i arg7 k0_hw1 0 0))
  let v260 : Vec F S1x256x128 .bf16 := View.ld X2 (Rect.unit (s := S1x256x16384) (k0_off2 i arg7 0#32 0#32) S1x256x128.size (k0_off2_inb i arg7 k0_hw1 0 0))
  let v275 : BitVec 32 := Scalar.addi v0 1#32
  let v276 : BitVec 32 := Scalar.muli 3#32 arg7
  let v277 : BitVec 32 := Scalar.subi v275 v276
  let v278 : BitVec 32 := Scalar.subi v277 2#32
  let v279 : BitVec 32 := Scalar.maxsi v278 0#32
  let v280 : BitVec 32 := Scalar.muli v279 128#32
  let v281 : BitVec 32 := v280
  let v283 : Vec F S1x128x256 .bf16 := View.ld X1 (Rect.unit (s := S1x16384x256) (k0_off1 i arg7 1#32 2#32) S1x128x256.size (k0_off1_inb i arg7 k0_hw1 1 2))
  let v286 : Vec F S1x256x128 .bf16 := View.ld X2 (Rect.unit (s := S1x256x16384) (k0_off2 i arg7 1#32 2#32) S1x256x128.size (k0_off2_inb i arg7 k0_hw1 1 2))
  let v272 := k0_pay50 v218 v238 v257
  let v273 := k0_pay51 v221 v241 v260
  let v274 := k0_pay52 v4 v3 v0 v211 v231 v242 v244 v245 c128_i32_140
  let v284 := k0_pay53 v283
  let v303 : Vec F S1x128x256 .bf16 := View.ld X1 (Rect.unit (s := S1x16384x256) (k0_off1 i arg7 1#32 1#32) S1x128x256.size (k0_off1_inb i arg7 k0_hw1 1 1))
  let v306 : Vec F S1x256x128 .bf16 := View.ld X2 (Rect.unit (s := S1x256x16384) (k0_off2 i arg7 1#32 1#32) S1x256x128.size (k0_off2_inb i arg7 k0_hw1 1 1))
  let v318 : BitVec 32 := Scalar.subi v277 0#32
  let v319 : BitVec 32 := Scalar.maxsi v318 0#32
  let v320 : BitVec 32 := Scalar.muli v319 128#32
  let v321 : BitVec 32 := v320
  let v323 : Vec F S1x128x256 .bf16 := View.ld X1 (Rect.unit (s := S1x16384x256) (k0_off1 i arg7 1#32 0#32) S1x128x256.size (k0_off1_inb i arg7 k0_hw1 1 0))
  let v326 : Vec F S1x256x128 .bf16 := View.ld X2 (Rect.unit (s := S1x256x16384) (k0_off2 i arg7 1#32 0#32) S1x256x128.size (k0_off2_inb i arg7 k0_hw1 1 0))
  let v287 := k0_pay54 v286
  let v297 := k0_pay55 v4 v3 v0 v278 v281
  let v304 := k0_pay56 v303
  let v307 := k0_pay57 v306
  let v317 := k0_pay58 v4 v3 v0 v277
  let v324 := k0_pay59 v323
  let v341 : BitVec 32 := Scalar.addi v0 2#32
  let v342 : BitVec 32 := Scalar.muli 3#32 arg7
  let v343 : BitVec 32 := Scalar.subi v341 v342
  let v349 : Vec F S1x128x256 .bf16 := View.ld X1 (Rect.unit (s := S1x16384x256) (k0_off1 i arg7 2#32 2#32) S1x128x256.size (k0_off1_inb i arg7 k0_hw1 2 2))
  let v352 : Vec F S1x256x128 .bf16 := View.ld X2 (Rect.unit (s := S1x256x16384) (k0_off2 i arg7 2#32 2#32) S1x256x128.size (k0_off2_inb i arg7 k0_hw1 2 2))
  let v364 : BitVec 32 := Scalar.subi v343 1#32
  let v365 : BitVec 32 := Scalar.maxsi v364 0#32
  let v366 : BitVec 32 := Scalar.muli v365 128#32
  let v367 : BitVec 32 := v366
  let v338 := k0_pay60 v284 v304 v324
  let v339 := k0_pay61 v287 v307 v326
  let v340 := k0_pay62 v4 v3 v0 v297 v317 v318 v321
  let v350 := k0_pay63 v349
  let v353 := k0_pay64 v352
  let v363 := k0_pay65 v4 v3 arg7 v0
  let v369 : Vec F S1x128x256 .bf16 := View.ld X1 (Rect.unit (s := S1x16384x256) (k0_off1 i arg7 2#32 1#32) S1x128x256.size (k0_off1_inb i arg7 k0_hw1 2 1))
  let v372 : Vec F S1x256x128 .bf16 := View.ld X2 (Rect.unit (s := S1x256x16384) (k0_off2 i arg7 2#32 1#32) S1x256x128.size (k0_off2_inb i arg7 k0_hw1 2 1))
  let v389 : Vec F S1x128x256 .bf16 := View.ld X1 (Rect.unit (s := S1x16384x256) (k0_off1 i arg7 2#32 0#32) S1x128x256.size (k0_off1_inb i arg7 k0_hw1 2 0))
  let v392 : Vec F S1x256x128 .bf16 := View.ld X2 (Rect.unit (s := S1x256x16384) (k0_off2 i arg7 2#32 0#32) S1x256x128.size (k0_off2_inb i arg7 k0_hw1 2 0))
  let v407 : BitVec 32 := Scalar.addi v0 3#32
  let v408 : BitVec 32 := Scalar.muli 3#32 arg7
  let v409 : BitVec 32 := Scalar.subi v407 v408
  let v404 := k0_pay66 v350 v369 v389
  let v405 := k0_pay67 v353 v372 v392
  let v406 := k0_pay68 v4 v3 v0 v343 v363 v364 v367
  let v415 : Vec F S1x128x256 .bf16 := View.ld X1 (Rect.unit (s := S1x16384x256) (k0_off1 i arg7 3#32 2#32) S1x128x256.size (k0_off1_inb i arg7 k0_hw1 3 2))
  let v418 : Vec F S1x256x128 .bf16 := View.ld X2 (Rect.unit (s := S1x256x16384) (k0_off2 i arg7 3#32 2#32) S1x256x128.size (k0_off2_inb i arg7 k0_hw1 3 2))
  let v435 : Vec F S1x128x256 .bf16 := View.ld X1 (Rect.unit (s := S1x16384x256) (k0_off1 i arg7 3#32 1#32) S1x128x256.size (k0_off1_inb i arg7 k0_hw1 3 1))
  let v438 : Vec F S1x256x128 .bf16 := View.ld X2 (Rect.unit (s := S1x256x16384) (k0_off2 i arg7 3#32 1#32) S1x256x128.size (k0_off2_inb i arg7 k0_hw1 3 1))
  let v416 := k0_pay69 v415
  let v419 := k0_pay70 v418
  let v429 := k0_pay71 v4 v3 v0 v409
  let v436 := k0_pay72 v435
  let v439 := k0_pay73 v438
  let v449 := k0_pay74 v4 v3 v0 v409
  let v455 : Vec F S1x128x256 .bf16 := View.ld X1 (Rect.unit (s := S1x16384x256) (k0_off1 i arg7 3#32 0#32) S1x128x256.size (k0_off1_inb i arg7 k0_hw1 3 0))
  let v458 : Vec F S1x256x128 .bf16 := View.ld X2 (Rect.unit (s := S1x256x16384) (k0_off2 i arg7 3#32 0#32) S1x256x128.size (k0_off2_inb i arg7 k0_hw1 3 0))
  let v471 := k0_pay75 v419 v439 v458
  let v472 := k0_pay76 v4 v3 v0 v409 v429 v449
  let v473 := k0_pay77 v32 v272
  let v474 := k0_pay78 v57 v338
  let v475 := k0_pay79 v82 v404
  let v476 := k0_pay80 v107 v416 v436 v455
  let v490 := k0_pay81 v32 v272
  let v492 := k0_pay82 v274 v490
  let v497 := k0_pay83 v274 v490
  let v513 := k0_pay84 v340 v474
  let v518 := k0_pay85 v340 v474
  let v534 := k0_pay86 v406 v475
  let v535 := k0_pay87 v406 v475
  let v537 := k0_pay88 v406 v475
  let v555 := k0_pay89 v472 v476
  let v564 := k0_pay90 v6 v472 v476
  let v572 := k0_pay91 v6 arg8 v274 v473 v492 v497
  let v580 := k0_pay92 v6 arg9 v340 v474 v513 v518
  let v585 := k0_pay93 v6 arg10 v475 v534 v535 v537
  let v602 := k0_pay98 arg12 v273 v572
  let v604 := k0_pay99 arg13 v273 v572
  let v606 := k0_pay100 arg14 v273 v572
  let v608 := k0_pay101 arg15 v273 v572
  let v610 := k0_pay102 arg16 v339 v580
  let v612 := k0_pay103 arg17 v339 v580
  let v614 := k0_pay104 arg18 v339 v580
  let v616 := k0_pay105 arg19 v339 v580
  let v618 := k0_pay106 arg20 v405 v406 v585
  let v620 := k0_pay107 arg21 v405 v406 v585
  let v622 := k0_pay108 arg22 v405 v406 v585
  let v624 := k0_pay109 arg23 v405 v406 v585
  let v626 := k0_pay110 arg11 arg24 v471 v472 v476 v555 v564
  let v628 := k0_pay111 arg11 arg25 v471 v472 v476 v555 v564
  let v630 := k0_pay112 arg11 arg26 v471 v472 v476 v555 v564
  let v632 := k0_pay113 arg11 arg27 v471 v472 v476 v555 v564
  let v635 := k0_pay114 arg8 v492
  let v637 := k0_pay115 v513
  (Scalar.addi arg7 1#32, v635, k0_pay4 arg9 v637, k0_pay5 arg10 v534, k0_pay6 arg11 v555, v602, v604, v606, v608, v610, v612, v614, v616, v618, v620, v622, v624, v626, v628, v630, v632)

/-- `k` trips at most, each only if the loop goes on. -/
def loop (i : grid0.Coords) (hchk : ∀ n < 43, k0_chk1 i (BitVec.ofNat 32 n)) (X1 : Vec F S1x16384x256 .bf16) (X2 : Vec F S1x256x16384 .bf16) (v4 : IVec S128x512 32) (v3 : IVec S128x512 32) (v32 : FVec F S256x512 .bf16) (v57 : FVec F S256x512 .bf16) (v82 : FVec F S256x512 .bf16) (v107 : FVec F S256x512 .bf16) (v6 : FVec F S384x768 .bf16) :
    ℕ → ℕ → (s : St F) → St F
  | _, 0, s => s
  | n, k + 1, s => if h : n < 43 ∧ s.1 = BitVec.ofNat 32 n then
      (if goOn i s = 1#1 then loop i hchk X1 X2 v4 v3 v32 v57 v82 v107 v6 (n + 1) k (trip i X1 X2 v4 v3 v32 v57 v82 v107 v6 s (h.2 ▸ hchk n h.1)) else s)
    else s

/-- What the loop begins with. -/
def start : St F := (0#32, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38)

/-- What the loop ends with, from the four arrays the kernel is given. -/
def final (i : grid0.Coords) (hchk : ∀ n < 43, k0_chk1 i (BitVec.ofNat 32 n)) (X0 : Vec F S1x4x64x512 .f32) (X1 : Vec F S1x16384x256 .bf16) (X2 : Vec F S1x256x16384 .bf16) (X3 : Vec F S384x768 .bf16) : St F :=
  have v4 : IVec S128x512 32 := iota .tc S128x512 32 [0] iota_S128x512_d0_w32
  let v5 : Vec F S384x768 .bf16 := View.ld X3 (Rect.unit (s := S384x768) ![0, 0] S384x768.size inb_S384x768_S384x768_0_0)
  let v8 : Vec F S1x1x64x128 .f32 := View.ld X0 (Rect.unit (s := S1x4x64x512) ![0, 0, 0, 0] S1x1x64x128.size inb_S1x4x64x512_S1x1x64x128_0_0_0_0)
  let v14 : Vec F S1x1x64x128 .f32 := View.ld X0 (Rect.unit (s := S1x4x64x512) ![0, 0, 0, 128] S1x1x64x128.size inb_S1x4x64x512_S1x1x64x128_0_0_0_128)
  let v20 : Vec F S1x1x64x128 .f32 := View.ld X0 (Rect.unit (s := S1x4x64x512) ![0, 0, 0, 256] S1x1x64x128.size inb_S1x4x64x512_S1x1x64x128_0_0_0_256)
  let v26 : Vec F S1x1x64x128 .f32 := View.ld X0 (Rect.unit (s := S1x4x64x512) ![0, 0, 0, 384] S1x1x64x128.size inb_S1x4x64x512_S1x1x64x128_0_0_0_384)
  let v3 := k0_pay7
  let v6 := k0_pay8 v5
  let v7 := k0_pay9 (F := F)
  let v32 := k0_pay10 v8 v14 v20 v26
  let v33 : Vec F S1x1x64x128 .f32 := View.ld X0 (Rect.unit (s := S1x4x64x512) ![0, 1, 0, 0] S1x1x64x128.size inb_S1x4x64x512_S1x1x64x128_0_1_0_0)
  let v39 : Vec F S1x1x64x128 .f32 := View.ld X0 (Rect.unit (s := S1x4x64x512) ![0, 1, 0, 128] S1x1x64x128.size inb_S1x4x64x512_S1x1x64x128_0_1_0_128)
  let v45 : Vec F S1x1x64x128 .f32 := View.ld X0 (Rect.unit (s := S1x4x64x512) ![0, 1, 0, 256] S1x1x64x128.size inb_S1x4x64x512_S1x1x64x128_0_1_0_256)
  let v51 : Vec F S1x1x64x128 .f32 := View.ld X0 (Rect.unit (s := S1x4x64x512) ![0, 1, 0, 384] S1x1x64x128.size inb_S1x4x64x512_S1x1x64x128_0_1_0_384)
  let v58 : Vec F S1x1x64x128 .f32 := View.ld X0 (Rect.unit (s := S1x4x64x512) ![0, 2, 0, 0] S1x1x64x128.size inb_S1x4x64x512_S1x1x64x128_0_2_0_0)
  let v57 := k0_pay11 v7 v33 v39 v45 v51
  let v63 := k0_pay12 v7 v58
  let v64 : Vec F S1x1x64x128 .f32 := View.ld X0 (Rect.unit (s := S1x4x64x512) ![0, 2, 0, 128] S1x1x64x128.size inb_S1x4x64x512_S1x1x64x128_0_2_0_128)
  let v70 : Vec F S1x1x64x128 .f32 := View.ld X0 (Rect.unit (s := S1x4x64x512) ![0, 2, 0, 256] S1x1x64x128.size inb_S1x4x64x512_S1x1x64x128_0_2_0_256)
  let v76 : Vec F S1x1x64x128 .f32 := View.ld X0 (Rect.unit (s := S1x4x64x512) ![0, 2, 0, 384] S1x1x64x128.size inb_S1x4x64x512_S1x1x64x128_0_2_0_384)
  let v83 : Vec F S1x1x64x128 .f32 := View.ld X0 (Rect.unit (s := S1x4x64x512) ![0, 3, 0, 0] S1x1x64x128.size inb_S1x4x64x512_S1x1x64x128_0_3_0_0)
  let v89 : Vec F S1x1x64x128 .f32 := View.ld X0 (Rect.unit (s := S1x4x64x512) ![0, 3, 0, 128] S1x1x64x128.size inb_S1x4x64x512_S1x1x64x128_0_3_0_128)
  let v95 : Vec F S1x1x64x128 .f32 := View.ld X0 (Rect.unit (s := S1x4x64x512) ![0, 3, 0, 256] S1x1x64x128.size inb_S1x4x64x512_S1x1x64x128_0_3_0_256)
  let v82 := k0_pay13 v7 v63 v64 v70 v76
  let v88 := k0_pay14 v7 v83
  let v94 := k0_pay15 v7 v89
  let v96 := k0_pay16 v95
  let v97 := k0_pay17 (F := F)
  let v101 : Vec F S1x1x64x128 .f32 := View.ld X0 (Rect.unit (s := S1x4x64x512) ![0, 3, 0, 384] S1x1x64x128.size inb_S1x4x64x512_S1x1x64x128_0_3_0_384)
  loop i hchk X1 X2 v4 v3 v32 v57 v82 (k0_pay18 v7 v88 v94 v96 v97 v101) v6 0 43 start

/-- The four blocks of rows the kernel stores, last first. -/
def pieces (s : St F) : List (View.Piece (Elt F) S1x512x256 .f32) :=
  [⟨Rect.unit (s := S1x512x256) ![0, 384, 0] S1x128x256.size inb_S1x512x256_S1x128x256_0_384_0, k0_pay2 s.2.2.2.2.2.2.2.2.2.2.2.2.2.2.2.2.2.1 s.2.2.2.2.2.2.2.2.2.2.2.2.2.2.2.2.2.2.1 s.2.2.2.2.2.2.2.2.2.2.2.2.2.2.2.2.2.2.2.1 s.2.2.2.2.2.2.2.2.2.2.2.2.2.2.2.2.2.2.2.2⟩,
    ⟨Rect.unit (s := S1x512x256) ![0, 256, 0] S1x128x256.size inb_S1x512x256_S1x128x256_0_256_0, k0_pay1 s.2.2.2.2.2.2.2.2.2.2.2.2.2.2.1 s.2.2.2.2.2.2.2.2.2.2.2.2.2.2.2.1 s.2.2.2.2.2.2.2.2.2.2.2.2.2.2.2.2.1 (k0_pay42 s.2.2.2.2.2.2.2.2.2.2.2.2.2.1) k0_pay43⟩,
    ⟨Rect.unit (s := S1x512x256) ![0, 128, 0] S1x128x256.size inb_S1x512x256_S1x128x256_0_128_0, k0_pay41 s.2.2.2.2.2.2.2.2.2.1 s.2.2.2.2.2.2.2.2.2.2.1 s.2.2.2.2.2.2.2.2.2.2.2.1 s.2.2.2.2.2.2.2.2.2.2.2.2.1⟩,
    ⟨Rect.unit (s := S1x512x256) ![0, 0, 0] S1x128x256.size inb_S1x512x256_S1x128x256_0_0_0, k0_pay40 s.2.2.2.2.2.2.1 s.2.2.2.2.2.2.2.1 s.2.2.2.2.2.2.2.2.1 (k0_pay39 s.2.2.2.2.2.1)⟩]

/-- What the kernel leaves in its output block. -/
def outBlk (s : St F) : Vec F S1x512x256 .f32 := View.canon (pieces s)

end Cert.Kernel3Ideal.Sb

end
-- ==== Proof.SbKernel3IdealLoop.lean ====
module

public import proofs.«01_k».proof.Proof.SbKernel3IdealStep
public import proofs.«01_k».proof.Proof.Gen.Kernel3Ideal.Launch
public import proofs.«01_k».proof.Proof.Gen.Kernel3Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel3Ideal.Sb

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The trips still to run bound the loop. -/
abbrev 𝒱₀ : Variants := Variants.nat

/-! ## The loop's offsets -/

/-- The word a trip computes for the row of a key block. -/
abbrev offW (a n r s : ℕ) : BitVec 32 :=
  Scalar.muli (Scalar.maxsi (Scalar.subi (Scalar.subi (Scalar.addi (Scalar.muli 4#32 (BitVec.ofNat 32 a)) (BitVec.ofNat 32 r)) (Scalar.muli 3#32 (BitVec.ofNat 32 n))) (BitVec.ofNat 32 s)) 0#32) 128#32

set_option maxRecDepth 100000 in
/-- Its value. -/
theorem offW_val : ∀ a : Fin 32, ∀ n : Fin 43, ∀ r : Fin 4, ∀ s : Fin 3,
    (offW a.val n.val r.val s.val).toNat = 128 * (4 * a.val + r.val - 3 * n.val - s.val) := by decide +kernel

theorem offW_at (a n r s : ℕ) (ha : a < 32) (hn : n < 43) (hr : r < 4) (hs : s < 3) :
    (offW a n r s).toNat = 128 * (4 * a + r - 3 * n - s) := offW_val ⟨a, ha⟩ ⟨n, hn⟩ ⟨r, hr⟩ ⟨s, hs⟩

theorem off1_at (i : grid0.Coords) (n : ℕ) (hn : n < 43) (r : Fin 4) (s : Fin 3) :
    k0_off1 i (BitVec.ofNat 32 n) (BitVec.ofNat 32 r.val) (BitVec.ofNat 32 s.val) = ![0, 128 * (4 * (i 1).val + r.val - 3 * n - s.val), 0] := by
  have h := offW_at (i 1).val n r.val s.val (i 1).isLt hn r.isLt s.isLt
  unfold k0_off1
  rw [← h]; rfl

theorem off2_at (i : grid0.Coords) (n : ℕ) (hn : n < 43) (r : Fin 4) (s : Fin 3) :
    k0_off2 i (BitVec.ofNat 32 n) (BitVec.ofNat 32 r.val) (BitVec.ofNat 32 s.val) = ![0, 0, 128 * (4 * (i 1).val + r.val - 3 * n - s.val)] := by
  have h := offW_at (i 1).val n r.val s.val (i 1).isLt hn r.isLt s.isLt
  unfold k0_off2
  rw [← h]; rfl

/-- Every trip's offsets are in range and lie on block boundaries. -/
theorem chk (i : grid0.Coords) (n : ℕ) (hn : n < 43) : k0_chk1 i (BitVec.ofNat 32 n) := by
  have hm : ∀ r s, r < 4 → s < 3 → 128 ∣ (offW (i 1).val n r s).toNat := fun r s hr hs => by
    rw [offW_at (i 1).val n r s (i 1).isLt hn hr hs]; exact Nat.dvd_mul_right _ _
  have ha : (i 1).val < 32 := (i 1).isLt
  refine ⟨hm 0 2 (by decide) (by decide), fun r s => ?_, fun r s => ?_, hm 0 1 (by decide) (by decide), hm 0 0 (by decide) (by decide),
    hm 1 2 (by decide) (by decide), hm 1 1 (by decide) (by decide), hm 1 0 (by decide) (by decide),
    hm 2 2 (by decide) (by decide), hm 2 1 (by decide) (by decide), hm 2 0 (by decide) (by decide),
    hm 3 2 (by decide) (by decide), hm 3 1 (by decide) (by decide), hm 3 0 (by decide) (by decide)⟩
  · rw [off1_at i n hn r s]
    have hr := r.isLt
    intro a; fin_cases a
    · show 0 + 1 ≤ 1; omega
    · show 128 * (4 * (i 1).val + r.val - 3 * n - s.val) + 128 ≤ 16384; omega
    · show 0 + 256 ≤ 256; omega
  · rw [off2_at i n hn r s]
    have hr := r.isLt
    intro a; fin_cases a
    · show 0 + 1 ≤ 1; omega
    · show 0 + 256 ≤ 256; omega
    · show 128 * (4 * (i 1).val + r.val - 3 * n - s.val) + 128 ≤ 16384; omega

set_option maxRecDepth 100000 in
theorem left_val : ∀ a : Fin 32, ∀ n : Fin 44,
    Scalar.cmpi .sge (Scalar.subi (Scalar.subi (Scalar.addi (Scalar.muli 4#32 (BitVec.ofNat 32 a.val)) 4#32) 1#32) (Scalar.muli 3#32 (BitVec.ofNat 32 n.val))) 0#32
      = BitVec.ofBool (decide (3 * n.val ≤ 4 * a.val + 3)) := by decide +kernel

/-- After the last trip no key block is left. -/
theorem goOn_last (i : grid0.Coords) (s : St F) (h : s.1 = BitVec.ofNat 32 43) : ¬goOn i s = 1#1 := by
  have ha : (i 1).val < 32 := (i 1).isLt
  have hl := left_val (i 1) (43 : Fin 44)
  unfold goOn
  rw [h]
  rw [show (43 : ℕ) = ((43 : Fin 44) : ℕ) from rfl, hl]
  have : (decide (3 * ((43 : Fin 44) : ℕ) ≤ 4 * (i 1).val + 3)) = false := decide_eq_false (by show ¬(3 * 43 ≤ _); omega)
  rw [this]
  intro hh
  have h0 : Scalar.andi (BitVec.ofBool false) (Scalar.cmpf .ogt (k0_pay3 s.2.1 s.2.2.1 s.2.2.2.1 s.2.2.2.2.1) (Named.named κ "floor" 0xC3160A50#32 : F .f32)) = 0#1 :=
    BitVec.zero_and
  rw [h0] at hh
  exact absurd hh (by decide)

/-! ## The loop's label -/

section Label

variable (c : Dev nD) (i : grid0.Coords) (arg3 : Memref sig .tc .vmem S1x16384x256 .bf16) (harg3 : arg3.IsWhole) (arg4 : Memref sig .tc .vmem S1x256x16384 .bf16) (harg4 : arg4.IsWhole)
  (v4 : IVec S128x512 32) (v3 : IVec S128x512 32) (v32 : FVec F S256x512 .bf16) (v57 : FVec F S256x512 .bf16) (v82 : FVec F S256x512 .bf16) (v107 : FVec F S256x512 .bf16) (v6 : FVec F S384x768 .bf16)
  (f3 : Buf (Elt F) (arg3.view.loc (c : Thread nD τ))) (f4 : Buf (Elt F) (arg4.view.loc (c : Thread nD τ)))

/-- The keys and the values, held. -/
def held : sProp 𝕄 :=
  iprop((arg3.view.loc (c : Thread nD τ) ↦[arg3.view.set]{fullShare} f3) ∗ (arg4.view.loc (c : Thread nD τ) ↦[arg4.view.set]{fullShare} f4))

/-- The label's specification: it leaves what it reads as it was and returns the loop's result. -/
def spec (r : St F) : sWPT 𝕄 (St F) := do
  sWPT.consume (held c arg3 arg4 f3 f4)
  sWPT.produce (held c arg3 arg4 f3 f4)
  pure r

theorem spec_apply (r : St F) (K : St F → sProp 𝕄) :
    spec c arg3 arg4 f3 f4 r K = iprop(held c arg3 arg4 f3 f4 ∗ (held c arg3 arg4 f3 f4 -∗ K r)) := rfl

set_option maxHeartbeats 4000000 in
theorem spec_le (E : Set ℕ) : ∀ k n, n + k = 43 → ∀ (s : St F), s.1 = BitVec.ofNat 32 n → ∀ K : St F → sProp 𝕄,
    spec c arg3 arg4 f3 f4 (loop i (chk i) (arg3.view.read (Elt F) f3) (arg4.view.read (Elt F) f4) v4 v3 v32 v57 v82 v107 v6 n k s) K
      ⊢ wp frame (wpE (defs₀ (F := F)) 𝒱₀ (c : Thread nD τ) (some k)) E
          (defs₀ (F := F) .tc 1 ⟨i, arg3, harg3, arg4, harg4, v4, v3, v32, v57, v82, v107, v6, s.1, s.2.1, s.2.2.1, s.2.2.2.1, s.2.2.2.2.1, s.2.2.2.2.2.1, s.2.2.2.2.2.2.1, s.2.2.2.2.2.2.2.1, s.2.2.2.2.2.2.2.2.1, s.2.2.2.2.2.2.2.2.2.1, s.2.2.2.2.2.2.2.2.2.2.1, s.2.2.2.2.2.2.2.2.2.2.2.1, s.2.2.2.2.2.2.2.2.2.2.2.2.1, s.2.2.2.2.2.2.2.2.2.2.2.2.2.1, s.2.2.2.2.2.2.2.2.2.2.2.2.2.2.1, s.2.2.2.2.2.2.2.2.2.2.2.2.2.2.2.1, s.2.2.2.2.2.2.2.2.2.2.2.2.2.2.2.2.1, s.2.2.2.2.2.2.2.2.2.2.2.2.2.2.2.2.2.1, s.2.2.2.2.2.2.2.2.2.2.2.2.2.2.2.2.2.2.1, s.2.2.2.2.2.2.2.2.2.2.2.2.2.2.2.2.2.2.2.1, s.2.2.2.2.2.2.2.2.2.2.2.2.2.2.2.2.2.2.2.2⟩) K := by
  intro k
  induction k with
  | zero =>
    intro n hn s hs K
    rw [spec_apply]
    show _ ⊢ wp frame (wpE (defs₀ (F := F)) 𝒱₀ (c : Thread nD τ) (some 0)) E
      (cc0_while1 i arg3 harg3 arg4 harg4 v4 v3 v32 v57 v82 v107 v6 (s.1) (s.2.1) (s.2.2.1) (s.2.2.2.1) (s.2.2.2.2.1) (s.2.2.2.2.2.1) (s.2.2.2.2.2.2.1) (s.2.2.2.2.2.2.2.1) (s.2.2.2.2.2.2.2.2.1) (s.2.2.2.2.2.2.2.2.2.1) (s.2.2.2.2.2.2.2.2.2.2.1) (s.2.2.2.2.2.2.2.2.2.2.2.1) (s.2.2.2.2.2.2.2.2.2.2.2.2.1) (s.2.2.2.2.2.2.2.2.2.2.2.2.2.1) (s.2.2.2.2.2.2.2.2.2.2.2.2.2.2.1) (s.2.2.2.2.2.2.2.2.2.2.2.2.2.2.2.1) (s.2.2.2.2.2.2.2.2.2.2.2.2.2.2.2.2.1) (s.2.2.2.2.2.2.2.2.2.2.2.2.2.2.2.2.2.1) (s.2.2.2.2.2.2.2.2.2.2.2.2.2.2.2.2.2.2.1) (s.2.2.2.2.2.2.2.2.2.2.2.2.2.2.2.2.2.2.2.1) (s.2.2.2.2.2.2.2.2.2.2.2.2.2.2.2.2.2.2.2.2)) K
    simp only [cc0_while1_eq_skeleton]; unfold cc0_while1_skel
    have hz : n = 43 := by omega
    subst hz
    have htest := goOn_last i s hs
    unfold goOn at htest
    simp only [htest, ↓reduceIte, Prog.pure_eq_ret]
    iintro ⟨H, Hk⟩
    rw [wp_ret]; imodintro
    unfold loop
    iapply Hk; iexact H
  | succ k ih =>
    intro n hn s hs K
    rw [spec_apply]
    show _ ⊢ wp frame (wpE (defs₀ (F := F)) 𝒱₀ (c : Thread nD τ) (some (k + 1))) E
      (cc0_while1 i arg3 harg3 arg4 harg4 v4 v3 v32 v57 v82 v107 v6 (s.1) (s.2.1) (s.2.2.1) (s.2.2.2.1) (s.2.2.2.2.1) (s.2.2.2.2.2.1) (s.2.2.2.2.2.2.1) (s.2.2.2.2.2.2.2.1) (s.2.2.2.2.2.2.2.2.1) (s.2.2.2.2.2.2.2.2.2.1) (s.2.2.2.2.2.2.2.2.2.2.1) (s.2.2.2.2.2.2.2.2.2.2.2.1) (s.2.2.2.2.2.2.2.2.2.2.2.2.1) (s.2.2.2.2.2.2.2.2.2.2.2.2.2.1) (s.2.2.2.2.2.2.2.2.2.2.2.2.2.2.1) (s.2.2.2.2.2.2.2.2.2.2.2.2.2.2.2.1) (s.2.2.2.2.2.2.2.2.2.2.2.2.2.2.2.2.1) (s.2.2.2.2.2.2.2.2.2.2.2.2.2.2.2.2.2.1) (s.2.2.2.2.2.2.2.2.2.2.2.2.2.2.2.2.2.2.1) (s.2.2.2.2.2.2.2.2.2.2.2.2.2.2.2.2.2.2.2.1) (s.2.2.2.2.2.2.2.2.2.2.2.2.2.2.2.2.2.2.2.2)) K
    simp only [cc0_while1_eq_skeleton]; unfold cc0_while1_skel
    have hlt : n < 43 ∧ s.1 = BitVec.ofNat 32 n := ⟨by omega, hs⟩
    have hchk : k0_chk1 i s.1 := hs ▸ chk i n hlt.1
    unfold loop
    rw [dif_pos hlt]
    by_cases htest : goOn i s = 1#1
    · rw [if_pos htest]
      have ht := htest
      unfold goOn at ht
      simp only [ht, ↓reduceIte]
      simp only [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
      unfold held
      iintro ⟨⟨H3, H4⟩, Hk⟩
      sl_exec
      iapply (wp_call_spec 𝒱₀ (c : Thread nD τ) (some (k + 1)) E
        (spec c arg3 arg4 f3 f4 (loop i (chk i) (arg3.view.read (Elt F) f3) (arg4.view.read (Elt F) f4) v4 v3 v32 v57 v82 v107 v6 (n + 1) k
          (trip i (arg3.view.read (Elt F) f3) (arg4.view.read (Elt F) f4) v4 v3 v32 v57 v82 v107 v6 s hchk))) k
        (fun u hu => by cases hu; exact Nat.lt_succ_self k)
        (fun K' => ih (n + 1) (by omega) (trip i (arg3.view.read (Elt F) f3) (arg4.view.read (Elt F) f4) v4 v3 v32 v57 v82 v107 v6 s hchk) (by unfold trip; show Scalar.addi s.1 1#32 = _; rw [hs]; exact (BitVec.ofNat_add _ _).symm) K'))
      rw [spec_apply]; unfold held
      isplitl [H3 H4]
      · isplitl [H3]; · iexact H3
        iexact H4
      iintro ⟨H3, H4⟩
      sl_step
      iapply Hk
      isplitl [H3]; · iexact H3
      iexact H4
    · rw [if_neg htest]
      have ht := htest
      unfold goOn at ht
      simp only [ht, ↓reduceIte, Prog.pure_eq_ret]
      iintro ⟨H, Hk⟩
      rw [wp_ret]; imodintro
      iapply Hk; iexact H

end Label

end Cert.Kernel3Ideal.Sb

end
-- ==== Proof.SbKernel3IdealRun.lean ====
module

public import proofs.«01_k».proof.Proof.SbKernel3IdealLoop
public import proofs.«01_k».proof.Proof.Gen.Kernel3Ideal.Launch
public import proofs.«01_k».proof.Proof.Gen.Kernel3Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel3Ideal.Sb

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body on any staging buffers -/

/-- What the kernel leaves in its output block, from what its four input blocks hold. -/
def out (i : grid0.Coords) (x0 : Vec F S1x4x64x512 .f32) (x1 : Vec F S1x16384x256 .bf16) (x2 : Vec F S1x256x16384 .bf16) (x3 : Vec F S384x768 .bf16) : Vec F S1x512x256 .f32 :=
  outBlk (final i (chk i) x0 x1 x2 x3)

theorem cover (p0 p1 p2 p3 : Vec F S1x128x256 .f32) (y : S1x512x256.Idx) :
    ∃ pc ∈ ([⟨Rect.unit (s := S1x512x256) ![0, 384, 0] S1x128x256.size inb_S1x512x256_S1x128x256_0_384_0, p0⟩,
      ⟨Rect.unit (s := S1x512x256) ![0, 256, 0] S1x128x256.size inb_S1x512x256_S1x128x256_0_256_0, p1⟩,
      ⟨Rect.unit (s := S1x512x256) ![0, 128, 0] S1x128x256.size inb_S1x512x256_S1x128x256_0_128_0, p2⟩,
      ⟨Rect.unit (s := S1x512x256) ![0, 0, 0] S1x128x256.size inb_S1x512x256_S1x128x256_0_0_0, p3⟩] : List (View.Piece (Elt F) S1x512x256 .f32)), y ∈ pc.1.set :=
  View.cover_of_tiled [⟨Rect.unit (s := S1x512x256) ![0, 384, 0] S1x128x256.size inb_S1x512x256_S1x128x256_0_384_0, p0⟩,
      ⟨Rect.unit (s := S1x512x256) ![0, 256, 0] S1x128x256.size inb_S1x512x256_S1x128x256_0_256_0, p1⟩,
      ⟨Rect.unit (s := S1x512x256) ![0, 128, 0] S1x128x256.size inb_S1x512x256_S1x128x256_0_128_0, p2⟩,
      ⟨Rect.unit (s := S1x512x256) ![0, 0, 0] S1x128x256.size inb_S1x512x256_S1x128x256_0_0_0, p3⟩] S1x128x256.size (by rfl) y

set_option maxHeartbeats 4000000 in
theorem body_sound (c : Dev nD) (E : Set ℕ) (i : grid0.Coords) (arg2 : Memref sig .tc .vmem S1x4x64x512 .f32) (harg2 : arg2.IsWhole) (arg3 : Memref sig .tc .vmem S1x16384x256 .bf16) (harg3 : arg3.IsWhole) (arg4 : Memref sig .tc .vmem S1x256x16384 .bf16) (harg4 : arg4.IsWhole) (arg5 : Memref sig .tc .vmem S384x768 .bf16) (harg5 : arg5.IsWhole) (arg6 : Memref sig .tc .vmem S1x512x256 .f32) (harg6 : arg6.IsWhole)
    (x0 : Vec F S1x4x64x512 .f32) (x1 : Vec F S1x16384x256 .bf16) (x2 : Vec F S1x256x16384 .bf16) (x3 : Vec F S384x768 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out i x0 x1 x2 x3)) -∗ K ⟨⟩))
      ⊢ wp frame (wpE (defs₀ (F := F)) 𝒱₀ c none) E (cc0_sb_attn i arg2 harg2 arg3 harg3 arg4 harg4 arg5 harg5 arg6 harg6) K := by
  simp only [cc0_sb_attn_eq_skeleton]; unfold cc0_sb_attn_skel
  simp only [k0_part1_eq_skeleton, k0_part2_eq_skeleton, k0_part3_eq_skeleton, k0_part4_eq_skeleton, k0_part5_eq_skeleton]
  unfold owns
  iintro ⟨⟨%f2, %hf2, H2⟩, ⟨%f3, %hf3, H3⟩, ⟨%f4, %hf4, H4⟩, ⟨%f5, %hf5, H5⟩, ⟨%d6, %f6, -, H6⟩, Hk⟩
  subst hf2 hf3 hf4 hf5
  sl_exec
  iapply (wp_call_spec 𝒱₀ (c : Thread nD τ) none E
    (spec c arg3 arg4 f3 f4 (final i (chk i) (arg2.view.read (Elt F) f2) (arg3.view.read (Elt F) f3) (arg4.view.read (Elt F) f4) (arg5.view.read (Elt F) f5))) 43
    (fun u hu => by cases hu)
    (fun K' => spec_le c i arg3 harg3 arg4 harg4 _ _ _ _ _ _ _ f3 f4 E 43 0 rfl start rfl K'))
  rw [spec_apply]; unfold held
  isplitl [H3 H4]
  · isplitl [H3]; · iexact H3
    iexact H4
  iintro ⟨H3, H4⟩
  generalize hr : final i (chk i) (arg2.view.read (Elt F) f2) (arg3.view.read (Elt F) f3) (arg4.view.read (Elt F) f4) (arg5.view.read (Elt F) f5) = r
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  unfold out outBlk pieces
  rw [hr]
  exact View.read_writes_eq_canon _ _ _ (cover _ _ _ _)

/-! ## @main up to the kernel -/

/-- The buffers when the kernel is entered: after the host operations. -/
abbrev V (c : Dev nD) (b : Ref sig .tc) : Buf (Elt F) ((c : Thread nD τ).loc b) :=
  StableHlo.after [hostOps0, hostOps0_1, hostOps0_2].flatten (fun b => m (c, b)) b

set_option maxHeartbeats 1600000 in
theorem hmain : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] ⟨hostOps0_sub, hostOps0_1_sub, hostOps0_2_sub⟩
    (by simp only [List.Forall]; repeat' constructor) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.reshape_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.reshape_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.reshape_writes, Finset.mem_singleton]
    repeat' apply And.intro
    all_goals exact StableHlo.devRef_ne_of_ne (by decide)))

/-- A window's block at a point, read off its array. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-! ## The pipeline's proof data -/

def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out (grid0.coords t) (iblk m c 0 t) (iblk m c 1 t) (iblk m c 2 t) (iblk m c 3 t)
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = iblk m c 3 t := by dsimp only [dats]; rfl
theorem after0_4 (c : Dev nD) (t : Fin (cfg0 (F := F)).N) : (dats m 0 c).after 4 t = out (grid0.coords t) (iblk m c 0 t) (iblk m c 1 t) (iblk m c 2 t) (iblk m c 3 t) := by dsimp only [dats]; rfl

theorem before0_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin (cfg0 (F := F)).N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-- What the body is called with, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_at (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (body_sound c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row (t : Fin (cfg0 (F := F)).N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_at m c t) rfl .rfl fun _ => .rfl

/-! ## The run -/

set_option backward.isDefEq.respectTransparency.types false in
set_option maxHeartbeats 1600000 in
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m) (hA := A_eq m) (hΦ := fun _ _ => rfl)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨((h.1 c).2 main_arg0 (Pipeline.mem_restRefs_of main_arg0 (by decide) (by exact (by decide : ∀ w : Fin 5, (spec0 w).arr.view.ref ≠ main_arg0)))).trans (V_main_arg0 m c),
      ((h.1 c).2 main_arg1 (Pipeline.mem_restRefs_of main_arg1 (by decide) (by exact (by decide : ∀ w : Fin 5, (spec0 w).arr.view.ref ≠ main_arg1)))).trans (V_main_arg1 m c),
      ((h.1 c).2 main_arg2 (Pipeline.mem_restRefs_of main_arg2 (by decide) (by exact (by decide : ∀ w : Fin 5, (spec0 w).arr.view.ref ≠ main_arg2)))).trans (V_main_arg2 m c)⟩, h.2⟩) (run_main m ρ)

end Cert.Kernel3Ideal.Sb

end
-- ==== Proof.PreFinite3.lean ====
module

public import proofs.«01_k».proof.Pre_finite3
public import proofs.«01_k».proof.Proof.PreFinite

@[expose] public section

noncomputable section

namespace Cert.Pre_finite3

open Idealize.ShloMosaic

/-- The precondition's shape relations hold. -/
theorem factsHold : Facts where
  bcast_S_S2x16384x256 := by decide
  reducesTo_S2x16384x256_S_d0_1_2 := by decide
  h_S_ := by decide

/-- The queries and the keys are real. -/
theorem real_args (Q K V : FVec Ideal S2x16384x256 .f32) (h : @fn factsHold Ideal _ Q K V = fun _ => 1#1) :
    (∀ i, ∃ r : ℝ, (Q i : EReal) = (r : EReal)) ∧ ∀ i, ∃ r : ℝ, (K i : EReal) = (r : EReal) := by
  have h0 := congrFun h (Shape.Idx.first factsHold.h_S_)
  dsimp only [fn] at h0
  obtain ⟨hQ, hK⟩ := Cert.Pre_finite.and_one _ _ h0
  exact ⟨fun i => Cert.Pre_finite.elem _ Q i (Host.reduce_andi_all _ _ _ _ _ hQ i), fun i => Cert.Pre_finite.elem _ K i (Host.reduce_andi_all _ _ _ _ _ hK i)⟩

end Cert.Pre_finite3

end
-- ==== Proof.SbBlock.lean ====
module

public import proofs.«01_k».proof.Proof.SbKernel3IdealLoop
public import Idealize.ShloMosaic.Lib.Claim
public import Idealize.ShloMosaic.Lib.Pipeline.ValueKit
public import Idealize.ShloMosaic.Lib.Pointwise

@[expose] public section

set_option maxRecDepth 16384

noncomputable section

namespace Cert.Sb

open Cert.Kernel3Ideal Cert.Kernel3Ideal.Gen Cert.Kernel3Ideal.Sb Idealize.ShloMosaic Idealize.ShloMosaic.TcCoe Idealize.SL.Sem

/-- Which rows of one key block lie before each query: the block is a real one, and the key's
    position is below the query's. -/
def befP (v4 v3 : IVec S128x512 32) (v0 r top j : BitVec 32) : IVec S128x512 1 :=
  andi (broadcast S128x512 (Scalar.cmpi .sge (Scalar.subi top j) 0#32))
    (cmpi .slt (addi (broadcast S128x512 (Scalar.muli (Scalar.maxsi (Scalar.subi top j) 0#32) 128#32)) v4) (addi (broadcast S128x512 (Scalar.muli 128#32 (Scalar.addi v0 r))) v3))

/-- The same for the three key blocks of one trip. -/
def bef (v4 v3 : IVec S128x512 32) (v0 r it : BitVec 32) : IVec S384x512 1 :=
  concatenate S384x512 0 [⟨S128x512, befP v4 v3 v0 r (Scalar.subi (Scalar.addi v0 r) (Scalar.muli 3#32 it)) 2#32⟩,
    ⟨S128x512, befP v4 v3 v0 r (Scalar.subi (Scalar.addi v0 r) (Scalar.muli 3#32 it)) 1#32⟩,
    ⟨S128x512, befP v4 v3 v0 r (Scalar.subi (Scalar.addi v0 r) (Scalar.muli 3#32 it)) 0#32⟩] concatenates_S128x512_S128x512_S128x512_S384x512_d0

/-- One loaded block of keys, and of transposed values. -/
def kld (i : grid0.Coords) (it : BitVec 32) (hw : k0_chk1 i it) (X1 : Vec Ideal S1x16384x256 .bf16) (r : Fin 4) (j : Fin 3) : Vec Ideal S1x128x256 .bf16 :=
  View.ld X1 (Rect.unit (s := S1x16384x256) (k0_off1 i it (BitVec.ofNat 32 r.val) (BitVec.ofNat 32 j.val)) S1x128x256.size (k0_off1_inb i it hw r j))
def vld (i : grid0.Coords) (it : BitVec 32) (hw : k0_chk1 i it) (X2 : Vec Ideal S1x256x16384 .bf16) (r : Fin 4) (j : Fin 3) : Vec Ideal S1x256x128 .bf16 :=
  View.ld X2 (Rect.unit (s := S1x256x16384) (k0_off2 i it (BitVec.ofNat 32 r.val) (BitVec.ofNat 32 j.val)) S1x256x128.size (k0_off2_inb i it hw r j))

/-- The keys of one trip, and its transposed values. -/
def kcat (k : Fin 3 → Vec Ideal S1x128x256 .bf16) : FVec Ideal S384x256 .bf16 :=
  concatenate S384x256 0 [⟨S128x256, shapeCast S128x256 (k 2) shapeCasts_S1x128x256_S128x256⟩, ⟨S128x256, shapeCast S128x256 (k 1) shapeCasts_S1x128x256_S128x256⟩,
    ⟨S128x256, shapeCast S128x256 (k 0) shapeCasts_S1x128x256_S128x256⟩] concatenates_S128x256_S128x256_S128x256_S384x256_d0
def vcat (v : Fin 3 → Vec Ideal S1x256x128 .bf16) : FVec Ideal S256x384 .bf16 :=
  concatenate S256x384 1 [⟨S256x128, shapeCast S256x128 (v 2) shapeCasts_S1x256x128_S256x128⟩, ⟨S256x128, shapeCast S256x128 (v 1) shapeCasts_S1x256x128_S256x128⟩,
    ⟨S256x128, shapeCast S256x128 (v 0) shapeCasts_S1x256x128_S256x128⟩] concatenates_S256x128_S256x128_S256x128_S256x384_d1

/-- The scores. -/
def zOf (kc : FVec Ideal S384x256 .bf16) (q : FVec Ideal S256x512 .bf16) : FVec Ideal S384x512 .f32 :=
  matmul dot_S384x256_S256x512_S384x512_1_0_0_1_n_n none kc q (constant S384x512 .f32 0x00000000#32)

/-- The logarithms of what each key leaves over. -/
def lnOf (b : IVec S384x512 1) (z : FVec Ideal S384x512 .f32) : FVec Ideal S384x512 .f32 :=
  select b
    (subf (broadcast S384x512 (Scalar.ofBits .f32 0x00000000#32))
      (addf (maximumf z (broadcast S384x512 (Scalar.ofBits .f32 0x00000000#32)))
        (mulf (log (addf (broadcast S384x512 (Scalar.ofBits .f32 0x3F800000#32)) (exp2 (subf (broadcast S384x512 (Scalar.ofBits .f32 0x00000000#32)) (absf z)))))
          (broadcast S384x512 (Named.named κ "log2e" 0x3FB8AA3B#32)))))
    (broadcast S384x512 (Scalar.ofBits .f32 0x00000000#32))

/-- The same in two halves, one below the other. -/
def spl (l : FVec Ideal S384x512 .f32) : FVec Ideal S768x512 .bf16 :=
  concatenate S768x512 0 [⟨S384x512, truncf .bf16 l bitsLt_bf16_f32⟩,
    ⟨S384x512, truncf .bf16 (subf l (extf .f32 (truncf .bf16 l bitsLt_bf16_f32) bitsLt_bf16_f32)) bitsLt_bf16_f32⟩] concatenates_S384x512_S384x512_S768x512_d0

/-- Summed over the later keys of the trip. -/
def tailOf (v6 : FVec Ideal S384x768 .bf16) (l : FVec Ideal S384x512 .f32) : FVec Ideal S384x512 .f32 :=
  matmul dot_S384x768_S768x512_S384x512_1_0_0_1_n_n none v6 (spl l) (constant S384x512 .f32 0x00000000#32)

/-- The weights of the keys. -/
def wOf (b : IVec S384x512 1) (z l t : FVec Ideal S384x512 .f32) (c : FVec Ideal S1x512 .f32) : FVec Ideal S384x512 .bf16 :=
  truncf .bf16 (select b (exp2 (addf (addf (addf z l) t) (broadcastTo S384x512 c broadcasts_S1x512_S384x512))) (broadcast S384x512 (Scalar.ofBits .f32 0x00000000#32))) bitsLt_bf16_f32

theorem hsl : ∀ h : Fin 4, S256x512.Slices ![64 * h.val, 128 * h.val] S64x128 := by decide

/-- One head's outputs after the trip. -/
def accOf (h : Fin 4) (acc : FVec Ideal S64x128 .f32) (vc : FVec Ideal S256x384 .bf16) (w : FVec Ideal S384x512 .bf16) : FVec Ideal S64x128 .f32 :=
  addf acc (extractStridedSlice S64x128 ![64 * h.val, 128 * h.val] (matmul dot_S256x384_S384x512_S256x512_1_0_0_1_n_n none vc w (constant S256x512 .f32 0x00000000#32)) (hsl h))

/-- The carry after the trip. -/
def carOf (c : FVec Ideal S1x512 .f32) (l : FVec Ideal S384x512 .f32) : FVec Ideal S1x512 .f32 :=
  addf c (shapeCast S1x512 (multiReduction .add [0] S512 l 0x00000000#32 reduces_S384x512_S512 (.inl rfl) rfl) shapeCasts_S512_S1x512)

/-- A query block's carry and its heads' outputs, out of what a trip carries. -/
def getC (r : Fin 4) (s : St Ideal) : FVec Ideal S1x512 .f32 := ![s.2.1, s.2.2.1, s.2.2.2.1, s.2.2.2.2.1] r
def getA (r h : Fin 4) (s : St Ideal) : FVec Ideal S64x128 .f32 :=
  (![![s.2.2.2.2.2.1, s.2.2.2.2.2.2.1, s.2.2.2.2.2.2.2.1, s.2.2.2.2.2.2.2.2.1],
    ![s.2.2.2.2.2.2.2.2.2.1, s.2.2.2.2.2.2.2.2.2.2.1, s.2.2.2.2.2.2.2.2.2.2.2.1, s.2.2.2.2.2.2.2.2.2.2.2.2.1],
    ![s.2.2.2.2.2.2.2.2.2.2.2.2.2.1, s.2.2.2.2.2.2.2.2.2.2.2.2.2.2.1, s.2.2.2.2.2.2.2.2.2.2.2.2.2.2.2.1, s.2.2.2.2.2.2.2.2.2.2.2.2.2.2.2.2.1],
    ![s.2.2.2.2.2.2.2.2.2.2.2.2.2.2.2.2.2.1, s.2.2.2.2.2.2.2.2.2.2.2.2.2.2.2.2.2.2.1, s.2.2.2.2.2.2.2.2.2.2.2.2.2.2.2.2.2.2.2.1, s.2.2.2.2.2.2.2.2.2.2.2.2.2.2.2.2.2.2.2.2]] : Fin 4 → Fin 4 → FVec Ideal S64x128 .f32) r h

/-- The first query block's number. -/
abbrev v0w (i : grid0.Coords) : BitVec 32 := Scalar.muli 4#32 (BitVec.ofNat 32 (i 1).val)

/-- The scores and logarithms of one query block in one trip. -/
def zz (i : grid0.Coords) (X1 : Vec Ideal S1x16384x256 .bf16) (it : BitVec 32) (hw : k0_chk1 i it) (r : Fin 4) (q : FVec Ideal S256x512 .bf16) : FVec Ideal S384x512 .f32 :=
  zOf (kcat (kld i it hw X1 r)) q
def bb (i : grid0.Coords) (v4 v3 : IVec S128x512 32) (it : BitVec 32) (r : Fin 4) : IVec S384x512 1 := bef v4 v3 (v0w i) (BitVec.ofNat 32 r.val) it

theorem getC_trip (i : grid0.Coords) (X1 : Vec Ideal S1x16384x256 .bf16) (X2 : Vec Ideal S1x256x16384 .bf16) (v4 v3 : IVec S128x512 32) (q : Fin 4 → FVec Ideal S256x512 .bf16) (v6 : FVec Ideal S384x768 .bf16)
    (s : St Ideal) (hw : k0_chk1 i s.1) (r : Fin 4) :
    getC r (trip i X1 X2 v4 v3 (q 0) (q 1) (q 2) (q 3) v6 s hw) = carOf (getC r s) (lnOf (bb i v4 v3 s.1 r) (zz i X1 s.1 hw r (q r))) := by
  fin_cases r <;> rfl

theorem getA_trip (i : grid0.Coords) (X1 : Vec Ideal S1x16384x256 .bf16) (X2 : Vec Ideal S1x256x16384 .bf16) (v4 v3 : IVec S128x512 32) (q : Fin 4 → FVec Ideal S256x512 .bf16) (v6 : FVec Ideal S384x768 .bf16)
    (s : St Ideal) (hw : k0_chk1 i s.1) (r h : Fin 4) :
    getA r h (trip i X1 X2 v4 v3 (q 0) (q 1) (q 2) (q 3) v6 s hw) = accOf h (getA r h s) (vcat (vld i s.1 hw X2 r))
      (wOf (bb i v4 v3 s.1 r) (zz i X1 s.1 hw r (q r)) (lnOf (bb i v4 v3 s.1 r) (zz i X1 s.1 hw r (q r))) (tailOf v6 (lnOf (bb i v4 v3 s.1 r) (zz i X1 s.1 hw r (q r)))) (getC r s)) := by
  fin_cases r <;> fin_cases h <;> rfl

/-- The queries of one block, each head's in its own rows and columns. -/
def qb (X0 : Vec Ideal S1x4x64x512 .f32) : Fin 4 → FVec Ideal S256x512 .bf16 := ![
  k0_pay10 (View.ld X0 (Rect.unit (s := S1x4x64x512) ![0, 0, 0, 0] S1x1x64x128.size inb_S1x4x64x512_S1x1x64x128_0_0_0_0)) (View.ld X0 (Rect.unit (s := S1x4x64x512) ![0, 0, 0, 128] S1x1x64x128.size inb_S1x4x64x512_S1x1x64x128_0_0_0_128)) (View.ld X0 (Rect.unit (s := S1x4x64x512) ![0, 0, 0, 256] S1x1x64x128.size inb_S1x4x64x512_S1x1x64x128_0_0_0_256)) (View.ld X0 (Rect.unit (s := S1x4x64x512) ![0, 0, 0, 384] S1x1x64x128.size inb_S1x4x64x512_S1x1x64x128_0_0_0_384)),
  k0_pay10 (View.ld X0 (Rect.unit (s := S1x4x64x512) ![0, 1, 0, 0] S1x1x64x128.size inb_S1x4x64x512_S1x1x64x128_0_1_0_0)) (View.ld X0 (Rect.unit (s := S1x4x64x512) ![0, 1, 0, 128] S1x1x64x128.size inb_S1x4x64x512_S1x1x64x128_0_1_0_128)) (View.ld X0 (Rect.unit (s := S1x4x64x512) ![0, 1, 0, 256] S1x1x64x128.size inb_S1x4x64x512_S1x1x64x128_0_1_0_256)) (View.ld X0 (Rect.unit (s := S1x4x64x512) ![0, 1, 0, 384] S1x1x64x128.size inb_S1x4x64x512_S1x1x64x128_0_1_0_384)),
  k0_pay10 (View.ld X0 (Rect.unit (s := S1x4x64x512) ![0, 2, 0, 0] S1x1x64x128.size inb_S1x4x64x512_S1x1x64x128_0_2_0_0)) (View.ld X0 (Rect.unit (s := S1x4x64x512) ![0, 2, 0, 128] S1x1x64x128.size inb_S1x4x64x512_S1x1x64x128_0_2_0_128)) (View.ld X0 (Rect.unit (s := S1x4x64x512) ![0, 2, 0, 256] S1x1x64x128.size inb_S1x4x64x512_S1x1x64x128_0_2_0_256)) (View.ld X0 (Rect.unit (s := S1x4x64x512) ![0, 2, 0, 384] S1x1x64x128.size inb_S1x4x64x512_S1x1x64x128_0_2_0_384)),
  k0_pay10 (View.ld X0 (Rect.unit (s := S1x4x64x512) ![0, 3, 0, 0] S1x1x64x128.size inb_S1x4x64x512_S1x1x64x128_0_3_0_0)) (View.ld X0 (Rect.unit (s := S1x4x64x512) ![0, 3, 0, 128] S1x1x64x128.size inb_S1x4x64x512_S1x1x64x128_0_3_0_128)) (View.ld X0 (Rect.unit (s := S1x4x64x512) ![0, 3, 0, 256] S1x1x64x128.size inb_S1x4x64x512_S1x1x64x128_0_3_0_256)) (View.ld X0 (Rect.unit (s := S1x4x64x512) ![0, 3, 0, 384] S1x1x64x128.size inb_S1x4x64x512_S1x1x64x128_0_3_0_384))]

theorem final_eq (i : grid0.Coords) (hchk : ∀ n < 43, k0_chk1 i (BitVec.ofNat 32 n)) (X0 : Vec Ideal S1x4x64x512 .f32) (X1 : Vec Ideal S1x16384x256 .bf16) (X2 : Vec Ideal S1x256x16384 .bf16) (X3 : Vec Ideal S384x768 .bf16) :
    final i hchk X0 X1 X2 X3 = loop i hchk X1 X2 (iota .tc S128x512 32 [0] iota_S128x512_d0_w32) k0_pay7 (qb X0 0) (qb X0 1) (qb X0 2) (qb X0 3)
      (k0_pay8 (View.ld X3 (Rect.unit (s := S384x768) ![0, 0] S384x768.size inb_S384x768_S384x768_0_0))) 0 43 start := rfl

/-- The heads of a query block laid side by side, each turned to rows of queries. -/
def put (o : Fin 4 → FVec Ideal S64x128 .f32) : FVec Ideal S1x128x256 .f32 := k0_pay40 (o 1) (o 2) (o 3) (k0_pay39 (o 0))

theorem outBlk_eq (s : St Ideal) : outBlk s = View.canon
  [⟨Rect.unit (s := S1x512x256) ![0, 384, 0] S1x128x256.size inb_S1x512x256_S1x128x256_0_384_0, put (fun h => getA 3 h s)⟩,
    ⟨Rect.unit (s := S1x512x256) ![0, 256, 0] S1x128x256.size inb_S1x512x256_S1x128x256_0_256_0, put (fun h => getA 2 h s)⟩,
    ⟨Rect.unit (s := S1x512x256) ![0, 128, 0] S1x128x256.size inb_S1x512x256_S1x128x256_0_128_0, put (fun h => getA 1 h s)⟩,
    ⟨Rect.unit (s := S1x512x256) ![0, 0, 0] S1x128x256.size inb_S1x512x256_S1x128x256_0_0_0, put (fun h => getA 0 h s)⟩] := rfl

theorem getC_start (r : Fin 4) : getC r start = broadcast S1x512 (Scalar.ofBits .f32 0x00000000#32) := by
  fin_cases r <;> rfl
theorem getA_start (r h : Fin 4) : getA r h start = broadcast S64x128 (Scalar.ofBits .f32 0x00000000#32) := by
  fin_cases r <;> fin_cases h <;> rfl

end Cert.Sb

end
-- ==== Proof.SbPoint.lean ====
module

public import proofs.«01_k».proof.Proof.SbBlock

@[expose] public section

set_option maxRecDepth 16384

noncomputable section

namespace Cert.Sb

open Cert.Kernel3Ideal Cert.Kernel3Ideal.Gen Cert.Kernel3Ideal.Sb Idealize.ShloMosaic Idealize.ShloMosaic.TcCoe Idealize.SL.Sem

theorem kcat_apply (k : Fin 3 → Vec Ideal S1x128x256 .bf16) (u : Fin 384) (c : Fin 256) :
    kcat k (ix2 u c) = if h : (u : Nat) < 128 then k 2 (ix3 0 ⟨u, h⟩ c) else if h : (u : Nat) - 128 < 128 then k 1 (ix3 0 ⟨u - 128, h⟩ c) else k 0 (ix3 0 ⟨u - 128 - 128, by omega⟩ c) := by
  pointwise [kcat]

theorem vcat_apply (v : Fin 3 → Vec Ideal S1x256x128 .bf16) (u : Fin 384) (c : Fin 256) :
    vcat v (ix2 c u) = if h : (u : Nat) < 128 then v 2 (ix3 0 c ⟨u, h⟩) else if h : (u : Nat) - 128 < 128 then v 1 (ix3 0 c ⟨u - 128, h⟩) else v 0 (ix3 0 c ⟨u - 128 - 128, by omega⟩) := by
  pointwise [vcat]

theorem zOf_apply (kc : FVec Ideal S384x256 .bf16) (q : FVec Ideal S256x512 .bf16) (u : Fin 384) (l : Fin 512) :
    zOf kc q (ix2 u l) = ∑ c : Fin 256, kc (ix2 u c) * q (ix2 c l) := by
  pointwise [zOf]

theorem tailOf_apply (v6 : FVec Ideal S384x768 .bf16) (x : FVec Ideal S384x512 .f32) (u : Fin 384) (l : Fin 512) :
    tailOf v6 x (ix2 u l) = ∑ c : Fin 768, v6 (ix2 u c) * spl x (ix2 c l) := by
  pointwise [tailOf]

theorem spl_apply (x : FVec Ideal S384x512 .f32) (c : Fin 768) (l : Fin 512) :
    spl x (ix2 c l) = if h : (c : Nat) < 384 then x (ix2 ⟨c, h⟩ l) else x (ix2 ⟨c - 384, by omega⟩ l) - x (ix2 ⟨c - 384, by omega⟩ l) := by
  pointwise [spl]

theorem wOf_apply (b : IVec S384x512 1) (z x t : FVec Ideal S384x512 .f32) (c : FVec Ideal S1x512 .f32) (u : Fin 384) (l : Fin 512) :
    wOf b z x t c (ix2 u l) = Scalar.select (b (ix2 u l)) (Ideal.exp2 (z (ix2 u l) + x (ix2 u l) + t (ix2 u l) + c (ix2 0 l))) 0 := by
  pointwise [wOf]
  rfl

theorem carOf_apply (c : FVec Ideal S1x512 .f32) (x : FVec Ideal S384x512 .f32) (l : Fin 512) :
    carOf c x (ix2 0 l) = c (ix2 0 l) + ∑ u : Fin 384, x (ix2 u l) := by
  pointwise [carOf]

theorem accOf_apply (h : Fin 4) (acc : FVec Ideal S64x128 .f32) (vc : FVec Ideal S256x384 .bf16) (w : FVec Ideal S384x512 .bf16) (e : Fin 64) (p : Fin 128) :
    accOf h acc vc w (ix2 e p) = acc (ix2 e p) + ∑ u : Fin 384, vc (ix2 ⟨64 * h + e, by omega⟩ u) * w (ix2 u ⟨128 * h + p, by omega⟩) := by
  pointwise [accOf]

theorem log2e_eq : (Named.named κ "log2e" 0x3FB8AA3B#32 : Ideal .f32) = (((Real.log 2)⁻¹ : ℝ) : EReal) := rfl

theorem lnOf_apply (b : IVec S384x512 1) (z : FVec Ideal S384x512 .f32) (u : Fin 384) (l : Fin 512) :
    lnOf b z (ix2 u l) = Scalar.select (b (ix2 u l)) (0 - (max (z (ix2 u l)) 0 + Ideal.log (1 + Ideal.exp2 (0 - (FloatOps.absf (z (ix2 u l)) : Ideal .f32))) * (((Real.log 2)⁻¹ : ℝ) : EReal))) 0 := by
  pointwise [lnOf]
  rw [log2e_eq]
  rfl

theorem befP_apply (v0 r top j : BitVec 32) (u : Fin 128) (l : Fin 512) :
    befP (iota .tc S128x512 32 [0] iota_S128x512_d0_w32) k0_pay7 v0 r top j (ix2 u l)
      = IntOp.andi (IntOp.cmpi .sge (Scalar.subi top j) 0#32)
          (IntOp.cmpi .slt (IntOp.addi (Scalar.muli (Scalar.maxsi (Scalar.subi top j) 0#32) 128#32) (BitVec.ofNat 32 u)) (IntOp.addi (Scalar.muli 128#32 (Scalar.addi v0 r)) (IntOp.andi (BitVec.ofNat 32 l) 127#32))) := by
  pointwise [befP, k0_pay7]
  rfl

theorem bef_apply (v4 v3 : IVec S128x512 32) (v0 r it : BitVec 32) (u : Fin 384) (l : Fin 512) :
    bef v4 v3 v0 r it (ix2 u l) =
      if h : (u : Nat) < 128 then befP v4 v3 v0 r (Scalar.subi (Scalar.addi v0 r) (Scalar.muli 3#32 it)) 2#32 (ix2 ⟨u, h⟩ l)
      else if h : (u : Nat) - 128 < 128 then befP v4 v3 v0 r (Scalar.subi (Scalar.addi v0 r) (Scalar.muli 3#32 it)) 1#32 (ix2 ⟨u - 128, h⟩ l)
      else befP v4 v3 v0 r (Scalar.subi (Scalar.addi v0 r) (Scalar.muli 3#32 it)) 0#32 (ix2 ⟨u - 128 - 128, by omega⟩ l) := by
  pointwise [bef]

/-- One head's queries in its own rows. -/
def qhead (a : Vec Ideal S1x1x64x128 .f32) : FVec Ideal S64x128 .bf16 :=
  truncf .bf16 (mulf (shapeCast S64x128 a shapeCasts_S1x1x64x128_S64x128) (broadcast S64x128 (Named.named κ "log2e" 0x3FB8AA3B#32))) bitsLt_bf16_f32

theorem qhead_apply (a : Vec Ideal S1x1x64x128 .f32) (e : Fin 64) (p : Fin 128) :
    qhead a (ix2 e p) = a (ix4 0 0 e p) * (((Real.log 2)⁻¹ : ℝ) : EReal) := by
  pointwise [qhead]
  rw [log2e_eq]

theorem pay9_apply (x : S64x128.Idx) : k0_pay9 (F := Ideal) x = 0 := by
  pointwise [k0_pay9]

def qcol (x : Fin 4 → FVec Ideal S64x128 .bf16) : FVec Ideal S256x128 .bf16 :=
  concatenate S256x128 0 [⟨S64x128, x 0⟩, ⟨S64x128, x 1⟩, ⟨S64x128, x 2⟩, ⟨S64x128, x 3⟩] concatenates_S64x128_S64x128_S64x128_S64x128_S256x128_d0

def qrow (y : Fin 4 → FVec Ideal S256x128 .bf16) : FVec Ideal S256x512 .bf16 :=
  concatenate S256x512 1 [⟨S256x128, y 0⟩, ⟨S256x128, y 1⟩, ⟨S256x128, y 2⟩, ⟨S256x128, y 3⟩] concatenates_S256x128_S256x128_S256x128_S256x128_S256x512_d1

theorem qcol_apply (x : Fin 4 → FVec Ideal S64x128 .bf16) (a : Fin 4) (e : Fin 64) (p : Fin 128) :
    qcol x (ix2 ⟨64 * a + e, by omega⟩ p) = x a (ix2 e p) := by
  fin_vals a with ha
  all_goals
    pointwise [qcol]
    split_ifs
    all_goals first
      | (exfalso; omega)
      | rfl
      | (congr 2 <;> (apply Fin.ext; first | omega | (simp; omega)))

theorem qrow_apply (y : Fin 4 → FVec Ideal S256x128 .bf16) (b : Fin 4) (c : Fin 256) (p : Fin 128) :
    qrow y (ix2 c ⟨128 * b + p, by omega⟩) = y b (ix2 c p) := by
  fin_vals b with hb
  all_goals
    pointwise [qrow]
    split_ifs
    all_goals first
      | (exfalso; omega)
      | rfl
      | (congr 2 <;> (apply Fin.ext; first | omega | (simp; omega)))

/-- Sixteen tiles laid out in a square. -/
def qgrid (x : Fin 4 → Fin 4 → FVec Ideal S64x128 .bf16) : FVec Ideal S256x512 .bf16 := qrow fun b => qcol (x b)

theorem qgrid_apply (x : Fin 4 → Fin 4 → FVec Ideal S64x128 .bf16) (a b : Fin 4) (e : Fin 64) (p : Fin 128) :
    qgrid x (ix2 ⟨64 * a + e, by omega⟩ ⟨128 * b + p, by omega⟩) = x b a (ix2 e p) := by
  unfold qgrid
  rw [qrow_apply, qcol_apply]

theorem pay10_eq (a b c d : Vec Ideal S1x1x64x128 .f32) :
    k0_pay10 (F := Ideal) a b c d = qgrid fun h g => if g = h then qhead ((![a, b, c, d] : Fin 4 → Vec Ideal S1x1x64x128 .f32) h) else k0_pay9 := rfl

theorem put_apply (o : Fin 4 → FVec Ideal S64x128 .f32) (h : Fin 4) (p : Fin 128) (e : Fin 64) :
    put o (ix3 0 p ⟨64 * h + e, by omega⟩) = o h (ix2 e p) := by
  fin_vals h with hr
  all_goals
    pointwise [put, k0_pay40, k0_pay39]
    split_ifs
    all_goals first
      | (exfalso; omega)
      | (congr 2 <;> (apply Fin.ext; first | omega | (simp; omega)))

theorem ldq (r h : Fin 4) (X0 : Vec Ideal S1x4x64x512 .f32) (e : Fin 64) (p : Fin 128) (hb : ∀ d, (![0, r.val, 0, 128 * h.val] : Fin 4 → ℕ) d + S1x1x64x128.size d ≤ S1x4x64x512.size d) :
    View.ld X0 (Rect.unit (s := S1x4x64x512) ![0, r.val, 0, 128 * h.val] S1x1x64x128.size hb) (ix4 0 0 e p) = X0 (ix4 0 r e ⟨128 * h + p, by omega⟩) := by
  refine View.ld_unit_apply_of _ _ _ _ _ _ (fun d => ?_)
  fin_cases d
  · rfl
  · exact (Nat.add_zero _).symm
  · exact (Nat.zero_add _).symm
  · rfl

theorem kld_apply (i : grid0.Coords) (n : ℕ) (hn : n < 43) (hw : k0_chk1 i (BitVec.ofNat 32 n)) (X1 : Vec Ideal S1x16384x256 .bf16) (r : Fin 4) (j : Fin 3) (u : Fin 128) (c : Fin 256) (m : Fin 16384)
    (hm : (m : ℕ) = 128 * (4 * (i 1).val + r.val - 3 * n - j.val) + u) :
    kld i (BitVec.ofNat 32 n) hw X1 r j (ix3 0 u c) = X1 (ix3 0 m c) := by
  have e := off1_at i n hn r j
  unfold kld
  refine View.ld_unit_apply_of _ _ _ _ _ _ (fun d => ?_)
  refine Eq.trans ?_ (congrArg (fun w : ℕ => w + _) (congrFun e d).symm)
  fin_cases d
  · rfl
  · exact hm
  · exact (Nat.zero_add _).symm

theorem vld_apply (i : grid0.Coords) (n : ℕ) (hn : n < 43) (hw : k0_chk1 i (BitVec.ofNat 32 n)) (X2 : Vec Ideal S1x256x16384 .bf16) (r : Fin 4) (j : Fin 3) (u : Fin 128) (c : Fin 256) (m : Fin 16384)
    (hm : (m : ℕ) = 128 * (4 * (i 1).val + r.val - 3 * n - j.val) + u) :
    vld i (BitVec.ofNat 32 n) hw X2 r j (ix3 0 c u) = X2 (ix3 0 c m) := by
  have e := off2_at i n hn r j
  unfold vld
  refine View.ld_unit_apply_of _ _ _ _ _ _ (fun d => ?_)
  refine Eq.trans ?_ (congrArg (fun w : ℕ => w + _) (congrFun e d).symm)
  fin_cases d
  · rfl
  · exact (Nat.zero_add _).symm
  · exact hm

end Cert.Sb

end
-- ==== Proof.SbReal.lean ====
module

public import proofs.«01_k».proof.Proof.SbPoint
public import proofs.«01_k».proof.Proof.SwaKernel

@[expose] public section

set_option maxRecDepth 16384

noncomputable section

namespace Cert.Sb

open Cert.Kernel3Ideal Cert.Kernel3Ideal.Gen Cert.Kernel3Ideal.Sb Idealize.ShloMosaic Idealize.ShloMosaic.TcCoe Idealize.SL.Sem

/-- One over the logarithm of two. -/
def lg : ℝ := (Real.log 2)⁻¹

theorem lg_pos : 0 < lg := inv_pos.mpr (Real.log_pos (by norm_num))

theorem lg_mul : lg * Real.log 2 = 1 := inv_mul_cancel₀ (Real.log_pos (by norm_num)).ne'

/-- The logarithm of what a key of score `s` leaves over for the earlier ones. -/
def lft (s : ℝ) : ℝ := -(max s 0 + Real.log (1 + Real.exp (-|s|)))

theorem coe_max (a b : ℝ) : max (a : EReal) (b : EReal) = ((max a b : ℝ) : EReal) := (EReal.coe_strictMono.monotone.map_max).symm

theorem exp2_real (y : ℝ) : Ideal.exp2 (y : EReal) = ((Real.exp (y * Real.log 2) : ℝ) : EReal) := by
  rw [Ideal.exp2_coe]
  congr 1
  show (2 : ℝ) ^ y = _
  rw [Real.rpow_def_of_pos (by norm_num), mul_comm]

theorem log_real (y : ℝ) (h : 0 < y) : Ideal.log (y : EReal) = ((Real.log y : ℝ) : EReal) := by
  show (if y ≤ 0 then (⊥ : EReal) else _) = _
  rw [if_neg (not_le.mpr h)]

theorem ln_real (s : ℝ) :
    (0 - (max (((s * lg : ℝ) : EReal)) 0 + Ideal.log (1 + Ideal.exp2 (0 - (FloatOps.absf (((s * lg : ℝ) : EReal) : Ideal .f32) : Ideal .f32))) * ((lg : ℝ) : EReal)) : EReal) = ((lft s * lg : ℝ) : EReal) := by
  have e1 : (FloatOps.absf (((s * lg : ℝ) : EReal) : Ideal .f32) : Ideal .f32) = ((|s| * lg : ℝ) : EReal) := by
    show max (((s * lg : ℝ) : EReal)) (-((s * lg : ℝ) : EReal)) = _
    rw [← EReal.coe_neg, coe_max]
    congr 1
    show |s * lg| = _
    rw [abs_mul, abs_of_pos lg_pos]
  rw [e1, ← EReal.coe_zero, ← EReal.coe_sub, exp2_real, ← EReal.coe_one, ← EReal.coe_add, log_real _ (by positivity), coe_max, ← EReal.coe_mul, ← EReal.coe_add, ← EReal.coe_sub]
  congr 1
  unfold lft
  have e2 : (0 - |s| * lg) * Real.log 2 = -|s| := by rw [zero_sub, neg_mul, mul_assoc, lg_mul, mul_one]
  have e3 : max (s * lg) 0 = max s 0 * lg := by rw [max_mul_of_nonneg _ _ lg_pos.le, zero_mul]
  rw [e2, e3]
  ring

theorem coe_sum {ι : Type} (s : Finset ι) (f : ι → ℝ) : (∑ j ∈ s, (f j : EReal)) = ((∑ j ∈ s, f j : ℝ) : EReal) := by
  induction s using Finset.cons_induction with
  | empty => simp
  | cons a s h ih => rw [Finset.sum_cons, Finset.sum_cons, ih, EReal.coe_add]

/-- A sum over four groups of sixty-four. -/
theorem sum_groups (f : Fin 256 → EReal) : ∑ c, f c = ∑ a : Fin 4, ∑ e : Fin 64, f ⟨64 * a + e, by omega⟩ := by
  rw [← (finProdFinEquiv (m := 4) (n := 64)).sum_comp, Fintype.sum_prod_type]
  refine Finset.sum_congr rfl fun a _ => Finset.sum_congr rfl fun e _ => congrArg f (Fin.ext ?_)
  show (e : ℕ) + 64 * a = 64 * a + e
  omega

/-- A sum over two halves. -/
theorem sum_halves (f : Fin 768 → EReal) : ∑ c, f c = (∑ u : Fin 384, f ⟨u, by omega⟩) + ∑ u : Fin 384, f ⟨384 + u, by omega⟩ :=
  Fin.sum_univ_add (a := 384) (b := 384) f

/-- The rows of a trip, as positions. -/
theorem sum_rows {M : Type} [AddCommMonoid M] (N s : ℕ) (g : ℕ → M) :
    (∑ u : Fin 384, if s ≤ N + u then g (N + u - s) else 0) = ∑ j ∈ Finset.Ico (N - s) (N + 384 - s), g j := by
  rw [Fin.sum_univ_eq_sum_range (fun u => if s ≤ N + u then g (N + u - s) else 0) 384, ← Finset.sum_filter]
  refine Finset.sum_nbij' (fun u => N + u - s) (fun j => j + s - N) ?_ ?_ ?_ ?_ ?_
  · intro u hu
    simp only [Finset.mem_filter, Finset.mem_range, Finset.mem_Ico] at hu ⊢
    omega
  · intro j hj
    simp only [Finset.mem_filter, Finset.mem_range, Finset.mem_Ico] at hj ⊢
    omega
  · intro u hu
    simp only [Finset.mem_filter, Finset.mem_range, Finset.mem_Ico] at hu ⊢
    omega
  · intro j hj
    simp only [Finset.mem_filter, Finset.mem_range, Finset.mem_Ico] at hj ⊢
    omega
  · intro u _
    rfl

/-! ## The mask -/

set_option maxRecDepth 100000 in
theorem real_val : ∀ a : Fin 32, ∀ n : Fin 43, ∀ r : Fin 4, ∀ s : Fin 3,
    IntOp.cmpi .sge (Scalar.subi (Scalar.subi (Scalar.addi (Scalar.muli 4#32 (BitVec.ofNat 32 a.val)) (BitVec.ofNat 32 r.val)) (Scalar.muli 3#32 (BitVec.ofNat 32 n.val))) (BitVec.ofNat 32 s.val)) 0#32
      = BitVec.ofBool (decide (3 * n.val + s.val ≤ 4 * a.val + r.val)) := by decide +kernel

theorem slt_small (x y : ℕ) (hx : x < 2147483648) (hy : y < 2147483648) :
    IntOp.cmpi .slt (BitVec.ofNat 32 x) (BitVec.ofNat 32 y) = BitVec.ofBool (decide (x < y)) := by
  rw [WordCmp.cmpi_slt_eq, show (BitVec.ofNat 32 x) = BitVec.ofInt 32 (x : Int) from rfl, show (BitVec.ofNat 32 y) = BitVec.ofInt 32 (y : Int) from rfl,
    Cert.Swa.toInt_ofInt_small _ (by omega) (by omega), Cert.Swa.toInt_ofInt_small _ (by omega) (by omega)]
  congr 1
  exact decide_eq_decide.mpr (by omega)

theorem andi_bool (p q : Prop) [Decidable p] [Decidable q] : IntOp.andi (BitVec.ofBool (decide p)) (BitVec.ofBool (decide q)) = BitVec.ofBool (decide (p ∧ q)) := by
  by_cases hp : p <;> by_cases hq : q <;> simp [hp, hq, IntOp.andi]

theorem befP_word (a n r j u l : ℕ) (ha : a < 32) (hn : n < 43) (hr : r < 4) (hj : j < 3) (hu : u < 128) (hl : l < 512) :
    IntOp.andi (IntOp.cmpi .sge (Scalar.subi (Scalar.subi (Scalar.addi (Scalar.muli 4#32 (BitVec.ofNat 32 a)) (BitVec.ofNat 32 r)) (Scalar.muli 3#32 (BitVec.ofNat 32 n))) (BitVec.ofNat 32 j)) 0#32)
      (IntOp.cmpi .slt (IntOp.addi (Scalar.muli (Scalar.maxsi (Scalar.subi (Scalar.subi (Scalar.addi (Scalar.muli 4#32 (BitVec.ofNat 32 a)) (BitVec.ofNat 32 r)) (Scalar.muli 3#32 (BitVec.ofNat 32 n))) (BitVec.ofNat 32 j)) 0#32) 128#32) (BitVec.ofNat 32 u))
        (IntOp.addi (Scalar.muli 128#32 (Scalar.addi (Scalar.muli 4#32 (BitVec.ofNat 32 a)) (BitVec.ofNat 32 r))) (IntOp.andi (BitVec.ofNat 32 l) 127#32)))
      = BitVec.ofBool (decide (3 * n + j ≤ 4 * a + r ∧ 128 * (4 * a + r - 3 * n - j) + u < 128 * (4 * a + r) + l % 128)) := by
  have e1 := real_val ⟨a, ha⟩ ⟨n, hn⟩ ⟨r, hr⟩ ⟨j, hj⟩
  have e2 : offW a n r j = BitVec.ofNat 32 (128 * (4 * a + r - 3 * n - j)) := by
    apply BitVec.eq_of_toNat_eq
    rw [offW_at a n r j ha hn hr hj, BitVec.toNat_ofNat, Nat.mod_eq_of_lt (by omega)]
  have e3 : Scalar.muli 128#32 (Scalar.addi (Scalar.muli 4#32 (BitVec.ofNat 32 a)) (BitVec.ofNat 32 r)) = BitVec.ofNat 32 (128 * (4 * a + r)) := by
    show 128#32 * (4#32 * BitVec.ofNat 32 a + BitVec.ofNat 32 r) = _
    rw [BitVec.ofNat_mul, BitVec.ofNat_add, BitVec.ofNat_mul]
  rw [← andi_bool, ← slt_small _ _ (by omega) (by omega), BitVec.ofNat_add, BitVec.ofNat_add]
  refine congrArg₂ IntOp.andi e1 (congrArg₂ (IntOp.cmpi .slt) (congrArg₂ IntOp.addi e2 rfl) (congrArg₂ IntOp.addi e3 (Cert.Swa.and127 l hl)))

/-- Whether a trip's row holds a key before the query. -/
def bfr (a r n u l : ℕ) : Prop := 384 * (n + 1) ≤ 128 * (4 * a + r + 1) + u ∧ 128 * (4 * a + r + 1) + u - 384 * (n + 1) < 128 * (4 * a + r) + l % 128

instance (a r n u l : ℕ) : Decidable (bfr a r n u l) := inferInstanceAs (Decidable (_ ∧ _))

theorem bb_apply (i : grid0.Coords) (n : ℕ) (hn : n < 43) (r : Fin 4) (u : Fin 384) (l : Fin 512) :
    bb i (iota .tc S128x512 32 [0] iota_S128x512_d0_w32) k0_pay7 (BitVec.ofNat 32 n) r (ix2 u l) = BitVec.ofBool (decide (bfr (i 1).val r n u l)) := by
  have hu := u.isLt
  unfold bb
  rw [bef_apply]
  split_ifs with h1 h2
  · rw [befP_apply]
    refine (befP_word (i 1).val n r 2 u l (i 1).isLt hn r.isLt (by norm_num) h1 l.isLt).trans (congrArg BitVec.ofBool (decide_eq_decide.mpr ?_))
    unfold bfr; omega
  · rw [befP_apply]
    refine (befP_word (i 1).val n r 1 (u - 128) l (i 1).isLt hn r.isLt (by norm_num) h2 l.isLt).trans (congrArg BitVec.ofBool (decide_eq_decide.mpr ?_))
    unfold bfr; omega
  · rw [befP_apply]
    refine (befP_word (i 1).val n r 0 (u - 128 - 128) l (i 1).isLt hn r.isLt (by norm_num) (by omega) l.isLt).trans (congrArg BitVec.ofBool (decide_eq_decide.mpr ?_))
    unfold bfr; omega

theorem select_bool {α : Type} (p : Prop) [Decidable p] (x y : α) : Scalar.select (BitVec.ofBool (decide p)) x y = if p then x else y := by
  by_cases h : p <;> simp [h, Scalar.select]

/-- The keys of a trip, by their positions. -/
theorem kcat_at (i : grid0.Coords) (n : ℕ) (hn : n < 43) (hw : k0_chk1 i (BitVec.ofNat 32 n)) (X1 : Vec Ideal S1x16384x256 .bf16) (r : Fin 4) (u : Fin 384) (l : ℕ) (c : Fin 256) (hb : bfr (i 1).val r n u l) (m : Fin 16384)
    (hm : (m : ℕ) = 128 * (4 * (i 1).val + r + 1) + u - 384 * (n + 1)) :
    kcat (kld i (BitVec.ofNat 32 n) hw X1 r) (ix2 u c) = X1 (ix3 0 m c) := by
  have hu := u.isLt
  unfold bfr at hb
  rw [kcat_apply]
  split_ifs with h1 h2
  · exact kld_apply i n hn hw X1 r 2 ⟨u, h1⟩ c m (by show (m : ℕ) = 128 * (4 * (i 1).val + r - 3 * n - 2) + u; omega)
  · exact kld_apply i n hn hw X1 r 1 ⟨u - 128, h2⟩ c m (by show (m : ℕ) = 128 * (4 * (i 1).val + r - 3 * n - 1) + (u - 128); omega)
  · exact kld_apply i n hn hw X1 r 0 ⟨u - 128 - 128, by omega⟩ c m (by show (m : ℕ) = 128 * (4 * (i 1).val + r - 3 * n - 0) + (u - 128 - 128); omega)

theorem vcat_at (i : grid0.Coords) (n : ℕ) (hn : n < 43) (hw : k0_chk1 i (BitVec.ofNat 32 n)) (X2 : Vec Ideal S1x256x16384 .bf16) (r : Fin 4) (u : Fin 384) (l : ℕ) (c : Fin 256) (hb : bfr (i 1).val r n u l) (m : Fin 16384)
    (hm : (m : ℕ) = 128 * (4 * (i 1).val + r + 1) + u - 384 * (n + 1)) :
    vcat (vld i (BitVec.ofNat 32 n) hw X2 r) (ix2 c u) = X2 (ix3 0 c m) := by
  have hu := u.isLt
  unfold bfr at hb
  rw [vcat_apply]
  split_ifs with h1 h2
  · exact vld_apply i n hn hw X2 r 2 ⟨u, h1⟩ c m (by show (m : ℕ) = 128 * (4 * (i 1).val + r - 3 * n - 2) + u; omega)
  · exact vld_apply i n hn hw X2 r 1 ⟨u - 128, h2⟩ c m (by show (m : ℕ) = 128 * (4 * (i 1).val + r - 3 * n - 1) + (u - 128); omega)
  · exact vld_apply i n hn hw X2 r 0 ⟨u - 128 - 128, by omega⟩ c m (by show (m : ℕ) = 128 * (4 * (i 1).val + r - 3 * n - 0) + (u - 128 - 128); omega)

/-- The queries of a block: a head's own rows and columns hold them scaled, the rest is zero. -/
theorem qb_apply (X0 : Vec Ideal S1x4x64x512 .f32) (r h g : Fin 4) (e : Fin 64) (p : Fin 128) :
    qb X0 r (ix2 ⟨64 * g + e, by omega⟩ ⟨128 * h + p, by omega⟩) = if g = h then X0 (ix4 0 r e ⟨128 * h + p, by omega⟩) * ((lg : ℝ) : EReal) else 0 := by
  by_cases hg : g = h
  · subst hg
    rw [if_pos rfl]
    fin_cases r <;> (unfold qb; show k0_pay10 (F := Ideal) _ _ _ _ _ = _; rw [pay10_eq, qgrid_apply, if_pos rfl]) <;> fin_cases g
    exacts [(qhead_apply _ _ _).trans (congrArg (· * _) (ldq 0 0 X0 e p _)),
      (qhead_apply _ _ _).trans (congrArg (· * _) (ldq 0 1 X0 e p _)),
      (qhead_apply _ _ _).trans (congrArg (· * _) (ldq 0 2 X0 e p _)),
      (qhead_apply _ _ _).trans (congrArg (· * _) (ldq 0 3 X0 e p _)),
      (qhead_apply _ _ _).trans (congrArg (· * _) (ldq 1 0 X0 e p _)),
      (qhead_apply _ _ _).trans (congrArg (· * _) (ldq 1 1 X0 e p _)),
      (qhead_apply _ _ _).trans (congrArg (· * _) (ldq 1 2 X0 e p _)),
      (qhead_apply _ _ _).trans (congrArg (· * _) (ldq 1 3 X0 e p _)),
      (qhead_apply _ _ _).trans (congrArg (· * _) (ldq 2 0 X0 e p _)),
      (qhead_apply _ _ _).trans (congrArg (· * _) (ldq 2 1 X0 e p _)),
      (qhead_apply _ _ _).trans (congrArg (· * _) (ldq 2 2 X0 e p _)),
      (qhead_apply _ _ _).trans (congrArg (· * _) (ldq 2 3 X0 e p _)),
      (qhead_apply _ _ _).trans (congrArg (· * _) (ldq 3 0 X0 e p _)),
      (qhead_apply _ _ _).trans (congrArg (· * _) (ldq 3 1 X0 e p _)),
      (qhead_apply _ _ _).trans (congrArg (· * _) (ldq 3 2 X0 e p _)),
      (qhead_apply _ _ _).trans (congrArg (· * _) (ldq 3 3 X0 e p _))]
  · rw [if_neg hg]
    fin_cases r <;> (unfold qb; show k0_pay10 (F := Ideal) _ _ _ _ _ = _; rw [pay10_eq, qgrid_apply, if_neg hg]; exact pay9_apply _)

end Cert.Sb

end
-- ==== Proof.SbTrip.lean ====
module

public import proofs.«01_k».proof.Proof.SbReal

@[expose] public section

set_option maxRecDepth 16384

noncomputable section

namespace Cert.Sb

open Cert.Kernel3Ideal Cert.Kernel3Ideal.Gen Cert.Kernel3Ideal.Sb Idealize.ShloMosaic Idealize.ShloMosaic.TcCoe Idealize.SL.Sem

/-- A key's row, and a value's column, by its position. -/
def key (x1 : S1x16384x256.Idx → ℝ) (j : ℕ) (c : Fin 256) : ℝ := if h : j < 16384 then x1 (ix3 0 ⟨j, h⟩ c) else 0
def val (X2 : Vec Ideal S1x256x16384 .bf16) (c : Fin 256) (j : ℕ) : EReal := if h : j < 16384 then X2 (ix3 0 c ⟨j, h⟩) else 0

/-- A query's score of a key. -/
def sc (x0 : S1x4x64x512.Idx → ℝ) (x1 : S1x16384x256.Idx → ℝ) (r h : Fin 4) (p : Fin 128) (j : ℕ) : ℝ :=
  ∑ e : Fin 64, key x1 j ⟨64 * h + e, by omega⟩ * x0 (ix4 0 r e ⟨128 * h + p, by omega⟩)

/-- The weight of a key: what it takes of what the later keys before the query leave. -/
def wt (P : ℕ) (f : ℕ → ℝ) (j : ℕ) : ℝ := Real.exp (f j + lft (f j) + ∑ k ∈ Finset.Ico (j + 1) P, lft (f k))

theorem zz_at (i : grid0.Coords) (n : ℕ) (hn : n < 43) (hw : k0_chk1 i (BitVec.ofNat 32 n)) (x0 : S1x4x64x512.Idx → ℝ) (x1 : S1x16384x256.Idx → ℝ) (r h : Fin 4) (p : Fin 128) (u : Fin 384)
    (hb : bfr (i 1).val r n u (128 * h + p)) :
    zz i (fun x => (x1 x : EReal)) (BitVec.ofNat 32 n) hw r (qb (fun x => (x0 x : EReal)) r) (ix2 u ⟨128 * h + p, by omega⟩)
      = ((sc x0 x1 r h p (128 * (4 * (i 1).val + r + 1) + u - 384 * (n + 1)) * lg : ℝ) : EReal) := by
  have ha : (i 1).val < 32 := (i 1).isLt
  have hb' := hb
  unfold bfr at hb'
  have hm : 128 * (4 * (i 1).val + r + 1) + u - 384 * (n + 1) < 16384 := by omega
  unfold zz
  rw [zOf_apply, sum_groups, Finset.sum_eq_single h]
  · unfold sc
    rw [Finset.sum_mul, ← coe_sum]
    refine Finset.sum_congr rfl fun e _ => ?_
    rw [kcat_at i n hn hw _ r u _ _ hb ⟨_, hm⟩ rfl, qb_apply, if_pos rfl, ← EReal.coe_mul, ← EReal.coe_mul, ← mul_assoc]
    congr 3
    unfold key
    rw [dif_pos hm]
  · intro g _ hg
    refine Finset.sum_eq_zero fun e _ => ?_
    rw [qb_apply, if_neg hg, mul_zero]
  · intro hh; exact absurd (Finset.mem_univ _) hh

/-- The logarithm at one row. -/
def lrow (x0 : S1x4x64x512.Idx → ℝ) (x1 : S1x16384x256.Idx → ℝ) (a n : ℕ) (r h : Fin 4) (p : Fin 128) (u : Fin 384) : ℝ :=
  if bfr a r n u (128 * h + p) then lft (sc x0 x1 r h p (128 * (4 * a + r + 1) + u - 384 * (n + 1))) else 0

theorem ln_at (i : grid0.Coords) (n : ℕ) (hn : n < 43) (hw : k0_chk1 i (BitVec.ofNat 32 n)) (x0 : S1x4x64x512.Idx → ℝ) (x1 : S1x16384x256.Idx → ℝ) (r h : Fin 4) (p : Fin 128) (u : Fin 384) :
    lnOf (bb i (iota .tc S128x512 32 [0] iota_S128x512_d0_w32) k0_pay7 (BitVec.ofNat 32 n) r)
        (zz i (fun x => (x1 x : EReal)) (BitVec.ofNat 32 n) hw r (qb (fun x => (x0 x : EReal)) r)) (ix2 u ⟨128 * h + p, by omega⟩)
      = ((lrow x0 x1 (i 1).val n r h p u * lg : ℝ) : EReal) := by
  rw [lnOf_apply, bb_apply i n hn, select_bool]
  unfold lrow
  by_cases hb : bfr (i 1).val r n u (128 * h + p)
  · rw [if_pos hb, if_pos hb, zz_at i n hn hw x0 x1 r h p u hb]
    exact ln_real _
  · rw [if_neg hb, if_neg hb, zero_mul]; rfl

theorem tail_real (v6 : FVec Ideal S384x768 .bf16) (hv6 : ∀ (u : Fin 384) (c : Fin 768), v6 (ix2 u c) = if (u : ℕ) < (c : ℕ) % 384 then 1 else 0)
    (x : FVec Ideal S384x512 .f32) (l : Fin 512) (y : Fin 384 → ℝ) (hx : ∀ u, x (ix2 u l) = ((y u : ℝ) : EReal)) (u : Fin 384) :
    tailOf v6 x (ix2 u l) = ((∑ w : Fin 384, (if u < w then y w else 0) : ℝ) : EReal) := by
  rw [tailOf_apply, sum_halves, ← coe_sum]
  have e2 : (∑ w : Fin 384, v6 (ix2 u ⟨384 + w, by omega⟩) * spl x (ix2 ⟨384 + w, by omega⟩ l)) = 0 := by
    refine Finset.sum_eq_zero fun w _ => ?_
    rw [spl_apply, dif_neg (by simp only; omega), hx, ← EReal.coe_sub, sub_self, EReal.coe_zero, mul_zero]
  rw [e2, add_zero]
  refine Finset.sum_congr rfl fun w _ => ?_
  have hw := w.isLt
  rw [spl_apply, dif_pos hw, hx, hv6]
  simp only [Nat.mod_eq_of_lt hw, ← Fin.lt_def]
  split_ifs
  · rw [one_mul]
  · rw [zero_mul]; rfl

/-- The rows of a trip that lie before the query, as positions. -/
theorem sum_bfr {M : Type} [AddCommMonoid M] (a n : ℕ) (r : Fin 4) (l : ℕ) (f : ℕ → M) :
    (∑ u : Fin 384, if bfr a r n u l then f (128 * (4 * a + r + 1) + u - 384 * (n + 1)) else 0)
      = ∑ j ∈ Finset.Ico (128 * (4 * a + r + 1) - 384 * (n + 1)) (128 * (4 * a + r + 1) - 384 * n), if j < 128 * (4 * a + r) + l % 128 then f j else 0 := by
  rw [show 128 * (4 * a + r + 1) - 384 * n = 128 * (4 * a + r + 1) + 384 - 384 * (n + 1) by omega, ← sum_rows]
  refine Finset.sum_congr rfl fun u _ => ?_
  by_cases h1 : 384 * (n + 1) ≤ 128 * (4 * a + r + 1) + u
  · rw [if_pos h1]
    exact if_congr ⟨fun h => h.2, fun h => ⟨h1, h⟩⟩ rfl rfl
  · rw [if_neg h1, if_neg (fun h => h1 h.1)]

/-- What the later keys leave, as one trip and the carry give it. -/
theorem left_eq (a n : ℕ) (r : Fin 4) (l : ℕ) (f : ℕ → ℝ) (u : Fin 384) (hb : bfr a r n u l) :
    (∑ w : Fin 384, (if u < w then (if bfr a r n w l then f (128 * (4 * a + r + 1) + w - 384 * (n + 1)) else 0) else 0))
        + (∑ j ∈ Finset.Ico (128 * (4 * a + r + 1) - 384 * n) (128 * (4 * a + r + 1)), if j < 128 * (4 * a + r) + l % 128 then f j else 0)
      = ∑ k ∈ Finset.Ico (128 * (4 * a + r + 1) + u - 384 * (n + 1) + 1) (128 * (4 * a + r) + l % 128), f k := by
  have hu := u.isLt
  unfold bfr at hb
  have e1 : (∑ w : Fin 384, (if u < w then (if bfr a r n w l then f (128 * (4 * a + r + 1) + w - 384 * (n + 1)) else 0) else 0))
      = ∑ w : Fin 384, if bfr a r n w l then (if 128 * (4 * a + r + 1) + u - 384 * (n + 1) < 128 * (4 * a + r + 1) + w - 384 * (n + 1) then f (128 * (4 * a + r + 1) + w - 384 * (n + 1)) else 0) else 0 := by
    refine Finset.sum_congr rfl fun w _ => ?_
    by_cases hw : bfr a r n w l
    · simp only [if_pos hw]
      refine if_congr ?_ rfl rfl
      unfold bfr at hw
      rw [Fin.lt_def]; omega
    · simp only [if_neg hw, ite_self]
  rw [e1, sum_bfr a n r l (fun j => if 128 * (4 * a + r + 1) + u - 384 * (n + 1) < j then f j else 0)]
  have e2 : (∑ j ∈ Finset.Ico (128 * (4 * a + r + 1) - 384 * n) (128 * (4 * a + r + 1)), if j < 128 * (4 * a + r) + l % 128 then f j else 0)
      = ∑ j ∈ Finset.Ico (128 * (4 * a + r + 1) - 384 * n) (128 * (4 * a + r + 1)), if j < 128 * (4 * a + r) + l % 128 then (if 128 * (4 * a + r + 1) + u - 384 * (n + 1) < j then f j else 0) else 0 := by
    refine Finset.sum_congr rfl fun j hj => ?_
    rw [Finset.mem_Ico] at hj
    rw [if_pos (show 128 * (4 * a + r + 1) + u - 384 * (n + 1) < j by omega)]
  rw [e2, Finset.sum_Ico_consecutive _ (by omega) (by omega), ← Finset.sum_filter, ← Finset.sum_filter]
  refine Finset.sum_congr ?_ fun _ _ => rfl
  ext j
  simp only [Finset.mem_filter, Finset.mem_Ico]
  omega

/-- What the loop holds after `n` trips: each query block's carry and its heads' outputs over the keys seen so far. -/
def Inv (a : ℕ) (x0 : S1x4x64x512.Idx → ℝ) (x1 : S1x16384x256.Idx → ℝ) (X2 : Vec Ideal S1x256x16384 .bf16) (n : ℕ) (s : St Ideal) : Prop :=
  ∀ (r h : Fin 4) (p : Fin 128),
    getC r s (ix2 0 ⟨128 * h + p, by omega⟩)
        = (((∑ j ∈ Finset.Ico (128 * (4 * a + r + 1) - 384 * n) (128 * (4 * a + r + 1)), if j < 128 * (4 * a + r) + p then lft (sc x0 x1 r h p j) else 0) * lg : ℝ) : EReal)
      ∧ ∀ e : Fin 64, getA r h s (ix2 e p)
        = ∑ j ∈ Finset.Ico (128 * (4 * a + r + 1) - 384 * n) (128 * (4 * a + r + 1)), if j < 128 * (4 * a + r) + p then val X2 ⟨64 * h + e, by omega⟩ j * ((wt (128 * (4 * a + r) + p) (sc x0 x1 r h p) j : ℝ) : EReal) else 0

theorem lane (h : Fin 4) (p : Fin 128) : (128 * (h : ℕ) + p) % 128 = p := by omega

theorem w_at (i : grid0.Coords) (n : ℕ) (hn : n < 43) (hw : k0_chk1 i (BitVec.ofNat 32 n)) (x0 : S1x4x64x512.Idx → ℝ) (x1 : S1x16384x256.Idx → ℝ)
    (v6 : FVec Ideal S384x768 .bf16) (hv6 : ∀ (u : Fin 384) (c : Fin 768), v6 (ix2 u c) = if (u : ℕ) < (c : ℕ) % 384 then 1 else 0)
    (c : FVec Ideal S1x512 .f32) (r h : Fin 4) (p : Fin 128)
    (hc : c (ix2 0 ⟨128 * h + p, by omega⟩) = (((∑ j ∈ Finset.Ico (128 * (4 * (i 1).val + r + 1) - 384 * n) (128 * (4 * (i 1).val + r + 1)), if j < 128 * (4 * (i 1).val + r) + p then lft (sc x0 x1 r h p j) else 0) * lg : ℝ) : EReal))
    (b : IVec S384x512 1) (hbb : b = bb i (iota .tc S128x512 32 [0] iota_S128x512_d0_w32) k0_pay7 (BitVec.ofNat 32 n) r)
    (z : FVec Ideal S384x512 .f32) (hz : z = zz i (fun x => (x1 x : EReal)) (BitVec.ofNat 32 n) hw r (qb (fun x => (x0 x : EReal)) r)) (u : Fin 384) :
    wOf b z (lnOf b z) (tailOf v6 (lnOf b z)) c (ix2 u ⟨128 * h + p, by omega⟩)
      = if bfr (i 1).val r n u (128 * h + p) then ((wt (128 * (4 * (i 1).val + r) + p) (sc x0 x1 r h p) (128 * (4 * (i 1).val + r + 1) + u - 384 * (n + 1)) : ℝ) : EReal) else 0 := by
  have hl : ∀ u : Fin 384, lnOf b z (ix2 u ⟨128 * h + p, by omega⟩) = ((lrow x0 x1 (i 1).val n r h p u * lg : ℝ) : EReal) := fun u => by
    rw [hbb, hz]; exact ln_at i n hn hw x0 x1 r h p u
  rw [wOf_apply, hl, tail_real v6 hv6 _ _ _ hl, hc]
  have hb' : b (ix2 u ⟨128 * h + p, by omega⟩) = BitVec.ofBool (decide (bfr (i 1).val r n u (128 * h + p))) := by rw [hbb, bb_apply i n hn]
  rw [hb', select_bool]
  by_cases hb : bfr (i 1).val r n u (128 * h + p)
  · rw [if_pos hb, if_pos hb, hz, zz_at i n hn hw x0 x1 r h p u hb, ← EReal.coe_add, ← EReal.coe_add, ← EReal.coe_add, exp2_real]
    congr 2
    have e := left_eq (i 1).val n r (128 * h + p) (fun j => lft (sc x0 x1 r h p j)) u hb
    rw [lane] at e
    have e3 : lrow x0 x1 (i 1).val n r h p u = lft (sc x0 x1 r h p (128 * (4 * (i 1).val + r + 1) + u - 384 * (n + 1))) := if_pos hb
    have e4 : (∑ w : Fin 384, if u < w then lrow x0 x1 (i 1).val n r h p w * lg else 0)
        = (∑ w : Fin 384, if u < w then lrow x0 x1 (i 1).val n r h p w else 0) * lg := by
      rw [Finset.sum_mul]; exact Finset.sum_congr rfl fun w _ => by rw [ite_mul, zero_mul]
    rw [e3, e4, ← e]
    unfold lrow
    rw [← add_mul, ← add_mul, ← add_mul, mul_assoc, lg_mul, mul_one, add_assoc]
  · rw [if_neg hb, if_neg hb]

theorem trip_inv (i : grid0.Coords) (n : ℕ) (hn : n < 43) (x0 : S1x4x64x512.Idx → ℝ) (x1 : S1x16384x256.Idx → ℝ) (X2 : Vec Ideal S1x256x16384 .bf16)
    (v6 : FVec Ideal S384x768 .bf16) (hv6 : ∀ (u : Fin 384) (c : Fin 768), v6 (ix2 u c) = if (u : ℕ) < (c : ℕ) % 384 then 1 else 0)
    (q : Fin 4 → FVec Ideal S256x512 .bf16) (hq : q = qb (fun x => (x0 x : EReal)))
    (s : St Ideal) (hs : s.1 = BitVec.ofNat 32 n) (hw : k0_chk1 i s.1) (hI : Inv (i 1).val x0 x1 X2 n s) :
    Inv (i 1).val x0 x1 X2 (n + 1) (trip i (fun x => (x1 x : EReal)) X2 (iota .tc S128x512 32 [0] iota_S128x512_d0_w32) k0_pay7 (q 0) (q 1) (q 2) (q 3) v6 s hw) := by
  intro r h p
  obtain ⟨hC, hA⟩ := hI r h p
  have ha : (i 1).val < 32 := (i 1).isLt
  rw [getC_trip]
  refine ⟨?_, fun e => ?_⟩
  · generalize getC r s = c at hC ⊢
    generalize s.1 = w at hs hw ⊢
    subst hs
    rw [carOf_apply, hC, hq, Finset.sum_congr rfl (fun u _ => ln_at i n hn hw x0 x1 r h p u), coe_sum, ← EReal.coe_add]
    congr 1
    rw [← Finset.sum_mul, ← add_mul]
    congr 1
    unfold lrow
    rw [sum_bfr (i 1).val n r (128 * h + p) (fun j => lft (sc x0 x1 r h p j)), lane, add_comm, Finset.sum_Ico_consecutive _ (by omega) (by omega)]
  · rw [getA_trip]
    have hAe := hA e
    generalize getA r h s = c' at hAe ⊢
    generalize getC r s = c at hC ⊢
    generalize s.1 = w at hs hw ⊢
    subst hs
    rw [accOf_apply, hAe]
    have e1 : ∀ u : Fin 384, vcat (vld i (BitVec.ofNat 32 n) hw X2 r) (ix2 ⟨64 * h + e, by omega⟩ u)
          * wOf (bb i (iota .tc S128x512 32 [0] iota_S128x512_d0_w32) k0_pay7 (BitVec.ofNat 32 n) r) (zz i (fun x => (x1 x : EReal)) (BitVec.ofNat 32 n) hw r (q r))
            (lnOf (bb i (iota .tc S128x512 32 [0] iota_S128x512_d0_w32) k0_pay7 (BitVec.ofNat 32 n) r) (zz i (fun x => (x1 x : EReal)) (BitVec.ofNat 32 n) hw r (q r)))
            (tailOf v6 (lnOf (bb i (iota .tc S128x512 32 [0] iota_S128x512_d0_w32) k0_pay7 (BitVec.ofNat 32 n) r) (zz i (fun x => (x1 x : EReal)) (BitVec.ofNat 32 n) hw r (q r)))) c (ix2 u ⟨128 * h + p, by omega⟩)
        = if bfr (i 1).val r n u (128 * h + p) then (fun j => val X2 ⟨64 * h + e, by omega⟩ j * ((wt (128 * (4 * (i 1).val + r) + p) (sc x0 x1 r h p) j : ℝ) : EReal)) (128 * (4 * (i 1).val + r + 1) + u - 384 * (n + 1)) else 0 := fun u => by
      rw [w_at i n hn hw x0 x1 v6 hv6 c r h p hC _ rfl _ (by rw [hq]) u]
      by_cases hb : bfr (i 1).val r n u (128 * h + p)
      · have hb' := hb
        unfold bfr at hb'
        have hm : 128 * (4 * (i 1).val + r + 1) + u - 384 * (n + 1) < 16384 := by omega
        rw [if_pos hb, if_pos hb, vcat_at i n hn hw X2 r u _ _ hb ⟨_, hm⟩ rfl]
        unfold val
        simp only [dif_pos hm]
      · rw [if_neg hb, if_neg hb, mul_zero]
    rw [Finset.sum_congr rfl (fun u _ => e1 u), sum_bfr (i 1).val n r (128 * h + p) (fun j => val X2 ⟨64 * h + e, by omega⟩ j * ((wt (128 * (4 * (i 1).val + r) + p) (sc x0 x1 r h p) j : ℝ) : EReal)), lane, add_comm, Finset.sum_Ico_consecutive _ (by omega) (by omega)]

end Cert.Sb

end
-- ==== Proof.SbOut.lean ====
module

public import proofs.«01_k».proof.Proof.SbTrip
public import proofs.«01_k».proof.Proof.SbKernel3IdealRun

@[expose] public section

set_option maxRecDepth 16384

noncomputable section

namespace Cert.Sb

open Cert.Kernel3Ideal Cert.Kernel3Ideal.Gen Cert.Kernel3Ideal.Sb Idealize.ShloMosaic Idealize.ShloMosaic.TcCoe Idealize.SL.Sem

theorem floor_eq : (Named.named κ "floor" 0xC3160A50#32 : Ideal .f32) = (⊥ : EReal) := rfl

theorem floor_lt (a b c d : FVec Ideal S1x512 .f32) (l : Fin 512) (h : (⊥ : EReal) < a (ix2 0 l)) : (⊥ : EReal) < k0_pay3 a b c d := by
  pointwise [k0_pay3]
  refine (Finset.lt_fold_max _).mpr (Or.inr ⟨(0, l), Finset.mem_univ _, ?_⟩)
  exact lt_max_of_lt_left (lt_max_of_lt_left (lt_max_of_lt_left h))

theorem goOn_eq (i : grid0.Coords) (n : ℕ) (hn : n ≤ 43) (x0 : S1x4x64x512.Idx → ℝ) (x1 : S1x16384x256.Idx → ℝ) (X2 : Vec Ideal S1x256x16384 .bf16)
    (s : St Ideal) (hs : s.1 = BitVec.ofNat 32 n) (hI : Inv (i 1).val x0 x1 X2 n s) :
    goOn i s = BitVec.ofBool (decide (3 * n ≤ 4 * (i 1).val + 3)) := by
  have hl := left_val (i 1) ⟨n, by omega⟩
  have hC : (⊥ : EReal) < getC 0 s (ix2 0 ⟨128 * (0 : Fin 4) + (0 : Fin 128), by norm_num⟩) := by
    rw [(hI 0 0 0).1]; exact EReal.bot_lt_coe _
  have hf := floor_lt (getC 0 s) s.2.2.1 s.2.2.2.1 s.2.2.2.2.1 _ hC
  have hf' : Scalar.cmpf .ogt (k0_pay3 s.2.1 s.2.2.1 s.2.2.2.1 s.2.2.2.2.1) (Named.named κ "floor" 0xC3160A50#32 : Ideal .f32) = BitVec.ofBool (decide True) := by
    rw [floor_eq]
    show BitVec.ofBool (decide ((⊥ : EReal) < k0_pay3 s.2.1 s.2.2.1 s.2.2.2.1 s.2.2.2.2.1)) = _
    exact congrArg BitVec.ofBool (decide_eq_decide.mpr ⟨fun _ => trivial, fun _ => hf⟩)
  unfold goOn
  rw [hs, hf', hl]
  refine (andi_bool _ _).trans (congrArg BitVec.ofBool (decide_eq_decide.mpr ?_))
  exact ⟨fun h => h.1, fun h => ⟨h, trivial⟩⟩

theorem loop_inv (i : grid0.Coords) (hchk : ∀ n < 43, k0_chk1 i (BitVec.ofNat 32 n)) (x0 : S1x4x64x512.Idx → ℝ) (x1 : S1x16384x256.Idx → ℝ) (X2 : Vec Ideal S1x256x16384 .bf16)
    (v6 : FVec Ideal S384x768 .bf16) (hv6 : ∀ (u : Fin 384) (c : Fin 768), v6 (ix2 u c) = if (u : ℕ) < (c : ℕ) % 384 then 1 else 0)
    (q : Fin 4 → FVec Ideal S256x512 .bf16) (hq : q = qb (fun x => (x0 x : EReal))) :
    ∀ (k n : ℕ) (s : St Ideal), n + k = 43 → s.1 = BitVec.ofNat 32 n → Inv (i 1).val x0 x1 X2 n s →
      ∃ m, 4 * (i 1).val + 3 < 3 * m ∧ Inv (i 1).val x0 x1 X2 m
        (loop i hchk (fun x => (x1 x : EReal)) X2 (iota .tc S128x512 32 [0] iota_S128x512_d0_w32) k0_pay7 (q 0) (q 1) (q 2) (q 3) v6 n k s) := by
  intro k
  induction k with
  | zero =>
    intro n s hnk hs hI
    have ha : (i 1).val < 32 := (i 1).isLt
    exact ⟨n, by omega, hI⟩
  | succ k ih =>
    intro n s hnk hs hI
    have hn : n < 43 := by omega
    unfold loop
    rw [dif_pos ⟨hn, hs⟩]
    by_cases hg : 3 * n ≤ 4 * (i 1).val + 3
    · rw [if_pos (by rw [goOn_eq i n hn.le x0 x1 X2 s hs hI, decide_eq_true hg]; rfl)]
      refine ih (n + 1) _ (by omega) ?_ (trip_inv i n hn x0 x1 X2 v6 hv6 q hq s hs _ hI)
      show s.1 + 1#32 = _
      rw [hs, BitVec.ofNat_add]
    · rw [if_neg (by rw [goOn_eq i n hn.le x0 x1 X2 s hs hI, decide_eq_false hg]; decide)]
      exact ⟨n, by omega, hI⟩

theorem zero_at (l : S1x512.Idx) : broadcast S1x512 (Scalar.ofBits .f32 0x00000000#32 : Ideal .f32) l = 0 := by pointwise
theorem zero_at' (l : S64x128.Idx) : broadcast S64x128 (Scalar.ofBits .f32 0x00000000#32 : Ideal .f32) l = 0 := by pointwise

theorem start_inv (a : ℕ) (x0 : S1x4x64x512.Idx → ℝ) (x1 : S1x16384x256.Idx → ℝ) (X2 : Vec Ideal S1x256x16384 .bf16) : Inv a x0 x1 X2 0 start := by
  intro r h p
  refine ⟨?_, fun e => ?_⟩
  · rw [getC_start, zero_at, Nat.mul_zero, Nat.sub_zero, Finset.Ico_self, Finset.sum_empty, zero_mul]; rfl
  · rw [getA_start, zero_at', Nat.mul_zero, Nat.sub_zero, Finset.Ico_self, Finset.sum_empty]

theorem pay8_at (X3 : Vec Ideal S384x768 .bf16) (u : Fin 384) (c : Fin 768) :
    k0_pay8 (F := Ideal) (View.ld X3 (Rect.unit (s := S384x768) ![0, 0] S384x768.size inb_S384x768_S384x768_0_0)) (ix2 u c) = X3 (ix2 u c) := by
  refine Eq.trans (b := View.ld X3 (Rect.unit (s := S384x768) ![0, 0] S384x768.size inb_S384x768_S384x768_0_0) (ix2 u c)) ?_ ?_
  · generalize View.ld X3 (Rect.unit (s := S384x768) ![0, 0] S384x768.size inb_S384x768_S384x768_0_0) = x
    pointwise [k0_pay8]
  · refine View.ld_unit_apply_of _ _ _ _ _ _ (fun d => ?_)
    fin_cases d <;> exact (Nat.zero_add _).symm

/-- One element of the block the kernel leaves. -/
def ores (a : ℕ) (x0 : S1x4x64x512.Idx → ℝ) (x1 : S1x16384x256.Idx → ℝ) (X2 : Vec Ideal S1x256x16384 .bf16) (A : Fin 512) (B : Fin 256) : EReal :=
  ∑ j ∈ Finset.range (512 * a + A), val X2 B j * ((wt (512 * a + A) (sc x0 x1 ⟨A / 128, by omega⟩ ⟨B / 64, by omega⟩ ⟨A % 128, by omega⟩) j : ℝ) : EReal)

theorem getA_end (a m : ℕ) (x0 : S1x4x64x512.Idx → ℝ) (x1 : S1x16384x256.Idx → ℝ) (X2 : Vec Ideal S1x256x16384 .bf16) (s : St Ideal) (hm : 4 * a + 3 < 3 * m) (hI : Inv a x0 x1 X2 m s)
    (r h : Fin 4) (p : Fin 128) (e : Fin 64) (A : Fin 512) (B : Fin 256) (hA : (A : ℕ) = 128 * r + p) (hB : (B : ℕ) = 64 * h + e) :
    getA r h s (ix2 e p) = ores a x0 x1 X2 A B := by
  rw [(hI r h p).2 e, ← Finset.sum_filter]
  unfold ores
  have e1 : (⟨64 * h + e, by omega⟩ : Fin 256) = B := Fin.ext hB.symm
  have e2 : (⟨(A : ℕ) / 128, by omega⟩ : Fin 4) = r := Fin.ext (by simp only; omega)
  have e3 : (⟨(B : ℕ) / 64, by omega⟩ : Fin 4) = h := Fin.ext (by simp only; omega)
  have e4 : (⟨(A : ℕ) % 128, by omega⟩ : Fin 128) = p := Fin.ext (by simp only; omega)
  rw [e1, e2, e3, e4, show 128 * (4 * a + (r : ℕ)) + p = 512 * a + A by omega]
  refine Finset.sum_congr ?_ fun _ _ => rfl
  ext j
  simp only [Finset.mem_filter, Finset.mem_Ico, Finset.mem_range]
  omega

theorem put_at (o : Fin 4 → FVec Ideal S64x128 .f32) (f : Fin 256 → Fin 128 → EReal) (x : S1x128x256.Idx)
    (ho : ∀ (h : Fin 4) (e : Fin 64) (p : Fin 128), o h (ix2 e p) = f ⟨64 * h + e, by omega⟩ p) : put o x = f (x 2) (x 1) := by
  have b1 : (x 1 : ℕ) < 128 := (x 1).isLt
  have b2 : (x 2 : ℕ) < 256 := (x 2).isLt
  have hX : x = ix3 0 ⟨x 1, b1⟩ ⟨64 * ((⟨(x 2 : ℕ) / 64, by omega⟩ : Fin 4) : ℕ) + ((⟨(x 2 : ℕ) % 64, by omega⟩ : Fin 64) : ℕ), by simp only; omega⟩ := by
    funext k
    fin_cases k
    · exact Subsingleton.elim (α := Fin 1) _ _
    · rfl
    · exact Fin.ext (by show (x 2 : ℕ) = 64 * ((x 2 : ℕ) / 64) + (x 2 : ℕ) % 64; omega)
  conv_lhs => rw [hX]
  rw [put_apply, ho]
  refine congrArg₂ f (Fin.ext ?_) rfl
  show 64 * ((x 2 : ℕ) / 64) + (x 2 : ℕ) % 64 = x 2
  omega

theorem part (a m : ℕ) (x0 : S1x4x64x512.Idx → ℝ) (x1 : S1x16384x256.Idx → ℝ) (X2 : Vec Ideal S1x256x16384 .bf16) (s : St Ideal) (hm : 4 * a + 3 < 3 * m) (hI : Inv a x0 x1 X2 m s)
    (r : Fin 4) (x : S1x128x256.Idx) (A : Fin 512) (B : Fin 256) (hA : (A : ℕ) = 128 * r + (x 1 : ℕ)) (hB : (B : ℕ) = (x 2 : ℕ)) :
    put (fun h => getA r h s) x = ores a x0 x1 X2 A B := by
  rw [put_at (fun h => getA r h s) (fun B p => ores a x0 x1 X2 ⟨128 * r + p, by omega⟩ B) x (fun h e p => getA_end a m x0 x1 X2 s hm hI r h p e _ _ rfl rfl)]
  exact congrArg₂ (ores a x0 x1 X2) (Fin.ext hA.symm) (Fin.ext hB.symm)

theorem outBlk_at (a m : ℕ) (x0 : S1x4x64x512.Idx → ℝ) (x1 : S1x16384x256.Idx → ℝ) (X2 : Vec Ideal S1x256x16384 .bf16) (s : St Ideal) (hm : 4 * a + 3 < 3 * m) (hI : Inv a x0 x1 X2 m s)
    (y : S1x512x256.Idx) : outBlk s y = ores a x0 x1 X2 (y 1) (y 2) := by
  rw [outBlk_eq]
  canon_tiles x h
  case piece0 => exact part a m x0 x1 X2 s hm hI 3 x (y 1) (y 2) h1 h2
  case piece1 => exact part a m x0 x1 X2 s hm hI 2 x (y 1) (y 2) h1 h2
  case piece2 => exact part a m x0 x1 X2 s hm hI 1 x (y 1) (y 2) h1 h2
  case piece3 => exact part a m x0 x1 X2 s hm hI 0 x (y 1) (y 2) (h1.trans (Nat.zero_add _).symm) h2

/-- What the body leaves, at an index of its block, from real queries and keys. -/
theorem out_at (i : grid0.Coords) (x0 : S1x4x64x512.Idx → ℝ) (x1 : S1x16384x256.Idx → ℝ) (X0 : Vec Ideal S1x4x64x512 .f32) (X1 : Vec Ideal S1x16384x256 .bf16) (X2 : Vec Ideal S1x256x16384 .bf16) (X3 : Vec Ideal S384x768 .bf16)
    (h0 : X0 = fun x => (x0 x : EReal)) (h1 : X1 = fun x => (x1 x : EReal)) (h3 : ∀ (u : Fin 384) (c : Fin 768), X3 (ix2 u c) = if (u : ℕ) < (c : ℕ) % 384 then 1 else 0) (y : S1x512x256.Idx) :
    out i X0 X1 X2 X3 y = ores (i 1).val x0 x1 X2 (y 1) (y 2) := by
  unfold out
  rw [final_eq, h1]
  obtain ⟨m, hm, hI⟩ := loop_inv i (chk i) x0 x1 X2 _ (fun u c => (pay8_at X3 u c).trans (h3 u c)) (qb X0) (by rw [h0]) 43 0 start rfl rfl (start_inv _ x0 x1 X2)
  exact outBlk_at _ m x0 x1 X2 _ hm hI y

end Cert.Sb

end
-- ==== Proof.SbArrays.lean ====
module

public import proofs.«01_k».proof.Proof.SbOut
public import Idealize.ShloMosaic.Lib.Pipeline.ValueKit

@[expose] public section

set_option maxRecDepth 16384

noncomputable section

namespace Cert.Sb

open Cert.Kernel3Ideal Cert.Kernel3Ideal.Gen Cert.Kernel3Ideal.Sb Idealize.ShloMosaic Idealize.ShloMosaic.TcCoe Idealize.SL.Sem
open Idealize.ShloMosaic.Pipeline (Dat)

variable (m : (ℓ : Loc nD τ sig) → Buf (Elt Ideal) ℓ)

/-! ## The arrays the kernel is launched on -/

theorem q_eq (c : Dev nD) : V m c main_v4
    = shapeCast S2x128x64x512 (transpose S2x128x64x4x128 [0, 1, 4, 3, 2]
        (shapeCast S2x128x128x4x64 (mulf (F := Ideal) (φ := .f32) (m ((c : Thread nD τ).loc main_arg0))
          (broadcastInDim S2x16384x256 ![] bcast_S_S2x16384x256 (constant (F := Ideal) S_ .f32 0x3E000000#32)))
          shapeCasts_S2x16384x256_S2x128x128x4x64) transposes_S2x128x128x4x64_S2x128x64x4x128_0_1_4_3_2)
        shapeCasts_S2x128x64x4x128_S2x128x64x512 := by
  after_results
  rfl

theorem k_eq (c : Dev nD) : V m c main_v5 = truncf (F := Ideal) .bf16 (m ((c : Thread nD τ).loc main_arg1)) bitsLt_bf16_f32 := by
  unfold V
  simp only [List.flatten_cons, List.flatten_nil, List.append_nil, List.cons_append, List.nil_append]
  after_results

theorem v_eq (c : Dev nD) : V m c main_v7
    = truncf (F := Ideal) .bf16 (transpose S2x256x16384 [0, 2, 1] (m ((c : Thread nD τ).loc main_arg2)) transposes_S2x16384x256_S2x256x16384_0_2_1) bitsLt_bf16_f32 := by
  unfold V
  simp only [List.flatten_cons, List.flatten_nil, List.append_nil, List.cons_append, List.nil_append]
  after_results

/-- The column's remainder by the divisor. -/
def remv (x : IVec S1x768 32) (d : IVec S_ 32) : IVec S1x768 32 :=
  let e : IVec S_ 32 := select (cmpi .eq d (constantI S_ 32 0#32)) (constantI S_ 32 1#32) d
  let r : IVec S1x768 32 := Host.remsi x (broadcastInDim S1x768 ![] bcast_S_S1x768 e)
  let z : IVec S1x768 32 := broadcastInDim S1x768 ![] bcast_S_S1x768 (constantI S_ 32 0#32)
  select (andi (cmpi .ne (cmpi .slt r z) (broadcastInDim S1x768 ![] bcast_S_S1x768 (cmpi .slt e (constantI S_ 32 0#32)))) (cmpi .ne r z))
    (addi r (broadcastInDim S1x768 ![] bcast_S_S1x768 e)) r

theorem later_eq (c : Dev nD) : V m c main_v16
    = uitofp (F := Ideal) .bf16 (cmpi .sgt
        (broadcastInDim S384x768 ![0, 1] bcast_S1x768_S384x768_0_1 (remv (broadcastInDim S1x768 ![1] bcast_S768_S1x768_1 (iotaInDim S768 32 0)) (constantI S_ 32 384#32)))
        (broadcastInDim S384x768 ![0, 1] bcast_S384x1_S384x768_0_1 (broadcastInDim S384x1 ![0] bcast_S384_S384x1_0 (iotaInDim S384 32 0)))) := by
  after_results
  rfl

/-! ## The arrays at an index -/

abbrev aq (c : Dev nD) : FVec Ideal S2x16384x256 .f32 := m ((c : Thread nD τ).loc main_arg0)
abbrev ak (c : Dev nD) : FVec Ideal S2x16384x256 .f32 := m ((c : Thread nD τ).loc main_arg1)
abbrev av (c : Dev nD) : FVec Ideal S2x16384x256 .f32 := m ((c : Thread nD τ).loc main_arg2)

theorem q_cast1 (Y : FVec Ideal S2x128x64x4x128 .f32) (b : Fin 2) (n : Fin 128) (e : Fin 64) (h : Fin 4) (x : Fin 128) :
    shapeCast S2x128x64x512 Y shapeCasts_S2x128x64x4x128_S2x128x64x512 (ix4 b n e ⟨128 * h + x, by omega⟩) = Y (ix5 b n e h x) := by
  pointwise

theorem q_cast2 (Y : FVec Ideal S2x128x128x4x64 .f32) (b : Fin 2) (n : Fin 128) (e : Fin 64) (h : Fin 4) (x : Fin 128) :
    transpose S2x128x64x4x128 [0, 1, 4, 3, 2] Y transposes_S2x128x128x4x64_S2x128x64x4x128_0_1_4_3_2 (ix5 b n e h x) = Y (ix5 b n x h e) := by
  pointwise

theorem q_cast3 (Y : FVec Ideal S2x16384x256 .f32) (b : Fin 2) (n : Fin 128) (e : Fin 64) (h : Fin 4) (x : Fin 128) :
    shapeCast S2x128x128x4x64 Y shapeCasts_S2x16384x256_S2x128x128x4x64 (ix5 b n x h e)
      = Y (ix3 b ⟨128 * n + x, by omega⟩ ⟨64 * h + e, by omega⟩) := by
  pointwise
  simp only [Nat.mul_comm]

theorem q_at (c : Dev nD) (b : Fin 2) (n : Fin 128) (e : Fin 64) (h : Fin 4) (x : Fin 128) :
    (V m c main_v4 : FVec Ideal S2x128x64x512 .f32) (ix4 b n e ⟨128 * h + x, by omega⟩)
      = aq m c (ix3 b ⟨128 * n + x, by omega⟩ ⟨64 * h + e, by omega⟩) * Ideal.ofBits .f32 0x3E000000#32 := by
  rw [q_eq, q_cast1, q_cast2, q_cast3]
  rfl

theorem k_at (c : Dev nD) (y : S2x16384x256.Idx) : (V m c main_v5 : FVec Ideal S2x16384x256 .bf16) y = ak m c y := by
  rw [k_eq]
  rfl

theorem v_at (c : Dev nD) (b : Fin 2) (d : Fin 256) (j : Fin 16384) :
    (V m c main_v7 : FVec Ideal S2x256x16384 .bf16) (ix3 b d j) = av m c (ix3 b j d) := by
  rw [v_eq]
  pointwise

/-- The remainder of one word. -/
def remw (a d : BitVec 32) : BitVec 32 :=
  let e := Scalar.select (IntOp.cmpi .eq d 0#32) 1#32 d
  Scalar.select (IntOp.andi (IntOp.cmpi .ne (IntOp.cmpi .slt (IntOp.remsi .host a e) 0#32) (IntOp.cmpi .slt e 0#32)) (IntOp.cmpi .ne (IntOp.remsi .host a e) 0#32))
    (IntOp.addi (IntOp.remsi .host a e) e) (IntOp.remsi .host a e)

theorem remw_eq : ∀ u : Fin 768, remw (BitVec.ofNat 32 u) 384#32 = BitVec.ofNat 32 (u % 384) := by decide +kernel

theorem remv_apply (x : IVec S1x768 32) (u : Fin 768) : remv x (constantI S_ 32 384#32) (ix2 0 u) = remw (x (ix2 0 u)) 384#32 := by
  pointwise [remv, remw]

theorem col_apply (u : Fin 768) : (broadcastInDim S1x768 ![1] bcast_S768_S1x768_1 (iotaInDim S768 32 0) : IVec S1x768 32) (ix2 0 u) = BitVec.ofNat 32 u := by
  pointwise

theorem row_apply (u : Fin 384) (c : Fin 768) : (broadcastInDim S384x768 ![0, 1] bcast_S384x1_S384x768_0_1 (broadcastInDim S384x1 ![0] bcast_S384_S384x1_0 (iotaInDim S384 32 0)) : IVec S384x768 32) (ix2 u c) = BitVec.ofNat 32 u := by
  pointwise

theorem gt_word (a b : ℕ) (ha : a < 2147483648) (hb : b < 2147483648) : IntOp.cmpi .sgt (BitVec.ofNat 32 a) (BitVec.ofNat 32 b) = BitVec.ofBool (decide (b < a)) :=
  slt_small b a hb ha

theorem later_at (c : Dev nD) (u : Fin 384) (w : Fin 768) :
    (V m c main_v16 : FVec Ideal S384x768 .bf16) (ix2 u w) = if (u : ℕ) < (w : ℕ) % 384 then (1 : EReal) else (0 : EReal) := by
  rw [later_eq]
  have h1 : (broadcastInDim S384x768 ![0, 1] bcast_S1x768_S384x768_0_1 (remv (broadcastInDim S1x768 ![1] bcast_S768_S1x768_1 (iotaInDim S768 32 0)) (constantI S_ 32 384#32)) : IVec S384x768 32) (ix2 u w)
      = BitVec.ofNat 32 ((w : ℕ) % 384) := by
    generalize hy : remv (broadcastInDim S1x768 ![1] bcast_S768_S1x768_1 (iotaInDim S768 32 0)) (constantI S_ 32 384#32) = Y
    have e : (broadcastInDim S384x768 ![0, 1] bcast_S1x768_S384x768_0_1 Y : IVec S384x768 32) (ix2 u w) = Y (ix2 0 w) := by
      pointwise
    rw [e, ← hy, remv_apply, col_apply, remw_eq]
  have h2 := row_apply u w
  generalize (broadcastInDim S384x768 ![0, 1] bcast_S1x768_S384x768_0_1 (remv (broadcastInDim S1x768 ![1] bcast_S768_S1x768_1 (iotaInDim S768 32 0)) (constantI S_ 32 384#32)) : IVec S384x768 32) = A at h1 ⊢
  generalize (broadcastInDim S384x768 ![0, 1] bcast_S384x1_S384x768_0_1 (broadcastInDim S384x1 ![0] bcast_S384_S384x1_0 (iotaInDim S384 32 0)) : IVec S384x768 32) = B at h2 ⊢
  have e : uitofp (F := Ideal) .bf16 (cmpi .sgt A B) (ix2 u w) = (((IntOp.cmpi .sgt (A (ix2 u w)) (B (ix2 u w))).toNat : ℝ) : EReal) := rfl
  have h3 := gt_word ((w : ℕ) % 384) u (by omega) (by omega)
  rw [e, h1, h2, h3]
  by_cases h : (u : ℕ) < (w : ℕ) % 384
  · simp [h]
  · simp [h]

end Cert.Sb
-- ==== Proof.SbResult.lean ====
module

public import proofs.«01_k».proof.Proof.SbArrays
public import proofs.«01_k».proof.Proof.SwaSpec

@[expose] public section

set_option maxRecDepth 16384

noncomputable section

namespace Cert.Sb

open Cert.Kernel3Ideal Cert.Kernel3Ideal.Gen Cert.Kernel3Ideal.Sb Idealize.ShloMosaic Idealize.ShloMosaic.TcCoe Idealize.SL.Sem
open Idealize.ShloMosaic.Pipeline (Dat)

variable (m : (ℓ : Loc nD τ sig) → Buf (Elt Ideal) ℓ)

/-! ## The result from the arguments -/

/-- The score of the query at `P` and the key at `j`. -/
def score (q k : S2x16384x256.Idx → ℝ) (b : Fin 2) (h : Fin 4) (P : Fin 16384) (j : ℕ) : ℝ :=
  ∑ e : Fin 64, (if hj : j < 16384 then k (ix3 b ⟨j, hj⟩ ⟨64 * h + e, by omega⟩) else 0) * (q (ix3 b P ⟨64 * h + e, by omega⟩) * (1 / 8))

/-- One result: the values before the position, each by its weight. -/
def kres (q k : S2x16384x256.Idx → ℝ) (W : FVec Ideal S2x16384x256 .f32) (b : Fin 2) (P : Fin 16384) (B : Fin 256) : EReal :=
  ∑ j ∈ Finset.range P, (if hj : j < 16384 then W (ix3 b ⟨j, hj⟩ B) else 0) * ((wt P (score q k b ⟨B / 64, by omega⟩ P) j : ℝ) : EReal)

theorem idx : ∀ t : Fin (cfg0 (F := Ideal)).N, (grid0.coords t 1).val = t.val % 32
    ∧ win0_0.index t = ![t.val / 32, t.val % 32, 0, 0] ∧ win0_1.index t = ![t.val / 32, 0, 0]
    ∧ win0_2.index t = ![t.val / 32, 0, 0] ∧ win0_3.index t = ![0, 0] ∧ win0_4.index t = ![t.val / 32, t.val % 32, 0] :=
  (by decide +kernel : ∀ t : Fin grid0.N, _)

/-- The queries of a block, from the queries. -/
def qblk (q : S2x16384x256.Idx → ℝ) (b : Fin 2) (s : Fin 32) : S1x4x64x512.Idx → ℝ := fun x =>
  q (ix3 b ⟨128 * (4 * s + (x 1 : ℕ)) + (x 3 : ℕ) % 128, by have := (x 1).isLt; simp at this; omega⟩
    ⟨64 * ((x 3 : ℕ) / 128) + (x 2 : ℕ), by have := (x 2).isLt; have := (x 3).isLt; simp at *; omega⟩) * (1 / 8)

def kblk (k : S2x16384x256.Idx → ℝ) (b : Fin 2) : S1x16384x256.Idx → ℝ := fun x => k (ix3 b (x 1) (x 2))

section Blocks

variable (c : Dev nD) (t : Fin (cfg0 (F := Ideal)).N) (b : Fin 2) (s : Fin 32) (hb : (b : Nat) = t.val / 32) (hs : (s : Nat) = t.val % 32)
include hb hs

theorem blk0 (r : Fin 4) (e : Fin 64) (h : Fin 4) (p : Fin 128) :
    iblk m c 0 t (ix4 0 r e ⟨128 * h + p, by omega⟩) = aq m c (ix3 b ⟨128 * (4 * s + r) + p, by omega⟩ ⟨64 * h + e, by omega⟩) * Ideal.ofBits .f32 0x3E000000#32 := by
  refine Eq.trans ?_ (q_at m c b ⟨4 * s + r, by omega⟩ e h p)
  refine congrArg (V m c main_v4 : FVec Ideal S2x128x64x512 .f32) ?_
  blk_ext [idx t]

theorem blk1 (j : Fin 16384) (d : Fin 256) : iblk m c 1 t (ix3 0 j d) = ak m c (ix3 b j d) := by
  refine Eq.trans ?_ (k_at m c (ix3 b j d))
  refine congrArg (V m c main_v5 : FVec Ideal S2x16384x256 .bf16) ?_
  blk_ext [idx t]

theorem blk2 (d : Fin 256) (j : Fin 16384) : iblk m c 2 t (ix3 0 d j) = av m c (ix3 b j d) := by
  refine Eq.trans ?_ (v_at m c b d j)
  refine congrArg (V m c main_v7 : FVec Ideal S2x256x16384 .bf16) ?_
  blk_ext [idx t]

omit hb hs in
theorem blk3 (u : Fin 384) (w : Fin 768) : iblk m c 3 t (ix2 u w) = if (u : ℕ) < (w : ℕ) % 384 then (1 : EReal) else (0 : EReal) := by
  refine Eq.trans ?_ (later_at m c u w)
  refine congrArg (V m c main_v16 : FVec Ideal S384x768 .bf16) ?_
  blk_ext [idx t]

theorem blk0_real (q : S2x16384x256.Idx → ℝ) (hq : ∀ y, aq m c y = (q y : EReal)) : iblk m c 0 t = fun x => (qblk q b s x : EReal) := by
  funext x
  idx_vars x
  obtain rfl : x0 = 0 := Subsingleton.elim _ _
  have e : (ix4 0 x1 x2 x3 : S1x4x64x512.Idx) = ix4 0 x1 x2 ⟨128 * ((⟨(x3 : ℕ) / 128, by omega⟩ : Fin 4) : ℕ) + ((⟨(x3 : ℕ) % 128, by omega⟩ : Fin 128) : ℕ), by simp only; omega⟩ := by
    congr 1
    apply Fin.ext
    simp only
    omega
  have h := blk0 m c t b s hb hs x1 x2 ⟨(x3 : ℕ) / 128, by omega⟩ ⟨(x3 : ℕ) % 128, by omega⟩
  rw [← e, hq, Cert.Swa.bits_eighth, ← EReal.coe_mul] at h
  exact h

theorem blk1_real (k : S2x16384x256.Idx → ℝ) (hk : ∀ y, ak m c y = (k y : EReal)) : iblk m c 1 t = fun x => (kblk k b x : EReal) := by
  funext x
  idx_vars x
  obtain rfl : x0 = 0 := Subsingleton.elim _ _
  exact (blk1 m c t b s hb hs x1 x2).trans (hk _)

theorem sc_eq (q k : S2x16384x256.Idx → ℝ) (A : Fin 512) (h : Fin 4) (j : ℕ) :
    sc (qblk q b s) (kblk k b) ⟨A / 128, by omega⟩ h ⟨A % 128, by omega⟩ j = score q k b h ⟨512 * s + A, by omega⟩ j := by
  unfold sc score
  apply Finset.sum_congr rfl
  intro e _
  refine congrArg₂ (· * ·) rfl ?_
  unfold qblk
  refine congrArg (· * (1 / 8 : ℝ)) (congrArg q ?_)
  congr 1 <;> (apply Fin.ext; simp; omega)

end Blocks

/-- The result array. -/
def full (q k : S2x16384x256.Idx → ℝ) (W : FVec Ideal S2x16384x256 .f32) : FVec Ideal S2x16384x256 .f32 := fun y => kres q k W (y 0) (y 1) (y 2)

theorem point (c : Dev nD) (q k : S2x16384x256.Idx → ℝ) (hq : ∀ y, aq m c y = (q y : EReal)) (hk : ∀ y, ak m c y = (k y : EReal)) (t : Fin (cfg0 (F := Ideal)).N) (y : S1x512x256.Idx) :
    out (grid0.coords t) (iblk m c 0 t) (iblk m c 1 t) (iblk m c 2 t) (iblk m c 3 t) y = full q k (av m c) ((((cfg0 (F := Ideal)).win 4).blk t).view.emb y) := by
  have ht : t.val < 64 := lt_of_lt_of_eq t.isLt N_0
  obtain ⟨b, hb⟩ : ∃ b : Fin 2, (b : ℕ) = t.val / 32 := ⟨⟨t.val / 32, by omega⟩, rfl⟩
  obtain ⟨s, hs⟩ : ∃ s : Fin 32, (s : ℕ) = t.val % 32 := ⟨⟨t.val % 32, by omega⟩, rfl⟩
  rw [out_at (grid0.coords t) (qblk q b s) (kblk k b) _ _ _ _ (blk0_real m c t b s hb hs q hq) (blk1_real m c t b s hb hs k hk) (blk3 m c t) y]
  idx_vars y
  have e : (((cfg0 (F := Ideal)).win 4).blk t).view.emb (ix3 y0 y1 y2) = (ix3 b ⟨512 * s + y1, by omega⟩ y2 : S2x16384x256.Idx) := by
    blk_ext [idx t]
  rw [e]
  have hi : ((grid0.coords t) 1).val = s := (idx t).1.trans hs.symm
  show ores ((grid0.coords t) 1).val (qblk q b s) (kblk k b) (iblk m c 2 t) y1 y2 = kres q k (av m c) b ⟨512 * s + y1, by omega⟩ y2
  rw [hi]
  unfold ores kres
  refine Finset.sum_congr rfl fun j _ => congrArg₂ (· * ·) ?_ (congrArg (fun r : ℝ => (r : EReal)) ?_)
  · unfold val
    by_cases hj : j < 16384
    · rw [dif_pos hj, dif_pos hj]
      exact blk2 m c t b s hb hs y2 ⟨j, hj⟩
    · rw [dif_neg hj, dif_neg hj]
  · exact congrArg (fun f => wt (512 * (s : ℕ) + y1) f j) (funext fun j => sc_eq t b s hb hs q k y1 ⟨y2 / 64, by omega⟩ j)

theorem final_array (c : Dev nD) (q k : S2x16384x256.Idx → ℝ) (hq : ∀ y, aq m c y = (q y : EReal)) (hk : ∀ y, ak m c y = (k y : EReal)) :
    (dats m 0 c).arrAt 4 (cfgs (F := Ideal) 0).N = full q k (av m c) := by
  refine (dats m 0 c).arrAt_eq_of_covers 4 _ (by decide +kernel) fun t _ y => ?_
  blk_simp
  rw [after0_4]
  exact point m c q k hq hk t y

end Cert.Sb
-- ==== Proof.SbRef.lean ====
module

public import proofs.«01_k».proof.Defs
public import proofs.«01_k».proof.Proof.Gen.Reference3Ideal.Run
public import proofs.«01_k».proof.Proof.SbReal
public import proofs.«01_k».proof.Proof.SwaSpec
public import Idealize.ShloMosaic.Lib.Pipeline.ValueKit
public import Idealize.ShloMosaic.Lib.Claim
public import Idealize.ShloMosaic.Lib.Pointwise

@[expose] public section

set_option maxRecDepth 16384

noncomputable section

namespace Cert.SbRef

open Cert.Reference3Ideal Cert.Reference3Ideal.Gen Idealize.ShloMosaic Idealize.ShloMosaic.TcCoe Idealize.SL.Sem

/-- A number in the scores' shape. -/
abbrev all (z : BitVec 32) : FVec Ideal S2x4x16384x16384 .f32 := broadcastInDim S2x4x16384x16384 ![] bcast_S_S2x4x16384x16384 (constant (F := Ideal) S_ .f32 z)

/-- An argument by head. -/
def rHeads (X : FVec Ideal S2x16384x256 .f32) : FVec Ideal S2x4x16384x64 .f32 :=
  transpose S2x4x16384x64 [0, 2, 1, 3] (shapeCast S2x16384x4x64 X shapeCasts_S2x16384x256_S2x16384x4x64) transposes_S2x16384x4x64_S2x4x16384x64_0_2_1_3

/-- The scores. -/
def rS (Q K : FVec Ideal S2x4x16384x64 .f32) : FVec Ideal S2x4x16384x16384 .f32 :=
  Host.divf (Host.dotGeneral dot_S2x4x16384x64_S2x4x16384x64_S2x4x16384x16384_3_3_2_2_01_01 none Q K) (all 0x41000000#32)

/-- Which keys are before a query. -/
def rBefore : IVec S2x4x16384x16384 1 :=
  broadcastInDim S2x4x16384x16384 ![2, 3] bcast_S16384x16384_S2x4x16384x16384_2_3
    (cmpi .slt (broadcastInDim S16384x16384 ![0, 1] bcast_S1x16384_S16384x16384_0_1 (broadcastInDim S1x16384 ![1] bcast_S16384_S1x16384_1 (iotaInDim S16384 32 0)))
      (broadcastInDim S16384x16384 ![0, 1] bcast_S16384x1_S16384x16384_0_1 (broadcastInDim S16384x1 ![0] bcast_S16384_S16384x1_0 (iotaInDim S16384 32 0))))

/-- The logarithm of the logistic function. -/
def rLog (X : FVec Ideal S2x4x16384x16384 .f32) : FVec Ideal S2x4x16384x16384 .f32 :=
  Host.negf (select (cmpf .une (subf (Host.negf X) (all 0x00000000#32)) (subf (Host.negf X) (all 0x00000000#32)))
    (addf (Host.negf X) (all 0x00000000#32))
    (addf (maximumf (Host.negf X) (all 0x00000000#32)) (Host.log1p (Host.exp (Host.negf (Host.absf (subf (Host.negf X) (all 0x00000000#32))))))))

/-- An array at the keys before the query, nought elsewhere. -/
def rSel (X : FVec Ideal S2x4x16384x16384 .f32) : FVec Ideal S2x4x16384x16384 .f32 :=
  select rBefore X (broadcastInDim S2x4x16384x16384 ![] bcast_S_S2x4x16384x16384 (id (constant (F := Ideal) S_ .f32 0x00000000#32)))

/-- The sums from a key on. -/
def rCum (X : FVec Ideal S2x4x16384x16384 .f32) : FVec Ideal S2x4x16384x16384 .f32 :=
  Host.reduceWindowAdd ![1, 1, 1, 16384] ![1, 1, 1, 1] ![0, 0, 0, 0] ![0, 0, 0, 16383] X
    (broadcastInDim S_ ![] bcast_S_S_ (constant (F := Ideal) S_ .f32 0x00000000#32)) reduceWindows_S2x4x16384x16384_S2x4x16384x16384_w1s1p0_0_w1s1p0_0_w1s1p0_0_w16384s1p0_16383 h_S_

/-- The weights, from the scores and their shares passed on. -/
def rWt (S L : FVec Ideal S2x4x16384x16384 .f32) : FVec Ideal S2x4x16384x16384 .f32 := rSel (Host.exp (addf (rLog S) (subf (rCum L) L)))

/-- The result. -/
def rOut (W : FVec Ideal S2x4x16384x16384 .f32) (V : FVec Ideal S2x4x16384x64 .f32) : FVec Ideal S2x16384x256 .f32 :=
  shapeCast S2x16384x256 (transpose S2x16384x4x64 [0, 2, 1, 3]
    (Host.dotGeneral dot_S2x4x16384x16384_S2x4x16384x64_S2x4x16384x64_3_2_2_3_01_01 none W V)
    transposes_S2x4x16384x64_S2x16384x4x64_0_2_1_3) shapeCasts_S2x16384x4x64_S2x16384x256

variable (m : (ℓ : Loc nD τ sig) → Buf (Elt Ideal) ℓ)

def rAll (Q K V : FVec Ideal S2x16384x256 .f32) : FVec Ideal S2x16384x256 .f32 :=
  rOut (rWt (rS (rHeads Q) (rHeads K)) (rSel (rLog (Host.negf (rS (rHeads Q) (rHeads K)))))) (rHeads V)

theorem res_eq (c : Dev nD) : Cert.Reference3Ideal.Value.res_main_v26 (F := Ideal) m c
    = rAll (m ((c.tc : Thread nD τ).loc main_arg0)) (m ((c.tc : Thread nD τ).loc main_arg1)) (m ((c.tc : Thread nD τ).loc main_arg2)) := by
  unfold Cert.Reference3Ideal.Value.res_main_v26
  rfl

/-! ## The operations at an index -/

theorem rHeads_apply (X : FVec Ideal S2x16384x256 .f32) (b : Fin 2) (h : Fin 4) (t : Fin 16384) (e : Fin 64) :
    rHeads X (ix4 b h t e) = X (ix3 b t ⟨64 * h + e, by omega⟩) := by
  pointwise [rHeads]
  simp only [Nat.mul_comm]

theorem rS_apply (Q K : FVec Ideal S2x4x16384x64 .f32) (b : Fin 2) (h : Fin 4) (P j : Fin 16384) :
    rS Q K (ix4 b h P j) = Ideal.div (∑ e : Fin 64, Q (ix4 b h P e) * K (ix4 b h j e)) (Ideal.ofBits .f32 0x41000000#32) := by
  pointwise [rS]

theorem rOut_apply (W : FVec Ideal S2x4x16384x16384 .f32) (V : FVec Ideal S2x4x16384x64 .f32) (b : Fin 2) (P : Fin 16384) (h : Fin 4) (e : Fin 64) :
    rOut W V (ix3 b P ⟨64 * h + e, by omega⟩) = ∑ j : Fin 16384, W (ix4 b h P j) * V (ix4 b h j e) := by
  pointwise [rOut]

theorem rBefore_apply (b : Fin 2) (h : Fin 4) (P j : Fin 16384) : rBefore (ix4 b h P j) = BitVec.ofBool (decide ((j : ℕ) < (P : ℕ))) := by
  have e : rBefore (ix4 b h P j) = IntOp.cmpi .slt (BitVec.ofNat 32 j) (BitVec.ofNat 32 P) := by
    pointwise [rBefore]
  rw [e, Cert.Sb.slt_small _ _ (by omega) (by omega)]

theorem zero_bits : Ideal.ofBits .f32 0x00000000#32 = 0 := by
  simp [Ideal.ofBits, Ideal.ieee]

theorem rSel_apply (X : FVec Ideal S2x4x16384x16384 .f32) (b : Fin 2) (h : Fin 4) (P j : Fin 16384) :
    rSel X (ix4 b h P j) = if (j : ℕ) < (P : ℕ) then X (ix4 b h P j) else (0 : EReal) := by
  have e : rSel X (ix4 b h P j) = Scalar.select (rBefore (ix4 b h P j)) (X (ix4 b h P j)) (Ideal.ofBits .f32 0x00000000#32 : EReal) := rfl
  rw [e, rBefore_apply, zero_bits]
  by_cases hj : (j : ℕ) < (P : ℕ)
  · simp [hj, Scalar.select]
  · simp [hj, Scalar.select]

theorem rLog_real (X : FVec Ideal S2x4x16384x16384 .f32) (i : S2x4x16384x16384.Idx) (x : ℝ) (hx : X i = (x : EReal)) :
    rLog X i = ((Cert.Sb.lft (-x) : ℝ) : EReal) := by
  have e : rLog X i = (-(Scalar.select (Ideal.cmp .une (-(X i : EReal) - Ideal.ofBits .f32 0x00000000#32) (-(X i : EReal) - Ideal.ofBits .f32 0x00000000#32))
      (-(X i : EReal) + Ideal.ofBits .f32 0x00000000#32)
      (max (-(X i : EReal)) (Ideal.ofBits .f32 0x00000000#32)
        + Ideal.log (1 + Ideal.exp (-(max (-(X i : EReal) - Ideal.ofBits .f32 0x00000000#32) (-(-(X i : EReal) - Ideal.ofBits .f32 0x00000000#32))))))) : EReal) := rfl
  rw [e, zero_bits, hx]
  have hc : Ideal.cmp .une (-(x : EReal) - 0) (-(x : EReal) - 0) = 0#1 := by
    simp [Ideal.cmp]
  rw [hc]
  have hs : ∀ a b : EReal, Scalar.select (0#1) a b = b := fun a b => rfl
  rw [hs, sub_zero, ← EReal.coe_neg, ← EReal.coe_neg, Cert.Sb.coe_max, ← EReal.coe_zero, Cert.Sb.coe_max, ← EReal.coe_neg]
  rw [Cert.Swa.exp_coe, ← EReal.coe_one, ← EReal.coe_add, Cert.Sb.log_real _ (by positivity), ← EReal.coe_add, ← EReal.coe_neg]
  rfl

theorem lft_neg (x : ℝ) : Cert.Sb.lft (-x) = x + Cert.Sb.lft x := by
  unfold Cert.Sb.lft
  rw [abs_neg]
  have e : max (-x) 0 = max x 0 - x := by
    rcases le_total x 0 with h | h
    · rw [max_eq_left (by linarith), max_eq_right h]; ring
    · rw [max_eq_right (by linarith), max_eq_left h]; ring
  rw [e]
  ring

/-! ## The sum from a key on -/

theorem fold_sum {n : ℕ} (f : Fin n → EReal) : (List.finRange n).foldl (fun r k => r + f k) 0 = ∑ k, f k := by
  rw [← List.sum_ofFn, List.ofFn_eq_map, List.sum_eq_foldl, List.foldl_map]

/-- The last coordinate of a window that is one long in the others. -/
def lastCoord (n : ℕ) : (⟨4, ![1, 1, 1, n]⟩ : Shape).Idx ≃ Fin n where
  toFun w := w 3
  invFun k := fun a => match a with
    | ⟨0, _⟩ => (0 : Fin 1)
    | ⟨1, _⟩ => (0 : Fin 1)
    | ⟨2, _⟩ => (0 : Fin 1)
    | ⟨3, _⟩ => k
  left_inv w := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
  right_inv k := rfl

end Cert.SbRef
-- ==== Proof.SbCum.lean ====
module

public import proofs.«01_k».proof.Proof.SbRef

@[expose] public section

set_option maxRecDepth 16384

noncomputable section

namespace Cert.SbRef

open Cert.Reference3Ideal Cert.Reference3Ideal.Gen Idealize.ShloMosaic Idealize.ShloMosaic.TcCoe Idealize.SL.Sem

/-- A running window sum along the last coordinate, padded above. -/
theorem window_sum {A B C N M : ℕ} (X : (⟨4, ![A, B, C, N]⟩ : Shape).Idx → EReal)
    (hw : (⟨4, ![A, B, C, N]⟩ : Shape).ReduceWindows (![1, 1, 1, N] : Fin 4 → ℕ) ![1, 1, 1, 1] ![0, 0, 0, 0] ![0, 0, 0, M] ⟨4, ![A, B, C, N]⟩)
    (hu : 0 < (⟨0, ![]⟩ : Shape).numel) (b : Fin A) (h : Fin B) (P : Fin C) (j : Fin N) :
    Host.reduceWindow (· + ·) (![1, 1, 1, N] : Fin 4 → ℕ) ![1, 1, 1, 1] ![0, 0, 0, 0] ![0, 0, 0, M] X (fun _ : (⟨0, ![]⟩ : Shape).Idx => (0 : EReal)) hw hu (ix4 b h P j)
      = ∑ k : Fin N, if hk : (j : ℕ) + k < N then X (ix4 b h P ⟨j + k, hk⟩) else 0 := by
  unfold Host.reduceWindow
  dsimp only
  rw [fold_sum, ← (Shape.rowMajor ⟨4, ![1, 1, 1, N]⟩).sum_comp]
  simp only [Equiv.symm_apply_apply]
  rw [← (lastCoord N).symm.sum_comp]
  refine Finset.sum_congr rfl fun k _ => ?_
  by_cases hk : (j : ℕ) + k < N
  · rw [dif_pos hk, dif_pos]
    · refine congrArg X (funext fun a => Fin.ext ?_)
      match a with
      | ⟨0, _⟩ => show (b : ℕ) * 1 + 0 - 0 = b; omega
      | ⟨1, _⟩ => show (h : ℕ) * 1 + 0 - 0 = h; omega
      | ⟨2, _⟩ => show (P : ℕ) * 1 + 0 - 0 = P; omega
      | ⟨3, _⟩ => show (j : ℕ) * 1 + k - 0 = j + k; omega
    · intro a
      match a with
      | ⟨0, _⟩ => show 0 ≤ (b : ℕ) * 1 + 0 ∧ (b : ℕ) * 1 + 0 - 0 < A; omega
      | ⟨1, _⟩ => show 0 ≤ (h : ℕ) * 1 + 0 ∧ (h : ℕ) * 1 + 0 - 0 < B; omega
      | ⟨2, _⟩ => show 0 ≤ (P : ℕ) * 1 + 0 ∧ (P : ℕ) * 1 + 0 - 0 < C; omega
      | ⟨3, _⟩ => show 0 ≤ (j : ℕ) * 1 + k ∧ (j : ℕ) * 1 + k - 0 < N; omega
  · rw [dif_neg hk, dif_neg]
    intro ha
    have h3 : 0 ≤ (j : ℕ) * 1 + k ∧ (j : ℕ) * 1 + k - 0 < N := ha 3
    omega

theorem rCum_apply (X : FVec Ideal S2x4x16384x16384 .f32) (b : Fin 2) (h : Fin 4) (P j : Fin 16384) :
    rCum X (ix4 b h P j) = ∑ k : Fin 16384, if hk : (j : ℕ) + k < 16384 then (X (ix4 b h P ⟨j + k, hk⟩) : EReal) else 0 := by
  have h0 : (broadcastInDim S_ ![] bcast_S_S_ (constant (F := Ideal) S_ .f32 0x00000000#32) : FVec Ideal S_ .f32) (Shape.Idx.first h_S_) = (0 : EReal) := zero_bits
  unfold rCum Host.reduceWindowAdd
  rw [h0, Ideal.hostReduceWindowAdd_def]
  unfold Ideal.hostReduceWindowAdd
  exact window_sum X _ _ b h P j

/-- The sum over the later keys is the sum from a key on less its own share. -/
theorem later_sum (f : ℕ → ℝ) (P j : ℕ) (hj : j < P) (hP : P ≤ 16384) :
    (∑ k : Fin 16384, if j + (k : ℕ) < 16384 then (if j + (k : ℕ) < P then f (j + k) else 0) else 0) - f j = ∑ k ∈ Finset.Ico (j + 1) P, f k := by
  rw [Fin.sum_univ_eq_sum_range (fun k => if j + k < 16384 then (if j + k < P then f (j + k) else 0) else 0) 16384]
  have e : ∑ k ∈ Finset.range 16384, (if j + k < 16384 then (if j + k < P then f (j + k) else 0) else 0) = ∑ k ∈ Finset.Ico j P, f k := by
    rw [Finset.sum_Ico_eq_sum_range]
    have e1 : ∀ k, (if j + k < 16384 then (if j + k < P then f (j + k) else 0) else 0) = if k < P - j then f (j + k) else 0 := fun k => by
      by_cases h : j + k < P
      · rw [if_pos (by omega), if_pos h, if_pos (by omega)]
      · rw [if_neg h, ite_self, if_neg (by omega)]
    simp only [e1]
    rw [← Finset.sum_filter]
    refine Finset.sum_congr ?_ fun _ _ => rfl
    ext k
    simp only [Finset.mem_filter, Finset.mem_range]
    omega
  rw [e, ← Finset.sum_Ioo_add_eq_sum_Ico hj]
  have e2 : Finset.Ioo j P = Finset.Ico (j + 1) P := by
    ext k
    simp only [Finset.mem_Ioo, Finset.mem_Ico]
    omega
  rw [e2]
  ring

end Cert.SbRef
-- ==== Proof.SbValue.lean ====
module

public import proofs.«01_k».proof.Proof.SbResult
public import proofs.«01_k».proof.Proof.SbCum
public import proofs.«01_k».proof.Proof.PreFinite3

@[expose] public section

set_option maxRecDepth 16384

noncomputable section

namespace Cert.SbRef

open Cert.Reference3Ideal Cert.Reference3Ideal.Gen Idealize.ShloMosaic Idealize.ShloMosaic.TcCoe Idealize.SL.Sem

section Rows

variable (q k : S2x16384x256.Idx → ℝ) (Q K : FVec Ideal S2x16384x256 .f32) (hq : ∀ y, Q y = (q y : EReal)) (hk : ∀ y, K y = (k y : EReal))
include hq hk

theorem rS_real (b : Fin 2) (h : Fin 4) (P j : Fin 16384) :
    rS (rHeads Q) (rHeads K) (ix4 b h P j) = ((Cert.Sb.score q k b h P j : ℝ) : EReal) := by
  rw [rS_apply]
  simp only [rHeads_apply, hq, hk, ← EReal.coe_mul]
  rw [Cert.Swa.coe_sum, Cert.Swa.bits_eight, Cert.Swa.div_coe _ _ (by norm_num)]
  congr 1
  unfold Cert.Sb.score
  rw [Finset.sum_div]
  refine Finset.sum_congr rfl fun e _ => ?_
  rw [dif_pos j.isLt]
  ring

theorem rKeep_real (b : Fin 2) (h : Fin 4) (P j : Fin 16384) :
    rSel (rLog (Host.negf (rS (rHeads Q) (rHeads K)))) (ix4 b h P j)
      = (((if (j : ℕ) < P then Cert.Sb.lft (Cert.Sb.score q k b h P j) else 0 : ℝ)) : EReal) := by
  rw [rSel_apply]
  split
  · rw [rLog_real _ _ (-Cert.Sb.score q k b h P j), neg_neg]
    show (-(rS (rHeads Q) (rHeads K) (ix4 b h P j)) : EReal) = _
    rw [rS_real q k Q K hq hk, EReal.coe_neg]
  · rfl

theorem rCum_real (b : Fin 2) (h : Fin 4) (P j : Fin 16384) :
    rCum (rSel (rLog (Host.negf (rS (rHeads Q) (rHeads K))))) (ix4 b h P j)
      = ((∑ i : Fin 16384, if (j : ℕ) + (i : ℕ) < 16384 then (if (j : ℕ) + (i : ℕ) < P then Cert.Sb.lft (Cert.Sb.score q k b h P (j + i)) else 0) else 0 : ℝ) : EReal) := by
  rw [rCum_apply, ← Cert.Swa.coe_sum]
  refine Finset.sum_congr rfl fun i _ => ?_
  by_cases hi : (j : ℕ) + i < 16384
  · rw [dif_pos hi, if_pos hi, rKeep_real q k Q K hq hk]
  · rw [dif_neg hi, if_neg hi, EReal.coe_zero]

/-- The weight of a key. -/
theorem rWt_real (b : Fin 2) (h : Fin 4) (P j : Fin 16384) :
    rWt (rS (rHeads Q) (rHeads K)) (rSel (rLog (Host.negf (rS (rHeads Q) (rHeads K))))) (ix4 b h P j)
      = (((if (j : ℕ) < P then Cert.Sb.wt P (Cert.Sb.score q k b h P) j else 0 : ℝ)) : EReal) := by
  unfold rWt
  rw [rSel_apply]
  by_cases hj : (j : ℕ) < P
  · rw [if_pos hj, if_pos hj]
    generalize hL : rSel (rLog (Host.negf (rS (rHeads Q) (rHeads K)))) = L
    have e : Host.exp (addf (rLog (rS (rHeads Q) (rHeads K))) (subf (rCum L) L)) (ix4 b h P j)
        = Ideal.exp ((rLog (rS (rHeads Q) (rHeads K)) (ix4 b h P j) : EReal) + ((rCum L (ix4 b h P j) : EReal) - (L (ix4 b h P j) : EReal))) := rfl
    rw [e, ← hL, rLog_real _ _ _ (rS_real q k Q K hq hk b h P j), rCum_real q k Q K hq hk, rKeep_real q k Q K hq hk, if_pos hj, ← EReal.coe_sub,
      later_sum (fun i => Cert.Sb.lft (Cert.Sb.score q k b h P i)) P j hj P.isLt.le, ← EReal.coe_add, Cert.Swa.exp_coe, lft_neg]
    rfl
  · rw [if_neg hj, if_neg hj, EReal.coe_zero]

/-- The reference's result is the kernel's. -/
theorem all_eq (W : FVec Ideal S2x16384x256 .f32) : rAll Q K W = Cert.Sb.full q k W := by
  funext y
  idx_vars y
  show rAll Q K W (ix3 y0 y1 y2) = Cert.Sb.kres q k W y0 y1 y2
  have ey : y2 = ⟨64 * ((⟨(y2 : ℕ) / 64, by omega⟩ : Fin 4) : ℕ) + ((⟨(y2 : ℕ) % 64, by omega⟩ : Fin 64) : ℕ), by simp only; omega⟩ := by
    apply Fin.ext
    simp only
    omega
  have hr : rAll Q K W (ix3 y0 y1 y2) = ∑ j : Fin 16384, (((if (j : ℕ) < y1 then Cert.Sb.wt y1 (Cert.Sb.score q k y0 ⟨(y2 : ℕ) / 64, by omega⟩ y1) j else 0 : ℝ)) : EReal) * W (ix3 y0 j y2) := by
    have h1 := rOut_apply (rWt (rS (rHeads Q) (rHeads K)) (rSel (rLog (Host.negf (rS (rHeads Q) (rHeads K)))))) (rHeads W) y0 y1 ⟨(y2 : ℕ) / 64, by omega⟩ ⟨(y2 : ℕ) % 64, by omega⟩
    rw [← ey] at h1
    unfold rAll
    rw [h1]
    refine Finset.sum_congr rfl fun j _ => ?_
    rw [rWt_real q k Q K hq hk, rHeads_apply, ← ey]
  rw [hr]
  unfold Cert.Sb.kres
  have hs : ∀ j : Fin 16384, (((if (j : ℕ) < y1 then Cert.Sb.wt y1 (Cert.Sb.score q k y0 ⟨(y2 : ℕ) / 64, by omega⟩ y1) j else 0 : ℝ)) : EReal) * W (ix3 y0 j y2)
      = (fun j : ℕ => if j < (y1 : ℕ) then (if hj : j < 16384 then W (ix3 y0 ⟨j, hj⟩ y2) else 0) * ((Cert.Sb.wt y1 (Cert.Sb.score q k y0 ⟨(y2 : ℕ) / 64, by omega⟩ y1) j : ℝ) : EReal) else 0) j := fun j => by
    by_cases h : (j : ℕ) < y1
    · simp only [if_pos h, dif_pos j.isLt]
      exact mul_comm _ _
    · simp only [if_neg h, EReal.coe_zero, zero_mul]
  simp only [hs]
  rw [Fin.sum_univ_eq_sum_range (fun j : ℕ => if j < (y1 : ℕ) then (if hj : j < 16384 then W (ix3 y0 ⟨j, hj⟩ y2) else 0) * ((Cert.Sb.wt y1 (Cert.Sb.score q k y0 ⟨(y2 : ℕ) / 64, by omega⟩ y1) j : ℝ) : EReal) else 0) 16384,
    ← Finset.sum_filter]
  refine Finset.sum_congr ?_ fun _ _ => rfl
  ext j
  have := y1.isLt
  simp only [Finset.mem_filter, Finset.mem_range]
  omega

end Rows

end Cert.SbRef

namespace Cert.Sb

open Idealize.ShloMosaic Idealize.ShloMosaic.TcCoe Idealize.SL.Sem

section Run

open Cert.Kernel3Ideal Cert.Kernel3Ideal.Gen Cert.Kernel3Ideal.Sb

variable (m : (ℓ : Loc nD τ sig) → Buf (Elt Ideal) ℓ) (ρ : Dev nD → PrngReg)

/-- A run leaves the pipeline's array in the result and the arguments as they were. -/
theorem run : θ_run (defs (F := Ideal)) (onTc (τ := τ) (main (F := Ideal))) ⟨m, fun _ => 0, ρ⟩ (fun r => ∀ c : Dev nD,
      r.2.mem ((c.tc : Thread nD τ).loc main_v17) = (dats m 0 c).arrAt 4 (cfgs (F := Ideal) 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono (fun _ h c => ⟨(h.1 c).1 4,
      ((h.1 c).2 main_arg0 (Pipeline.mem_restRefs_of main_arg0 (by decide) (by exact (by decide : ∀ w : Fin 5, (spec0 w).arr.view.ref ≠ main_arg0)))).trans (V_main_arg0 m c),
      ((h.1 c).2 main_arg1 (Pipeline.mem_restRefs_of main_arg1 (by decide) (by exact (by decide : ∀ w : Fin 5, (spec0 w).arr.view.ref ≠ main_arg1)))).trans (V_main_arg1 m c),
      ((h.1 c).2 main_arg2 (Pipeline.mem_restRefs_of main_arg2 (by decide) (by exact (by decide : ∀ w : Fin 5, (spec0 w).arr.view.ref ≠ main_arg2)))).trans (V_main_arg2 m c)⟩) (run_main m ρ)

end Run

theorem algebraic : Cert.algebraic_Kernel3Ideal_Reference3Ideal_pre_finite3 (hPre_finite3 := Cert.Pre_finite3.factsHold) := by
  pair_intro
  · run_from run m g
  · refine θ_run_mono (Cert.Reference3Ideal.Value.run m' g') fun r hr c => ⟨(hr c).1.trans ?_, (hr c).2⟩
    obtain ⟨h0, h1, h2⟩ := hagree c
    obtain ⟨hQ, hK⟩ := Cert.Pre_finite3.real_args _ _ _ (hpre c)
    choose q hq using hQ
    choose k hk using hK
    rw [final_array m c q k hq hk]
    refine (Cert.SbRef.res_eq m' c).trans ?_
    rw [h0, h1, h2]
    exact Cert.SbRef.all_eq q k _ _ hq hk _

end Cert.Sb
-- ==== Proof.OutSpec.lean ====
module

public import Idealize.ShloMosaic.Lib.Claim
public import Idealize.ShloMosaic.Lib.Pipeline.ValueKit
public import Idealize.ShloMosaic.Lib.Pointwise

@[expose] public section

set_option maxRecDepth 16384

noncomputable section

namespace Cert.Out

open Idealize.ShloMosaic

/-- One row of the root-mean-square norm over a group of features; the word is the group's width. -/
def nrm {n : ℕ} (w : BitVec 32) (x g : Fin n → EReal) (k : Fin n) : EReal :=
  x k * Ideal.rsqrt (Ideal.div (∑ j, x j * x j) (Ideal.ofBits FTy.f32 w) + Ideal.ofBits FTy.f32 0x358637BD#32) * g k

/-- The three branches of the sparse attention at one token, each under its head's gate. -/
def nsa (t : Fin 12 → EReal) (a b c : Fin 256 → EReal) (k : Fin 256) : EReal :=
  Ideal.logistic (t ⟨k / 64, by omega⟩) * a k + Ideal.logistic (t ⟨4 + k / 64, by omega⟩) * b k + Ideal.logistic (t ⟨8 + k / 64, by omega⟩) * c k

/-- The three mixers' outputs side by side, each under its norm. -/
def mix (u : Fin 256 → EReal) (v : Fin 512 → EReal) (w : Fin 256 → EReal) (g : Fin 1024 → EReal) (k : Fin 1024) : EReal :=
  if h : (k : ℕ) < 256 then nrm 0x43800000#32 u (fun j => g ⟨j, by omega⟩) ⟨k, h⟩
  else if h' : (k : ℕ) < 768 then nrm 0x44000000#32 v (fun j => g ⟨256 + j, by omega⟩) ⟨k - 256, by omega⟩
  else nrm 0x43800000#32 w (fun j => g ⟨768 + j, by omega⟩) ⟨k - 768, by omega⟩

/-- One token's result: the residual plus the normed projection of the mixers' outputs. -/
def row (x : Fin 1024 → EReal) (a b c : Fin 256 → EReal) (t : Fin 12 → EReal) (v : Fin 512 → EReal) (w : Fin 256 → EReal) (g : Fin 1024 → EReal)
    (p : Fin 1024 → Fin 1024 → EReal) (q : Fin 1024 → EReal) (k : Fin 1024) : EReal :=
  x k + nrm 0x44800000#32 (fun k => ∑ j, mix (nsa t a b c) v w g j * p j k) q k

end Cert.Out

end
-- ==== Proof.OutKernel.lean ====
module

public import proofs.«01_k».proof.Proof.Gen.Kernel4Ideal.Value
public import proofs.«01_k».proof.Proof.OutSpec
public import proofs.«01_k».proof.Proof.SbReal

@[expose] public section

set_option maxRecDepth 16384

noncomputable section

namespace Cert.Out

open Cert.Kernel4Ideal Cert.Kernel4Ideal.Gen Idealize.ShloMosaic Idealize.ShloMosaic.TcCoe Idealize.SL.Sem

/-! ## One group of 128 rows, operation by operation -/

def lane : IVec S128x256 32 := iota .tc S128x256 32 [1] iota_S128x256_d1_w32

def wide (a : FVec Ideal S128x1 .f32) : FVec Ideal S128x256 .f32 :=
  broadcastTo S128x256 (shapeCast S128x1 a shapeCasts_S128x1_S128x1) broadcasts_S128x1_S128x256

def pick (a b c d : FVec Ideal S128x1 .f32) : FVec Ideal S128x256 .f32 :=
  select (cmpi .slt lane (broadcast S128x256 64#32)) (wide a)
    (select (cmpi .slt lane (broadcast S128x256 128#32)) (wide b) (select (cmpi .slt lane (broadcast S128x256 192#32)) (wide c) (wide d)))

def flat (a : FVec Ideal S1x128x256 .f32) : FVec Ideal S128x256 .f32 := shapeCast S128x256 a shapeCasts_S1x128x256_S128x256

def gate (t : FVec Ideal S1x128x128 .f32) : FVec Ideal S128x128 .f32 := logistic (shapeCast S128x128 t shapeCasts_S1x128x128_S128x128)

def three (g : FVec Ideal S128x128 .f32) (a b c : FVec Ideal S1x128x256 .f32) : FVec Ideal S128x256 .f32 :=
  addf (addf
    (mulf (pick (extractStridedSlice S128x1 ![0, 0] g slices_S128x128_o0_0_S128x1) (extractStridedSlice S128x1 ![0, 1] g slices_S128x128_o0_1_S128x1)
      (extractStridedSlice S128x1 ![0, 2] g slices_S128x128_o0_2_S128x1) (extractStridedSlice S128x1 ![0, 3] g slices_S128x128_o0_3_S128x1)) (flat a))
    (mulf (pick (extractStridedSlice S128x1 ![0, 4] g slices_S128x128_o0_4_S128x1) (extractStridedSlice S128x1 ![0, 5] g slices_S128x128_o0_5_S128x1)
      (extractStridedSlice S128x1 ![0, 6] g slices_S128x128_o0_6_S128x1) (extractStridedSlice S128x1 ![0, 7] g slices_S128x128_o0_7_S128x1)) (flat b)))
    (mulf (pick (extractStridedSlice S128x1 ![0, 8] g slices_S128x128_o0_8_S128x1) (extractStridedSlice S128x1 ![0, 9] g slices_S128x128_o0_9_S128x1)
      (extractStridedSlice S128x1 ![0, 10] g slices_S128x128_o0_10_S128x1) (extractStridedSlice S128x1 ![0, 11] g slices_S128x128_o0_11_S128x1)) (flat c))

def norm256 (x : FVec Ideal S128x256 .f32) (g : FVec Ideal S1x256 .f32) : FVec Ideal S128x256 .f32 :=
  mulf (mulf x (broadcastTo S128x256 (rsqrt (addf (divf (shapeCast S128x1 (multiReduction .add [1] S128 (mulf x x) 0x00000000#32 reduces_S128x256_S128 (.inl rfl) rfl) shapeCasts_S128_S128x1)
    (broadcast S128x1 (Scalar.ofBits .f32 0x43800000#32))) (broadcast S128x1 (Scalar.ofBits .f32 0x358637BD#32)))) broadcasts_S128x1_S128x256)) (broadcastTo S128x256 g broadcasts_S1x256_S128x256)

def norm512 (x : FVec Ideal S128x512 .f32) (g : FVec Ideal S1x512 .f32) : FVec Ideal S128x512 .f32 :=
  mulf (mulf x (broadcastTo S128x512 (rsqrt (addf (divf (shapeCast S128x1 (multiReduction .add [1] S128 (mulf x x) 0x00000000#32 reduces_S128x512_S128 (.inl rfl) rfl) shapeCasts_S128_S128x1)
    (broadcast S128x1 (Scalar.ofBits .f32 0x44000000#32))) (broadcast S128x1 (Scalar.ofBits .f32 0x358637BD#32)))) broadcasts_S128x1_S128x512)) (broadcastTo S128x512 g broadcasts_S1x512_S128x512)

def norm1024 (x : FVec Ideal S128x1024 .f32) (g : FVec Ideal S1x1024 .f32) : FVec Ideal S128x1024 .f32 :=
  mulf (mulf x (broadcastTo S128x1024 (rsqrt (addf (divf (shapeCast S128x1 (multiReduction .add [1] S128 (mulf x x) 0x00000000#32 reduces_S128x1024_S128 (.inl rfl) rfl) shapeCasts_S128_S128x1)
    (broadcast S128x1 (Scalar.ofBits .f32 0x44800000#32))) (broadcast S128x1 (Scalar.ofBits .f32 0x358637BD#32)))) broadcasts_S128x1_S128x1024)) (broadcastTo S128x1024 g broadcasts_S1x1024_S128x1024)

def side (u : FVec Ideal S128x256 .f32) (v : FVec Ideal S128x512 .f32) (w : FVec Ideal S128x256 .f32) : FVec Ideal S128x1024 .bf16 :=
  truncf .bf16 (concatenate S128x1024 1 [⟨S128x256, u⟩, ⟨S128x512, v⟩, ⟨S128x256, w⟩] concatenates_S128x256_S128x512_S128x256_S128x1024_d1) bitsLt_bf16_f32

def mixK (g : FVec Ideal S1x1024 .f32) (u : FVec Ideal S128x256 .f32) (v : FVec Ideal S1x128x512 .f32) (w : FVec Ideal S1x128x256 .f32) : FVec Ideal S128x1024 .bf16 :=
  side (norm256 u (extractStridedSlice S1x256 ![0, 0] g slices_S1x1024_o0_0_S1x256))
    (norm512 (shapeCast S128x512 v shapeCasts_S1x128x512_S128x512) (extractStridedSlice S1x512 ![0, 256] g slices_S1x1024_o0_256_S1x512))
    (norm256 (flat w) (extractStridedSlice S1x256 ![0, 768] g slices_S1x1024_o0_768_S1x256))

def same (g : FVec Ideal S1x1024 .f32) : FVec Ideal S1x1024 .f32 := shapeCast S1x1024 g shapeCasts_S1x1024_S1x1024

def times (h : FVec Ideal S128x1024 .bf16) (p : FVec Ideal S1024x1024 .bf16) : FVec Ideal S128x1024 .f32 :=
  matmul dot_S128x1024_S1024x1024_S128x1024_1_0_0_1_n_n none h (shapeCast S1024x1024 p shapeCasts_S1024x1024_S1024x1024) (constant S128x1024 .f32 0x00000000#32)

def close (x : FVec Ideal S1x128x1024 .f32) (y : FVec Ideal S128x1024 .f32) : FVec Ideal S1x128x1024 .f32 :=
  shapeCast S1x128x1024 (addf (shapeCast S128x1024 x shapeCasts_S1x128x1024_S128x1024) y) shapeCasts_S128x1024_S1x128x1024

/-- What the body stores for one group of rows. -/
def grp (x : FVec Ideal S1x128x1024 .f32) (a b c : FVec Ideal S1x128x256 .f32) (t : FVec Ideal S1x128x128 .f32) (v : FVec Ideal S1x128x512 .f32) (w : FVec Ideal S1x128x256 .f32)
    (g : FVec Ideal S1x1024 .f32) (p : FVec Ideal S1024x1024 .bf16) (q : FVec Ideal S1x1024 .f32) : FVec Ideal S1x128x1024 .f32 :=
  close x (norm1024 (times (mixK (same g) (three (gate t) a b c) v w) p) (same q))

section Pieces

variable (x0 : Vec Ideal S1x1024x1024 .f32) (x1 x2 x3 : Vec Ideal S1x1024x256 .f32) (x4 : Vec Ideal S1x1024x128 .f32) (x5 : Vec Ideal S1x1024x512 .f32) (x6 : Vec Ideal S1x1024x256 .f32)
  (x7 : Vec Ideal S1x1024 .f32) (x8 : Vec Ideal S1024x1024 .bf16) (x9 : Vec Ideal S1x1024 .f32)

theorem out_eq : out0_10 (F := Ideal) x0 x1 x2 x3 x4 x5 x6 x7 x8 x9 = View.canon
    [⟨r0_33, grp (View.ld x0 r0_33) (View.ld x1 r0_23) (View.ld x2 r0_23) (View.ld x3 r0_23) (View.ld x4 r0_22) (View.ld x5 r0_24) (View.ld x6 r0_23) (View.ld x7 r0_0) (View.ld x8 r0_25) (View.ld x9 r0_0)⟩,
     ⟨r0_32, grp (View.ld x0 r0_32) (View.ld x1 r0_20) (View.ld x2 r0_20) (View.ld x3 r0_20) (View.ld x4 r0_19) (View.ld x5 r0_21) (View.ld x6 r0_20) (View.ld x7 r0_0) (View.ld x8 r0_25) (View.ld x9 r0_0)⟩,
     ⟨r0_31, grp (View.ld x0 r0_31) (View.ld x1 r0_17) (View.ld x2 r0_17) (View.ld x3 r0_17) (View.ld x4 r0_16) (View.ld x5 r0_18) (View.ld x6 r0_17) (View.ld x7 r0_0) (View.ld x8 r0_25) (View.ld x9 r0_0)⟩,
     ⟨r0_30, grp (View.ld x0 r0_30) (View.ld x1 r0_14) (View.ld x2 r0_14) (View.ld x3 r0_14) (View.ld x4 r0_13) (View.ld x5 r0_15) (View.ld x6 r0_14) (View.ld x7 r0_0) (View.ld x8 r0_25) (View.ld x9 r0_0)⟩,
     ⟨r0_29, grp (View.ld x0 r0_29) (View.ld x1 r0_11) (View.ld x2 r0_11) (View.ld x3 r0_11) (View.ld x4 r0_10) (View.ld x5 r0_12) (View.ld x6 r0_11) (View.ld x7 r0_0) (View.ld x8 r0_25) (View.ld x9 r0_0)⟩,
     ⟨r0_28, grp (View.ld x0 r0_28) (View.ld x1 r0_8) (View.ld x2 r0_8) (View.ld x3 r0_8) (View.ld x4 r0_7) (View.ld x5 r0_9) (View.ld x6 r0_8) (View.ld x7 r0_0) (View.ld x8 r0_25) (View.ld x9 r0_0)⟩,
     ⟨r0_27, grp (View.ld x0 r0_27) (View.ld x1 r0_5) (View.ld x2 r0_5) (View.ld x3 r0_5) (View.ld x4 r0_4) (View.ld x5 r0_6) (View.ld x6 r0_5) (View.ld x7 r0_0) (View.ld x8 r0_25) (View.ld x9 r0_0)⟩,
     ⟨r0_26, grp (View.ld x0 r0_26) (View.ld x1 r0_2) (View.ld x2 r0_2) (View.ld x3 r0_2) (View.ld x4 r0_1) (View.ld x5 r0_3) (View.ld x6 r0_2) (View.ld x7 r0_0) (View.ld x8 r0_25) (View.ld x9 r0_0)⟩] := rfl

end Pieces

/-! ## The group at a row and a feature -/

theorem wide_apply (a : FVec Ideal S128x1 .f32) (r : Fin 128) (k : Fin 256) : wide a (ix2 r k) = a (ix2 r 0) := by
  pointwise [wide]

theorem pick_apply (a b c d : FVec Ideal S128x1 .f32) (f : Fin 4 → EReal) (r : Fin 128) (k : Fin 256) (ha : a (ix2 r 0) = f 0) (hb : b (ix2 r 0) = f 1)
    (hc : c (ix2 r 0) = f 2) (hd : d (ix2 r 0) = f 3) : pick a b c d (ix2 r k) = f ⟨k / 64, by omega⟩ := by
  have e : pick a b c d (ix2 r k) = Scalar.select (IntOp.cmpi .slt (BitVec.ofNat 32 k) (BitVec.ofNat 32 64)) (wide a (ix2 r k))
      (Scalar.select (IntOp.cmpi .slt (BitVec.ofNat 32 k) (BitVec.ofNat 32 128)) (wide b (ix2 r k))
        (Scalar.select (IntOp.cmpi .slt (BitVec.ofNat 32 k) (BitVec.ofNat 32 192)) (wide c (ix2 r k)) (wide d (ix2 r k)))) := by
    have hl : lane (ix2 r k) = BitVec.ofNat 32 k := by pointwise [lane]
    rw [← hl]
    rfl
  rw [e, Cert.Sb.slt_small _ _ (by omega) (by norm_num), Cert.Sb.slt_small _ _ (by omega) (by norm_num), Cert.Sb.slt_small _ _ (by omega) (by norm_num),
    Cert.Sb.select_bool, Cert.Sb.select_bool, Cert.Sb.select_bool]
  simp only [wide_apply, ha, hb, hc, hd]
  split_ifs <;> exact congrArg f (Fin.ext (by simp only [Fin.val_zero, Fin.val_one, Fin.val_two]; omega))

theorem gate_apply (t : FVec Ideal S1x128x128 .f32) (r k : Fin 128) : gate t (ix2 r k) = Ideal.logistic (t (ix3 0 r k)) := by
  pointwise [gate]

theorem flat_apply (a : FVec Ideal S1x128x256 .f32) (r : Fin 128) (k : Fin 256) : flat a (ix2 r k) = a (ix3 0 r k) := by
  pointwise [flat]

theorem three_apply (t : FVec Ideal S1x128x128 .f32) (a b c : FVec Ideal S1x128x256 .f32) (r : Fin 128) (k : Fin 256) :
    three (gate t) a b c (ix2 r k) = nsa (fun j => t (ix3 0 r ⟨j, by omega⟩)) (fun j => a (ix3 0 r j)) (fun j => b (ix3 0 r j)) (fun j => c (ix3 0 r j)) k := by
  have e : three (gate t) a b c (ix2 r k) = pick (extractStridedSlice S128x1 ![0, 0] (gate t) slices_S128x128_o0_0_S128x1) (extractStridedSlice S128x1 ![0, 1] (gate t) slices_S128x128_o0_1_S128x1)
      (extractStridedSlice S128x1 ![0, 2] (gate t) slices_S128x128_o0_2_S128x1) (extractStridedSlice S128x1 ![0, 3] (gate t) slices_S128x128_o0_3_S128x1) (ix2 r k) * flat a (ix2 r k)
    + pick (extractStridedSlice S128x1 ![0, 4] (gate t) slices_S128x128_o0_4_S128x1) (extractStridedSlice S128x1 ![0, 5] (gate t) slices_S128x128_o0_5_S128x1)
      (extractStridedSlice S128x1 ![0, 6] (gate t) slices_S128x128_o0_6_S128x1) (extractStridedSlice S128x1 ![0, 7] (gate t) slices_S128x128_o0_7_S128x1) (ix2 r k) * flat b (ix2 r k)
    + pick (extractStridedSlice S128x1 ![0, 8] (gate t) slices_S128x128_o0_8_S128x1) (extractStridedSlice S128x1 ![0, 9] (gate t) slices_S128x128_o0_9_S128x1)
      (extractStridedSlice S128x1 ![0, 10] (gate t) slices_S128x128_o0_10_S128x1) (extractStridedSlice S128x1 ![0, 11] (gate t) slices_S128x128_o0_11_S128x1) (ix2 r k) * flat c (ix2 r k) := rfl
  rw [e, pick_apply _ _ _ _ (fun h => Ideal.logistic (t (ix3 0 r ⟨h, by omega⟩))), pick_apply _ _ _ _ (fun h => Ideal.logistic (t (ix3 0 r ⟨4 + h, by omega⟩))),
    pick_apply _ _ _ _ (fun h => Ideal.logistic (t (ix3 0 r ⟨8 + h, by omega⟩)))]
  · simp only [flat_apply]
    rfl
  all_goals
    pointwise [gate]

theorem norm256_apply (x : FVec Ideal S128x256 .f32) (g : FVec Ideal S1x256 .f32) (r : Fin 128) (k : Fin 256) :
    norm256 x g (ix2 r k) = nrm 0x43800000#32 (fun j => x (ix2 r j)) (fun j => g (ix2 0 j)) k := by
  unfold nrm
  pointwise [norm256]

theorem norm512_apply (x : FVec Ideal S128x512 .f32) (g : FVec Ideal S1x512 .f32) (r : Fin 128) (k : Fin 512) :
    norm512 x g (ix2 r k) = nrm 0x44000000#32 (fun j => x (ix2 r j)) (fun j => g (ix2 0 j)) k := by
  unfold nrm
  pointwise [norm512]

theorem norm1024_apply (x : FVec Ideal S128x1024 .f32) (g : FVec Ideal S1x1024 .f32) (r : Fin 128) (k : Fin 1024) :
    norm1024 x g (ix2 r k) = nrm 0x44800000#32 (fun j => x (ix2 r j)) (fun j => g (ix2 0 j)) k := by
  unfold nrm
  pointwise [norm1024]

theorem side_apply (u : FVec Ideal S128x256 .f32) (v : FVec Ideal S128x512 .f32) (w : FVec Ideal S128x256 .f32) (r : Fin 128) (k : Fin 1024) :
    side u v w (ix2 r k) = if h : (k : ℕ) < 256 then u (ix2 r ⟨k, h⟩) else if h' : (k : ℕ) < 768 then v (ix2 r ⟨k - 256, by omega⟩) else w (ix2 r ⟨k - 768, by omega⟩) := by
  by_cases h : (k : ℕ) < 256
  · rw [dif_pos h]
    pointwise [side]
    split_ifs <;> rfl
  · rw [dif_neg h]
    by_cases h' : (k : ℕ) < 768
    · rw [dif_pos h']
      pointwise [side]
      split_ifs
      all_goals first
        | (exfalso; omega)
        | rfl
    · rw [dif_neg h']
      pointwise [side]
      split_ifs
      all_goals first
        | (exfalso; omega)
        | (congr 2 <;> (apply Fin.ext; first | omega | (simp; omega)))

theorem mixK_apply (g : FVec Ideal S1x1024 .f32) (u : FVec Ideal S128x256 .f32) (v : FVec Ideal S1x128x512 .f32) (w : FVec Ideal S1x128x256 .f32) (r : Fin 128) (k : Fin 1024) :
    mixK g u v w (ix2 r k) = mix (fun j => u (ix2 r j)) (fun j => v (ix3 0 r j)) (fun j => w (ix3 0 r j)) (fun j => g (ix2 0 j)) k := by
  unfold mixK mix
  rw [side_apply]
  simp only [norm256_apply, norm512_apply, flat_apply]
  split_ifs
  · congr 1
    funext j
    pointwise []
  · congr 1
    · funext j
      pointwise []
    · funext j
      pointwise []
  · congr 1
    funext j
    pointwise []

theorem times_apply (h : FVec Ideal S128x1024 .bf16) (p : FVec Ideal S1024x1024 .bf16) (r : Fin 128) (k : Fin 1024) :
    times h p (ix2 r k) = ∑ j, h (ix2 r j) * p (ix2 j k) := by
  pointwise [times]

theorem same_apply (g : FVec Ideal S1x1024 .f32) (k : Fin 1024) : same g (ix2 0 k) = g (ix2 0 k) := by
  pointwise [same]

theorem close_apply (x : FVec Ideal S1x128x1024 .f32) (y : FVec Ideal S128x1024 .f32) (r : Fin 128) (k : Fin 1024) :
    close x y (ix3 0 r k) = x (ix3 0 r k) + y (ix2 r k) := by
  pointwise [close]

theorem grp_apply (x : FVec Ideal S1x128x1024 .f32) (a b c : FVec Ideal S1x128x256 .f32) (t : FVec Ideal S1x128x128 .f32) (v : FVec Ideal S1x128x512 .f32) (w : FVec Ideal S1x128x256 .f32)
    (g : FVec Ideal S1x1024 .f32) (p : FVec Ideal S1024x1024 .bf16) (q : FVec Ideal S1x1024 .f32) (r : Fin 128) (k : Fin 1024) :
    grp x a b c t v w g p q (ix3 0 r k) = row (fun j => x (ix3 0 r j)) (fun j => a (ix3 0 r j)) (fun j => b (ix3 0 r j)) (fun j => c (ix3 0 r j))
      (fun j => t (ix3 0 r ⟨j, by omega⟩)) (fun j => v (ix3 0 r j)) (fun j => w (ix3 0 r j)) (fun j => g (ix2 0 j)) (fun j k => p (ix2 j k)) (fun j => q (ix2 0 j)) k := by
  unfold grp row
  rw [close_apply, norm1024_apply]
  simp only [times_apply, mixK_apply, three_apply, same_apply]

/-! ## The whole block -/

section Whole

variable (x0 : Vec Ideal S1x1024x1024 .f32) (x1 x2 x3 : Vec Ideal S1x1024x256 .f32) (x4 : Vec Ideal S1x1024x128 .f32) (x5 : Vec Ideal S1x1024x512 .f32) (x6 : Vec Ideal S1x1024x256 .f32)
  (x7 : Vec Ideal S1x1024 .f32) (x8 : Vec Ideal S1024x1024 .bf16) (x9 : Vec Ideal S1x1024 .f32)

/-- One row of the block. -/
def brow (r k : Fin 1024) : EReal :=
  row (fun j => x0 (ix3 0 r j)) (fun j => x1 (ix3 0 r j)) (fun j => x2 (ix3 0 r j)) (fun j => x3 (ix3 0 r j))
    (fun j => x4 (ix3 0 r ⟨j, by omega⟩)) (fun j => x5 (ix3 0 r j)) (fun j => x6 (ix3 0 r j)) (fun j => x7 (ix2 0 j)) (fun j k => x8 (ix2 j k)) (fun j => x9 (ix2 0 j)) k

theorem grp_row (x : FVec Ideal S1x128x1024 .f32) (a b c : FVec Ideal S1x128x256 .f32) (t : FVec Ideal S1x128x128 .f32) (v : FVec Ideal S1x128x512 .f32) (w : FVec Ideal S1x128x256 .f32)
    (n : ℕ) (hn : n < 8)
    (hx : ∀ (r : Fin 128) (k : Fin 1024), x (ix3 0 r k) = x0 (ix3 0 ⟨128 * n + r, by omega⟩ k))
    (ha : ∀ (r : Fin 128) (k : Fin 256), a (ix3 0 r k) = x1 (ix3 0 ⟨128 * n + r, by omega⟩ k))
    (hb : ∀ (r : Fin 128) (k : Fin 256), b (ix3 0 r k) = x2 (ix3 0 ⟨128 * n + r, by omega⟩ k))
    (hc : ∀ (r : Fin 128) (k : Fin 256), c (ix3 0 r k) = x3 (ix3 0 ⟨128 * n + r, by omega⟩ k))
    (ht : ∀ (r : Fin 128) (k : Fin 128), t (ix3 0 r k) = x4 (ix3 0 ⟨128 * n + r, by omega⟩ k))
    (hv : ∀ (r : Fin 128) (k : Fin 512), v (ix3 0 r k) = x5 (ix3 0 ⟨128 * n + r, by omega⟩ k))
    (hw : ∀ (r : Fin 128) (k : Fin 256), w (ix3 0 r k) = x6 (ix3 0 ⟨128 * n + r, by omega⟩ k))
    (z : S1x128x1024.Idx) (A B : Fin 1024) (hA : (A : ℕ) = 128 * n + (z 1 : ℕ)) (hB : (B : ℕ) = (z 2 : ℕ)) :
    grp x a b c t v w (View.ld x7 r0_0) (View.ld x8 r0_25) (View.ld x9 r0_0) z = brow x0 x1 x2 x3 x4 x5 x6 x7 x8 x9 A B := by
  have b1 : (z 1 : ℕ) < 128 := (z 1).isLt
  have b2 : (z 2 : ℕ) < 1024 := (z 2).isLt
  have hz : z = ix3 0 ⟨z 1, b1⟩ ⟨z 2, b2⟩ := by
    funext k
    fin_cases k
    · exact Subsingleton.elim (α := Fin 1) _ _
    · rfl
    · rfl
  have eA : A = ⟨128 * n + ((⟨z 1, b1⟩ : Fin 128) : ℕ), by simp only; omega⟩ := Fin.ext hA
  have eB : B = ⟨z 2, b2⟩ := Fin.ext hB
  have h7 : ∀ j : Fin 1024, View.ld x7 r0_0 (ix2 0 j) = x7 (ix2 0 j) := fun j => by
    show x7 (r0_0.emb (ix2 0 j)) = _
    blk_ext []
  have h9 : ∀ j : Fin 1024, View.ld x9 r0_0 (ix2 0 j) = x9 (ix2 0 j) := fun j => by
    show x9 (r0_0.emb (ix2 0 j)) = _
    blk_ext []
  have h8 : ∀ j k : Fin 1024, View.ld x8 r0_25 (ix2 j k) = x8 (ix2 j k) := fun j k => by
    show x8 (r0_25.emb (ix2 j k)) = _
    blk_ext []
  rw [hz, grp_apply, eA, eB]
  unfold brow
  simp only [hx, ha, hb, hc, ht, hv, hw, h7, h8, h9]

theorem out_apply (y : S1x1024x1024.Idx) : out0_10 (F := Ideal) x0 x1 x2 x3 x4 x5 x6 x7 x8 x9 y = brow x0 x1 x2 x3 x4 x5 x6 x7 x8 x9 (y 1) (y 2) := by
  rw [out_eq]
  canon_tiles z h
  case piece0 =>
    refine grp_row x0 x1 x2 x3 x4 x5 x6 x7 x8 x9 _ _ _ _ _ _ _ 7 (by norm_num) ?_ ?_ ?_ ?_ ?_ ?_ ?_ z (y 1) (y 2) h1 h2
    · exact fun r k => (by show x0 (r0_33.emb (ix3 0 r k)) = _; blk_ext [])
    · exact fun r k => (by show x1 (r0_23.emb (ix3 0 r k)) = _; blk_ext [])
    · exact fun r k => (by show x2 (r0_23.emb (ix3 0 r k)) = _; blk_ext [])
    · exact fun r k => (by show x3 (r0_23.emb (ix3 0 r k)) = _; blk_ext [])
    · exact fun r k => (by show x4 (r0_22.emb (ix3 0 r k)) = _; blk_ext [])
    · exact fun r k => (by show x5 (r0_24.emb (ix3 0 r k)) = _; blk_ext [])
    · exact fun r k => (by show x6 (r0_23.emb (ix3 0 r k)) = _; blk_ext [])
  case piece1 =>
    refine grp_row x0 x1 x2 x3 x4 x5 x6 x7 x8 x9 _ _ _ _ _ _ _ 6 (by norm_num) ?_ ?_ ?_ ?_ ?_ ?_ ?_ z (y 1) (y 2) h1 h2
    · exact fun r k => (by show x0 (r0_32.emb (ix3 0 r k)) = _; blk_ext [])
    · exact fun r k => (by show x1 (r0_20.emb (ix3 0 r k)) = _; blk_ext [])
    · exact fun r k => (by show x2 (r0_20.emb (ix3 0 r k)) = _; blk_ext [])
    · exact fun r k => (by show x3 (r0_20.emb (ix3 0 r k)) = _; blk_ext [])
    · exact fun r k => (by show x4 (r0_19.emb (ix3 0 r k)) = _; blk_ext [])
    · exact fun r k => (by show x5 (r0_21.emb (ix3 0 r k)) = _; blk_ext [])
    · exact fun r k => (by show x6 (r0_20.emb (ix3 0 r k)) = _; blk_ext [])
  case piece2 =>
    refine grp_row x0 x1 x2 x3 x4 x5 x6 x7 x8 x9 _ _ _ _ _ _ _ 5 (by norm_num) ?_ ?_ ?_ ?_ ?_ ?_ ?_ z (y 1) (y 2) h1 h2
    · exact fun r k => (by show x0 (r0_31.emb (ix3 0 r k)) = _; blk_ext [])
    · exact fun r k => (by show x1 (r0_17.emb (ix3 0 r k)) = _; blk_ext [])
    · exact fun r k => (by show x2 (r0_17.emb (ix3 0 r k)) = _; blk_ext [])
    · exact fun r k => (by show x3 (r0_17.emb (ix3 0 r k)) = _; blk_ext [])
    · exact fun r k => (by show x4 (r0_16.emb (ix3 0 r k)) = _; blk_ext [])
    · exact fun r k => (by show x5 (r0_18.emb (ix3 0 r k)) = _; blk_ext [])
    · exact fun r k => (by show x6 (r0_17.emb (ix3 0 r k)) = _; blk_ext [])
  case piece3 =>
    refine grp_row x0 x1 x2 x3 x4 x5 x6 x7 x8 x9 _ _ _ _ _ _ _ 4 (by norm_num) ?_ ?_ ?_ ?_ ?_ ?_ ?_ z (y 1) (y 2) h1 h2
    · exact fun r k => (by show x0 (r0_30.emb (ix3 0 r k)) = _; blk_ext [])
    · exact fun r k => (by show x1 (r0_14.emb (ix3 0 r k)) = _; blk_ext [])
    · exact fun r k => (by show x2 (r0_14.emb (ix3 0 r k)) = _; blk_ext [])
    · exact fun r k => (by show x3 (r0_14.emb (ix3 0 r k)) = _; blk_ext [])
    · exact fun r k => (by show x4 (r0_13.emb (ix3 0 r k)) = _; blk_ext [])
    · exact fun r k => (by show x5 (r0_15.emb (ix3 0 r k)) = _; blk_ext [])
    · exact fun r k => (by show x6 (r0_14.emb (ix3 0 r k)) = _; blk_ext [])
  case piece4 =>
    refine grp_row x0 x1 x2 x3 x4 x5 x6 x7 x8 x9 _ _ _ _ _ _ _ 3 (by norm_num) ?_ ?_ ?_ ?_ ?_ ?_ ?_ z (y 1) (y 2) h1 h2
    · exact fun r k => (by show x0 (r0_29.emb (ix3 0 r k)) = _; blk_ext [])
    · exact fun r k => (by show x1 (r0_11.emb (ix3 0 r k)) = _; blk_ext [])
    · exact fun r k => (by show x2 (r0_11.emb (ix3 0 r k)) = _; blk_ext [])
    · exact fun r k => (by show x3 (r0_11.emb (ix3 0 r k)) = _; blk_ext [])
    · exact fun r k => (by show x4 (r0_10.emb (ix3 0 r k)) = _; blk_ext [])
    · exact fun r k => (by show x5 (r0_12.emb (ix3 0 r k)) = _; blk_ext [])
    · exact fun r k => (by show x6 (r0_11.emb (ix3 0 r k)) = _; blk_ext [])
  case piece5 =>
    refine grp_row x0 x1 x2 x3 x4 x5 x6 x7 x8 x9 _ _ _ _ _ _ _ 2 (by norm_num) ?_ ?_ ?_ ?_ ?_ ?_ ?_ z (y 1) (y 2) h1 h2
    · exact fun r k => (by show x0 (r0_28.emb (ix3 0 r k)) = _; blk_ext [])
    · exact fun r k => (by show x1 (r0_8.emb (ix3 0 r k)) = _; blk_ext [])
    · exact fun r k => (by show x2 (r0_8.emb (ix3 0 r k)) = _; blk_ext [])
    · exact fun r k => (by show x3 (r0_8.emb (ix3 0 r k)) = _; blk_ext [])
    · exact fun r k => (by show x4 (r0_7.emb (ix3 0 r k)) = _; blk_ext [])
    · exact fun r k => (by show x5 (r0_9.emb (ix3 0 r k)) = _; blk_ext [])
    · exact fun r k => (by show x6 (r0_8.emb (ix3 0 r k)) = _; blk_ext [])
  case piece6 =>
    refine grp_row x0 x1 x2 x3 x4 x5 x6 x7 x8 x9 _ _ _ _ _ _ _ 1 (by norm_num) ?_ ?_ ?_ ?_ ?_ ?_ ?_ z (y 1) (y 2) h1 h2
    · exact fun r k => (by show x0 (r0_27.emb (ix3 0 r k)) = _; blk_ext [])
    · exact fun r k => (by show x1 (r0_5.emb (ix3 0 r k)) = _; blk_ext [])
    · exact fun r k => (by show x2 (r0_5.emb (ix3 0 r k)) = _; blk_ext [])
    · exact fun r k => (by show x3 (r0_5.emb (ix3 0 r k)) = _; blk_ext [])
    · exact fun r k => (by show x4 (r0_4.emb (ix3 0 r k)) = _; blk_ext [])
    · exact fun r k => (by show x5 (r0_6.emb (ix3 0 r k)) = _; blk_ext [])
    · exact fun r k => (by show x6 (r0_5.emb (ix3 0 r k)) = _; blk_ext [])
  case piece7 =>
    refine grp_row x0 x1 x2 x3 x4 x5 x6 x7 x8 x9 _ _ _ _ _ _ _ 0 (by norm_num) ?_ ?_ ?_ ?_ ?_ ?_ ?_ z (y 1) (y 2) (h1.trans (Nat.zero_add _).symm) h2
    · exact fun r k => (by show x0 (r0_26.emb (ix3 0 r k)) = _; blk_ext [])
    · exact fun r k => (by show x1 (r0_2.emb (ix3 0 r k)) = _; blk_ext [])
    · exact fun r k => (by show x2 (r0_2.emb (ix3 0 r k)) = _; blk_ext [])
    · exact fun r k => (by show x3 (r0_2.emb (ix3 0 r k)) = _; blk_ext [])
    · exact fun r k => (by show x4 (r0_1.emb (ix3 0 r k)) = _; blk_ext [])
    · exact fun r k => (by show x5 (r0_3.emb (ix3 0 r k)) = _; blk_ext [])
    · exact fun r k => (by show x6 (r0_2.emb (ix3 0 r k)) = _; blk_ext [])

end Whole

end Cert.Out

end
-- ==== Proof.OutRef.lean ====
module

public import proofs.«01_k».proof.Proof.Gen.Reference4Ideal.Run
public import proofs.«01_k».proof.Proof.OutSpec

@[expose] public section

set_option maxRecDepth 16384

noncomputable section

namespace Cert.OutRef

open Cert.Reference4Ideal Cert.Reference4Ideal.Gen Idealize.ShloMosaic Idealize.ShloMosaic.TcCoe Idealize.SL.Sem
open Cert.Out (nrm nsa mix row)

/-! ## The reference, stage by stage -/

def rSig (t : FVec Ideal S2x16384x12 .f32) : FVec Ideal S2x16384x12 .f32 :=
  Host.divf (broadcastInDim S2x16384x12 ![] bcast_S_S2x16384x12 (constant S_ .f32 0x3F800000#32))
    (addf (broadcastInDim S2x16384x12 ![] bcast_S_S2x16384x12 (constant S_ .f32 0x3F800000#32)) (Host.exp (Host.negf t)))

def rGates (t : FVec Ideal S2x16384x12 .f32) : FVec Ideal S3x2x4x16384x1 .f32 :=
  broadcastInDim S3x2x4x16384x1 ![0, 1, 2, 3] bcast_S3x2x4x16384_S3x2x4x16384x1_0_1_2_3
    (transpose S3x2x4x16384 [2, 0, 3, 1] (shapeCast _ t shapeCasts_S2x16384x12_S2x16384x3x4) transposes_S2x16384x3x4_S3x2x4x16384_2_0_3_1)

def rHeads (a : FVec Ideal S2x16384x256 .f32) : FVec Ideal S2x4x16384x64 .f32 :=
  transpose S2x4x16384x64 [0, 2, 1, 3] (shapeCast _ a shapeCasts_S2x16384x256_S2x16384x4x64) transposes_S2x16384x4x64_S2x4x16384x64_0_2_1_3

def rOver (g : FVec Ideal S2x4x16384x1 .f32) (a : FVec Ideal S2x16384x256 .f32) : FVec Ideal S2x4x16384x64 .f32 :=
  mulf (broadcastInDim S2x4x16384x64 ![0, 1, 2, 3] bcast_S2x4x16384x1_S2x4x16384x64_0_1_2_3 g) (rHeads a)

def rBack (a : FVec Ideal S2x4x16384x64 .f32) : FVec Ideal S2x16384x256 .f32 :=
  shapeCast _ (transpose S2x16384x4x64 [0, 2, 1, 3] a transposes_S2x4x16384x64_S2x16384x4x64_0_2_1_3) shapeCasts_S2x16384x4x64_S2x16384x256

def rThree (g : FVec Ideal S3x2x4x16384x1 .f32) (a b c : FVec Ideal S2x16384x256 .f32) : FVec Ideal S2x16384x256 .f32 :=
  rBack (addf (addf
    (rOver (shapeCast _ (extractStridedSlice S1x2x4x16384x1 ![0, 0, 0, 0, 0] g slices_S3x2x4x16384x1_S1x2x4x16384x1_0_0_0_0_0) shapeCasts_S1x2x4x16384x1_S2x4x16384x1) a)
    (rOver (shapeCast _ (extractStridedSlice S1x2x4x16384x1 ![1, 0, 0, 0, 0] g slices_S3x2x4x16384x1_S1x2x4x16384x1_1_0_0_0_0) shapeCasts_S1x2x4x16384x1_S2x4x16384x1) b))
    (rOver (shapeCast _ (extractStridedSlice S1x2x4x16384x1 ![2, 0, 0, 0, 0] g slices_S3x2x4x16384x1_S1x2x4x16384x1_2_0_0_0_0) shapeCasts_S1x2x4x16384x1_S2x4x16384x1) c))

def rNorm256 (x : FVec Ideal S2x16384x256 .f32) (g : FVec Ideal S256 .f32) : FVec Ideal S2x16384x256 .f32 :=
  mulf (mulf x (broadcastInDim S2x16384x256 ![0, 1, 2] bcast_S2x16384x1_S2x16384x256_0_1_2 (Host.rsqrt (addf (Host.divf
    (broadcastInDim S2x16384x1 ![0, 1] bcast_S2x16384_S2x16384x1_0_1 (Host.reduceAdd (mulf x x) (constant S_ .f32 0x00000000#32) reducesTo_S2x16384x256_S2x16384_d2 h_S_))
    (broadcastInDim S2x16384x1 ![] bcast_S_S2x16384x1 (constant S_ .f32 0x43800000#32))) (broadcastInDim S2x16384x1 ![] bcast_S_S2x16384x1 (constant S_ .f32 0x358637BD#32))))))
    (broadcastInDim S2x16384x256 ![0, 1, 2] bcast_S1x1x256_S2x16384x256_0_1_2 (broadcastInDim S1x1x256 ![2] bcast_S256_S1x1x256_2 g))

def rNorm512 (x : FVec Ideal S2x16384x512 .f32) (g : FVec Ideal S512 .f32) : FVec Ideal S2x16384x512 .f32 :=
  mulf (mulf x (broadcastInDim S2x16384x512 ![0, 1, 2] bcast_S2x16384x1_S2x16384x512_0_1_2 (Host.rsqrt (addf (Host.divf
    (broadcastInDim S2x16384x1 ![0, 1] bcast_S2x16384_S2x16384x1_0_1 (Host.reduceAdd (mulf x x) (constant S_ .f32 0x00000000#32) reducesTo_S2x16384x512_S2x16384_d2 h_S_))
    (broadcastInDim S2x16384x1 ![] bcast_S_S2x16384x1 (constant S_ .f32 0x44000000#32))) (broadcastInDim S2x16384x1 ![] bcast_S_S2x16384x1 (constant S_ .f32 0x358637BD#32))))))
    (broadcastInDim S2x16384x512 ![0, 1, 2] bcast_S1x1x512_S2x16384x512_0_1_2 (broadcastInDim S1x1x512 ![2] bcast_S512_S1x1x512_2 g))

def rNorm1024 (x : FVec Ideal S2x16384x1024 .f32) (g : FVec Ideal S1024 .f32) : FVec Ideal S2x16384x1024 .f32 :=
  mulf (mulf x (broadcastInDim S2x16384x1024 ![0, 1, 2] bcast_S2x16384x1_S2x16384x1024_0_1_2 (Host.rsqrt (addf (Host.divf
    (broadcastInDim S2x16384x1 ![0, 1] bcast_S2x16384_S2x16384x1_0_1 (Host.reduceAdd (mulf x x) (constant S_ .f32 0x00000000#32) reducesTo_S2x16384x1024_S2x16384_d2 h_S_))
    (broadcastInDim S2x16384x1 ![] bcast_S_S2x16384x1 (constant S_ .f32 0x44800000#32))) (broadcastInDim S2x16384x1 ![] bcast_S_S2x16384x1 (constant S_ .f32 0x358637BD#32))))))
    (broadcastInDim S2x16384x1024 ![0, 1, 2] bcast_S1x1x1024_S2x16384x1024_0_1_2 (broadcastInDim S1x1x1024 ![2] bcast_S1024_S1x1x1024_2 g))

def rSide (u : FVec Ideal S2x16384x256 .f32) (v : FVec Ideal S2x16384x512 .f32) (w : FVec Ideal S2x16384x256 .f32) : FVec Ideal S2x16384x1024 .f32 :=
  concatenate S2x16384x1024 2 [⟨S2x16384x256, u⟩, ⟨S2x16384x512, v⟩, ⟨S2x16384x256, w⟩] concatenates_S2x16384x256_S2x16384x512_S2x16384x256_S2x16384x1024_d2

def rMix (g : FVec Ideal S1024 .f32) (u : FVec Ideal S2x16384x256 .f32) (v : FVec Ideal S2x16384x512 .f32) (w : FVec Ideal S2x16384x256 .f32) : FVec Ideal S2x16384x1024 .f32 :=
  rSide (rNorm256 u (extractStridedSlice S256 ![0] g slices_S1024_S256_0)) (rNorm512 v (extractStridedSlice S512 ![256] g slices_S1024_S512_256))
    (rNorm256 w (extractStridedSlice S256 ![768] g slices_S1024_S256_768))

def rTimes (h : FVec Ideal S2x16384x1024 .f32) (p : FVec Ideal S1024x1024 .f32) : FVec Ideal S2x16384x1024 .f32 :=
  Host.dotGeneral dot_S2x16384x1024_S1024x1024_S2x16384x1024_2_0_01_1_n_n none h p

/-- The reference's result. -/
def rOut (x : FVec Ideal S2x16384x1024 .f32) (a b c : FVec Ideal S2x16384x256 .f32) (t : FVec Ideal S2x16384x12 .f32) (v : FVec Ideal S2x16384x512 .f32) (w : FVec Ideal S2x16384x256 .f32)
    (g : FVec Ideal S1024 .f32) (p : FVec Ideal S1024x1024 .f32) (q : FVec Ideal S1024 .f32) : FVec Ideal S2x16384x1024 .f32 :=
  addf x (rNorm1024 (rTimes (rMix g (rThree (rGates (rSig t)) a b c) v w) p) q)

theorem res_eq (m) (c : Dev nD) : Cert.Reference4Ideal.Value.res_out0 (F := Ideal) m c =
    rOut (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) (m ((c.tc : Thread nD τ).loc main_arg9)) := rfl

/-! ## At a token and a feature -/

theorem rSig_apply (t : FVec Ideal S2x16384x12 .f32) (b : Fin 2) (s : Fin 16384) (k : Fin 12) : rSig t (ix3 b s k) = Ideal.logistic (t (ix3 b s k)) := by
  unfold Ideal.logistic
  pointwise [rSig]

theorem rGates_apply (t : FVec Ideal S2x16384x12 .f32) (n : Fin 3) (b : Fin 2) (h : Fin 4) (s : Fin 16384) :
    rGates t (ix5 n b h s 0) = t (ix3 b s ⟨4 * n + h, by omega⟩) := by
  pointwise [rGates]
  simp only [Nat.mul_comm]

theorem rHeads_apply (a : FVec Ideal S2x16384x256 .f32) (b : Fin 2) (h : Fin 4) (s : Fin 16384) (e : Fin 64) :
    rHeads a (ix4 b h s e) = a (ix3 b s ⟨64 * h + e, by omega⟩) := by
  pointwise [rHeads]
  simp only [Nat.mul_comm]

theorem rOver_apply (g : FVec Ideal S2x4x16384x1 .f32) (a : FVec Ideal S2x16384x256 .f32) (b : Fin 2) (h : Fin 4) (s : Fin 16384) (e : Fin 64) :
    rOver g a (ix4 b h s e) = g (ix4 b h s 0) * a (ix3 b s ⟨64 * h + e, by omega⟩) := by
  rw [← rHeads_apply a b h s e]
  generalize hA : rHeads a = A
  have hm : rOver g a = mulf (broadcastInDim S2x4x16384x64 ![0, 1, 2, 3] bcast_S2x4x16384x1_S2x4x16384x64_0_1_2_3 g) A := by rw [← hA]; rfl
  rw [hm]
  pointwise []

theorem rBack_apply (a : FVec Ideal S2x4x16384x64 .f32) (b : Fin 2) (s : Fin 16384) (k : Fin 256) :
    rBack a (ix3 b s k) = a (ix4 b ⟨k / 64, by omega⟩ s ⟨k % 64, by omega⟩) := by
  pointwise [rBack]

theorem rThree_apply (t : FVec Ideal S2x16384x12 .f32) (a b c : FVec Ideal S2x16384x256 .f32) (i : Fin 2) (s : Fin 16384) (k : Fin 256) :
    rThree (rGates (rSig t)) a b c (ix3 i s k) = nsa (fun j => t (ix3 i s j)) (fun j => a (ix3 i s j)) (fun j => b (ix3 i s j)) (fun j => c (ix3 i s j)) k := by
  generalize hG : rGates (rSig t) = G
  have hg : ∀ (n : Fin 3) (h : Fin 4), G (ix5 n i h s 0) = Ideal.logistic (t (ix3 i s ⟨4 * n + h, by omega⟩)) := fun n h => by
    rw [← hG, rGates_apply, rSig_apply]
  have h0 : ∀ h : Fin 4, (shapeCast S2x4x16384x1 (extractStridedSlice S1x2x4x16384x1 ![0, 0, 0, 0, 0] G slices_S3x2x4x16384x1_S1x2x4x16384x1_0_0_0_0_0) shapeCasts_S1x2x4x16384x1_S2x4x16384x1) (ix4 i h s 0)
      = G (ix5 0 i h s 0) := fun h => by pointwise []
  have h1 : ∀ h : Fin 4, (shapeCast S2x4x16384x1 (extractStridedSlice S1x2x4x16384x1 ![1, 0, 0, 0, 0] G slices_S3x2x4x16384x1_S1x2x4x16384x1_1_0_0_0_0) shapeCasts_S1x2x4x16384x1_S2x4x16384x1) (ix4 i h s 0)
      = G (ix5 1 i h s 0) := fun h => by pointwise []
  have h2 : ∀ h : Fin 4, (shapeCast S2x4x16384x1 (extractStridedSlice S1x2x4x16384x1 ![2, 0, 0, 0, 0] G slices_S3x2x4x16384x1_S1x2x4x16384x1_2_0_0_0_0) shapeCasts_S1x2x4x16384x1_S2x4x16384x1) (ix4 i h s 0)
      = G (ix5 2 i h s 0) := fun h => by pointwise []
  unfold rThree nsa
  rw [rBack_apply]
  have hk : (⟨64 * ((⟨(k : ℕ) / 64, by omega⟩ : Fin 4) : ℕ) + ((⟨(k : ℕ) % 64, by omega⟩ : Fin 64) : ℕ), by simp only; omega⟩ : Fin 256) = k := Fin.ext (by simp only; omega)
  have e : ∀ (A B C : FVec Ideal S2x4x16384x64 .f32) (x : S2x4x16384x64.Idx), addf (addf A B) C x = A x + B x + C x := fun _ _ _ _ => rfl
  rw [e, rOver_apply, rOver_apply, rOver_apply, h0, h1, h2, hg, hg, hg, hk]
  refine congrArg₂ (· + ·) (congrArg₂ (· + ·) (congrArg (fun z => Ideal.logistic (t (ix3 i s z)) * _) (Fin.ext ?_)) (congrArg (fun z => Ideal.logistic (t (ix3 i s z)) * _) (Fin.ext ?_)))
    (congrArg (fun z => Ideal.logistic (t (ix3 i s z)) * _) (Fin.ext ?_))
  · show 4 * 0 + (k : ℕ) / 64 = k / 64
    omega
  · rfl
  · rfl

theorem rNorm256_apply (x : FVec Ideal S2x16384x256 .f32) (g : FVec Ideal S256 .f32) (b : Fin 2) (s : Fin 16384) (k : Fin 256) :
    rNorm256 x g (ix3 b s k) = nrm 0x43800000#32 (fun j => x (ix3 b s j)) (fun j => g (ix1 j)) k := by
  unfold nrm
  pointwise [rNorm256]

theorem rNorm512_apply (x : FVec Ideal S2x16384x512 .f32) (g : FVec Ideal S512 .f32) (b : Fin 2) (s : Fin 16384) (k : Fin 512) :
    rNorm512 x g (ix3 b s k) = nrm 0x44000000#32 (fun j => x (ix3 b s j)) (fun j => g (ix1 j)) k := by
  unfold nrm
  pointwise [rNorm512]

theorem rNorm1024_apply (x : FVec Ideal S2x16384x1024 .f32) (g : FVec Ideal S1024 .f32) (b : Fin 2) (s : Fin 16384) (k : Fin 1024) :
    rNorm1024 x g (ix3 b s k) = nrm 0x44800000#32 (fun j => x (ix3 b s j)) (fun j => g (ix1 j)) k := by
  unfold nrm
  pointwise [rNorm1024]

theorem rSide_apply (u : FVec Ideal S2x16384x256 .f32) (v : FVec Ideal S2x16384x512 .f32) (w : FVec Ideal S2x16384x256 .f32) (b : Fin 2) (s : Fin 16384) (k : Fin 1024) :
    rSide u v w (ix3 b s k) = if h : (k : ℕ) < 256 then u (ix3 b s ⟨k, h⟩) else if h' : (k : ℕ) < 768 then v (ix3 b s ⟨k - 256, by omega⟩) else w (ix3 b s ⟨k - 768, by omega⟩) := by
  by_cases h : (k : ℕ) < 256
  · rw [dif_pos h]
    pointwise [rSide]
    split_ifs <;> rfl
  · rw [dif_neg h]
    by_cases h' : (k : ℕ) < 768
    · rw [dif_pos h']
      pointwise [rSide]
      split_ifs
      all_goals first
        | (exfalso; omega)
        | rfl
    · rw [dif_neg h']
      pointwise [rSide]
      split_ifs
      all_goals first
        | (exfalso; omega)
        | (congr 2 <;> (apply Fin.ext; first | omega | (simp; omega)))

theorem rMix_apply (g : FVec Ideal S1024 .f32) (u : FVec Ideal S2x16384x256 .f32) (v : FVec Ideal S2x16384x512 .f32) (w : FVec Ideal S2x16384x256 .f32) (b : Fin 2) (s : Fin 16384) (k : Fin 1024) :
    rMix g u v w (ix3 b s k) = mix (fun j => u (ix3 b s j)) (fun j => v (ix3 b s j)) (fun j => w (ix3 b s j)) (fun j => g (ix1 j)) k := by
  unfold rMix mix
  rw [rSide_apply]
  simp only [rNorm256_apply, rNorm512_apply]
  split_ifs
  all_goals
    congr 1
    funext j
    pointwise []

theorem rTimes_apply (h : FVec Ideal S2x16384x1024 .f32) (p : FVec Ideal S1024x1024 .f32) (b : Fin 2) (s : Fin 16384) (k : Fin 1024) :
    rTimes h p (ix3 b s k) = ∑ j, h (ix3 b s j) * p (ix2 j k) := by
  pointwise [rTimes]

theorem rOut_apply (x : FVec Ideal S2x16384x1024 .f32) (a b c : FVec Ideal S2x16384x256 .f32) (t : FVec Ideal S2x16384x12 .f32) (v : FVec Ideal S2x16384x512 .f32) (w : FVec Ideal S2x16384x256 .f32)
    (g : FVec Ideal S1024 .f32) (p : FVec Ideal S1024x1024 .f32) (q : FVec Ideal S1024 .f32) (i : Fin 2) (s : Fin 16384) (k : Fin 1024) :
    rOut x a b c t v w g p q (ix3 i s k) = row (fun j => x (ix3 i s j)) (fun j => a (ix3 i s j)) (fun j => b (ix3 i s j)) (fun j => c (ix3 i s j))
      (fun j => t (ix3 i s j)) (fun j => v (ix3 i s j)) (fun j => w (ix3 i s j)) (fun j => g (ix1 j)) (fun j k => p (ix2 j k)) (fun j => q (ix1 j)) k := by
  have e : rOut x a b c t v w g p q (ix3 i s k) = x (ix3 i s k) + rNorm1024 (rTimes (rMix g (rThree (rGates (rSig t)) a b c) v w) p) q (ix3 i s k) := rfl
  unfold row
  rw [e, rNorm1024_apply]
  simp only [rTimes_apply, rMix_apply, rThree_apply]

end Cert.OutRef

end
-- ==== Proof.OutValue.lean ====
module

public import proofs.«01_k».proof.Defs
public import proofs.«01_k».proof.Proof.OutKernel
public import proofs.«01_k».proof.Proof.OutRef

@[expose] public section

set_option maxRecDepth 16384

noncomputable section

namespace Cert.Out

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 16, t.val % 16, 0] ∧ win0_1.index t = ![t.val / 16, t.val % 16, 0] ∧ win0_2.index t = ![t.val / 16, t.val % 16, 0]
    ∧ win0_3.index t = ![t.val / 16, t.val % 16, 0] ∧ win0_4.index t = ![t.val / 16, t.val % 16, 0] ∧ win0_5.index t = ![t.val / 16, t.val % 16, 0]
    ∧ win0_6.index t = ![t.val / 16, t.val % 16, 0] ∧ win0_7.index t = ![0, 0] ∧ win0_8.index t = ![0, 0] ∧ win0_9.index t = ![0, 0]
    ∧ win0_10.index t = ![t.val / 16, t.val % 16, 0] :=
  (by decide +kernel : ∀ t : Fin grid0.N, _)

/-- The result as one function of the arguments. -/
def ref (c : Dev nD) : FVec Ideal S2x16384x1024 .f32 :=
  Cert.OutRef.rOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))

/-- The gates, padded to 128 columns. -/
def padded (t : FVec Ideal S2x16384x12 .f32) : FVec Ideal S2x16384x128 .f32 :=
  pad S2x16384x128 ![0, 0, 0] ![0, 0, 116] ![0, 0, 0] t (sitofp (F := Ideal) .f32 (constantI S_ 32 0#32)) pads_S2x16384x12_S2x16384x128_000_000_01160 h_S_

theorem gates_eq (c : Dev nD) : V m c main_v0 = padded (m ((c : Thread nD τ).loc main_arg4)) := by
  unfold V
  simp only [List.flatten_cons, List.flatten_nil, List.append_nil, List.cons_append, List.nil_append]
  after_results
  rfl

theorem padded_apply (t : FVec Ideal S2x16384x12 .f32) (b : Fin 2) (s : Fin 16384) (k : Fin 12) : padded t (ix3 b s ⟨k, by omega⟩) = t (ix3 b s k) := by
  pointwise [padded]

theorem gain_eq (c : Dev nD) : V m c main_v1 = broadcastInDim S1x1024 ![1] bcast_S1024_S1x1024_1 (m ((c : Thread nD τ).loc main_arg7) : FVec Ideal S1024 .f32) := by
  unfold V
  simp only [List.flatten_cons, List.flatten_nil, List.append_nil, List.cons_append, List.nil_append]
  after_results

theorem w_eq (c : Dev nD) : V m c main_v2 = (truncf .bf16 (m ((c : Thread nD τ).loc main_arg8) : FVec Ideal S1024x1024 .f32) bitsLt_bf16_f32 : FVec Ideal S1024x1024 .bf16) := by
  unfold V
  simp only [List.flatten_cons, List.flatten_nil, List.append_nil, List.cons_append, List.nil_append]
  after_results

theorem post_eq (c : Dev nD) : V m c main_v3 = broadcastInDim S1x1024 ![1] bcast_S1024_S1x1024_1 (m ((c : Thread nD τ).loc main_arg9) : FVec Ideal S1024 .f32) := by
  unfold V
  simp only [List.flatten_cons, List.flatten_nil, List.append_nil, List.cons_append, List.nil_append]
  after_results

theorem gain_apply (g : FVec Ideal S1024 .f32) (k : Fin 1024) : broadcastInDim S1x1024 ![1] bcast_S1024_S1x1024_1 g (ix2 0 k) = g (ix1 k) := by
  pointwise []

theorem point (c : Dev nD) (t : Fin cfg0.N) (y : S1x1024x1024.Idx) :
    out0_10 (F := Ideal) (iblk m c 0 t) (iblk m c 1 t) (iblk m c 2 t) (iblk m c 3 t) (iblk m c 4 t) (iblk m c 5 t) (iblk m c 6 t) (iblk m c 7 t) (iblk m c 8 t) (iblk m c 9 t) y
      = ref m c (((cfg0.win 10).blk t).view.emb y) := by
  have ht : t.val < 32 := lt_of_lt_of_eq t.isLt N_0
  idx_vars y
  have e : ((cfg0.win 10).blk t).view.emb (ix3 y0 y1 y2) = (ix3 ⟨t.val / 16, by omega⟩ ⟨1024 * (t.val % 16) + y1, by omega⟩ y2 : S2x16384x1024.Idx) := by
    blk_ext [idx t]
  rw [e]
  unfold ref
  rw [Cert.OutRef.rOut_apply, out_apply]
  unfold brow
  congr 1
  · funext j
    blk_point [iblk, V_main_arg0, idx t]
  · funext j
    blk_point [iblk, V_main_arg1, idx t]
  · funext j
    blk_point [iblk, V_main_arg2, idx t]
  · funext j
    blk_point [iblk, V_main_arg3, idx t]
  · funext j
    refine Eq.trans (b := (V m c main_v0 : FVec Ideal S2x16384x128 .f32) (ix3 ⟨t.val / 16, by omega⟩ ⟨1024 * (t.val % 16) + y1, by omega⟩ ⟨j, by omega⟩)) ?_
      ((congrFun (gates_eq m c) _).trans (padded_apply _ _ _ j))
    blk_point [iblk, idx t]
  · funext j
    blk_point [iblk, V_main_arg5, idx t]
  · funext j
    blk_point [iblk, V_main_arg6, idx t]
  · funext j
    refine Eq.trans (b := (V m c main_v1 : FVec Ideal S1x1024 .f32) (ix2 0 j)) ?_ ((congrFun (gain_eq m c) _).trans (gain_apply _ j))
    blk_point [iblk, idx t]
  · funext j k
    refine Eq.trans (b := (V m c main_v2 : FVec Ideal S1024x1024 .bf16) (ix2 j k)) ?_ (congrFun (w_eq m c) _)
    blk_point [iblk, idx t]
  · funext j
    refine Eq.trans (b := (V m c main_v3 : FVec Ideal S1x1024 .f32) (ix2 0 j)) ?_ ((congrFun (post_eq m c) _).trans (gain_apply _ j))
    blk_point [iblk, idx t]

theorem final (c : Dev nD) : (dats m 0 c).arrAt 10 (cfgs 0).N = ref m c := by
  refine (dats m 0 c).arrAt_eq_of_covers 10 _ (by decide +kernel) fun t _ y => ?_
  blk_simp
  rw [after0_10]
  exact point m c t y

theorem algebraic : Cert.algebraic_Kernel4Ideal_Reference4Ideal := by
  pair_intro
  · run_from Cert.Kernel4Ideal.Value.run_blocks m g
  · refine θ_run_mono (Cert.Reference4Ideal.Value.run m' g') fun r hr c => ⟨(hr c).1.trans ?_, (hr c).2⟩
    obtain ⟨h0, h1, h2, h3, h4, h5, h6, h7, h8, h9⟩ := hagree c
    rw [final m c]
    refine (Cert.OutRef.res_eq m' c).trans ?_
    unfold ref
    rw [h0, h1, h2, h3, h4, h5, h6, h7, h8, h9]

end Cert.Out

end
-- ==== Proof.ProjTiles.lean ====
module

public import proofs.«01_k».proof.Proof.Gen.Kernel5Ideal.Value
public import proofs.«01_k».proof.Proof.OutSpec
public import Idealize.ShloMosaic.Lib.Pipeline.ValueKit

@[expose] public section

set_option maxRecDepth 16384

noncomputable section

namespace Cert.Proj

open Cert.Kernel5Ideal Cert.Kernel5Ideal.Gen Idealize.ShloMosaic Idealize.ShloMosaic.TcCoe Idealize.SL.Sem

/-! ## The blocks of queries, tile by tile -/

/-- One tile of 64 features by 128 tokens, cut out of four heads. -/
def tile (o : Fin 2 → ℕ) (q : FVec Ideal S256x512 .f32) (h : S256x512.Slices o S64x128) : FVec Ideal S1x1x64x128 .bf16 :=
  shapeCast S1x1x64x128 (truncf .bf16 (extractStridedSlice S64x128 o q h) bitsLt_bf16_f32) shapeCasts_S64x128_S1x1x64x128

/-- One tile of 64 features by 128 tokens, cut out of eight heads. -/
def tile8 (o : Fin 2 → ℕ) (q : FVec Ideal S512x512 .f32) (h : S512x512.Slices o S64x128) : FVec Ideal S1x1x64x128 .bf16 :=
  shapeCast S1x1x64x128 (truncf .bf16 (extractStridedSlice S64x128 o q h) bitsLt_bf16_f32) shapeCasts_S64x128_S1x1x64x128

/-- The block of queries the tiles make up. -/
def blk4 (q : FVec Ideal S256x512 .f32) (n : Fin 4) (e : Fin 64) (l : Fin 512) : EReal := q (ix2 ⟨64 * (l / 128) + e, by omega⟩ ⟨128 * n + l % 128, by omega⟩)

def blk8 (q : FVec Ideal S512x512 .f32) (n : Fin 4) (e : Fin 64) (l : Fin 1024) : EReal := q (ix2 ⟨64 * (l / 128) + e, by omega⟩ ⟨128 * n + l % 128, by omega⟩)

theorem tile_apply (a p : ℕ) (q : FVec Ideal S256x512 .f32) (h : S256x512.Slices ![64 * a, 128 * p] S64x128) (e : Fin 64) (x : Fin 128) (ha : a < 4) (hp : p < 4) :
    tile ![64 * a, 128 * p] q h (ix4 0 0 e x) = q (ix2 ⟨64 * a + e, by omega⟩ ⟨128 * p + x, by omega⟩) := by
  pointwise [tile]

theorem tile8_apply (a p : ℕ) (q : FVec Ideal S512x512 .f32) (h : S512x512.Slices ![64 * a, 128 * p] S64x128) (e : Fin 64) (x : Fin 128) (ha : a < 8) (hp : p < 4) :
    tile8 ![64 * a, 128 * p] q h (ix4 0 0 e x) = q (ix2 ⟨64 * a + e, by omega⟩ ⟨128 * p + x, by omega⟩) := by
  pointwise [tile8]

theorem tile_row (q : FVec Ideal S256x512 .f32) (a p : ℕ) (ha : a < 4) (hp : p < 4) (o : Fin 2 → ℕ) (h : S256x512.Slices o S64x128) (ho : o = ![64 * a, 128 * p]) (z : S1x1x64x128.Idx) (n : Fin 4) (e : Fin 64) (l : Fin 512)
    (hn : (n : ℕ) = p + (z 1 : ℕ)) (he : (e : ℕ) = (z 2 : ℕ)) (hl : (l : ℕ) = 128 * a + (z 3 : ℕ)) : tile o q h z = blk4 q n e l := by
  subst ho
  have b1 : (z 1 : ℕ) < 1 := (z 1).isLt
  have b3 : (z 3 : ℕ) < 128 := (z 3).isLt
  have hz : z = ix4 0 0 e ⟨z 3, b3⟩ := by
    funext k
    fin_cases k
    · exact Subsingleton.elim (α := Fin 1) _ _
    · exact Subsingleton.elim (α := Fin 1) _ _
    · exact Fin.ext he.symm
    · rfl
  rw [hz, tile_apply a p q h e _ ha hp]
  unfold blk4
  congr 2
  · apply Fin.ext
    simp only
    omega
  · apply Fin.ext
    simp only
    omega

theorem tile8_row (q : FVec Ideal S512x512 .f32) (a p : ℕ) (ha : a < 8) (hp : p < 4) (o : Fin 2 → ℕ) (h : S512x512.Slices o S64x128) (ho : o = ![64 * a, 128 * p]) (z : S1x1x64x128.Idx) (n : Fin 4) (e : Fin 64) (l : Fin 1024)
    (hn : (n : ℕ) = p + (z 1 : ℕ)) (he : (e : ℕ) = (z 2 : ℕ)) (hl : (l : ℕ) = 128 * a + (z 3 : ℕ)) : tile8 o q h z = blk8 q n e l := by
  subst ho
  have b1 : (z 1 : ℕ) < 1 := (z 1).isLt
  have b3 : (z 3 : ℕ) < 128 := (z 3).isLt
  have hz : z = ix4 0 0 e ⟨z 3, b3⟩ := by
    funext k
    fin_cases k
    · exact Subsingleton.elim (α := Fin 1) _ _
    · exact Subsingleton.elim (α := Fin 1) _ _
    · exact Fin.ext he.symm
    · rfl
  rw [hz, tile8_apply a p q h e _ ha hp]
  unfold blk8
  congr 2
  · apply Fin.ext
    simp only
    omega
  · apply Fin.ext
    simp only
    omega

section Tiles

variable (i : grid0.Coords) (x0 : Vec Ideal S1x512x1024 .f32) (x1 : Vec Ideal S1x1024 .f32) (x2 : Vec Ideal S1024x2304 .bf16)

theorem out3_eq : out0_3 (F := Ideal) i x0 x1 x2 = View.canon [⟨r0_18, tile ![192, 384] (k0_pay102 i x0 x1 x2) slices_S256x512_o192_384_S64x128⟩,
    ⟨r0_17, tile ![128, 384] (k0_pay102 i x0 x1 x2) slices_S256x512_o128_384_S64x128⟩,
    ⟨r0_16, tile ![64, 384] (k0_pay102 i x0 x1 x2) slices_S256x512_o64_384_S64x128⟩,
    ⟨r0_15, tile ![0, 384] (k0_pay102 i x0 x1 x2) slices_S256x512_o0_384_S64x128⟩,
    ⟨r0_14, tile ![192, 256] (k0_pay102 i x0 x1 x2) slices_S256x512_o192_256_S64x128⟩,
    ⟨r0_13, tile ![128, 256] (k0_pay102 i x0 x1 x2) slices_S256x512_o128_256_S64x128⟩,
    ⟨r0_12, tile ![64, 256] (k0_pay102 i x0 x1 x2) slices_S256x512_o64_256_S64x128⟩,
    ⟨r0_11, tile ![0, 256] (k0_pay102 i x0 x1 x2) slices_S256x512_o0_256_S64x128⟩,
    ⟨r0_10, tile ![192, 128] (k0_pay102 i x0 x1 x2) slices_S256x512_o192_128_S64x128⟩,
    ⟨r0_9, tile ![128, 128] (k0_pay102 i x0 x1 x2) slices_S256x512_o128_128_S64x128⟩,
    ⟨r0_8, tile ![64, 128] (k0_pay102 i x0 x1 x2) slices_S256x512_o64_128_S64x128⟩,
    ⟨r0_7, tile ![0, 128] (k0_pay102 i x0 x1 x2) slices_S256x512_o0_128_S64x128⟩,
    ⟨r0_6, tile ![192, 0] (k0_pay102 i x0 x1 x2) slices_S256x512_o192_0_S64x128⟩,
    ⟨r0_5, tile ![128, 0] (k0_pay102 i x0 x1 x2) slices_S256x512_o128_0_S64x128⟩,
    ⟨r0_4, tile ![64, 0] (k0_pay102 i x0 x1 x2) slices_S256x512_o64_0_S64x128⟩,
    ⟨r0_3, tile ![0, 0] (k0_pay102 i x0 x1 x2) slices_S256x512_o0_0_S64x128⟩] := rfl

theorem out3_tiles (y : S1x4x64x512.Idx) : out0_3 (F := Ideal) i x0 x1 x2 y = blk4 (k0_pay102 i x0 x1 x2) (y 1) (y 2) (y 3) := by
  rw [out3_eq]
  canon_tiles z h
  case piece0 => exact tile_row _ 3 3 (by norm_num) (by norm_num) _ _ rfl z (y 1) (y 2) (y 3) (by omega) (by omega) (by omega)
  case piece1 => exact tile_row _ 2 3 (by norm_num) (by norm_num) _ _ rfl z (y 1) (y 2) (y 3) (by omega) (by omega) (by omega)
  case piece2 => exact tile_row _ 1 3 (by norm_num) (by norm_num) _ _ rfl z (y 1) (y 2) (y 3) (by omega) (by omega) (by omega)
  case piece3 => exact tile_row _ 0 3 (by norm_num) (by norm_num) _ _ rfl z (y 1) (y 2) (y 3) (by omega) (by omega) (by omega)
  case piece4 => exact tile_row _ 3 2 (by norm_num) (by norm_num) _ _ rfl z (y 1) (y 2) (y 3) (by omega) (by omega) (by omega)
  case piece5 => exact tile_row _ 2 2 (by norm_num) (by norm_num) _ _ rfl z (y 1) (y 2) (y 3) (by omega) (by omega) (by omega)
  case piece6 => exact tile_row _ 1 2 (by norm_num) (by norm_num) _ _ rfl z (y 1) (y 2) (y 3) (by omega) (by omega) (by omega)
  case piece7 => exact tile_row _ 0 2 (by norm_num) (by norm_num) _ _ rfl z (y 1) (y 2) (y 3) (by omega) (by omega) (by omega)
  case piece8 => exact tile_row _ 3 1 (by norm_num) (by norm_num) _ _ rfl z (y 1) (y 2) (y 3) (by omega) (by omega) (by omega)
  case piece9 => exact tile_row _ 2 1 (by norm_num) (by norm_num) _ _ rfl z (y 1) (y 2) (y 3) (by omega) (by omega) (by omega)
  case piece10 => exact tile_row _ 1 1 (by norm_num) (by norm_num) _ _ rfl z (y 1) (y 2) (y 3) (by omega) (by omega) (by omega)
  case piece11 => exact tile_row _ 0 1 (by norm_num) (by norm_num) _ _ rfl z (y 1) (y 2) (y 3) (by omega) (by omega) (by omega)
  case piece12 => exact tile_row _ 3 0 (by norm_num) (by norm_num) _ _ rfl z (y 1) (y 2) (y 3) (by omega) (by omega) (by omega)
  case piece13 => exact tile_row _ 2 0 (by norm_num) (by norm_num) _ _ rfl z (y 1) (y 2) (y 3) (by omega) (by omega) (by omega)
  case piece14 => exact tile_row _ 1 0 (by norm_num) (by norm_num) _ _ rfl z (y 1) (y 2) (y 3) (by omega) (by omega) (by omega)
  case piece15 => exact tile_row _ 0 0 (by norm_num) (by norm_num) _ _ rfl z (y 1) (y 2) (y 3) (by omega) (by omega) (by omega)

theorem out11_eq : out0_11 (F := Ideal) i x0 x1 x2 = View.canon [⟨r0_18, tile ![192, 384] (k0_pay106 i x0 x1 x2) slices_S256x512_o192_384_S64x128⟩,
    ⟨r0_17, tile ![128, 384] (k0_pay106 i x0 x1 x2) slices_S256x512_o128_384_S64x128⟩,
    ⟨r0_16, tile ![64, 384] (k0_pay106 i x0 x1 x2) slices_S256x512_o64_384_S64x128⟩,
    ⟨r0_15, tile ![0, 384] (k0_pay106 i x0 x1 x2) slices_S256x512_o0_384_S64x128⟩,
    ⟨r0_14, tile ![192, 256] (k0_pay106 i x0 x1 x2) slices_S256x512_o192_256_S64x128⟩,
    ⟨r0_13, tile ![128, 256] (k0_pay106 i x0 x1 x2) slices_S256x512_o128_256_S64x128⟩,
    ⟨r0_12, tile ![64, 256] (k0_pay106 i x0 x1 x2) slices_S256x512_o64_256_S64x128⟩,
    ⟨r0_11, tile ![0, 256] (k0_pay106 i x0 x1 x2) slices_S256x512_o0_256_S64x128⟩,
    ⟨r0_10, tile ![192, 128] (k0_pay106 i x0 x1 x2) slices_S256x512_o192_128_S64x128⟩,
    ⟨r0_9, tile ![128, 128] (k0_pay106 i x0 x1 x2) slices_S256x512_o128_128_S64x128⟩,
    ⟨r0_8, tile ![64, 128] (k0_pay106 i x0 x1 x2) slices_S256x512_o64_128_S64x128⟩,
    ⟨r0_7, tile ![0, 128] (k0_pay106 i x0 x1 x2) slices_S256x512_o0_128_S64x128⟩,
    ⟨r0_6, tile ![192, 0] (k0_pay106 i x0 x1 x2) slices_S256x512_o192_0_S64x128⟩,
    ⟨r0_5, tile ![128, 0] (k0_pay106 i x0 x1 x2) slices_S256x512_o128_0_S64x128⟩,
    ⟨r0_4, tile ![64, 0] (k0_pay106 i x0 x1 x2) slices_S256x512_o64_0_S64x128⟩,
    ⟨r0_3, tile ![0, 0] (k0_pay106 i x0 x1 x2) slices_S256x512_o0_0_S64x128⟩] := rfl

theorem out11_tiles (y : S1x4x64x512.Idx) : out0_11 (F := Ideal) i x0 x1 x2 y = blk4 (k0_pay106 i x0 x1 x2) (y 1) (y 2) (y 3) := by
  rw [out11_eq]
  canon_tiles z h
  case piece0 => exact tile_row _ 3 3 (by norm_num) (by norm_num) _ _ rfl z (y 1) (y 2) (y 3) (by omega) (by omega) (by omega)
  case piece1 => exact tile_row _ 2 3 (by norm_num) (by norm_num) _ _ rfl z (y 1) (y 2) (y 3) (by omega) (by omega) (by omega)
  case piece2 => exact tile_row _ 1 3 (by norm_num) (by norm_num) _ _ rfl z (y 1) (y 2) (y 3) (by omega) (by omega) (by omega)
  case piece3 => exact tile_row _ 0 3 (by norm_num) (by norm_num) _ _ rfl z (y 1) (y 2) (y 3) (by omega) (by omega) (by omega)
  case piece4 => exact tile_row _ 3 2 (by norm_num) (by norm_num) _ _ rfl z (y 1) (y 2) (y 3) (by omega) (by omega) (by omega)
  case piece5 => exact tile_row _ 2 2 (by norm_num) (by norm_num) _ _ rfl z (y 1) (y 2) (y 3) (by omega) (by omega) (by omega)
  case piece6 => exact tile_row _ 1 2 (by norm_num) (by norm_num) _ _ rfl z (y 1) (y 2) (y 3) (by omega) (by omega) (by omega)
  case piece7 => exact tile_row _ 0 2 (by norm_num) (by norm_num) _ _ rfl z (y 1) (y 2) (y 3) (by omega) (by omega) (by omega)
  case piece8 => exact tile_row _ 3 1 (by norm_num) (by norm_num) _ _ rfl z (y 1) (y 2) (y 3) (by omega) (by omega) (by omega)
  case piece9 => exact tile_row _ 2 1 (by norm_num) (by norm_num) _ _ rfl z (y 1) (y 2) (y 3) (by omega) (by omega) (by omega)
  case piece10 => exact tile_row _ 1 1 (by norm_num) (by norm_num) _ _ rfl z (y 1) (y 2) (y 3) (by omega) (by omega) (by omega)
  case piece11 => exact tile_row _ 0 1 (by norm_num) (by norm_num) _ _ rfl z (y 1) (y 2) (y 3) (by omega) (by omega) (by omega)
  case piece12 => exact tile_row _ 3 0 (by norm_num) (by norm_num) _ _ rfl z (y 1) (y 2) (y 3) (by omega) (by omega) (by omega)
  case piece13 => exact tile_row _ 2 0 (by norm_num) (by norm_num) _ _ rfl z (y 1) (y 2) (y 3) (by omega) (by omega) (by omega)
  case piece14 => exact tile_row _ 1 0 (by norm_num) (by norm_num) _ _ rfl z (y 1) (y 2) (y 3) (by omega) (by omega) (by omega)
  case piece15 => exact tile_row _ 0 0 (by norm_num) (by norm_num) _ _ rfl z (y 1) (y 2) (y 3) (by omega) (by omega) (by omega)

theorem out8_eq : out0_8 (F := Ideal) i x0 x1 x2 = View.canon [⟨r0_55, tile8 ![448, 384] (k0_pay104 i x0 x1 x2) slices_S512x512_o448_384_S64x128⟩,
    ⟨r0_54, tile8 ![384, 384] (k0_pay104 i x0 x1 x2) slices_S512x512_o384_384_S64x128⟩,
    ⟨r0_53, tile8 ![320, 384] (k0_pay104 i x0 x1 x2) slices_S512x512_o320_384_S64x128⟩,
    ⟨r0_52, tile8 ![256, 384] (k0_pay104 i x0 x1 x2) slices_S512x512_o256_384_S64x128⟩,
    ⟨r0_51, tile8 ![192, 384] (k0_pay104 i x0 x1 x2) slices_S512x512_o192_384_S64x128⟩,
    ⟨r0_50, tile8 ![128, 384] (k0_pay104 i x0 x1 x2) slices_S512x512_o128_384_S64x128⟩,
    ⟨r0_49, tile8 ![64, 384] (k0_pay104 i x0 x1 x2) slices_S512x512_o64_384_S64x128⟩,
    ⟨r0_48, tile8 ![0, 384] (k0_pay104 i x0 x1 x2) slices_S512x512_o0_384_S64x128⟩,
    ⟨r0_47, tile8 ![448, 256] (k0_pay104 i x0 x1 x2) slices_S512x512_o448_256_S64x128⟩,
    ⟨r0_46, tile8 ![384, 256] (k0_pay104 i x0 x1 x2) slices_S512x512_o384_256_S64x128⟩,
    ⟨r0_45, tile8 ![320, 256] (k0_pay104 i x0 x1 x2) slices_S512x512_o320_256_S64x128⟩,
    ⟨r0_44, tile8 ![256, 256] (k0_pay104 i x0 x1 x2) slices_S512x512_o256_256_S64x128⟩,
    ⟨r0_43, tile8 ![192, 256] (k0_pay104 i x0 x1 x2) slices_S512x512_o192_256_S64x128⟩,
    ⟨r0_42, tile8 ![128, 256] (k0_pay104 i x0 x1 x2) slices_S512x512_o128_256_S64x128⟩,
    ⟨r0_41, tile8 ![64, 256] (k0_pay104 i x0 x1 x2) slices_S512x512_o64_256_S64x128⟩,
    ⟨r0_40, tile8 ![0, 256] (k0_pay104 i x0 x1 x2) slices_S512x512_o0_256_S64x128⟩,
    ⟨r0_39, tile8 ![448, 128] (k0_pay104 i x0 x1 x2) slices_S512x512_o448_128_S64x128⟩,
    ⟨r0_38, tile8 ![384, 128] (k0_pay104 i x0 x1 x2) slices_S512x512_o384_128_S64x128⟩,
    ⟨r0_37, tile8 ![320, 128] (k0_pay104 i x0 x1 x2) slices_S512x512_o320_128_S64x128⟩,
    ⟨r0_36, tile8 ![256, 128] (k0_pay104 i x0 x1 x2) slices_S512x512_o256_128_S64x128⟩,
    ⟨r0_35, tile8 ![192, 128] (k0_pay104 i x0 x1 x2) slices_S512x512_o192_128_S64x128⟩,
    ⟨r0_34, tile8 ![128, 128] (k0_pay104 i x0 x1 x2) slices_S512x512_o128_128_S64x128⟩,
    ⟨r0_33, tile8 ![64, 128] (k0_pay104 i x0 x1 x2) slices_S512x512_o64_128_S64x128⟩,
    ⟨r0_32, tile8 ![0, 128] (k0_pay104 i x0 x1 x2) slices_S512x512_o0_128_S64x128⟩,
    ⟨r0_31, tile8 ![448, 0] (k0_pay104 i x0 x1 x2) slices_S512x512_o448_0_S64x128⟩,
    ⟨r0_30, tile8 ![384, 0] (k0_pay104 i x0 x1 x2) slices_S512x512_o384_0_S64x128⟩,
    ⟨r0_29, tile8 ![320, 0] (k0_pay104 i x0 x1 x2) slices_S512x512_o320_0_S64x128⟩,
    ⟨r0_28, tile8 ![256, 0] (k0_pay104 i x0 x1 x2) slices_S512x512_o256_0_S64x128⟩,
    ⟨r0_27, tile8 ![192, 0] (k0_pay104 i x0 x1 x2) slices_S512x512_o192_0_S64x128⟩,
    ⟨r0_26, tile8 ![128, 0] (k0_pay104 i x0 x1 x2) slices_S512x512_o128_0_S64x128⟩,
    ⟨r0_25, tile8 ![64, 0] (k0_pay104 i x0 x1 x2) slices_S512x512_o64_0_S64x128⟩,
    ⟨r0_24, tile8 ![0, 0] (k0_pay104 i x0 x1 x2) slices_S512x512_o0_0_S64x128⟩] := rfl

theorem out8_tiles (y : S1x4x64x1024.Idx) : out0_8 (F := Ideal) i x0 x1 x2 y = blk8 (k0_pay104 i x0 x1 x2) (y 1) (y 2) (y 3) := by
  rw [out8_eq]
  canon_tiles z h
  case piece0 => exact tile8_row _ 7 3 (by norm_num) (by norm_num) _ _ rfl z (y 1) (y 2) (y 3) (by omega) (by omega) (by omega)
  case piece1 => exact tile8_row _ 6 3 (by norm_num) (by norm_num) _ _ rfl z (y 1) (y 2) (y 3) (by omega) (by omega) (by omega)
  case piece2 => exact tile8_row _ 5 3 (by norm_num) (by norm_num) _ _ rfl z (y 1) (y 2) (y 3) (by omega) (by omega) (by omega)
  case piece3 => exact tile8_row _ 4 3 (by norm_num) (by norm_num) _ _ rfl z (y 1) (y 2) (y 3) (by omega) (by omega) (by omega)
  case piece4 => exact tile8_row _ 3 3 (by norm_num) (by norm_num) _ _ rfl z (y 1) (y 2) (y 3) (by omega) (by omega) (by omega)
  case piece5 => exact tile8_row _ 2 3 (by norm_num) (by norm_num) _ _ rfl z (y 1) (y 2) (y 3) (by omega) (by omega) (by omega)
  case piece6 => exact tile8_row _ 1 3 (by norm_num) (by norm_num) _ _ rfl z (y 1) (y 2) (y 3) (by omega) (by omega) (by omega)
  case piece7 => exact tile8_row _ 0 3 (by norm_num) (by norm_num) _ _ rfl z (y 1) (y 2) (y 3) (by omega) (by omega) (by omega)
  case piece8 => exact tile8_row _ 7 2 (by norm_num) (by norm_num) _ _ rfl z (y 1) (y 2) (y 3) (by omega) (by omega) (by omega)
  case piece9 => exact tile8_row _ 6 2 (by norm_num) (by norm_num) _ _ rfl z (y 1) (y 2) (y 3) (by omega) (by omega) (by omega)
  case piece10 => exact tile8_row _ 5 2 (by norm_num) (by norm_num) _ _ rfl z (y 1) (y 2) (y 3) (by omega) (by omega) (by omega)
  case piece11 => exact tile8_row _ 4 2 (by norm_num) (by norm_num) _ _ rfl z (y 1) (y 2) (y 3) (by omega) (by omega) (by omega)
  case piece12 => exact tile8_row _ 3 2 (by norm_num) (by norm_num) _ _ rfl z (y 1) (y 2) (y 3) (by omega) (by omega) (by omega)
  case piece13 => exact tile8_row _ 2 2 (by norm_num) (by norm_num) _ _ rfl z (y 1) (y 2) (y 3) (by omega) (by omega) (by omega)
  case piece14 => exact tile8_row _ 1 2 (by norm_num) (by norm_num) _ _ rfl z (y 1) (y 2) (y 3) (by omega) (by omega) (by omega)
  case piece15 => exact tile8_row _ 0 2 (by norm_num) (by norm_num) _ _ rfl z (y 1) (y 2) (y 3) (by omega) (by omega) (by omega)
  case piece16 => exact tile8_row _ 7 1 (by norm_num) (by norm_num) _ _ rfl z (y 1) (y 2) (y 3) (by omega) (by omega) (by omega)
  case piece17 => exact tile8_row _ 6 1 (by norm_num) (by norm_num) _ _ rfl z (y 1) (y 2) (y 3) (by omega) (by omega) (by omega)
  case piece18 => exact tile8_row _ 5 1 (by norm_num) (by norm_num) _ _ rfl z (y 1) (y 2) (y 3) (by omega) (by omega) (by omega)
  case piece19 => exact tile8_row _ 4 1 (by norm_num) (by norm_num) _ _ rfl z (y 1) (y 2) (y 3) (by omega) (by omega) (by omega)
  case piece20 => exact tile8_row _ 3 1 (by norm_num) (by norm_num) _ _ rfl z (y 1) (y 2) (y 3) (by omega) (by omega) (by omega)
  case piece21 => exact tile8_row _ 2 1 (by norm_num) (by norm_num) _ _ rfl z (y 1) (y 2) (y 3) (by omega) (by omega) (by omega)
  case piece22 => exact tile8_row _ 1 1 (by norm_num) (by norm_num) _ _ rfl z (y 1) (y 2) (y 3) (by omega) (by omega) (by omega)
  case piece23 => exact tile8_row _ 0 1 (by norm_num) (by norm_num) _ _ rfl z (y 1) (y 2) (y 3) (by omega) (by omega) (by omega)
  case piece24 => exact tile8_row _ 7 0 (by norm_num) (by norm_num) _ _ rfl z (y 1) (y 2) (y 3) (by omega) (by omega) (by omega)
  case piece25 => exact tile8_row _ 6 0 (by norm_num) (by norm_num) _ _ rfl z (y 1) (y 2) (y 3) (by omega) (by omega) (by omega)
  case piece26 => exact tile8_row _ 5 0 (by norm_num) (by norm_num) _ _ rfl z (y 1) (y 2) (y 3) (by omega) (by omega) (by omega)
  case piece27 => exact tile8_row _ 4 0 (by norm_num) (by norm_num) _ _ rfl z (y 1) (y 2) (y 3) (by omega) (by omega) (by omega)
  case piece28 => exact tile8_row _ 3 0 (by norm_num) (by norm_num) _ _ rfl z (y 1) (y 2) (y 3) (by omega) (by omega) (by omega)
  case piece29 => exact tile8_row _ 2 0 (by norm_num) (by norm_num) _ _ rfl z (y 1) (y 2) (y 3) (by omega) (by omega) (by omega)
  case piece30 => exact tile8_row _ 1 0 (by norm_num) (by norm_num) _ _ rfl z (y 1) (y 2) (y 3) (by omega) (by omega) (by omega)
  case piece31 => exact tile8_row _ 0 0 (by norm_num) (by norm_num) _ _ rfl z (y 1) (y 2) (y 3) (by omega) (by omega) (by omega)

end Tiles

end Cert.Proj

end
-- ==== Proof.ProjSpec.lean ====
module

public import proofs.«01_k».proof.Proof.OutSpec
public import proofs.«01_k».proof.Proof.SwaSpec
public import proofs.«01_k».proof.Proof.SbReal

@[expose] public section

set_option maxRecDepth 16384

noncomputable section

namespace Cert.Proj

open Idealize.ShloMosaic

/-- One projected feature of one token: its normed row against one column of the weights. -/
def lin (h w : Fin 1024 → EReal) : EReal := ∑ j, h j * w j

/-- A value row with its row of ones below it, then rows of zeros. -/
def aug (v : Fin 64 → EReal) (k : Fin 80) : EReal :=
  if h : (k : ℕ) < 64 then v ⟨k, h⟩ else if (k : ℕ) = 64 then Ideal.ofBits .f32 0x3F800000#32 else Ideal.ofBits .f32 0x00000000#32

/-- A key row with the mark of its block of 64 tokens beside it. -/
def tag (v : Fin 64 → EReal) (r : ℕ) (k : Fin 128) : EReal :=
  if h : (k : ℕ) < 64 then v ⟨k, h⟩ else if (k : ℕ) - 64 = r then 1 else 0

theorem bits_one : Ideal.ofBits .f32 0x3F800000#32 = 1 := by
  have e : Ideal.ofBits .f32 0x3F800000#32 = ((1 : ℝ) : EReal) := by
    simp [Ideal.ofBits, Ideal.ieee, -EReal.coe_mul, -EReal.coe_one]; norm_num
  rw [e, EReal.coe_one]

theorem bits_zero : Ideal.ofBits .f32 0x00000000#32 = 0 := by
  simp [Ideal.ofBits, Ideal.ieee, -EReal.coe_mul]

theorem sum_mul_coe {n : Type} (A : Finset n) (f : n → EReal) (c : ℝ) (hc : 0 ≤ c) : ∑ j ∈ A, f j * (c : EReal) = (∑ j ∈ A, f j) * (c : EReal) := by
  classical
  induction A using Finset.induction_on with
  | empty => simp
  | insert a s ha ih =>
    rw [Finset.sum_insert ha, Finset.sum_insert ha, ih, EReal.right_distrib_of_nonneg_of_ne_top (by exact_mod_cast hc) (EReal.coe_ne_top c)]

/-- Scaling the column by an eighth is dividing the feature by eight. -/
theorem lin_eighth (h w : Fin 1024 → EReal) :
    lin h (fun j => w j * Ideal.ofBits .f32 0x3E000000#32) = Ideal.div (lin h w) (Ideal.ofBits .f32 0x41000000#32) := by
  unfold lin
  rw [Cert.Swa.bits_eighth, Cert.Swa.bits_eight]
  have e8 : ((8 : ℝ) : EReal) ≠ 0 := by
    rw [← EReal.coe_zero]
    exact fun hc => absurd (EReal.coe_injective hc) (by norm_num)
  unfold Ideal.div
  rw [if_neg e8, ← EReal.coe_inv, ← sum_mul_coe _ _ _ (by norm_num)]
  refine Finset.sum_congr rfl fun j _ => ?_
  rw [mul_assoc]
  norm_num

theorem lin_zero (h : Fin 1024 → EReal) : lin h (fun _ => Ideal.ofBits .f32 0x00000000#32) = 0 := by
  unfold lin
  rw [bits_zero]
  simp only [mul_zero, Finset.sum_const_zero]

end Cert.Proj

end
-- ==== Proof.ProjKernel.lean ====
module

public import proofs.«01_k».proof.Proof.ProjTiles
public import proofs.«01_k».proof.Proof.ProjSpec

@[expose] public section

set_option maxRecDepth 16384

noncomputable section

namespace Cert.Proj

open Cert.Kernel5Ideal Cert.Kernel5Ideal.Gen Idealize.ShloMosaic Idealize.ShloMosaic.TcCoe Idealize.SL.Sem
open Cert.Out (nrm)

variable (i : grid0.Coords) (x0 : Vec Ideal S1x512x1024 .f32) (x1 : Vec Ideal S1x1024 .f32) (x2 : Vec Ideal S1024x2304 .bf16)

/-- One token's normed row. -/
def hb (r : Fin 512) : Fin 1024 → EReal := nrm 0x44800000#32 (fun j => x0 (ix3 0 r j)) (fun j => x1 (ix2 0 j))

/-- One projected feature of one token of the block. -/
def kb (r : Fin 512) (n : Fin 2304) : EReal := lin (hb x0 x1 r) (fun j => x2 (ix2 j n))

/-! ## The norm and the products -/

theorem pay3_apply (a : Vec Ideal S1x512x1024 .f32) (g : Vec Ideal S1x1024 .f32) (r : Fin 512) (j : Fin 1024) :
    k0_pay3 (F := Ideal) a g (ix2 r j) = nrm 0x44800000#32 (fun j => a (ix3 0 r j)) (fun j => g (ix2 0 j)) j := by
  unfold nrm
  pointwise [k0_pay3]

theorem pay100_apply (r : Fin 512) (j : Fin 1024) : k0_pay100 (F := Ideal) i x0 x1 x2 (ix2 r j) = hb x0 x1 r j := by
  have h0 : ∀ j : Fin 1024, View.ld x0 r0_0 (ix3 0 r j) = x0 (ix3 0 r j) := fun j => by
    show x0 (r0_0.emb (ix3 0 r j)) = _
    blk_ext []
  have h1 : ∀ j : Fin 1024, View.ld x1 r0_1 (ix2 0 j) = x1 (ix2 0 j) := fun j => by
    show x1 (r0_1.emb (ix2 0 j)) = _
    blk_ext []
  unfold k0_pay100 hb
  rw [pay3_apply]
  simp only [h0, h1]

theorem pay25_apply (h : FVec Ideal S512x1024 .bf16) (w : Vec Ideal S1024x256 .bf16) (r : Fin 512) (k : Fin 256) :
    k0_pay25 (F := Ideal) h w (ix2 r k) = lin (fun j => h (ix2 r j)) (fun j => w (ix2 j k)) := by
  pointwise [k0_pay25, lin]

theorem pay97_eq (h : FVec Ideal S512x1024 .bf16) (w : Vec Ideal S1024x256 .bf16) : k0_pay97 (F := Ideal) h w = k0_pay25 h w := rfl

theorem pay31_apply (h : FVec Ideal S512x1024 .bf16) (w : Vec Ideal S1024x512 .bf16) (k r : Fin 512) :
    k0_pay31 (F := Ideal) h w (ix2 k r) = lin (fun j => h (ix2 r j)) (fun j => w (ix2 j k)) := by
  pointwise [k0_pay31, lin]

theorem pay69_apply (h : FVec Ideal S512x1024 .bf16) (w : Vec Ideal S1024x128 .bf16) (r : Fin 512) (k : Fin 128) :
    k0_pay69 (F := Ideal) h w (ix2 r k) = lin (fun j => h (ix2 r j)) (fun j => w (ix2 j k)) := by
  pointwise [k0_pay69, lin]

theorem pay72_apply (h : FVec Ideal S512x1024 .bf16) (w : Vec Ideal S1024x128 .bf16) (k : Fin 128) (r : Fin 512) :
    k0_pay72 (F := Ideal) h w (ix2 k r) = lin (fun j => h (ix2 r j)) (fun j => w (ix2 j k)) := by
  pointwise [k0_pay72, lin]

theorem pay75_apply (h : FVec Ideal S512x1024 .bf16) (w : Vec Ideal S1024x256 .bf16) (k : Fin 256) (r : Fin 512) :
    k0_pay75 (F := Ideal) h w (ix2 k r) = lin (fun j => h (ix2 r j)) (fun j => w (ix2 j k)) * Ideal.ofBits .f32 0x3FB8AA3B#32 := by
  pointwise [k0_pay75, lin]

theorem pay5_eq (a : Vec Ideal S1x512x1024 .f32) (g : Vec Ideal S1x1024 .f32) (w : Vec Ideal S1024x256 .bf16) :
    k0_pay5 (F := Ideal) a g w = k0_pay75 (k0_pay3 a g) w := rfl

theorem cols2 (j : Fin 1024) (k : Fin 256) : View.ld x2 r0_2 (ix2 j k) = x2 (ix2 j ⟨k, by omega⟩) := by
  show x2 (r0_2.emb (ix2 j k)) = _
  blk_ext []

theorem cols19 (j : Fin 1024) (k : Fin 256) : View.ld x2 r0_19 (ix2 j k) = x2 (ix2 j ⟨256 + k, by omega⟩) := by
  show x2 (r0_19.emb (ix2 j k)) = _
  blk_ext []

theorem cols23 (j : Fin 1024) (k : Fin 512) : View.ld x2 r0_23 (ix2 j k) = x2 (ix2 j ⟨512 + k, by omega⟩) := by
  show x2 (r0_23.emb (ix2 j k)) = _
  blk_ext []

theorem cols56 (j : Fin 1024) (k : Fin 128) : View.ld x2 r0_56 (ix2 j k) = x2 (ix2 j ⟨1024 + k, by omega⟩) := by
  show x2 (r0_56.emb (ix2 j k)) = _
  blk_ext []

theorem cols59 (j : Fin 1024) (k : Fin 128) : View.ld x2 r0_59 (ix2 j k) = x2 (ix2 j ⟨1152 + k, by omega⟩) := by
  show x2 (r0_59.emb (ix2 j k)) = _
  blk_ext []

theorem cols62 (j : Fin 1024) (k : Fin 256) : View.ld x2 r0_62 (ix2 j k) = x2 (ix2 j ⟨1280 + k, by omega⟩) := by
  show x2 (r0_62.emb (ix2 j k)) = _
  blk_ext []

theorem cols63 (j : Fin 1024) (k : Fin 256) : View.ld x2 r0_63 (ix2 j k) = x2 (ix2 j ⟨1536 + k, by omega⟩) := by
  show x2 (r0_63.emb (ix2 j k)) = _
  blk_ext []

theorem cols65 (j : Fin 1024) (k : Fin 256) : View.ld x2 r0_65 (ix2 j k) = x2 (ix2 j ⟨1792 + k, by omega⟩) := by
  show x2 (r0_65.emb (ix2 j k)) = _
  blk_ext []

theorem cols67 (j : Fin 1024) (k : Fin 256) : View.ld x2 r0_67 (ix2 j k) = x2 (ix2 j ⟨2048 + k, by omega⟩) := by
  show x2 (r0_67.emb (ix2 j k)) = _
  blk_ext []

theorem pay102_apply (k : Fin 256) (r : Fin 512) :
    k0_pay102 (F := Ideal) i x0 x1 x2 (ix2 k r) = kb x0 x1 x2 r ⟨k, by omega⟩ * Ideal.ofBits .f32 0x3FB8AA3B#32 := by
  have e : k0_pay102 (F := Ideal) i x0 x1 x2 = k0_pay75 (k0_pay100 i x0 x1 x2) (View.ld x2 r0_2) := rfl
  rw [e, pay75_apply]
  simp only [pay100_apply]
  exact congrArg (fun w => lin (hb x0 x1 r) w * Ideal.ofBits .f32 0x3FB8AA3B#32) (funext fun j => cols2 x2 j k)

theorem pay106_apply (k : Fin 256) (r : Fin 512) :
    k0_pay106 (F := Ideal) i x0 x1 x2 (ix2 k r) = kb x0 x1 x2 r ⟨1280 + k, by omega⟩ * Ideal.ofBits .f32 0x3FB8AA3B#32 := by
  unfold k0_pay106
  rw [pay75_apply]
  simp only [pay100_apply]
  exact congrArg (fun w => lin (hb x0 x1 r) w * Ideal.ofBits .f32 0x3FB8AA3B#32) (funext fun j => cols62 x2 j k)

theorem pay104_apply (k : Fin 512) (r : Fin 512) : k0_pay104 (F := Ideal) i x0 x1 x2 (ix2 k r) = kb x0 x1 x2 r ⟨512 + k, by omega⟩ := by
  unfold k0_pay104
  rw [pay31_apply]
  simp only [pay100_apply]
  exact congrArg (fun w => lin (hb x0 x1 r) w) (funext fun j => cols23 x2 j k)

theorem pay105_apply (k : Fin 128) (r : Fin 512) : k0_pay105 (F := Ideal) i x0 x1 x2 (ix2 k r) = kb x0 x1 x2 r ⟨1152 + k, by omega⟩ := by
  unfold k0_pay105
  rw [pay72_apply]
  simp only [pay100_apply]
  exact congrArg (fun w => lin (hb x0 x1 r) w) (funext fun j => cols59 x2 j k)

theorem pay103_apply (r : Fin 512) (k : Fin 256) : k0_pay103 (F := Ideal) i x0 x1 x2 (ix2 r k) = kb x0 x1 x2 r ⟨256 + k, by omega⟩ := by
  have e : k0_pay103 (F := Ideal) i x0 x1 x2 (ix2 r k) = k0_pay25 (k0_pay100 i x0 x1 x2) (View.ld x2 r0_19) (ix2 r k) := rfl
  rw [e, pay25_apply]
  simp only [pay100_apply]
  exact congrArg (fun w => lin (hb x0 x1 r) w) (funext fun j => cols19 x2 j k)

/-! ## The blocks of queries -/

theorem out3_apply (y : S1x4x64x512.Idx) (n : Fin 4) (e : Fin 64) (l : Fin 512) (h1 : y 1 = n) (h2 : y 2 = e) (h3 : y 3 = l) :
    out0_3 (F := Ideal) i x0 x1 x2 y = kb x0 x1 x2 ⟨128 * n + l % 128, by omega⟩ ⟨64 * (l / 128) + e, by omega⟩ * Ideal.ofBits .f32 0x3FB8AA3B#32 := by
  rw [out3_tiles, h1, h2, h3]
  unfold blk4
  rw [pay102_apply]

theorem out11_apply (y : S1x4x64x512.Idx) (n : Fin 4) (e : Fin 64) (l : Fin 512) (h1 : y 1 = n) (h2 : y 2 = e) (h3 : y 3 = l) :
    out0_11 (F := Ideal) i x0 x1 x2 y = kb x0 x1 x2 ⟨128 * n + l % 128, by omega⟩ ⟨1280 + (64 * (l / 128) + e), by omega⟩ * Ideal.ofBits .f32 0x3FB8AA3B#32 := by
  rw [out11_tiles, h1, h2, h3]
  unfold blk4
  rw [pay106_apply]

theorem out8_apply (y : S1x4x64x1024.Idx) (n : Fin 4) (e : Fin 64) (l : Fin 1024) (h1 : y 1 = n) (h2 : y 2 = e) (h3 : y 3 = l) :
    out0_8 (F := Ideal) i x0 x1 x2 y = kb x0 x1 x2 ⟨128 * n + l % 128, by omega⟩ ⟨512 + (64 * (l / 128) + e), by omega⟩ := by
  rw [out8_tiles, h1, h2, h3]
  unfold blk8
  rw [pay104_apply]

/-! ## The keys, the values and the gates -/

/-- The row of ones above fifteen rows of zeros. -/
theorem pay4_apply (k : Fin 16) (r : Fin 512) :
    k0_pay4 (F := Ideal) (ix2 k r) = if (k : ℕ) = 0 then Ideal.ofBits .f32 0x3F800000#32 else Ideal.ofBits .f32 0x00000000#32 := by
  have hl : (iota .tc S16x512 32 [0] iota_S16x512_d0_w32 : IVec S16x512 32) (ix2 k r) = BitVec.ofNat 32 k := by pointwise []
  have e : k0_pay4 (F := Ideal) (ix2 k r) = Scalar.select (IntOp.cmpi .eq (BitVec.ofNat 32 k) 0#32) (Ideal.ofBits .f32 0x3F800000#32) (Ideal.ofBits .f32 0x00000000#32) := by
    rw [← hl]
    rfl
  have hw : ∀ k : Fin 16, IntOp.cmpi .eq (BitVec.ofNat 32 k) 0#32 = BitVec.ofBool (decide ((k : ℕ) = 0)) := by decide
  rw [e, hw, Cert.Sb.select_bool]

/-- A block of values over the rows of ones and zeros. -/
def over (v : FVec Ideal S64x512 .f32) : FVec Ideal S80x512 .bf16 :=
  truncf .bf16 (concatenate S80x512 0 [⟨S64x512, v⟩, ⟨S16x512, k0_pay4 (F := Ideal)⟩] concatenates_S64x512_S16x512_S80x512_d0) bitsLt_bf16_f32

theorem over_at (v : FVec Ideal S64x512 .f32) (o : FVec Ideal S16x512 .f32) (k : Fin 80) (r : Fin 512) :
    (concatenate S80x512 0 [⟨S64x512, v⟩, ⟨S16x512, o⟩] concatenates_S64x512_S16x512_S80x512_d0 : FVec Ideal S80x512 .f32) (ix2 k r)
      = if h : (k : ℕ) < 64 then v (ix2 ⟨k, h⟩ r) else o (ix2 ⟨k - 64, by omega⟩ r) := by
  by_cases h : (k : ℕ) < 64
  · rw [dif_pos h]
    pointwise []
    split_ifs <;> rfl
  · rw [dif_neg h]
    pointwise []
    split_ifs
    all_goals first
      | (exfalso; omega)
      | (congr 2 <;> (apply Fin.ext; first | omega | (simp; omega)))

theorem over_apply (v : FVec Ideal S64x512 .f32) (k : Fin 80) (r : Fin 512) : over v (ix2 k r) = aug (fun e => v (ix2 e r)) k := by
  refine (over_at v _ k r).trans ?_
  unfold aug
  split_ifs with h h'
  · rfl
  · rw [pay4_apply, if_pos (by simp only; omega)]
  · rw [pay4_apply, if_neg (by simp only; omega)]

/-- The block of 64 tokens a token lies in, within its block of 512, word by word. -/
def word (a : BitVec 32) : BitVec 32 :=
  let b := IntOp.andi a 511#32
  let q := IntOp.divsi .vector b 64#32
  Scalar.select
    (IntOp.andi
      (IntOp.cmpi .ne (IntOp.subi (BitVec.setWidth 32 (IntOp.cmpi .sgt b 0#32)) (BitVec.setWidth 32 (IntOp.cmpi .slt b 0#32)))
        (Scalar.subi (Scalar.extui (Scalar.cmpi .sgt 64#32 0#32)) (Scalar.extui (Scalar.cmpi .slt 64#32 0#32))))
      (IntOp.cmpi .ne (IntOp.remsi .vector b 64#32) 0#32))
    (IntOp.subi q 1#32) q

theorem word_eq : ∀ (p : Fin 32) (r : Fin 512), word (IntOp.addi (Scalar.muli (BitVec.ofNat 32 p) 512#32) (BitVec.ofNat 32 r)) = BitVec.ofNat 32 (r / 64) := by decide +kernel

theorem same_word : ∀ (g : Fin 64) (a : Fin 8), IntOp.cmpi .eq (BitVec.ofNat 32 g) (BitVec.ofNat 32 a) = BitVec.ofBool (decide ((g : ℕ) = (a : ℕ))) := by decide +kernel

/-- The marks of the blocks of 64 tokens. -/
def marks (w : BitVec 32) (a b : IVec S512x64 32) : FVec Ideal S512x64 .bf16 :=
  let u : IVec S512x64 32 := andi (addi (broadcast S512x64 w) a) (broadcast S512x64 511#32)
  let q : IVec S512x64 32 := divsi u (broadcast S512x64 64#32)
  let n : IVec S512x64 32 := subi (extui 32 (cmpi .sgt u (broadcast S512x64 0#32)) natLt_1_32) (extui 32 (cmpi .slt u (broadcast S512x64 0#32)) natLt_1_32)
  let d : BitVec 32 := Scalar.subi (Scalar.extui (Scalar.cmpi .sgt 64#32 0#32)) (Scalar.extui (Scalar.cmpi .slt 64#32 0#32))
  let e : IVec S512x64 32 := select (andi (cmpi .ne n (broadcast S512x64 d)) (cmpi .ne (remsi u (broadcast S512x64 64#32)) (broadcast S512x64 0#32))) (subi q (broadcast S512x64 1#32)) q
  truncf .bf16 (select (cmpi .eq b e) (broadcast S512x64 (Scalar.ofBits (F := Ideal) .f32 0x3F800000#32)) (broadcast S512x64 (Scalar.ofBits (F := Ideal) .f32 0x00000000#32))) bitsLt_bf16_f32

theorem marks_at (w : BitVec 32) (a b : IVec S512x64 32) (y : S512x64.Idx) :
    marks w a b y = Scalar.select (IntOp.cmpi .eq (b y) (word (IntOp.addi w (a y)))) (Ideal.ofBits .f32 0x3F800000#32) (Ideal.ofBits .f32 0x00000000#32) := rfl

theorem marks_apply (p : Fin 32) (r : Fin 512) (g : Fin 64) :
    marks (Scalar.muli (BitVec.ofNat 32 p) 512#32) (iota .tc S512x64 32 [0] iota_S512x64_d0_w32) (iota .tc S512x64 32 [1] iota_S512x64_d1_w32) (ix2 r g)
      = if (g : ℕ) = r / 64 then 1 else 0 := by
  have h0 : (iota .tc S512x64 32 [0] iota_S512x64_d0_w32 : IVec S512x64 32) (ix2 r g) = BitVec.ofNat 32 r := by pointwise []
  have h1 : (iota .tc S512x64 32 [1] iota_S512x64_d1_w32 : IVec S512x64 32) (ix2 r g) = BitVec.ofNat 32 g := by pointwise []
  have hs := same_word g ⟨r / 64, by omega⟩
  rw [marks_at, h0, h1, word_eq, bits_one, bits_zero]
  simp only at hs
  rw [hs, Cert.Sb.select_bool]

/-- The keys beside the marks. -/
def beside (a b : FVec Ideal S512x64 .bf16) : FVec Ideal S512x128 .bf16 :=
  concatenate S512x128 1 [⟨S512x64, a⟩, ⟨S512x64, b⟩] concatenates_S512x64_S512x64_S512x128_d1

theorem beside_apply (a b : FVec Ideal S512x64 .bf16) (r : Fin 512) (k : Fin 128) :
    beside a b (ix2 r k) = if h : (k : ℕ) < 64 then a (ix2 r ⟨k, h⟩) else b (ix2 r ⟨k - 64, by omega⟩) := by
  by_cases h : (k : ℕ) < 64
  · rw [dif_pos h]
    pointwise [beside]
    split_ifs <;> rfl
  · rw [dif_neg h]
    pointwise [beside]
    split_ifs
    all_goals first
      | (exfalso; omega)
      | (congr 2 <;> (apply Fin.ext; first | omega | (simp; omega)))

theorem pay29_apply (v : FVec Ideal S512x256 .bf16) (p : Fin 32) (r : Fin 512) (k : Fin 128) :
    k0_pay29 (F := Ideal) v (Scalar.muli (BitVec.ofNat 32 p) 512#32) (iota .tc S512x64 32 [0] iota_S512x64_d0_w32) (ix3 0 r k)
      = tag (fun e => v (ix2 r ⟨e, by omega⟩)) (r / 64) k := by
  have e : k0_pay29 (F := Ideal) v (Scalar.muli (BitVec.ofNat 32 p) 512#32) (iota .tc S512x64 32 [0] iota_S512x64_d0_w32)
      = shapeCast S1x512x128 (beside (extractStridedSlice S512x64 ![0, 0] v slices_S512x256_o0_0_S512x64)
        (marks (Scalar.muli (BitVec.ofNat 32 p) 512#32) (iota .tc S512x64 32 [0] iota_S512x64_d0_w32) (iota .tc S512x64 32 [1] iota_S512x64_d1_w32))) shapeCasts_S512x128_S1x512x128 := rfl
  have e' : ∀ Y : FVec Ideal S512x128 .bf16, shapeCast S1x512x128 Y shapeCasts_S512x128_S1x512x128 (ix3 0 r k) = Y (ix2 r k) := fun Y => by pointwise []
  rw [e, e', beside_apply]
  unfold tag
  split_ifs with h
  · pointwise []
  · rw [marks_apply, if_pos (by assumption)]
  · rw [marks_apply, if_neg (by assumption)]

theorem pay26_apply (h : FVec Ideal S512x1024 .bf16) (w : Vec Ideal S1024x256 .bf16) (k : Fin 80) (r : Fin 512) :
    k0_pay26 (F := Ideal) h k0_pay4 w (ix3 0 k r) = aug (fun e => k0_pay25 (F := Ideal) h w (ix2 r ⟨64 + e, by omega⟩)) k := by
  have e : k0_pay26 (F := Ideal) h k0_pay4 w = shapeCast S1x80x512 (over (extractStridedSlice S64x512 ![64, 0] (transpose S128x512 [1, 0]
      (extractStridedSlice S512x128 ![0, 0] (k0_pay25 (F := Ideal) h w) slices_S512x256_o0_0_S512x128) transposes_S512x128_p1_0_S128x512) slices_S128x512_o64_0_S64x512)) shapeCasts_S80x512_S1x80x512 := rfl
  have e' : ∀ Y : FVec Ideal S80x512 .bf16, shapeCast S1x80x512 Y shapeCasts_S80x512_S1x80x512 (ix3 0 k r) = Y (ix2 k r) := fun Y => by pointwise []
  rw [e, e', over_apply]
  congr 1
  funext f
  generalize k0_pay25 (F := Ideal) h w = Z
  pointwise []

theorem pay27_apply (h : FVec Ideal S512x1024 .bf16) (w : Vec Ideal S1024x256 .bf16) (k : Fin 80) (r : Fin 512) :
    k0_pay27 (F := Ideal) h k0_pay4 w (ix3 0 k r) = aug (fun e => k0_pay25 (F := Ideal) h w (ix2 r ⟨192 + e, by omega⟩)) k := by
  have e : k0_pay27 (F := Ideal) h k0_pay4 w = shapeCast S1x80x512 (over (extractStridedSlice S64x512 ![64, 0] (transpose S128x512 [1, 0]
      (extractStridedSlice S512x128 ![0, 128] (k0_pay25 (F := Ideal) h w) slices_S512x256_o0_128_S512x128) transposes_S512x128_p1_0_S128x512) slices_S128x512_o64_0_S64x512)) shapeCasts_S80x512_S1x80x512 := rfl
  have e' : ∀ Y : FVec Ideal S80x512 .bf16, shapeCast S1x80x512 Y shapeCasts_S80x512_S1x80x512 (ix3 0 k r) = Y (ix2 k r) := fun Y => by pointwise []
  rw [e, e', over_apply]
  congr 1
  funext f
  generalize k0_pay25 (F := Ideal) h w = Z
  pointwise []
  all_goals (congr 2; apply Fin.ext; simp only; omega)

theorem pay73_apply (v : FVec Ideal S128x512 .f32) (k : Fin 80) (r : Fin 512) :
    k0_pay73 (F := Ideal) k0_pay4 v (ix4 0 0 k r) = aug (fun e => v (ix2 ⟨e, by omega⟩ r)) k := by
  have e : k0_pay73 (F := Ideal) k0_pay4 v = shapeCast S1x1x80x512 (over (extractStridedSlice S64x512 ![0, 0] v slices_S128x512_o0_0_S64x512)) shapeCasts_S80x512_S1x1x80x512 := rfl
  have e' : ∀ Y : FVec Ideal S80x512 .bf16, shapeCast S1x1x80x512 Y shapeCasts_S80x512_S1x1x80x512 (ix4 0 0 k r) = Y (ix2 k r) := fun Y => by pointwise []
  rw [e, e', over_apply]
  congr 1
  funext f
  pointwise []

theorem pay74_apply (v : FVec Ideal S128x512 .f32) (k : Fin 80) (r : Fin 512) :
    k0_pay74 (F := Ideal) k0_pay4 v (ix4 0 0 k r) = aug (fun e => v (ix2 ⟨64 + e, by omega⟩ r)) k := by
  have e : k0_pay74 (F := Ideal) k0_pay4 v = shapeCast S1x1x80x512 (over (extractStridedSlice S64x512 ![64, 0] v slices_S128x512_o64_0_S64x512)) shapeCasts_S80x512_S1x1x80x512 := rfl
  have e' : ∀ Y : FVec Ideal S80x512 .bf16, shapeCast S1x1x80x512 Y shapeCasts_S80x512_S1x1x80x512 (ix4 0 0 k r) = Y (ix2 k r) := fun Y => by pointwise []
  rw [e, e', over_apply]
  congr 1
  funext f
  pointwise []

theorem pay30_apply (v : FVec Ideal S512x256 .bf16) (r : Fin 512) (k : Fin 64) : k0_pay30 (F := Ideal) v (ix3 0 r k) = v (ix2 r ⟨128 + k, by omega⟩) := by
  pointwise [k0_pay30]

theorem pay70_apply (h : FVec Ideal S512x1024 .bf16) (w : Vec Ideal S1024x128 .bf16) (r : Fin 512) (k : Fin 64) :
    k0_pay70 (F := Ideal) h w (ix4 0 0 r k) = k0_pay69 (F := Ideal) h w (ix2 r ⟨k, by omega⟩) := by
  unfold k0_pay70
  generalize k0_pay69 (F := Ideal) h w = Z
  pointwise []

theorem pay71_apply (h : FVec Ideal S512x1024 .bf16) (w : Vec Ideal S1024x128 .bf16) (r : Fin 512) (k : Fin 64) :
    k0_pay71 (F := Ideal) h w (ix4 0 0 r k) = k0_pay69 (F := Ideal) h w (ix2 r ⟨64 + k, by omega⟩) := by
  unfold k0_pay71
  generalize k0_pay69 (F := Ideal) h w = Z
  pointwise []

theorem pay95_apply (h : FVec Ideal S512x1024 .bf16) (w : Vec Ideal S1024x256 .bf16) (r : Fin 512) (k : Fin 256) :
    k0_pay95 (F := Ideal) h w (ix3 0 r k) = k0_pay25 (F := Ideal) h w (ix2 r k) := by
  have e : k0_pay95 (F := Ideal) h w = shapeCast S1x512x256 (truncf .bf16 (k0_pay25 (F := Ideal) h w) bitsLt_bf16_f32 : FVec Ideal S512x256 .bf16) shapeCasts_S512x256_S1x512x256 := rfl
  rw [e]
  generalize k0_pay25 (F := Ideal) h w = Z
  pointwise []

theorem pay96_apply (h : FVec Ideal S512x1024 .bf16) (w : Vec Ideal S1024x256 .bf16) (k : Fin 256) (r : Fin 512) :
    k0_pay96 (F := Ideal) h w (ix3 0 k r) = k0_pay25 (F := Ideal) h w (ix2 r k) := by
  have e : k0_pay96 (F := Ideal) h w = shapeCast S1x256x512 (truncf .bf16 (transpose S256x512 [1, 0] (k0_pay25 (F := Ideal) h w) transposes_S512x256_p1_0_S256x512) bitsLt_bf16_f32 : FVec Ideal S256x512 .bf16) shapeCasts_S256x512_S1x256x512 := rfl
  rw [e]
  generalize k0_pay25 (F := Ideal) h w = Z
  pointwise []

theorem pay98_apply (h : FVec Ideal S512x1024 .bf16) (w : Vec Ideal S1024x256 .bf16) (r : Fin 512) (k : Fin 64) :
    k0_pay98 (F := Ideal) h w (ix4 0 0 r k) = k0_pay25 (F := Ideal) h w (ix2 r ⟨k, by omega⟩) := by
  unfold k0_pay98
  rw [pay97_eq]
  generalize k0_pay25 (F := Ideal) h w = Z
  pointwise []

theorem pay99_apply (h : FVec Ideal S512x1024 .bf16) (w : Vec Ideal S1024x256 .bf16) (r : Fin 512) (k : Fin 64) :
    k0_pay1 (F := Ideal) (k0_pay99 h w) (ix4 0 0 r k) = k0_pay25 (F := Ideal) h w (ix2 r ⟨64 + k, by omega⟩) := by
  unfold k0_pay1 k0_pay99
  rw [pay97_eq]
  generalize k0_pay25 (F := Ideal) h w = Z
  pointwise []

theorem pay2_apply (v : FVec Ideal S512x256 .f32) (r : Fin 512) (k : Fin 128) : k0_pay2 (F := Ideal) v (ix3 0 r k) = v (ix2 r ⟨128 + k, by omega⟩) := by
  pointwise [k0_pay2]

end Cert.Proj

end
-- ==== Proof.ProjOut.lean ====
module

public import proofs.«01_k».proof.Proof.ProjKernel

@[expose] public section

set_option maxRecDepth 16384

noncomputable section

namespace Cert.Proj

open Cert.Kernel5Ideal Cert.Kernel5Ideal.Gen Idealize.ShloMosaic Idealize.ShloMosaic.TcCoe Idealize.SL.Sem

/-! ## Each result's block at an index -/

variable (i : grid0.Coords) (x0 : Vec Ideal S1x512x1024 .f32) (x1 : Vec Ideal S1x1024 .f32) (x2 : Vec Ideal S1024x2304 .bf16)

theorem prod19_apply (r : Fin 512) (k : Fin 256) : k0_pay25 (F := Ideal) (k0_pay100 i x0 x1 x2) (View.ld x2 r0_19) (ix2 r k) = kb x0 x1 x2 r ⟨256 + k, by omega⟩ := by
  rw [pay25_apply]
  simp only [pay100_apply]
  exact congrArg (fun w => lin (hb x0 x1 r) w) (funext fun j => cols19 x2 j k)

theorem prod56_apply (r : Fin 512) (k : Fin 128) : k0_pay69 (F := Ideal) (k0_pay100 i x0 x1 x2) (View.ld x2 r0_56) (ix2 r k) = kb x0 x1 x2 r ⟨1024 + k, by omega⟩ := by
  rw [pay69_apply]
  simp only [pay100_apply]
  exact congrArg (fun w => lin (hb x0 x1 r) w) (funext fun j => cols56 x2 j k)

theorem prod63_apply (r : Fin 512) (k : Fin 256) : k0_pay25 (F := Ideal) (k0_pay100 i x0 x1 x2) (View.ld x2 r0_63) (ix2 r k) = kb x0 x1 x2 r ⟨1536 + k, by omega⟩ := by
  rw [pay25_apply]
  simp only [pay100_apply]
  exact congrArg (fun w => lin (hb x0 x1 r) w) (funext fun j => cols63 x2 j k)

theorem prod65_apply (r : Fin 512) (k : Fin 256) : k0_pay25 (F := Ideal) (k0_pay100 i x0 x1 x2) (View.ld x2 r0_65) (ix2 r k) = kb x0 x1 x2 r ⟨1792 + k, by omega⟩ := by
  rw [pay25_apply]
  simp only [pay100_apply]
  exact congrArg (fun w => lin (hb x0 x1 r) w) (funext fun j => cols65 x2 j k)

theorem prod67_apply (r : Fin 512) (k : Fin 256) : k0_pay25 (F := Ideal) (k0_pay100 i x0 x1 x2) (View.ld x2 r0_67) (ix2 r k) = kb x0 x1 x2 r ⟨2048 + k, by omega⟩ := by
  rw [pay25_apply]
  simp only [pay100_apply]
  exact congrArg (fun w => lin (hb x0 x1 r) w) (funext fun j => cols67 x2 j k)

theorem out4_apply (y : S1x512x128.Idx) : out0_4 (F := Ideal) i x0 x1 x2 y = tag (fun e => kb x0 x1 x2 (y 1) ⟨256 + e, by omega⟩) ((y 1 : Fin 512) / 64) (y 2) := by
  unfold out0_4
  canon_tiles z h
  case piece0 =>
    have hz : z = ix3 0 (y 1) (y 2) := by
      funext c
      fin_cases c
      · exact Subsingleton.elim (α := Fin 1) _ _
      · exact Fin.ext (show (z 1 : ℕ) = ((y 1) : ℕ) by omega)
      · exact Fin.ext (show (z 2 : ℕ) = ((y 2) : ℕ) by omega)
    rw [hz]
    refine (pay29_apply _ (i 1) (y 1) (y 2)).trans ?_
    congr 1
    funext e
    exact pay103_apply i x0 x1 x2 (y 1) ⟨e, by omega⟩

theorem out5_apply (y : S1x80x512.Idx) : out0_5 (F := Ideal) i x0 x1 x2 y = aug (fun e => kb x0 x1 x2 (y 2) ⟨320 + e, by omega⟩) (y 1) := by
  unfold out0_5
  canon_tiles z h
  case piece0 =>
    have hz : z = ix3 0 (y 1) (y 2) := by
      funext c
      fin_cases c
      · exact Subsingleton.elim (α := Fin 1) _ _
      · exact Fin.ext (show (z 1 : ℕ) = ((y 1) : ℕ) by omega)
      · exact Fin.ext (show (z 2 : ℕ) = ((y 2) : ℕ) by omega)
    rw [hz]
    refine (pay26_apply _ _ (y 1) (y 2)).trans ?_
    congr 1
    funext e
    refine (prod19_apply i x0 x1 x2 (y 2) ⟨64 + e, by omega⟩).trans ?_
    congr 1
    apply Fin.ext
    simp only
    omega

theorem out7_apply (y : S1x80x512.Idx) : out0_7 (F := Ideal) i x0 x1 x2 y = aug (fun e => kb x0 x1 x2 (y 2) ⟨448 + e, by omega⟩) (y 1) := by
  unfold out0_7
  canon_tiles z h
  case piece0 =>
    have hz : z = ix3 0 (y 1) (y 2) := by
      funext c
      fin_cases c
      · exact Subsingleton.elim (α := Fin 1) _ _
      · exact Fin.ext (show (z 1 : ℕ) = ((y 1) : ℕ) by omega)
      · exact Fin.ext (show (z 2 : ℕ) = ((y 2) : ℕ) by omega)
    rw [hz]
    refine (pay27_apply _ _ (y 1) (y 2)).trans ?_
    congr 1
    funext e
    refine (prod19_apply i x0 x1 x2 (y 2) ⟨192 + e, by omega⟩).trans ?_
    congr 1
    apply Fin.ext
    simp only
    omega

theorem out6_apply (y : S1x512x64.Idx) : out0_6 (F := Ideal) i x0 x1 x2 y = kb x0 x1 x2 (y 1) ⟨384 + (y 2 : Fin 64), by have b2 : (y 2 : ℕ) < 64 := (y 2).isLt; omega⟩ := by
  unfold out0_6
  canon_tiles z h
  case piece0 =>
    have hz : z = ix3 0 (y 1) (y 2) := by
      funext c
      fin_cases c
      · exact Subsingleton.elim (α := Fin 1) _ _
      · exact Fin.ext (show (z 1 : ℕ) = ((y 1) : ℕ) by omega)
      · exact Fin.ext (show (z 2 : ℕ) = ((y 2) : ℕ) by omega)
    rw [hz]
    refine (pay30_apply _ (y 1) (y 2)).trans ((pay103_apply i x0 x1 x2 (y 1) ⟨128 + (y 2 : Fin 64), by have b2 : (y 2 : ℕ) < 64 := (y 2).isLt; omega⟩).trans ?_)
    congr 1
    apply Fin.ext
    simp only
    omega

theorem out12_apply (y : S1x512x256.Idx) : out0_12 (F := Ideal) i x0 x1 x2 y = kb x0 x1 x2 (y 1) ⟨1536 + (y 2 : Fin 256), by have b2 : (y 2 : ℕ) < 256 := (y 2).isLt; omega⟩ := by
  unfold out0_12
  canon_tiles z h
  case piece0 =>
    have hz : z = ix3 0 (y 1) (y 2) := by
      funext c
      fin_cases c
      · exact Subsingleton.elim (α := Fin 1) _ _
      · exact Fin.ext (show (z 1 : ℕ) = ((y 1) : ℕ) by omega)
      · exact Fin.ext (show (z 2 : ℕ) = ((y 2) : ℕ) by omega)
    rw [hz]
    exact (pay95_apply _ _ (y 1) (y 2)).trans (prod63_apply i x0 x1 x2 (y 1) (y 2))

theorem out13_apply (y : S1x256x512.Idx) : out0_13 (F := Ideal) i x0 x1 x2 y = kb x0 x1 x2 (y 2) ⟨1792 + (y 1 : Fin 256), by have b1 : (y 1 : ℕ) < 256 := (y 1).isLt; omega⟩ := by
  unfold out0_13
  canon_tiles z h
  case piece0 =>
    have hz : z = ix3 0 (y 1) (y 2) := by
      funext c
      fin_cases c
      · exact Subsingleton.elim (α := Fin 1) _ _
      · exact Fin.ext (show (z 1 : ℕ) = ((y 1) : ℕ) by omega)
      · exact Fin.ext (show (z 2 : ℕ) = ((y 2) : ℕ) by omega)
    rw [hz]
    exact (pay96_apply _ _ (y 1) (y 2)).trans (prod65_apply i x0 x1 x2 (y 2) (y 1))

theorem out15_apply (y : S1x512x128.Idx) : out0_15 (F := Ideal) i x0 x1 x2 y = kb x0 x1 x2 (y 1) ⟨2176 + (y 2 : Fin 128), by have b2 : (y 2 : ℕ) < 128 := (y 2).isLt; omega⟩ := by
  unfold out0_15
  canon_tiles z h
  case piece0 =>
    have hz : z = ix3 0 (y 1) (y 2) := by
      funext c
      fin_cases c
      · exact Subsingleton.elim (α := Fin 1) _ _
      · exact Fin.ext (show (z 1 : ℕ) = ((y 1) : ℕ) by omega)
      · exact Fin.ext (show (z 2 : ℕ) = ((y 2) : ℕ) by omega)
    rw [hz]
    refine (pay2_apply _ (y 1) (y 2)).trans ((prod67_apply i x0 x1 x2 (y 1) ⟨128 + (y 2 : Fin 128), by have b2 : (y 2 : ℕ) < 128 := (y 2).isLt; omega⟩).trans ?_)
    congr 1
    apply Fin.ext
    simp only
    omega

theorem out9_apply (y : S1x2x512x64.Idx) : out0_9 (F := Ideal) i x0 x1 x2 y = kb x0 x1 x2 (y 2) ⟨1024 + (64 * (y 1 : Fin 2) + (y 3 : Fin 64)), by have b1 : (y 1 : ℕ) < 2 := (y 1).isLt; have b3 : (y 3 : ℕ) < 64 := (y 3).isLt; omega⟩ := by
  unfold out0_9
  canon_tiles z h
  case piece0 =>
    have bz : (z 1 : ℕ) < 1 := (z 1).isLt
    have hy : (y 1 : ℕ) = 1 := by omega
    have hz : z = ix4 0 0 (y 2) (y 3) := by
      funext c
      fin_cases c
      · exact Subsingleton.elim (α := Fin 1) _ _
      · exact Subsingleton.elim (α := Fin 1) _ _
      · exact Fin.ext (show (z 2 : ℕ) = (y 2 : ℕ) by omega)
      · exact Fin.ext (show (z 3 : ℕ) = (y 3 : ℕ) by omega)
    rw [hz]
    refine (pay71_apply _ _ (y 2) (y 3)).trans ((prod56_apply i x0 x1 x2 (y 2) ⟨64 + (y 3 : Fin 64), by have b3 : (y 3 : ℕ) < 64 := (y 3).isLt; omega⟩).trans ?_)
    congr 1
    apply Fin.ext
    simp only
    omega
  case piece1 =>
    have bz : (z 1 : ℕ) < 1 := (z 1).isLt
    have hy : (y 1 : ℕ) = 0 := by omega
    have hz : z = ix4 0 0 (y 2) (y 3) := by
      funext c
      fin_cases c
      · exact Subsingleton.elim (α := Fin 1) _ _
      · exact Subsingleton.elim (α := Fin 1) _ _
      · exact Fin.ext (show (z 2 : ℕ) = (y 2 : ℕ) by omega)
      · exact Fin.ext (show (z 3 : ℕ) = (y 3 : ℕ) by omega)
    rw [hz]
    refine (pay70_apply _ _ (y 2) (y 3)).trans ((prod56_apply i x0 x1 x2 (y 2) ⟨(y 3 : Fin 64), by have b3 : (y 3 : ℕ) < 64 := (y 3).isLt; omega⟩).trans ?_)
    congr 1
    apply Fin.ext
    simp only
    omega

theorem out14_apply (y : S2x1x512x64.Idx) : out0_14 (F := Ideal) i x0 x1 x2 y = kb x0 x1 x2 (y 2) ⟨2048 + (64 * (y 0 : Fin 2) + (y 3 : Fin 64)), by have b0 : (y 0 : ℕ) < 2 := (y 0).isLt; have b3 : (y 3 : ℕ) < 64 := (y 3).isLt; omega⟩ := by
  unfold out0_14
  canon_tiles z h
  case piece0 =>
    have bz : (z 0 : ℕ) < 1 := (z 0).isLt
    have hy : (y 0 : ℕ) = 1 := by omega
    have hz : z = ix4 0 0 (y 2) (y 3) := by
      funext c
      fin_cases c
      · exact Subsingleton.elim (α := Fin 1) _ _
      · exact Subsingleton.elim (α := Fin 1) _ _
      · exact Fin.ext (show (z 2 : ℕ) = (y 2 : ℕ) by omega)
      · exact Fin.ext (show (z 3 : ℕ) = (y 3 : ℕ) by omega)
    rw [hz]
    refine (pay99_apply _ _ (y 2) (y 3)).trans ((prod67_apply i x0 x1 x2 (y 2) ⟨64 + (y 3 : Fin 64), by have b3 : (y 3 : ℕ) < 64 := (y 3).isLt; omega⟩).trans ?_)
    congr 1
    apply Fin.ext
    simp only
    omega
  case piece1 =>
    have bz : (z 0 : ℕ) < 1 := (z 0).isLt
    have hy : (y 0 : ℕ) = 0 := by omega
    have hz : z = ix4 0 0 (y 2) (y 3) := by
      funext c
      fin_cases c
      · exact Subsingleton.elim (α := Fin 1) _ _
      · exact Subsingleton.elim (α := Fin 1) _ _
      · exact Fin.ext (show (z 2 : ℕ) = (y 2 : ℕ) by omega)
      · exact Fin.ext (show (z 3 : ℕ) = (y 3 : ℕ) by omega)
    rw [hz]
    refine (pay98_apply _ _ (y 2) (y 3)).trans ((prod67_apply i x0 x1 x2 (y 2) ⟨(y 3 : Fin 64), by have b3 : (y 3 : ℕ) < 64 := (y 3).isLt; omega⟩).trans ?_)
    congr 1
    apply Fin.ext
    simp only
    omega

theorem out10_apply (y : S1x2x80x512.Idx) : out0_10 (F := Ideal) i x0 x1 x2 y = aug (fun e => kb x0 x1 x2 (y 3) ⟨1152 + (64 * (y 1 : Fin 2) + e), by have b1 : (y 1 : ℕ) < 2 := (y 1).isLt; omega⟩) (y 2) := by
  unfold out0_10
  canon_tiles z h
  case piece0 =>
    have bz : (z 1 : ℕ) < 1 := (z 1).isLt
    have hy : (y 1 : ℕ) = 1 := by omega
    have hz : z = ix4 0 0 (y 2) (y 3) := by
      funext c
      fin_cases c
      · exact Subsingleton.elim (α := Fin 1) _ _
      · exact Subsingleton.elim (α := Fin 1) _ _
      · exact Fin.ext (show (z 2 : ℕ) = (y 2 : ℕ) by omega)
      · exact Fin.ext (show (z 3 : ℕ) = (y 3 : ℕ) by omega)
    rw [hz]
    refine (pay74_apply _ (y 2) (y 3)).trans ?_
    congr 1
    funext e
    refine (pay105_apply i x0 x1 x2 ⟨64 + e, by omega⟩ (y 3)).trans ?_
    congr 1
    apply Fin.ext
    simp only
    omega
  case piece1 =>
    have bz : (z 1 : ℕ) < 1 := (z 1).isLt
    have hy : (y 1 : ℕ) = 0 := by omega
    have hz : z = ix4 0 0 (y 2) (y 3) := by
      funext c
      fin_cases c
      · exact Subsingleton.elim (α := Fin 1) _ _
      · exact Subsingleton.elim (α := Fin 1) _ _
      · exact Fin.ext (show (z 2 : ℕ) = (y 2 : ℕ) by omega)
      · exact Fin.ext (show (z 3 : ℕ) = (y 3 : ℕ) by omega)
    rw [hz]
    refine (pay73_apply _ (y 2) (y 3)).trans ?_
    congr 1
    funext e
    refine (pay105_apply i x0 x1 x2 ⟨e, by omega⟩ (y 3)).trans ?_
    congr 1
    apply Fin.ext
    simp only
    omega

end Cert.Proj

end
-- ==== Proof.ProjRef.lean ====
module

public import proofs.«01_k».proof.Proof.Gen.Reference5Ideal.Run
public import proofs.«01_k».proof.Proof.ProjSpec

@[expose] public section

set_option maxRecDepth 16384

noncomputable section

namespace Cert.ProjRef

open Cert.Reference5Ideal Cert.Reference5Ideal.Gen Idealize.ShloMosaic Idealize.ShloMosaic.TcCoe Idealize.SL.Sem
open Cert.Out (nrm)
open Cert.Proj (lin aug tag)

/-! ## The norm and the projection -/

def rH (x : FVec Ideal S2x16384x1024 .f32) (g : FVec Ideal S1024 .f32) : FVec Ideal S2x16384x1024 .f32 :=
  mulf (mulf x (broadcastInDim S2x16384x1024 ![0, 1, 2] bcast_S2x16384x1_S2x16384x1024_0_1_2 (Host.rsqrt (addf (Host.divf
    (broadcastInDim S2x16384x1 ![0, 1] bcast_S2x16384_S2x16384x1_0_1 (Host.reduceAdd (mulf x x) (constant S_ .f32 0x00000000#32) reducesTo_S2x16384x1024_S2x16384_d2 h_S_))
    (broadcastInDim S2x16384x1 ![] bcast_S_S2x16384x1 (constant S_ .f32 0x44800000#32))) (broadcastInDim S2x16384x1 ![] bcast_S_S2x16384x1 (constant S_ .f32 0x358637BD#32))))))
    (broadcastInDim S2x16384x1024 ![0, 1, 2] bcast_S1x1x1024_S2x16384x1024_0_1_2 (broadcastInDim S1x1x1024 ![2] bcast_S1024_S1x1x1024_2 g))

def rP (x : FVec Ideal S2x16384x1024 .f32) (g : FVec Ideal S1024 .f32) (w : FVec Ideal S1024x2188 .f32) : FVec Ideal S2x16384x2188 .f32 :=
  Host.dotGeneral dot_S2x16384x1024_S1024x2188_S2x16384x2188_2_0_01_1_n_n none (rH x g) w

theorem rH_apply (x : FVec Ideal S2x16384x1024 .f32) (g : FVec Ideal S1024 .f32) (b : Fin 2) (s : Fin 16384) (k : Fin 1024) :
    rH x g (ix3 b s k) = nrm 0x44800000#32 (fun j => x (ix3 b s j)) (fun j => g (ix1 j)) k := by
  unfold nrm
  pointwise [rH]

theorem rP_apply (x : FVec Ideal S2x16384x1024 .f32) (g : FVec Ideal S1024 .f32) (w : FVec Ideal S1024x2188 .f32) (b : Fin 2) (s : Fin 16384) (n : Fin 2188) :
    rP x g w (ix3 b s n) = lin (nrm 0x44800000#32 (fun j => x (ix3 b s j)) (fun j => g (ix1 j))) (fun j => w (ix2 j n)) := by
  have e : rP x g w (ix3 b s n) = ∑ j, rH x g (ix3 b s j) * w (ix2 j n) := by
    unfold rP
    generalize rH x g = Z
    pointwise []
  rw [e]
  simp only [rH_apply]
  rfl

/-! ## The results, laid out -/

variable (P : FVec Ideal S2x16384x2188 .f32)

def lay4 (q : FVec Ideal S2x16384x256 .f32) : FVec Ideal S2x128x64x512 .f32 :=
  shapeCast _ (transpose S2x128x64x4x128 [0, 1, 4, 3, 2] (shapeCast _ q shapeCasts_S2x16384x256_S2x128x128x4x64) transposes_S2x128x128x4x64_S2x128x64x4x128_0_1_4_3_2) shapeCasts_S2x128x64x4x128_S2x128x64x512

def lay8 (q : FVec Ideal S2x16384x512 .f32) : FVec Ideal S2x128x64x1024 .f32 :=
  shapeCast _ (transpose S2x128x64x8x128 [0, 1, 4, 3, 2] (shapeCast _ q shapeCasts_S2x16384x512_S2x128x128x8x64) transposes_S2x128x128x8x64_S2x128x64x8x128_0_1_4_3_2) shapeCasts_S2x128x64x8x128_S2x128x64x1024

/-- Queries over the root, in base two. -/
def based (q : FVec Ideal S2x16384x256 .f32) : FVec Ideal S2x16384x256 .f32 :=
  mulf (Host.divf q (broadcastInDim S2x16384x256 ![] bcast_S_S2x16384x256 (constant S_ .f32 0x41000000#32))) (broadcastInDim S2x16384x256 ![] bcast_S_S2x16384x256 (constant S_ .f32 0x3FB8AA3B#32))

def r3 : FVec Ideal S2x128x64x512 .bf16 := truncf .bf16 (lay4 (based (extractStridedSlice S2x16384x256 ![0, 0, 0] P slices_S2x16384x2188_S2x16384x256_0_0_0))) bitsLt_bf16_f32

def r11 : FVec Ideal S2x128x64x512 .bf16 := truncf .bf16 (lay4 (based (extractStridedSlice S2x16384x256 ![0, 0, 1420] P slices_S2x16384x2188_S2x16384x256_0_0_1420))) bitsLt_bf16_f32

def r8 : FVec Ideal S2x128x64x1024 .bf16 :=
  truncf .bf16 (lay8 (Host.divf (extractStridedSlice S2x16384x512 ![0, 0, 652] P slices_S2x16384x2188_S2x16384x512_0_0_652) (broadcastInDim S2x16384x512 ![] bcast_S_S2x16384x512 (constant S_ .f32 0x41000000#32)))) bitsLt_bf16_f32

/-- The mark of each token's block of 64. -/
def mark : FVec Ideal S2x16384x64 .f32 :=
  shapeCast _ (broadcastInDim S2x32x8x64x64 ![0, 1, 2, 3, 4] bcast_S1x1x8x1x64_S2x32x8x64x64_0_1_2_3_4 (broadcastInDim S1x1x8x1x64 ![2, 4] bcast_S8x64_S1x1x8x1x64_2_4
    (uitofp .f32 (cmpi .eq (addi (iotaInDim S8x64 32 0) (broadcastInDim S8x64 ![] bcast_S_S8x64 (constantI S_ 32 0#32))) (iotaInDim S8x64 32 1))))) shapeCasts_S2x32x8x64x64_S2x16384x64

def join (a b : FVec Ideal S2x16384x64 .f32) : FVec Ideal S2x16384x128 .f32 :=
  concatenate S2x16384x128 2 [⟨S2x16384x64, a⟩, ⟨S2x16384x64, b⟩] concatenates_S2x16384x64_S2x16384x64_S2x16384x128_d2

def r4 : FVec Ideal S2x16384x128 .bf16 := truncf .bf16 (join (extractStridedSlice S2x16384x64 ![0, 0, 384] P slices_S2x16384x2188_S2x16384x64_0_0_384) mark) bitsLt_bf16_f32

def onesOf (v : FVec Ideal S2x64x16384 .f32) : FVec Ideal S2x80x16384 .f32 :=
  concatenate S2x80x16384 1 [⟨S2x64x16384, v⟩, ⟨S2x1x16384, broadcastInDim S2x1x16384 ![] bcast_S_S2x1x16384 (constant S_ .f32 0x3F800000#32)⟩,
    ⟨S2x15x16384, broadcastInDim S2x15x16384 ![] bcast_S_S2x15x16384 (constant S_ .f32 0x00000000#32)⟩] concatenates_S2x64x16384_S2x1x16384_S2x15x16384_S2x80x16384_d1

def onesOf2 (v : FVec Ideal S2x2x64x16384 .f32) : FVec Ideal S2x2x80x16384 .f32 :=
  concatenate S2x2x80x16384 2 [⟨S2x2x64x16384, v⟩, ⟨S2x2x1x16384, broadcastInDim S2x2x1x16384 ![] bcast_S_S2x2x1x16384 (constant S_ .f32 0x3F800000#32)⟩,
    ⟨S2x2x15x16384, broadcastInDim S2x2x15x16384 ![] bcast_S_S2x2x15x16384 (constant S_ .f32 0x00000000#32)⟩] concatenates_S2x2x64x16384_S2x2x1x16384_S2x2x15x16384_S2x2x80x16384_d2

def r5 : FVec Ideal S2x80x16384 .bf16 :=
  truncf .bf16 (onesOf (transpose S2x64x16384 [0, 2, 1] (extractStridedSlice S2x16384x64 ![0, 0, 448] P slices_S2x16384x2188_S2x16384x64_0_0_448) transposes_S2x16384x64_S2x64x16384_0_2_1)) bitsLt_bf16_f32

def r6 : FVec Ideal S2x16384x64 .bf16 := truncf .bf16 (extractStridedSlice S2x16384x64 ![0, 0, 512] P slices_S2x16384x2188_S2x16384x64_0_0_512) bitsLt_bf16_f32

def r7 : FVec Ideal S2x80x16384 .bf16 :=
  truncf .bf16 (onesOf (transpose S2x64x16384 [0, 2, 1] (extractStridedSlice S2x16384x64 ![0, 0, 576] P slices_S2x16384x2188_S2x16384x64_0_0_576) transposes_S2x16384x64_S2x64x16384_0_2_1)) bitsLt_bf16_f32

def heads2 (v : FVec Ideal S2x16384x128 .f32) : FVec Ideal S2x2x16384x64 .f32 :=
  transpose S2x2x16384x64 [0, 2, 1, 3] (shapeCast _ v shapeCasts_S2x16384x128_S2x16384x2x64) transposes_S2x16384x2x64_S2x2x16384x64_0_2_1_3

def r9 : FVec Ideal S2x2x16384x64 .bf16 := truncf .bf16 (heads2 (extractStridedSlice S2x16384x128 ![0, 0, 1164] P slices_S2x16384x2188_S2x16384x128_0_0_1164)) bitsLt_bf16_f32

def r10 : FVec Ideal S2x2x80x16384 .bf16 :=
  truncf .bf16 (onesOf2 (transpose S2x2x64x16384 [0, 1, 3, 2] (heads2 (extractStridedSlice S2x16384x128 ![0, 0, 1292] P slices_S2x16384x2188_S2x16384x128_0_0_1292)) transposes_S2x2x16384x64_S2x2x64x16384_0_1_3_2)) bitsLt_bf16_f32

def r12 : FVec Ideal S2x16384x256 .bf16 := truncf .bf16 (extractStridedSlice S2x16384x256 ![0, 0, 1676] P slices_S2x16384x2188_S2x16384x256_0_0_1676) bitsLt_bf16_f32

def r13 : FVec Ideal S2x256x16384 .bf16 :=
  truncf .bf16 (transpose S2x256x16384 [0, 2, 1] (extractStridedSlice S2x16384x256 ![0, 0, 1932] P slices_S2x16384x2188_S2x16384x256_0_0_1932) transposes_S2x16384x256_S2x256x16384_0_2_1) bitsLt_bf16_f32

def pair (a b : FVec Ideal S2x16384x64 .f32) : FVec Ideal S2x2x16384x64 .f32 :=
  concatenate S2x2x16384x64 0 [⟨S1x2x16384x64, broadcastInDim S1x2x16384x64 ![1, 2, 3] bcast_S2x16384x64_S1x2x16384x64_1_2_3 a⟩,
    ⟨S1x2x16384x64, broadcastInDim S1x2x16384x64 ![1, 2, 3] bcast_S2x16384x64_S1x2x16384x64_1_2_3 b⟩] concatenates_S1x2x16384x64_S1x2x16384x64_S2x2x16384x64_d0

def r14 : FVec Ideal S2x2x16384x64 .f32 :=
  pair (extractStridedSlice S2x16384x64 ![0, 0, 256] P slices_S2x16384x2188_S2x16384x64_0_0_256) (extractStridedSlice S2x16384x64 ![0, 0, 320] P slices_S2x16384x2188_S2x16384x64_0_0_320)

def r15 : FVec Ideal S2x16384x128 .f32 :=
  pad S2x16384x128 ![0, 0, 0] ![0, 0, 116] ![0, 0, 0] (extractStridedSlice S2x16384x12 ![0, 0, 640] P slices_S2x16384x2188_S2x16384x12_0_0_640) (sitofp .f32 (constantI S_ 32 0#32)) pads_S2x16384x12_S2x16384x128_000_000_01160 h_S_

/-! ## The results at an index -/

theorem lay4_apply (q : FVec Ideal S2x16384x256 .f32) (b : Fin 2) (n : Fin 128) (e : Fin 64) (a : Fin 4) (x : Fin 128) :
    lay4 q (ix4 b n e ⟨128 * a + x, by omega⟩) = q (ix3 b ⟨128 * n + x, by omega⟩ ⟨64 * a + e, by omega⟩) := by
  have e1 : ∀ Y : FVec Ideal S2x128x64x4x128 .f32, shapeCast S2x128x64x512 Y shapeCasts_S2x128x64x4x128_S2x128x64x512 (ix4 b n e ⟨128 * a + x, by omega⟩) = Y (ix5 b n e a x) := fun Y => by
    pointwise []
  have e2 : ∀ Y : FVec Ideal S2x128x128x4x64 .f32, transpose S2x128x64x4x128 [0, 1, 4, 3, 2] Y transposes_S2x128x128x4x64_S2x128x64x4x128_0_1_4_3_2 (ix5 b n e a x) = Y (ix5 b n x a e) := fun Y => by
    pointwise []
  unfold lay4
  rw [e1, e2]
  pointwise []
  simp only [Nat.mul_comm]

theorem lay8_apply (q : FVec Ideal S2x16384x512 .f32) (b : Fin 2) (n : Fin 128) (e : Fin 64) (a : Fin 8) (x : Fin 128) :
    lay8 q (ix4 b n e ⟨128 * a + x, by omega⟩) = q (ix3 b ⟨128 * n + x, by omega⟩ ⟨64 * a + e, by omega⟩) := by
  have e1 : ∀ Y : FVec Ideal S2x128x64x8x128 .f32, shapeCast S2x128x64x1024 Y shapeCasts_S2x128x64x8x128_S2x128x64x1024 (ix4 b n e ⟨128 * a + x, by omega⟩) = Y (ix5 b n e a x) := fun Y => by
    pointwise []
  have e2 : ∀ Y : FVec Ideal S2x128x128x8x64 .f32, transpose S2x128x64x8x128 [0, 1, 4, 3, 2] Y transposes_S2x128x128x8x64_S2x128x64x8x128_0_1_4_3_2 (ix5 b n e a x) = Y (ix5 b n x a e) := fun Y => by
    pointwise []
  unfold lay8
  rw [e1, e2]
  pointwise []
  simp only [Nat.mul_comm]

theorem based_apply (q : FVec Ideal S2x16384x256 .f32) (y : S2x16384x256.Idx) :
    based q y = Ideal.div (q y) (Ideal.ofBits .f32 0x41000000#32) * Ideal.ofBits .f32 0x3FB8AA3B#32 := rfl

theorem r3_apply (b : Fin 2) (n : Fin 128) (e : Fin 64) (a : Fin 4) (x : Fin 128) :
    r3 P (ix4 b n e ⟨128 * a + x, by omega⟩) = Ideal.div (P (ix3 b ⟨128 * n + x, by omega⟩ ⟨64 * a + e, by omega⟩)) (Ideal.ofBits .f32 0x41000000#32) * Ideal.ofBits .f32 0x3FB8AA3B#32 := by
  refine (lay4_apply (based (extractStridedSlice S2x16384x256 ![0, 0, 0] P slices_S2x16384x2188_S2x16384x256_0_0_0)) b n e a x).trans ?_
  rw [based_apply]
  pointwise []

theorem r11_apply (b : Fin 2) (n : Fin 128) (e : Fin 64) (a : Fin 4) (x : Fin 128) :
    r11 P (ix4 b n e ⟨128 * a + x, by omega⟩) = Ideal.div (P (ix3 b ⟨128 * n + x, by omega⟩ ⟨1420 + (64 * a + e), by omega⟩)) (Ideal.ofBits .f32 0x41000000#32) * Ideal.ofBits .f32 0x3FB8AA3B#32 := by
  refine (lay4_apply (based (extractStridedSlice S2x16384x256 ![0, 0, 1420] P slices_S2x16384x2188_S2x16384x256_0_0_1420)) b n e a x).trans ?_
  rw [based_apply]
  pointwise []

theorem r8_apply (b : Fin 2) (n : Fin 128) (e : Fin 64) (a : Fin 8) (x : Fin 128) :
    r8 P (ix4 b n e ⟨128 * a + x, by omega⟩) = Ideal.div (P (ix3 b ⟨128 * n + x, by omega⟩ ⟨652 + (64 * a + e), by omega⟩)) (Ideal.ofBits .f32 0x41000000#32) := by
  refine (lay8_apply (Host.divf (extractStridedSlice S2x16384x512 ![0, 0, 652] P slices_S2x16384x2188_S2x16384x512_0_0_652) (broadcastInDim S2x16384x512 ![] bcast_S_S2x16384x512 (constant S_ .f32 0x41000000#32))) b n e a x).trans ?_
  pointwise []

theorem mark_apply (b : Fin 2) (p : Fin 32) (r : Fin 512) (g : Fin 64) : mark (ix3 b ⟨512 * p + r, by omega⟩ g) = if (g : ℕ) = r / 64 then 1 else 0 := by
  have e1 : ∀ Y : FVec Ideal S2x32x8x64x64 .f32, shapeCast S2x16384x64 Y shapeCasts_S2x32x8x64x64_S2x16384x64 (ix3 b ⟨512 * p + r, by omega⟩ g)
      = Y (ix5 b p ⟨r / 64, by omega⟩ ⟨r % 64, by omega⟩ g) := fun Y => by
    pointwise []
    congr 2 <;> (apply Fin.ext; simp only; omega)
  have e2 : ∀ (Y : FVec Ideal S8x64 .f32) (a : Fin 8) (u : Fin 64), broadcastInDim S2x32x8x64x64 ![0, 1, 2, 3, 4] bcast_S1x1x8x1x64_S2x32x8x64x64_0_1_2_3_4
      (broadcastInDim S1x1x8x1x64 ![2, 4] bcast_S8x64_S1x1x8x1x64_2_4 Y) (ix5 b p a u g) = Y (ix2 a g) := fun Y a u => by
    pointwise []
  have e3 : ∀ (a : Fin 8), (uitofp (F := Ideal) .f32 (cmpi .eq (addi (iotaInDim S8x64 32 0) (broadcastInDim S8x64 ![] bcast_S_S8x64 (constantI S_ 32 0#32))) (iotaInDim S8x64 32 1)) : FVec Ideal S8x64 .f32) (ix2 a g)
      = if (g : ℕ) = a then 1 else 0 := fun a => by
    have hw : ∀ (g : Fin 64) (a : Fin 8), IntOp.cmpi .eq (IntOp.addi (BitVec.ofNat 32 a) 0#32) (BitVec.ofNat 32 g) = BitVec.ofBool (decide ((g : ℕ) = (a : ℕ))) := by decide +kernel
    have e : (uitofp (F := Ideal) .f32 (cmpi .eq (addi (iotaInDim S8x64 32 0) (broadcastInDim S8x64 ![] bcast_S_S8x64 (constantI S_ 32 0#32))) (iotaInDim S8x64 32 1)) : FVec Ideal S8x64 .f32) (ix2 a g)
        = Scalar.uitofp (F := Ideal) .f32 (IntOp.cmpi .eq (IntOp.addi (BitVec.ofNat 32 a) 0#32) (BitVec.ofNat 32 g)) := rfl
    rw [e, hw]
    by_cases h : (g : ℕ) = a
    · rw [if_pos h, decide_eq_true h]
      show (((BitVec.ofBool true).toNat : ℝ) : EReal) = 1
      simp
    · rw [if_neg h, decide_eq_false h]
      show (((BitVec.ofBool false).toNat : ℝ) : EReal) = 0
      simp
  unfold mark
  rw [e1, e2, e3]

theorem join_apply (a c : FVec Ideal S2x16384x64 .f32) (b : Fin 2) (s : Fin 16384) (k : Fin 128) :
    join a c (ix3 b s k) = if h : (k : ℕ) < 64 then a (ix3 b s ⟨k, h⟩) else c (ix3 b s ⟨k - 64, by omega⟩) := by
  by_cases h : (k : ℕ) < 64
  · rw [dif_pos h]
    pointwise [join]
    split_ifs <;> rfl
  · rw [dif_neg h]
    pointwise [join]
    split_ifs
    all_goals first
      | (exfalso; omega)
      | (congr 2 <;> (apply Fin.ext; first | omega | (simp; omega)))

theorem r4_apply (b : Fin 2) (p : Fin 32) (r : Fin 512) (k : Fin 128) :
    r4 P (ix3 b ⟨512 * p + r, by omega⟩ k) = tag (fun e => P (ix3 b ⟨512 * p + r, by omega⟩ ⟨384 + e, by omega⟩)) (r / 64) k := by
  refine (join_apply _ _ b _ k).trans ?_
  unfold tag
  split_ifs with h
  · pointwise []
  · rw [mark_apply, if_pos (by assumption)]
  · rw [mark_apply, if_neg (by assumption)]

theorem onesOf_apply (v : FVec Ideal S2x64x16384 .f32) (b : Fin 2) (k : Fin 80) (s : Fin 16384) : onesOf v (ix3 b k s) = aug (fun e => v (ix3 b e s)) k := by
  unfold aug
  by_cases h : (k : ℕ) < 64
  · rw [dif_pos h]
    pointwise [onesOf]
    split_ifs <;> rfl
  · rw [dif_neg h]
    by_cases h' : (k : ℕ) = 64
    · rw [if_pos h']
      pointwise [onesOf]
      split_ifs
      all_goals first
        | (exfalso; omega)
        | rfl
    · rw [if_neg h']
      pointwise [onesOf]
      split_ifs
      all_goals first
        | (exfalso; omega)
        | rfl

theorem onesOf2_apply (v : FVec Ideal S2x2x64x16384 .f32) (b a : Fin 2) (k : Fin 80) (s : Fin 16384) : onesOf2 v (ix4 b a k s) = aug (fun e => v (ix4 b a e s)) k := by
  unfold aug
  by_cases h : (k : ℕ) < 64
  · rw [dif_pos h]
    pointwise [onesOf2]
    split_ifs <;> rfl
  · rw [dif_neg h]
    by_cases h' : (k : ℕ) = 64
    · rw [if_pos h']
      pointwise [onesOf2]
      split_ifs
      all_goals first
        | (exfalso; omega)
        | rfl
    · rw [if_neg h']
      pointwise [onesOf2]
      split_ifs
      all_goals first
        | (exfalso; omega)
        | rfl

theorem r5_apply (b : Fin 2) (k : Fin 80) (s : Fin 16384) : r5 P (ix3 b k s) = aug (fun e => P (ix3 b s ⟨448 + e, by omega⟩)) k := by
  refine (onesOf_apply _ b k s).trans ?_
  congr 1
  funext e
  pointwise []

theorem r7_apply (b : Fin 2) (k : Fin 80) (s : Fin 16384) : r7 P (ix3 b k s) = aug (fun e => P (ix3 b s ⟨576 + e, by omega⟩)) k := by
  refine (onesOf_apply _ b k s).trans ?_
  congr 1
  funext e
  pointwise []

theorem heads2_apply (v : FVec Ideal S2x16384x128 .f32) (b a : Fin 2) (s : Fin 16384) (k : Fin 64) : heads2 v (ix4 b a s k) = v (ix3 b s ⟨64 * a + k, by omega⟩) := by
  pointwise [heads2]
  simp only [Nat.mul_comm]

theorem r9_apply (b a : Fin 2) (s : Fin 16384) (k : Fin 64) : r9 P (ix4 b a s k) = P (ix3 b s ⟨1164 + (64 * a + k), by omega⟩) := by
  refine (heads2_apply (extractStridedSlice S2x16384x128 ![0, 0, 1164] P slices_S2x16384x2188_S2x16384x128_0_0_1164) b a s k).trans ?_
  pointwise []

theorem r10_apply (b a : Fin 2) (k : Fin 80) (s : Fin 16384) : r10 P (ix4 b a k s) = aug (fun e => P (ix3 b s ⟨1292 + (64 * a + e), by omega⟩)) k := by
  refine (onesOf2_apply _ b a k s).trans ?_
  congr 1
  funext e
  have e1 : ∀ Y : FVec Ideal S2x2x16384x64 .f32, transpose S2x2x64x16384 [0, 1, 3, 2] Y transposes_S2x2x16384x64_S2x2x64x16384_0_1_3_2 (ix4 b a e s) = Y (ix4 b a s e) := fun Y => by
    pointwise []
  rw [e1, heads2_apply]
  pointwise []

theorem r6_apply (b : Fin 2) (s : Fin 16384) (k : Fin 64) : r6 P (ix3 b s k) = P (ix3 b s ⟨512 + k, by omega⟩) := by
  pointwise [r6]

theorem r12_apply (b : Fin 2) (s : Fin 16384) (k : Fin 256) : r12 P (ix3 b s k) = P (ix3 b s ⟨1676 + k, by omega⟩) := by
  pointwise [r12]

theorem r13_apply (b : Fin 2) (k : Fin 256) (s : Fin 16384) : r13 P (ix3 b k s) = P (ix3 b s ⟨1932 + k, by omega⟩) := by
  pointwise [r13]

theorem pair_apply (u v : FVec Ideal S2x16384x64 .f32) (a b : Fin 2) (s : Fin 16384) (k : Fin 64) :
    pair u v (ix4 a b s k) = if (a : ℕ) = 0 then u (ix3 b s k) else v (ix3 b s k) := by
  by_cases h : (a : ℕ) = 0
  · rw [if_pos h]
    pointwise [pair]
    split_ifs
    all_goals first
      | (exfalso; omega)
      | rfl
  · rw [if_neg h]
    pointwise [pair]
    split_ifs
    all_goals first
      | (exfalso; omega)
      | rfl

theorem r14_apply (a b : Fin 2) (s : Fin 16384) (k : Fin 64) : r14 P (ix4 a b s k) = P (ix3 b s ⟨256 + (64 * a + k), by omega⟩) := by
  unfold r14
  rw [pair_apply]
  split_ifs with h
  · pointwise []
    congr 2
    apply Fin.ext
    simp only
    omega
  · pointwise []
    congr 2
    apply Fin.ext
    simp only
    omega

theorem r15_apply (b : Fin 2) (s : Fin 16384) (k : Fin 128) : r15 P (ix3 b s k) = if h : (k : ℕ) < 12 then P (ix3 b s ⟨640 + k, by omega⟩) else 0 := by
  by_cases h : (k : ℕ) < 12
  · rw [dif_pos h]
    pointwise [r15]
    rw [dif_pos h]
  · rw [dif_neg h]
    pointwise [r15]
    rw [dif_neg h]
    show (((0#32 : BitVec 32).toInt : ℝ) : EReal) = 0
    simp

end Cert.ProjRef

end
-- ==== Proof.ProjArrays.lean ====
module

public import proofs.«01_k».proof.Defs
public import proofs.«01_k».proof.Proof.ProjOut
public import proofs.«01_k».proof.Proof.ProjRef

@[expose] public section

set_option maxRecDepth 16384

noncomputable section

namespace Cert.Proj

open Cert.Kernel5Ideal Cert.Kernel5Ideal.Gen Idealize.ShloMosaic Idealize.ShloMosaic.TcCoe Idealize.SL.Sem
open Idealize.ShloMosaic.Pipeline (Dat)
open Cert.Out (nrm)

/-! ## The weights, their columns in the kernel's order -/

def eighth256 (w : FVec Ideal S1024x256 .f32) : FVec Ideal S1024x256 .f32 := mulf w (broadcastInDim S1024x256 ![] bcast_S_S1024x256 (constant S_ .f32 0x3E000000#32))

def eighth512 (w : FVec Ideal S1024x512 .f32) : FVec Ideal S1024x512 .f32 := mulf w (broadcastInDim S1024x512 ![] bcast_S_S1024x512 (constant S_ .f32 0x3E000000#32))

def parts (a b : FVec Ideal S1024x256 .f32) (c : FVec Ideal S1024x512 .f32) (d e : FVec Ideal S1024x256 .f32) (f : FVec Ideal S1024x512 .f32) (g h : FVec Ideal S1024x64 .f32)
    (k : FVec Ideal S1024x12 .f32) (z : FVec Ideal S1024x116 .f32) : FVec Ideal S1024x2304 .f32 :=
  concatenate S1024x2304 1 [⟨S1024x256, a⟩, ⟨S1024x256, b⟩, ⟨S1024x512, c⟩, ⟨S1024x256, d⟩, ⟨S1024x256, e⟩, ⟨S1024x512, f⟩, ⟨S1024x64, g⟩, ⟨S1024x64, h⟩, ⟨S1024x12, k⟩, ⟨S1024x116, z⟩]
    concatenates_S1024x256_S1024x256_S1024x512_S1024x256_S1024x256_S1024x512_S1024x64_S1024x64_S1024x12_S1024x116_S1024x2304_d1

def perm (w : FVec Ideal S1024x2188 .f32) : FVec Ideal S1024x2304 .f32 :=
  parts (eighth256 (extractStridedSlice S1024x256 ![0, 0] w slices_S1024x2188_S1024x256_0_0)) (extractStridedSlice S1024x256 ![0, 384] w slices_S1024x2188_S1024x256_0_384)
    (eighth512 (extractStridedSlice S1024x512 ![0, 652] w slices_S1024x2188_S1024x512_0_652)) (extractStridedSlice S1024x256 ![0, 1164] w slices_S1024x2188_S1024x256_0_1164)
    (eighth256 (extractStridedSlice S1024x256 ![0, 1420] w slices_S1024x2188_S1024x256_0_1420)) (extractStridedSlice S1024x512 ![0, 1676] w slices_S1024x2188_S1024x512_0_1676)
    (extractStridedSlice S1024x64 ![0, 256] w slices_S1024x2188_S1024x64_0_256) (extractStridedSlice S1024x64 ![0, 320] w slices_S1024x2188_S1024x64_0_320)
    (extractStridedSlice S1024x12 ![0, 640] w slices_S1024x2188_S1024x12_0_640) (broadcastInDim S1024x116 ![] bcast_S_S1024x116 (constant S_ .f32 0x00000000#32))

section Parts

variable (a b : FVec Ideal S1024x256 .f32) (c : FVec Ideal S1024x512 .f32) (d e : FVec Ideal S1024x256 .f32) (f : FVec Ideal S1024x512 .f32) (g h : FVec Ideal S1024x64 .f32)
  (k : FVec Ideal S1024x12 .f32) (z : FVec Ideal S1024x116 .f32) (j : Fin 1024) (n : Fin 2304)

theorem parts_a (h0 : 0 ≤ (n : ℕ)) (h1 : (n : ℕ) < 256) : parts a b c d e f g h k z (ix2 j n) = a (ix2 j ⟨n - 0, by omega⟩) := by
  pointwise [parts]
  rw [dif_pos (by omega)]

theorem parts_b (h0 : 256 ≤ (n : ℕ)) (h1 : (n : ℕ) < 512) : parts a b c d e f g h k z (ix2 j n) = b (ix2 j ⟨n - 256, by omega⟩) := by
  pointwise [parts]
  rw [dif_neg (by omega), dif_pos (by omega)]

theorem parts_c (h0 : 512 ≤ (n : ℕ)) (h1 : (n : ℕ) < 1024) : parts a b c d e f g h k z (ix2 j n) = c (ix2 j ⟨n - 512, by omega⟩) := by
  pointwise [parts]
  rw [dif_neg (by omega), dif_neg (by omega), dif_pos (by omega)]
  exact congrArg (fun u => c (ix2 j u)) (Fin.ext (by simp only; omega))

theorem parts_d (h0 : 1024 ≤ (n : ℕ)) (h1 : (n : ℕ) < 1280) : parts a b c d e f g h k z (ix2 j n) = d (ix2 j ⟨n - 1024, by omega⟩) := by
  pointwise [parts]
  rw [dif_neg (by omega), dif_neg (by omega), dif_neg (by omega), dif_pos (by omega)]
  exact congrArg (fun u => d (ix2 j u)) (Fin.ext (by simp only; omega))

theorem parts_e (h0 : 1280 ≤ (n : ℕ)) (h1 : (n : ℕ) < 1536) : parts a b c d e f g h k z (ix2 j n) = e (ix2 j ⟨n - 1280, by omega⟩) := by
  pointwise [parts]
  rw [dif_neg (by omega), dif_neg (by omega), dif_neg (by omega), dif_neg (by omega), dif_pos (by omega)]
  exact congrArg (fun u => e (ix2 j u)) (Fin.ext (by simp only; omega))

theorem parts_f (h0 : 1536 ≤ (n : ℕ)) (h1 : (n : ℕ) < 2048) : parts a b c d e f g h k z (ix2 j n) = f (ix2 j ⟨n - 1536, by omega⟩) := by
  pointwise [parts]
  rw [dif_neg (by omega), dif_neg (by omega), dif_neg (by omega), dif_neg (by omega), dif_neg (by omega), dif_pos (by omega)]
  exact congrArg (fun u => f (ix2 j u)) (Fin.ext (by simp only; omega))

theorem parts_g (h0 : 2048 ≤ (n : ℕ)) (h1 : (n : ℕ) < 2112) : parts a b c d e f g h k z (ix2 j n) = g (ix2 j ⟨n - 2048, by omega⟩) := by
  pointwise [parts]
  rw [dif_neg (by omega), dif_neg (by omega), dif_neg (by omega), dif_neg (by omega), dif_neg (by omega), dif_neg (by omega), dif_pos (by omega)]
  exact congrArg (fun u => g (ix2 j u)) (Fin.ext (by simp only; omega))

theorem parts_h (h0 : 2112 ≤ (n : ℕ)) (h1 : (n : ℕ) < 2176) : parts a b c d e f g h k z (ix2 j n) = h (ix2 j ⟨n - 2112, by omega⟩) := by
  pointwise [parts]
  rw [dif_neg (by omega), dif_neg (by omega), dif_neg (by omega), dif_neg (by omega), dif_neg (by omega), dif_neg (by omega), dif_neg (by omega), dif_pos (by omega)]
  exact congrArg (fun u => h (ix2 j u)) (Fin.ext (by simp only; omega))

theorem parts_k (h0 : 2176 ≤ (n : ℕ)) (h1 : (n : ℕ) < 2188) : parts a b c d e f g h k z (ix2 j n) = k (ix2 j ⟨n - 2176, by omega⟩) := by
  pointwise [parts]
  rw [dif_neg (by omega), dif_neg (by omega), dif_neg (by omega), dif_neg (by omega), dif_neg (by omega), dif_neg (by omega), dif_neg (by omega), dif_neg (by omega), dif_pos (by omega)]
  exact congrArg (fun u => k (ix2 j u)) (Fin.ext (by simp only; omega))

theorem parts_z (h0 : 2188 ≤ (n : ℕ)) (h1 : (n : ℕ) < 2304) : parts a b c d e f g h k z (ix2 j n) = z (ix2 j ⟨n - 2188, by omega⟩) := by
  pointwise [parts]
  rw [dif_neg (by omega), dif_neg (by omega), dif_neg (by omega), dif_neg (by omega), dif_neg (by omega), dif_neg (by omega), dif_neg (by omega), dif_neg (by omega), dif_neg (by omega)]
  exact congrArg (fun u => z (ix2 j u)) (Fin.ext (by simp only; omega))

end Parts

theorem perm_a (w : FVec Ideal S1024x2188 .f32) (j : Fin 1024) (n : Fin 2304) (n' : Fin 2188) (h0 : 0 ≤ (n : ℕ)) (h1 : (n : ℕ) < 256) (hn : (n' : ℕ) = 0 + (n - 0)) :
    perm w (ix2 j n) = w (ix2 j n') * Ideal.ofBits .f32 0x3E000000#32 := by
  have e : (extractStridedSlice S1024x256 ![0, 0] w slices_S1024x2188_S1024x256_0_0 : FVec Ideal S1024x256 .f32) (ix2 j ⟨n - 0, by omega⟩) = w (ix2 j ⟨0 + (n - 0), by omega⟩) := by
    pointwise []
  have en : n' = ⟨0 + (n - 0), by omega⟩ := Fin.ext hn
  unfold perm
  rw [parts_a _ _ _ _ _ _ _ _ _ _ j n h0 h1, en]
  exact congrArg (fun v => v * Ideal.ofBits .f32 0x3E000000#32) e

theorem perm_b (w : FVec Ideal S1024x2188 .f32) (j : Fin 1024) (n : Fin 2304) (n' : Fin 2188) (h0 : 256 ≤ (n : ℕ)) (h1 : (n : ℕ) < 512) (hn : (n' : ℕ) = 384 + (n - 256)) :
    perm w (ix2 j n) = w (ix2 j n') := by
  have e : (extractStridedSlice S1024x256 ![0, 384] w slices_S1024x2188_S1024x256_0_384 : FVec Ideal S1024x256 .f32) (ix2 j ⟨n - 256, by omega⟩) = w (ix2 j ⟨384 + (n - 256), by omega⟩) := by
    pointwise []
  have en : n' = ⟨384 + (n - 256), by omega⟩ := Fin.ext hn
  unfold perm
  rw [parts_b _ _ _ _ _ _ _ _ _ _ j n h0 h1, en]
  exact e

theorem perm_c (w : FVec Ideal S1024x2188 .f32) (j : Fin 1024) (n : Fin 2304) (n' : Fin 2188) (h0 : 512 ≤ (n : ℕ)) (h1 : (n : ℕ) < 1024) (hn : (n' : ℕ) = 652 + (n - 512)) :
    perm w (ix2 j n) = w (ix2 j n') * Ideal.ofBits .f32 0x3E000000#32 := by
  have e : (extractStridedSlice S1024x512 ![0, 652] w slices_S1024x2188_S1024x512_0_652 : FVec Ideal S1024x512 .f32) (ix2 j ⟨n - 512, by omega⟩) = w (ix2 j ⟨652 + (n - 512), by omega⟩) := by
    pointwise []
  have en : n' = ⟨652 + (n - 512), by omega⟩ := Fin.ext hn
  unfold perm
  rw [parts_c _ _ _ _ _ _ _ _ _ _ j n h0 h1, en]
  exact congrArg (fun v => v * Ideal.ofBits .f32 0x3E000000#32) e

theorem perm_d (w : FVec Ideal S1024x2188 .f32) (j : Fin 1024) (n : Fin 2304) (n' : Fin 2188) (h0 : 1024 ≤ (n : ℕ)) (h1 : (n : ℕ) < 1280) (hn : (n' : ℕ) = 1164 + (n - 1024)) :
    perm w (ix2 j n) = w (ix2 j n') := by
  have e : (extractStridedSlice S1024x256 ![0, 1164] w slices_S1024x2188_S1024x256_0_1164 : FVec Ideal S1024x256 .f32) (ix2 j ⟨n - 1024, by omega⟩) = w (ix2 j ⟨1164 + (n - 1024), by omega⟩) := by
    pointwise []
  have en : n' = ⟨1164 + (n - 1024), by omega⟩ := Fin.ext hn
  unfold perm
  rw [parts_d _ _ _ _ _ _ _ _ _ _ j n h0 h1, en]
  exact e

theorem perm_e (w : FVec Ideal S1024x2188 .f32) (j : Fin 1024) (n : Fin 2304) (n' : Fin 2188) (h0 : 1280 ≤ (n : ℕ)) (h1 : (n : ℕ) < 1536) (hn : (n' : ℕ) = 1420 + (n - 1280)) :
    perm w (ix2 j n) = w (ix2 j n') * Ideal.ofBits .f32 0x3E000000#32 := by
  have e : (extractStridedSlice S1024x256 ![0, 1420] w slices_S1024x2188_S1024x256_0_1420 : FVec Ideal S1024x256 .f32) (ix2 j ⟨n - 1280, by omega⟩) = w (ix2 j ⟨1420 + (n - 1280), by omega⟩) := by
    pointwise []
  have en : n' = ⟨1420 + (n - 1280), by omega⟩ := Fin.ext hn
  unfold perm
  rw [parts_e _ _ _ _ _ _ _ _ _ _ j n h0 h1, en]
  exact congrArg (fun v => v * Ideal.ofBits .f32 0x3E000000#32) e

theorem perm_f (w : FVec Ideal S1024x2188 .f32) (j : Fin 1024) (n : Fin 2304) (n' : Fin 2188) (h0 : 1536 ≤ (n : ℕ)) (h1 : (n : ℕ) < 2048) (hn : (n' : ℕ) = 1676 + (n - 1536)) :
    perm w (ix2 j n) = w (ix2 j n') := by
  have e : (extractStridedSlice S1024x512 ![0, 1676] w slices_S1024x2188_S1024x512_0_1676 : FVec Ideal S1024x512 .f32) (ix2 j ⟨n - 1536, by omega⟩) = w (ix2 j ⟨1676 + (n - 1536), by omega⟩) := by
    pointwise []
  have en : n' = ⟨1676 + (n - 1536), by omega⟩ := Fin.ext hn
  unfold perm
  rw [parts_f _ _ _ _ _ _ _ _ _ _ j n h0 h1, en]
  exact e

theorem perm_g (w : FVec Ideal S1024x2188 .f32) (j : Fin 1024) (n : Fin 2304) (n' : Fin 2188) (h0 : 2048 ≤ (n : ℕ)) (h1 : (n : ℕ) < 2112) (hn : (n' : ℕ) = 256 + (n - 2048)) :
    perm w (ix2 j n) = w (ix2 j n') := by
  have e : (extractStridedSlice S1024x64 ![0, 256] w slices_S1024x2188_S1024x64_0_256 : FVec Ideal S1024x64 .f32) (ix2 j ⟨n - 2048, by omega⟩) = w (ix2 j ⟨256 + (n - 2048), by omega⟩) := by
    pointwise []
  have en : n' = ⟨256 + (n - 2048), by omega⟩ := Fin.ext hn
  unfold perm
  rw [parts_g _ _ _ _ _ _ _ _ _ _ j n h0 h1, en]
  exact e

theorem perm_h (w : FVec Ideal S1024x2188 .f32) (j : Fin 1024) (n : Fin 2304) (n' : Fin 2188) (h0 : 2112 ≤ (n : ℕ)) (h1 : (n : ℕ) < 2176) (hn : (n' : ℕ) = 320 + (n - 2112)) :
    perm w (ix2 j n) = w (ix2 j n') := by
  have e : (extractStridedSlice S1024x64 ![0, 320] w slices_S1024x2188_S1024x64_0_320 : FVec Ideal S1024x64 .f32) (ix2 j ⟨n - 2112, by omega⟩) = w (ix2 j ⟨320 + (n - 2112), by omega⟩) := by
    pointwise []
  have en : n' = ⟨320 + (n - 2112), by omega⟩ := Fin.ext hn
  unfold perm
  rw [parts_h _ _ _ _ _ _ _ _ _ _ j n h0 h1, en]
  exact e

theorem perm_k (w : FVec Ideal S1024x2188 .f32) (j : Fin 1024) (n : Fin 2304) (n' : Fin 2188) (h0 : 2176 ≤ (n : ℕ)) (h1 : (n : ℕ) < 2188) (hn : (n' : ℕ) = 640 + (n - 2176)) :
    perm w (ix2 j n) = w (ix2 j n') := by
  have e : (extractStridedSlice S1024x12 ![0, 640] w slices_S1024x2188_S1024x12_0_640 : FVec Ideal S1024x12 .f32) (ix2 j ⟨n - 2176, by omega⟩) = w (ix2 j ⟨640 + (n - 2176), by omega⟩) := by
    pointwise []
  have en : n' = ⟨640 + (n - 2176), by omega⟩ := Fin.ext hn
  unfold perm
  rw [parts_k _ _ _ _ _ _ _ _ _ _ j n h0 h1, en]
  exact e

theorem perm_z (w : FVec Ideal S1024x2188 .f32) (j : Fin 1024) (n : Fin 2304) (h0 : 2188 ≤ (n : ℕ)) : perm w (ix2 j n) = Ideal.ofBits .f32 0x00000000#32 := by
  unfold perm
  rw [parts_z _ _ _ _ _ _ _ _ _ _ j n h0 n.isLt]
  rfl

/-! ## The arrays the kernel is launched on -/

variable (m : (ℓ : Loc nD τ sig) → Buf (Elt Ideal) ℓ)

theorem gain_eq (c : Dev nD) : V m c main_v0 = broadcastInDim S1x1024 ![1] bcast_S1024_S1x1024_1 (m ((c : Thread nD τ).loc main_arg1) : FVec Ideal S1024 .f32) := by
  unfold V
  simp only [List.flatten_cons, List.flatten_nil, List.append_nil, List.cons_append, List.nil_append]
  after_results

theorem w_eq (c : Dev nD) : V m c main_v18 = (truncf .bf16 (perm (m ((c : Thread nD τ).loc main_arg2) : FVec Ideal S1024x2188 .f32)) bitsLt_bf16_f32 : FVec Ideal S1024x2304 .bf16) := by
  unfold V
  after_results_simp
  all_goals (try dsimp only [Matrix.cons_val])
  all_goals (try after_results_simp)
  all_goals (try after_results_loop)
  all_goals rfl

theorem gain_apply (g : FVec Ideal S1024 .f32) (k : Fin 1024) : broadcastInDim S1x1024 ![1] bcast_S1024_S1x1024_1 g (ix2 0 k) = g (ix1 k) := by
  pointwise []

theorem idx : ∀ t : Fin cfg0.N, win0_0.index t = ![t.val / 32, t.val % 32, 0] ∧ win0_1.index t = ![0, 0] ∧ win0_2.index t = ![0, 0]
    ∧ win0_3.index t = ![t.val / 32, t.val % 32, 0, 0] ∧ win0_4.index t = ![t.val / 32, t.val % 32, 0] ∧ win0_5.index t = ![t.val / 32, 0, t.val % 32]
    ∧ win0_6.index t = ![t.val / 32, t.val % 32, 0] ∧ win0_7.index t = ![t.val / 32, 0, t.val % 32] ∧ win0_8.index t = ![t.val / 32, t.val % 32, 0, 0]
    ∧ win0_9.index t = ![t.val / 32, 0, t.val % 32, 0] ∧ win0_10.index t = ![t.val / 32, 0, 0, t.val % 32] ∧ win0_11.index t = ![t.val / 32, t.val % 32, 0, 0]
    ∧ win0_12.index t = ![t.val / 32, t.val % 32, 0] ∧ win0_13.index t = ![t.val / 32, 0, t.val % 32] ∧ win0_14.index t = ![0, t.val / 32, t.val % 32, 0]
    ∧ win0_15.index t = ![t.val / 32, t.val % 32, 0] :=
  (by decide +kernel : ∀ t : Fin grid0.N, _)

/-- The projection of every token, as one function of the arguments. -/
def proj (c : Dev nD) : FVec Ideal Cert.Reference5Ideal.S2x16384x2188 .f32 :=
  Cert.ProjRef.rP (m ((c : Thread nD τ).loc main_arg0)) (m ((c : Thread nD τ).loc main_arg1)) (m ((c : Thread nD τ).loc main_arg2))

theorem kb_at (c : Dev nD) (t : Fin cfg0.N) (ht : t.val < 64) (r : Fin 512) (n : Fin 2304) :
    kb (iblk m c 0 t) (iblk m c 1 t) (iblk m c 2 t) r n
      = lin (nrm 0x44800000#32 (fun j => (m ((c : Thread nD τ).loc main_arg0) : FVec Ideal S2x16384x1024 .f32) (ix3 ⟨t.val / 32, by omega⟩ ⟨512 * (t.val % 32) + r, by omega⟩ j))
          (fun j => (m ((c : Thread nD τ).loc main_arg1) : FVec Ideal S1024 .f32) (ix1 j)))
        (fun j => perm (m ((c : Thread nD τ).loc main_arg2)) (ix2 j n)) := by
  unfold kb hb
  congr 1
  · congr 1
    · funext j
      blk_point [iblk, V_main_arg0, idx t]
    · funext j
      refine Eq.trans (b := (V m c main_v0 : FVec Ideal S1x1024 .f32) (ix2 0 j)) ?_ ((congrFun (gain_eq m c) _).trans (gain_apply _ j))
      blk_point [iblk, idx t]
  · funext j
    refine Eq.trans (b := (V m c main_v18 : FVec Ideal S1024x2304 .bf16) (ix2 j n)) ?_ (congrFun (w_eq m c) _)
    blk_point [iblk, idx t]

theorem kb_a (c : Dev nD) (t : Fin cfg0.N) (r : Fin 512) (n : Fin 2304) (b : Fin 2) (s : Fin 16384) (n' : Fin 2188) (hb : (b : ℕ) = t.val / 32) (hs : (s : ℕ) = 512 * (t.val % 32) + r)
    (h0 : 0 ≤ (n : ℕ)) (h1 : (n : ℕ) < 256) (hn : (n' : ℕ) = 0 + (n - 0)) : kb (iblk m c 0 t) (iblk m c 1 t) (iblk m c 2 t) r n = Ideal.div (proj m c (ix3 b s n')) (Ideal.ofBits .f32 0x41000000#32) := by
  have ht : t.val < 64 := lt_of_lt_of_eq t.isLt N_0
  have eb : b = ⟨t.val / 32, by omega⟩ := Fin.ext hb
  have es : s = ⟨512 * (t.val % 32) + r, by omega⟩ := Fin.ext hs
  rw [kb_at m c t ht r n]
  unfold proj
  rw [Cert.ProjRef.rP_apply, eb, es]
  simp only [perm_a _ _ n n' h0 h1 hn]
  exact lin_eighth _ _

theorem kb_b (c : Dev nD) (t : Fin cfg0.N) (r : Fin 512) (n : Fin 2304) (b : Fin 2) (s : Fin 16384) (n' : Fin 2188) (hb : (b : ℕ) = t.val / 32) (hs : (s : ℕ) = 512 * (t.val % 32) + r)
    (h0 : 256 ≤ (n : ℕ)) (h1 : (n : ℕ) < 512) (hn : (n' : ℕ) = 384 + (n - 256)) : kb (iblk m c 0 t) (iblk m c 1 t) (iblk m c 2 t) r n = proj m c (ix3 b s n') := by
  have ht : t.val < 64 := lt_of_lt_of_eq t.isLt N_0
  have eb : b = ⟨t.val / 32, by omega⟩ := Fin.ext hb
  have es : s = ⟨512 * (t.val % 32) + r, by omega⟩ := Fin.ext hs
  rw [kb_at m c t ht r n]
  unfold proj
  rw [Cert.ProjRef.rP_apply, eb, es]
  simp only [perm_b _ _ n n' h0 h1 hn]

theorem kb_c (c : Dev nD) (t : Fin cfg0.N) (r : Fin 512) (n : Fin 2304) (b : Fin 2) (s : Fin 16384) (n' : Fin 2188) (hb : (b : ℕ) = t.val / 32) (hs : (s : ℕ) = 512 * (t.val % 32) + r)
    (h0 : 512 ≤ (n : ℕ)) (h1 : (n : ℕ) < 1024) (hn : (n' : ℕ) = 652 + (n - 512)) : kb (iblk m c 0 t) (iblk m c 1 t) (iblk m c 2 t) r n = Ideal.div (proj m c (ix3 b s n')) (Ideal.ofBits .f32 0x41000000#32) := by
  have ht : t.val < 64 := lt_of_lt_of_eq t.isLt N_0
  have eb : b = ⟨t.val / 32, by omega⟩ := Fin.ext hb
  have es : s = ⟨512 * (t.val % 32) + r, by omega⟩ := Fin.ext hs
  rw [kb_at m c t ht r n]
  unfold proj
  rw [Cert.ProjRef.rP_apply, eb, es]
  simp only [perm_c _ _ n n' h0 h1 hn]
  exact lin_eighth _ _

theorem kb_d (c : Dev nD) (t : Fin cfg0.N) (r : Fin 512) (n : Fin 2304) (b : Fin 2) (s : Fin 16384) (n' : Fin 2188) (hb : (b : ℕ) = t.val / 32) (hs : (s : ℕ) = 512 * (t.val % 32) + r)
    (h0 : 1024 ≤ (n : ℕ)) (h1 : (n : ℕ) < 1280) (hn : (n' : ℕ) = 1164 + (n - 1024)) : kb (iblk m c 0 t) (iblk m c 1 t) (iblk m c 2 t) r n = proj m c (ix3 b s n') := by
  have ht : t.val < 64 := lt_of_lt_of_eq t.isLt N_0
  have eb : b = ⟨t.val / 32, by omega⟩ := Fin.ext hb
  have es : s = ⟨512 * (t.val % 32) + r, by omega⟩ := Fin.ext hs
  rw [kb_at m c t ht r n]
  unfold proj
  rw [Cert.ProjRef.rP_apply, eb, es]
  simp only [perm_d _ _ n n' h0 h1 hn]

theorem kb_e (c : Dev nD) (t : Fin cfg0.N) (r : Fin 512) (n : Fin 2304) (b : Fin 2) (s : Fin 16384) (n' : Fin 2188) (hb : (b : ℕ) = t.val / 32) (hs : (s : ℕ) = 512 * (t.val % 32) + r)
    (h0 : 1280 ≤ (n : ℕ)) (h1 : (n : ℕ) < 1536) (hn : (n' : ℕ) = 1420 + (n - 1280)) : kb (iblk m c 0 t) (iblk m c 1 t) (iblk m c 2 t) r n = Ideal.div (proj m c (ix3 b s n')) (Ideal.ofBits .f32 0x41000000#32) := by
  have ht : t.val < 64 := lt_of_lt_of_eq t.isLt N_0
  have eb : b = ⟨t.val / 32, by omega⟩ := Fin.ext hb
  have es : s = ⟨512 * (t.val % 32) + r, by omega⟩ := Fin.ext hs
  rw [kb_at m c t ht r n]
  unfold proj
  rw [Cert.ProjRef.rP_apply, eb, es]
  simp only [perm_e _ _ n n' h0 h1 hn]
  exact lin_eighth _ _

theorem kb_f (c : Dev nD) (t : Fin cfg0.N) (r : Fin 512) (n : Fin 2304) (b : Fin 2) (s : Fin 16384) (n' : Fin 2188) (hb : (b : ℕ) = t.val / 32) (hs : (s : ℕ) = 512 * (t.val % 32) + r)
    (h0 : 1536 ≤ (n : ℕ)) (h1 : (n : ℕ) < 2048) (hn : (n' : ℕ) = 1676 + (n - 1536)) : kb (iblk m c 0 t) (iblk m c 1 t) (iblk m c 2 t) r n = proj m c (ix3 b s n') := by
  have ht : t.val < 64 := lt_of_lt_of_eq t.isLt N_0
  have eb : b = ⟨t.val / 32, by omega⟩ := Fin.ext hb
  have es : s = ⟨512 * (t.val % 32) + r, by omega⟩ := Fin.ext hs
  rw [kb_at m c t ht r n]
  unfold proj
  rw [Cert.ProjRef.rP_apply, eb, es]
  simp only [perm_f _ _ n n' h0 h1 hn]

theorem kb_g (c : Dev nD) (t : Fin cfg0.N) (r : Fin 512) (n : Fin 2304) (b : Fin 2) (s : Fin 16384) (n' : Fin 2188) (hb : (b : ℕ) = t.val / 32) (hs : (s : ℕ) = 512 * (t.val % 32) + r)
    (h0 : 2048 ≤ (n : ℕ)) (h1 : (n : ℕ) < 2112) (hn : (n' : ℕ) = 256 + (n - 2048)) : kb (iblk m c 0 t) (iblk m c 1 t) (iblk m c 2 t) r n = proj m c (ix3 b s n') := by
  have ht : t.val < 64 := lt_of_lt_of_eq t.isLt N_0
  have eb : b = ⟨t.val / 32, by omega⟩ := Fin.ext hb
  have es : s = ⟨512 * (t.val % 32) + r, by omega⟩ := Fin.ext hs
  rw [kb_at m c t ht r n]
  unfold proj
  rw [Cert.ProjRef.rP_apply, eb, es]
  simp only [perm_g _ _ n n' h0 h1 hn]

theorem kb_h (c : Dev nD) (t : Fin cfg0.N) (r : Fin 512) (n : Fin 2304) (b : Fin 2) (s : Fin 16384) (n' : Fin 2188) (hb : (b : ℕ) = t.val / 32) (hs : (s : ℕ) = 512 * (t.val % 32) + r)
    (h0 : 2112 ≤ (n : ℕ)) (h1 : (n : ℕ) < 2176) (hn : (n' : ℕ) = 320 + (n - 2112)) : kb (iblk m c 0 t) (iblk m c 1 t) (iblk m c 2 t) r n = proj m c (ix3 b s n') := by
  have ht : t.val < 64 := lt_of_lt_of_eq t.isLt N_0
  have eb : b = ⟨t.val / 32, by omega⟩ := Fin.ext hb
  have es : s = ⟨512 * (t.val % 32) + r, by omega⟩ := Fin.ext hs
  rw [kb_at m c t ht r n]
  unfold proj
  rw [Cert.ProjRef.rP_apply, eb, es]
  simp only [perm_h _ _ n n' h0 h1 hn]

theorem kb_k (c : Dev nD) (t : Fin cfg0.N) (r : Fin 512) (n : Fin 2304) (b : Fin 2) (s : Fin 16384) (n' : Fin 2188) (hb : (b : ℕ) = t.val / 32) (hs : (s : ℕ) = 512 * (t.val % 32) + r)
    (h0 : 2176 ≤ (n : ℕ)) (h1 : (n : ℕ) < 2188) (hn : (n' : ℕ) = 640 + (n - 2176)) : kb (iblk m c 0 t) (iblk m c 1 t) (iblk m c 2 t) r n = proj m c (ix3 b s n') := by
  have ht : t.val < 64 := lt_of_lt_of_eq t.isLt N_0
  have eb : b = ⟨t.val / 32, by omega⟩ := Fin.ext hb
  have es : s = ⟨512 * (t.val % 32) + r, by omega⟩ := Fin.ext hs
  rw [kb_at m c t ht r n]
  unfold proj
  rw [Cert.ProjRef.rP_apply, eb, es]
  simp only [perm_k _ _ n n' h0 h1 hn]

theorem kb_z (c : Dev nD) (t : Fin cfg0.N) (r : Fin 512) (n : Fin 2304) (h0 : 2188 ≤ (n : ℕ)) : kb (iblk m c 0 t) (iblk m c 1 t) (iblk m c 2 t) r n = 0 := by
  rw [kb_at m c t (lt_of_lt_of_eq t.isLt N_0) r n]
  simp only [perm_z _ _ n h0]
  exact lin_zero _

end Cert.Proj

end
-- ==== Proof.ProjValue.lean ====
module

public import proofs.«01_k».proof.Defs
public import proofs.«01_k».proof.Proof.ProjOut
public import proofs.«01_k».proof.Proof.ProjArrays

@[expose] public section

set_option maxRecDepth 16384

noncomputable section

namespace Cert.Proj

open Cert.Kernel5Ideal Cert.Kernel5Ideal.Gen Idealize.ShloMosaic Idealize.ShloMosaic.TcCoe Idealize.SL.Sem
open Idealize.ShloMosaic.Pipeline (Dat)
open Cert.ProjRef

variable (m : (ℓ : Loc nD τ sig) → Buf (Elt Ideal) ℓ)

/-! ## Each step's blocks are the reference's results there -/

theorem point3 (c : Dev nD) (t : Fin cfg0.N) (y : S1x4x64x512.Idx) :
    out0_3 (F := Ideal) (grid0.coords t) (iblk m c 0 t) (iblk m c 1 t) (iblk m c 2 t) y = r3 (proj m c) (((cfg0.win 3).blk t).view.emb y) := by
  have ht : t.val < 64 := lt_of_lt_of_eq t.isLt N_0
  idx_vars y
  have e : ((cfg0.win 3).blk t).view.emb (ix4 y0 y1 y2 y3) = (ix4 ⟨t.val / 32, by omega⟩ ⟨4 * (t.val % 32) + y1, by omega⟩ y2 y3 : S2x128x64x512.Idx) := by
    blk_ext [idx t]
  have e3 : y3 = (⟨128 * ((⟨y3 / 128, by omega⟩ : Fin 4) : ℕ) + ((⟨y3 % 128, by omega⟩ : Fin 128) : ℕ), by dsimp only; omega⟩ : Fin 512) := Fin.ext (by dsimp only; omega)
  have e' := e.trans (congrArg (fun u => (ix4 ⟨t.val / 32, by omega⟩ ⟨4 * (t.val % 32) + y1, by omega⟩ y2 u : S2x128x64x512.Idx)) e3)
  refine (out3_apply (grid0.coords t) (iblk m c 0 t) (iblk m c 1 t) (iblk m c 2 t) (ix4 y0 y1 y2 y3) y1 y2 y3 rfl rfl rfl).trans (Eq.trans ?_ ((congrArg (r3 (proj m c)) e').trans (r3_apply (proj m c) ⟨t.val / 32, by omega⟩ ⟨4 * (t.val % 32) + y1, by omega⟩ y2 ⟨y3 / 128, by omega⟩ ⟨y3 % 128, by omega⟩)).symm)
  exact congrArg (fun v => v * Ideal.ofBits .f32 0x3FB8AA3B#32) (kb_a m c t ⟨128 * y1 + y3 % 128, by omega⟩ ⟨64 * (y3 / 128) + y2, by omega⟩ ⟨t.val / 32, by omega⟩ ⟨128 * (4 * (t.val % 32) + y1) + y3 % 128, by omega⟩ ⟨64 * (y3 / 128) + y2, by omega⟩ rfl (by first | omega | (dsimp only; omega)) (by first | omega | (dsimp only; omega)) (by first | omega | (dsimp only; omega)) (by first | omega | (dsimp only; omega)))

theorem point11 (c : Dev nD) (t : Fin cfg0.N) (y : S1x4x64x512.Idx) :
    out0_11 (F := Ideal) (grid0.coords t) (iblk m c 0 t) (iblk m c 1 t) (iblk m c 2 t) y = r11 (proj m c) (((cfg0.win 11).blk t).view.emb y) := by
  have ht : t.val < 64 := lt_of_lt_of_eq t.isLt N_0
  idx_vars y
  have e : ((cfg0.win 11).blk t).view.emb (ix4 y0 y1 y2 y3) = (ix4 ⟨t.val / 32, by omega⟩ ⟨4 * (t.val % 32) + y1, by omega⟩ y2 y3 : S2x128x64x512.Idx) := by
    blk_ext [idx t]
  have e3 : y3 = (⟨128 * ((⟨y3 / 128, by omega⟩ : Fin 4) : ℕ) + ((⟨y3 % 128, by omega⟩ : Fin 128) : ℕ), by dsimp only; omega⟩ : Fin 512) := Fin.ext (by dsimp only; omega)
  have e' := e.trans (congrArg (fun u => (ix4 ⟨t.val / 32, by omega⟩ ⟨4 * (t.val % 32) + y1, by omega⟩ y2 u : S2x128x64x512.Idx)) e3)
  refine (out11_apply (grid0.coords t) (iblk m c 0 t) (iblk m c 1 t) (iblk m c 2 t) (ix4 y0 y1 y2 y3) y1 y2 y3 rfl rfl rfl).trans (Eq.trans ?_ ((congrArg (r11 (proj m c)) e').trans (r11_apply (proj m c) ⟨t.val / 32, by omega⟩ ⟨4 * (t.val % 32) + y1, by omega⟩ y2 ⟨y3 / 128, by omega⟩ ⟨y3 % 128, by omega⟩)).symm)
  exact congrArg (fun v => v * Ideal.ofBits .f32 0x3FB8AA3B#32) (kb_e m c t ⟨128 * y1 + y3 % 128, by omega⟩ ⟨1280 + (64 * (y3 / 128) + y2), by omega⟩ ⟨t.val / 32, by omega⟩ ⟨128 * (4 * (t.val % 32) + y1) + y3 % 128, by omega⟩ ⟨1420 + (64 * (y3 / 128) + y2), by omega⟩ rfl (by first | omega | (dsimp only; omega)) (by first | omega | (dsimp only; omega)) (by first | omega | (dsimp only; omega)) (by first | omega | (dsimp only; omega)))

theorem point8 (c : Dev nD) (t : Fin cfg0.N) (y : S1x4x64x1024.Idx) :
    out0_8 (F := Ideal) (grid0.coords t) (iblk m c 0 t) (iblk m c 1 t) (iblk m c 2 t) y = r8 (proj m c) (((cfg0.win 8).blk t).view.emb y) := by
  have ht : t.val < 64 := lt_of_lt_of_eq t.isLt N_0
  idx_vars y
  have e : ((cfg0.win 8).blk t).view.emb (ix4 y0 y1 y2 y3) = (ix4 ⟨t.val / 32, by omega⟩ ⟨4 * (t.val % 32) + y1, by omega⟩ y2 y3 : S2x128x64x1024.Idx) := by
    blk_ext [idx t]
  have e3 : y3 = (⟨128 * ((⟨y3 / 128, by omega⟩ : Fin 8) : ℕ) + ((⟨y3 % 128, by omega⟩ : Fin 128) : ℕ), by dsimp only; omega⟩ : Fin 1024) := Fin.ext (by dsimp only; omega)
  have e' := e.trans (congrArg (fun u => (ix4 ⟨t.val / 32, by omega⟩ ⟨4 * (t.val % 32) + y1, by omega⟩ y2 u : S2x128x64x1024.Idx)) e3)
  refine (out8_apply (grid0.coords t) (iblk m c 0 t) (iblk m c 1 t) (iblk m c 2 t) (ix4 y0 y1 y2 y3) y1 y2 y3 rfl rfl rfl).trans (Eq.trans ?_ ((congrArg (r8 (proj m c)) e').trans (r8_apply (proj m c) ⟨t.val / 32, by omega⟩ ⟨4 * (t.val % 32) + y1, by omega⟩ y2 ⟨y3 / 128, by omega⟩ ⟨y3 % 128, by omega⟩)).symm)
  exact kb_c m c t ⟨128 * y1 + y3 % 128, by omega⟩ ⟨512 + (64 * (y3 / 128) + y2), by omega⟩ ⟨t.val / 32, by omega⟩ ⟨128 * (4 * (t.val % 32) + y1) + y3 % 128, by omega⟩ ⟨652 + (64 * (y3 / 128) + y2), by omega⟩ rfl (by first | omega | (dsimp only; omega)) (by first | omega | (dsimp only; omega)) (by first | omega | (dsimp only; omega)) (by first | omega | (dsimp only; omega))

theorem point4 (c : Dev nD) (t : Fin cfg0.N) (y : S1x512x128.Idx) :
    out0_4 (F := Ideal) (grid0.coords t) (iblk m c 0 t) (iblk m c 1 t) (iblk m c 2 t) y = r4 (proj m c) (((cfg0.win 4).blk t).view.emb y) := by
  have ht : t.val < 64 := lt_of_lt_of_eq t.isLt N_0
  idx_vars y
  have e : ((cfg0.win 4).blk t).view.emb (ix3 y0 y1 y2) = (ix3 ⟨t.val / 32, by omega⟩ ⟨512 * (t.val % 32) + y1, by omega⟩ y2 : S2x16384x128.Idx) := by
    blk_ext [idx t]
  refine (out4_apply (grid0.coords t) (iblk m c 0 t) (iblk m c 1 t) (iblk m c 2 t) (ix3 y0 y1 y2)).trans (Eq.trans ?_ ((congrArg (r4 (proj m c)) e).trans (r4_apply (proj m c) ⟨t.val / 32, by omega⟩ ⟨t.val % 32, by omega⟩ y1 y2)).symm)
  exact congrArg (fun v => tag v (y1 / 64) y2) (funext fun e => kb_b m c t y1 ⟨256 + e, by omega⟩ ⟨t.val / 32, by omega⟩ ⟨512 * (t.val % 32) + y1, by omega⟩ ⟨384 + e, by omega⟩ rfl rfl (by first | omega | (dsimp only; omega)) (by first | omega | (dsimp only; omega)) (by first | omega | (dsimp only; omega)))

theorem point5 (c : Dev nD) (t : Fin cfg0.N) (y : S1x80x512.Idx) :
    out0_5 (F := Ideal) (grid0.coords t) (iblk m c 0 t) (iblk m c 1 t) (iblk m c 2 t) y = r5 (proj m c) (((cfg0.win 5).blk t).view.emb y) := by
  have ht : t.val < 64 := lt_of_lt_of_eq t.isLt N_0
  idx_vars y
  have e : ((cfg0.win 5).blk t).view.emb (ix3 y0 y1 y2) = (ix3 ⟨t.val / 32, by omega⟩ y1 ⟨512 * (t.val % 32) + y2, by omega⟩ : S2x80x16384.Idx) := by
    blk_ext [idx t]
  refine (out5_apply (grid0.coords t) (iblk m c 0 t) (iblk m c 1 t) (iblk m c 2 t) (ix3 y0 y1 y2)).trans (Eq.trans ?_ ((congrArg (r5 (proj m c)) e).trans (r5_apply (proj m c) ⟨t.val / 32, by omega⟩ y1 ⟨512 * (t.val % 32) + y2, by omega⟩)).symm)
  exact congrArg (fun v => aug v y1) (funext fun e => kb_b m c t y2 ⟨320 + e, by omega⟩ ⟨t.val / 32, by omega⟩ ⟨512 * (t.val % 32) + y2, by omega⟩ ⟨448 + e, by omega⟩ rfl rfl (by first | omega | (dsimp only; omega)) (by first | omega | (dsimp only; omega)) (by first | omega | (dsimp only; omega)))

theorem point7 (c : Dev nD) (t : Fin cfg0.N) (y : S1x80x512.Idx) :
    out0_7 (F := Ideal) (grid0.coords t) (iblk m c 0 t) (iblk m c 1 t) (iblk m c 2 t) y = r7 (proj m c) (((cfg0.win 7).blk t).view.emb y) := by
  have ht : t.val < 64 := lt_of_lt_of_eq t.isLt N_0
  idx_vars y
  have e : ((cfg0.win 7).blk t).view.emb (ix3 y0 y1 y2) = (ix3 ⟨t.val / 32, by omega⟩ y1 ⟨512 * (t.val % 32) + y2, by omega⟩ : S2x80x16384.Idx) := by
    blk_ext [idx t]
  refine (out7_apply (grid0.coords t) (iblk m c 0 t) (iblk m c 1 t) (iblk m c 2 t) (ix3 y0 y1 y2)).trans (Eq.trans ?_ ((congrArg (r7 (proj m c)) e).trans (r7_apply (proj m c) ⟨t.val / 32, by omega⟩ y1 ⟨512 * (t.val % 32) + y2, by omega⟩)).symm)
  exact congrArg (fun v => aug v y1) (funext fun e => kb_b m c t y2 ⟨448 + e, by omega⟩ ⟨t.val / 32, by omega⟩ ⟨512 * (t.val % 32) + y2, by omega⟩ ⟨576 + e, by omega⟩ rfl rfl (by first | omega | (dsimp only; omega)) (by first | omega | (dsimp only; omega)) (by first | omega | (dsimp only; omega)))

theorem point6 (c : Dev nD) (t : Fin cfg0.N) (y : S1x512x64.Idx) :
    out0_6 (F := Ideal) (grid0.coords t) (iblk m c 0 t) (iblk m c 1 t) (iblk m c 2 t) y = r6 (proj m c) (((cfg0.win 6).blk t).view.emb y) := by
  have ht : t.val < 64 := lt_of_lt_of_eq t.isLt N_0
  idx_vars y
  have e : ((cfg0.win 6).blk t).view.emb (ix3 y0 y1 y2) = (ix3 ⟨t.val / 32, by omega⟩ ⟨512 * (t.val % 32) + y1, by omega⟩ y2 : S2x16384x64.Idx) := by
    blk_ext [idx t]
  refine (out6_apply (grid0.coords t) (iblk m c 0 t) (iblk m c 1 t) (iblk m c 2 t) (ix3 y0 y1 y2)).trans (Eq.trans ?_ ((congrArg (r6 (proj m c)) e).trans (r6_apply (proj m c) ⟨t.val / 32, by omega⟩ ⟨512 * (t.val % 32) + y1, by omega⟩ y2)).symm)
  exact kb_b m c t y1 ⟨384 + y2, by omega⟩ ⟨t.val / 32, by omega⟩ ⟨512 * (t.val % 32) + y1, by omega⟩ ⟨512 + y2, by omega⟩ rfl rfl (by first | omega | (dsimp only; omega)) (by first | omega | (dsimp only; omega)) (by first | omega | (dsimp only; omega))

theorem point12 (c : Dev nD) (t : Fin cfg0.N) (y : S1x512x256.Idx) :
    out0_12 (F := Ideal) (grid0.coords t) (iblk m c 0 t) (iblk m c 1 t) (iblk m c 2 t) y = r12 (proj m c) (((cfg0.win 12).blk t).view.emb y) := by
  have ht : t.val < 64 := lt_of_lt_of_eq t.isLt N_0
  idx_vars y
  have e : ((cfg0.win 12).blk t).view.emb (ix3 y0 y1 y2) = (ix3 ⟨t.val / 32, by omega⟩ ⟨512 * (t.val % 32) + y1, by omega⟩ y2 : S2x16384x256.Idx) := by
    blk_ext [idx t]
  refine (out12_apply (grid0.coords t) (iblk m c 0 t) (iblk m c 1 t) (iblk m c 2 t) (ix3 y0 y1 y2)).trans (Eq.trans ?_ ((congrArg (r12 (proj m c)) e).trans (r12_apply (proj m c) ⟨t.val / 32, by omega⟩ ⟨512 * (t.val % 32) + y1, by omega⟩ y2)).symm)
  exact kb_f m c t y1 ⟨1536 + y2, by omega⟩ ⟨t.val / 32, by omega⟩ ⟨512 * (t.val % 32) + y1, by omega⟩ ⟨1676 + y2, by omega⟩ rfl rfl (by first | omega | (dsimp only; omega)) (by first | omega | (dsimp only; omega)) (by first | omega | (dsimp only; omega))

theorem point13 (c : Dev nD) (t : Fin cfg0.N) (y : S1x256x512.Idx) :
    out0_13 (F := Ideal) (grid0.coords t) (iblk m c 0 t) (iblk m c 1 t) (iblk m c 2 t) y = r13 (proj m c) (((cfg0.win 13).blk t).view.emb y) := by
  have ht : t.val < 64 := lt_of_lt_of_eq t.isLt N_0
  idx_vars y
  have e : ((cfg0.win 13).blk t).view.emb (ix3 y0 y1 y2) = (ix3 ⟨t.val / 32, by omega⟩ y1 ⟨512 * (t.val % 32) + y2, by omega⟩ : S2x256x16384.Idx) := by
    blk_ext [idx t]
  refine (out13_apply (grid0.coords t) (iblk m c 0 t) (iblk m c 1 t) (iblk m c 2 t) (ix3 y0 y1 y2)).trans (Eq.trans ?_ ((congrArg (r13 (proj m c)) e).trans (r13_apply (proj m c) ⟨t.val / 32, by omega⟩ y1 ⟨512 * (t.val % 32) + y2, by omega⟩)).symm)
  exact kb_f m c t y2 ⟨1792 + y1, by omega⟩ ⟨t.val / 32, by omega⟩ ⟨512 * (t.val % 32) + y2, by omega⟩ ⟨1932 + y1, by omega⟩ rfl rfl (by first | omega | (dsimp only; omega)) (by first | omega | (dsimp only; omega)) (by first | omega | (dsimp only; omega))

theorem point9 (c : Dev nD) (t : Fin cfg0.N) (y : S1x2x512x64.Idx) :
    out0_9 (F := Ideal) (grid0.coords t) (iblk m c 0 t) (iblk m c 1 t) (iblk m c 2 t) y = r9 (proj m c) (((cfg0.win 9).blk t).view.emb y) := by
  have ht : t.val < 64 := lt_of_lt_of_eq t.isLt N_0
  idx_vars y
  have e : ((cfg0.win 9).blk t).view.emb (ix4 y0 y1 y2 y3) = (ix4 ⟨t.val / 32, by omega⟩ y1 ⟨512 * (t.val % 32) + y2, by omega⟩ y3 : S2x2x16384x64.Idx) := by
    blk_ext [idx t]
  refine (out9_apply (grid0.coords t) (iblk m c 0 t) (iblk m c 1 t) (iblk m c 2 t) (ix4 y0 y1 y2 y3)).trans (Eq.trans ?_ ((congrArg (r9 (proj m c)) e).trans (r9_apply (proj m c) ⟨t.val / 32, by omega⟩ y1 ⟨512 * (t.val % 32) + y2, by omega⟩ y3)).symm)
  exact kb_d m c t y2 ⟨1024 + (64 * y1 + y3), by omega⟩ ⟨t.val / 32, by omega⟩ ⟨512 * (t.val % 32) + y2, by omega⟩ ⟨1164 + (64 * y1 + y3), by omega⟩ rfl rfl (by first | omega | (dsimp only; omega)) (by first | omega | (dsimp only; omega)) (by first | omega | (dsimp only; omega))

theorem point10 (c : Dev nD) (t : Fin cfg0.N) (y : S1x2x80x512.Idx) :
    out0_10 (F := Ideal) (grid0.coords t) (iblk m c 0 t) (iblk m c 1 t) (iblk m c 2 t) y = r10 (proj m c) (((cfg0.win 10).blk t).view.emb y) := by
  have ht : t.val < 64 := lt_of_lt_of_eq t.isLt N_0
  idx_vars y
  have e : ((cfg0.win 10).blk t).view.emb (ix4 y0 y1 y2 y3) = (ix4 ⟨t.val / 32, by omega⟩ y1 y2 ⟨512 * (t.val % 32) + y3, by omega⟩ : S2x2x80x16384.Idx) := by
    blk_ext [idx t]
  refine (out10_apply (grid0.coords t) (iblk m c 0 t) (iblk m c 1 t) (iblk m c 2 t) (ix4 y0 y1 y2 y3)).trans (Eq.trans ?_ ((congrArg (r10 (proj m c)) e).trans (r10_apply (proj m c) ⟨t.val / 32, by omega⟩ y1 y2 ⟨512 * (t.val % 32) + y3, by omega⟩)).symm)
  exact congrArg (fun v => aug v y2) (funext fun e => kb_d m c t y3 ⟨1152 + (64 * y1 + e), by omega⟩ ⟨t.val / 32, by omega⟩ ⟨512 * (t.val % 32) + y3, by omega⟩ ⟨1292 + (64 * y1 + e), by omega⟩ rfl rfl (by first | omega | (dsimp only; omega)) (by first | omega | (dsimp only; omega)) (by first | omega | (dsimp only; omega)))

theorem point14 (c : Dev nD) (t : Fin cfg0.N) (y : S2x1x512x64.Idx) :
    out0_14 (F := Ideal) (grid0.coords t) (iblk m c 0 t) (iblk m c 1 t) (iblk m c 2 t) y = r14 (proj m c) (((cfg0.win 14).blk t).view.emb y) := by
  have ht : t.val < 64 := lt_of_lt_of_eq t.isLt N_0
  idx_vars y
  have e : ((cfg0.win 14).blk t).view.emb (ix4 y0 y1 y2 y3) = (ix4 y0 ⟨t.val / 32, by omega⟩ ⟨512 * (t.val % 32) + y2, by omega⟩ y3 : S2x2x16384x64.Idx) := by
    blk_ext [idx t]
  refine (out14_apply (grid0.coords t) (iblk m c 0 t) (iblk m c 1 t) (iblk m c 2 t) (ix4 y0 y1 y2 y3)).trans (Eq.trans ?_ ((congrArg (r14 (proj m c)) e).trans (r14_apply (proj m c) y0 ⟨t.val / 32, by omega⟩ ⟨512 * (t.val % 32) + y2, by omega⟩ y3)).symm)
  by_cases h : (y0 : ℕ) = 0
  · exact kb_g m c t y2 ⟨2048 + (64 * y0 + y3), by omega⟩ ⟨t.val / 32, by omega⟩ ⟨512 * (t.val % 32) + y2, by omega⟩ ⟨256 + (64 * y0 + y3), by omega⟩ rfl rfl (by first | omega | (dsimp only; omega)) (by first | omega | (dsimp only; omega)) (by first | omega | (dsimp only; omega))
  · exact kb_h m c t y2 ⟨2048 + (64 * y0 + y3), by omega⟩ ⟨t.val / 32, by omega⟩ ⟨512 * (t.val % 32) + y2, by omega⟩ ⟨256 + (64 * y0 + y3), by omega⟩ rfl rfl (by first | omega | (dsimp only; omega)) (by first | omega | (dsimp only; omega)) (by first | omega | (dsimp only; omega))

theorem point15 (c : Dev nD) (t : Fin cfg0.N) (y : S1x512x128.Idx) :
    out0_15 (F := Ideal) (grid0.coords t) (iblk m c 0 t) (iblk m c 1 t) (iblk m c 2 t) y = r15 (proj m c) (((cfg0.win 15).blk t).view.emb y) := by
  have ht : t.val < 64 := lt_of_lt_of_eq t.isLt N_0
  idx_vars y
  have e : ((cfg0.win 15).blk t).view.emb (ix3 y0 y1 y2) = (ix3 ⟨t.val / 32, by omega⟩ ⟨512 * (t.val % 32) + y1, by omega⟩ y2 : S2x16384x128.Idx) := by
    blk_ext [idx t]
  refine (out15_apply (grid0.coords t) (iblk m c 0 t) (iblk m c 1 t) (iblk m c 2 t) (ix3 y0 y1 y2)).trans (Eq.trans ?_ ((congrArg (r15 (proj m c)) e).trans (r15_apply (proj m c) ⟨t.val / 32, by omega⟩ ⟨512 * (t.val % 32) + y1, by omega⟩ y2)).symm)
  by_cases h : (y2 : ℕ) < 12
  · rw [dif_pos h]
    exact kb_k m c t y1 ⟨2176 + y2, by omega⟩ ⟨t.val / 32, by omega⟩ ⟨512 * (t.val % 32) + y1, by omega⟩ ⟨640 + y2, by omega⟩ rfl rfl (by first | omega | (dsimp only; omega)) (by first | omega | (dsimp only; omega)) (by first | omega | (dsimp only; omega))
  · rw [dif_neg h]
    exact kb_z m c t y1 ⟨2176 + y2, by omega⟩ (by first | omega | (dsimp only; omega))

/-! ## The results -/

theorem final3 (c : Dev nD) : (dats m 0 c).arrAt 3 (cfgs 0).N = r3 (proj m c) := by
  refine (dats m 0 c).arrAt_eq_of_covers 3 _ (by decide +kernel) fun t _ y => ?_
  blk_simp
  rw [after0_3]
  exact point3 m c t y

theorem final4 (c : Dev nD) : (dats m 0 c).arrAt 4 (cfgs 0).N = r4 (proj m c) := by
  refine (dats m 0 c).arrAt_eq_of_covers 4 _ (by decide +kernel) fun t _ y => ?_
  blk_simp
  rw [after0_4]
  exact point4 m c t y

theorem final5 (c : Dev nD) : (dats m 0 c).arrAt 5 (cfgs 0).N = r5 (proj m c) := by
  refine (dats m 0 c).arrAt_eq_of_covers 5 _ (by decide +kernel) fun t _ y => ?_
  blk_simp
  rw [after0_5]
  exact point5 m c t y

theorem final6 (c : Dev nD) : (dats m 0 c).arrAt 6 (cfgs 0).N = r6 (proj m c) := by
  refine (dats m 0 c).arrAt_eq_of_covers 6 _ (by decide +kernel) fun t _ y => ?_
  blk_simp
  rw [after0_6]
  exact point6 m c t y

theorem final7 (c : Dev nD) : (dats m 0 c).arrAt 7 (cfgs 0).N = r7 (proj m c) := by
  refine (dats m 0 c).arrAt_eq_of_covers 7 _ (by decide +kernel) fun t _ y => ?_
  blk_simp
  rw [after0_7]
  exact point7 m c t y

theorem final8 (c : Dev nD) : (dats m 0 c).arrAt 8 (cfgs 0).N = r8 (proj m c) := by
  refine (dats m 0 c).arrAt_eq_of_covers 8 _ (by decide +kernel) fun t _ y => ?_
  blk_simp
  rw [after0_8]
  exact point8 m c t y

theorem final9 (c : Dev nD) : (dats m 0 c).arrAt 9 (cfgs 0).N = r9 (proj m c) := by
  refine (dats m 0 c).arrAt_eq_of_covers 9 _ (by decide +kernel) fun t _ y => ?_
  blk_simp
  rw [after0_9]
  exact point9 m c t y

theorem final10 (c : Dev nD) : (dats m 0 c).arrAt 10 (cfgs 0).N = r10 (proj m c) := by
  refine (dats m 0 c).arrAt_eq_of_covers 10 _ (by decide +kernel) fun t _ y => ?_
  blk_simp
  rw [after0_10]
  exact point10 m c t y

theorem final11 (c : Dev nD) : (dats m 0 c).arrAt 11 (cfgs 0).N = r11 (proj m c) := by
  refine (dats m 0 c).arrAt_eq_of_covers 11 _ (by decide +kernel) fun t _ y => ?_
  blk_simp
  rw [after0_11]
  exact point11 m c t y

theorem final12 (c : Dev nD) : (dats m 0 c).arrAt 12 (cfgs 0).N = r12 (proj m c) := by
  refine (dats m 0 c).arrAt_eq_of_covers 12 _ (by decide +kernel) fun t _ y => ?_
  blk_simp
  rw [after0_12]
  exact point12 m c t y

theorem final13 (c : Dev nD) : (dats m 0 c).arrAt 13 (cfgs 0).N = r13 (proj m c) := by
  refine (dats m 0 c).arrAt_eq_of_covers 13 _ (by decide +kernel) fun t _ y => ?_
  blk_simp
  rw [after0_13]
  exact point13 m c t y

theorem final14 (c : Dev nD) : (dats m 0 c).arrAt 14 (cfgs 0).N = r14 (proj m c) := by
  refine (dats m 0 c).arrAt_eq_of_covers 14 _ (by decide +kernel) fun t _ y => ?_
  blk_simp
  rw [after0_14]
  exact point14 m c t y

theorem final15 (c : Dev nD) : (dats m 0 c).arrAt 15 (cfgs 0).N = r15 (proj m c) := by
  refine (dats m 0 c).arrAt_eq_of_covers 15 _ (by decide +kernel) fun t _ y => ?_
  blk_simp
  rw [after0_15]
  exact point15 m c t y

set_option maxHeartbeats 2000000 in
theorem algebraic : Cert.algebraic_Kernel5Ideal_Reference5Ideal := by
  pair_intro
  · run_from Cert.Kernel5Ideal.Value.run_blocks m g
  · refine θ_run_mono (Cert.Reference5Ideal.Value.run m' g') fun r hr c => ?_
    obtain ⟨h0, h1, h2⟩ := hagree c
    have hP : proj m c = rP (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1))
        (m' ((c.tc : Thread Cert.Reference5Ideal.nD Cert.Reference5Ideal.τ).loc Cert.Reference5Ideal.main_arg2)) := by
      unfold proj
      rw [h0, h1, h2]
    obtain ⟨e3, e4, e5, e6, e7, e8, e9, e10, e11, e12, e13, e14, e15, rest⟩ := hr c
    refine ⟨e3.trans ?_, e4.trans ?_, e5.trans ?_, e6.trans ?_, e7.trans ?_, e8.trans ?_, e9.trans ?_, e10.trans ?_, e11.trans ?_, e12.trans ?_, e13.trans ?_, e14.trans ?_, e15.trans ?_, rest⟩

    · rw [final3 m c, hP]
      rfl
    · rw [final4 m c, hP]
      rfl
    · rw [final5 m c, hP]
      rfl
    · rw [final6 m c, hP]
      rfl
    · rw [final7 m c, hP]
      rfl
    · rw [final8 m c, hP]
      rfl
    · rw [final9 m c, hP]
      rfl
    · rw [final10 m c, hP]
      rfl
    · rw [final11 m c, hP]
      rfl
    · rw [final12 m c, hP]
      rfl
    · rw [final13 m c, hP]
      rfl
    · rw [final14 m c, hP]
      rfl
    · rw [final15 m c, hP]
      rfl

end Cert.Proj

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.ReferenceIdeal.Run
public import proofs.«01_k».proof.Proof.Gen.Reference2Ideal.Run
public import proofs.«01_k».proof.Proof.PreFinite
public import proofs.«01_k».proof.Proof.FfnValue
public import proofs.«01_k».proof.Proof.SwaValue
public import proofs.«01_k».proof.Proof.SbKernel3Run
public import proofs.«01_k».proof.Proof.SbKernel3IdealRun
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.PreFinite3
public import proofs.«01_k».proof.Proof.SbValue
public import proofs.«01_k».proof.Proof.OutValue
public import proofs.«01_k».proof.Proof.ProjValue
public import Idealize.ShloMosaic.Adequacy
public import Idealize.ShloMosaic.Init

@[expose] public section

noncomputable section

namespace Cert.Proof

open Idealize.ShloMosaic Idealize.SL.Sem

/-- The attention reference ends, its arguments unchanged and every counter at zero. -/
theorem swaRef : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The feed-forward reference ends, its arguments unchanged and every counter at zero. -/
theorem ffnRef : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- The stick-breaking reference ends, its arguments unchanged and every counter at zero. -/
theorem sbRef : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

/-- The output projection's reference ends, its arguments unchanged and every counter at zero. -/
theorem outRef : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

/-- The input projection's reference ends, its arguments unchanged and every counter at zero. -/
theorem projRef : Cert.quiescent_Reference5Ideal := fun m g _ =>
  (θ_run Cert.Reference5Ideal.defs _ _).mono (fun r h => ⟨fun c => (h c).2.2.2.2.2.2.2.2.2.2.2.2.2, sem_eq_zero_of_no_sems (by decide) r.2⟩)
    (Cert.Reference5Ideal.Value.run (F := Ideal) m g)

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_finite.factsHold, Cert.Pre_finite3.factsHold,
    fun m g _ => Cert.Kernel.Gen.frame m g, fun m g _ => Cert.KernelIdeal.Gen.frame m g, fun m g _ => Cert.KernelIdeal.Gen.frame m g,
    swaRef, fun m g _ => swaRef m g trivial, fun m g _ => Cert.Kernel2.Gen.frame m g,
    fun m g _ => Cert.Kernel2Ideal.Gen.frame m g, ffnRef,
    fun m g _ => Cert.Kernel3.Sb.frame m g, fun m g _ => Cert.Kernel3Ideal.Sb.frame m g, fun m g _ => Cert.Kernel3Ideal.Sb.frame m g,
    sbRef, fun m g _ => sbRef m g trivial, fun m g _ => Cert.Kernel4.Gen.frame m g,
    fun m g _ => Cert.Kernel4Ideal.Gen.frame m g, outRef,
    fun m g _ => Cert.Kernel5.Gen.frame m g, fun m g _ => Cert.Kernel5Ideal.Gen.frame m g, projRef,
    IdealRules.named_const.statement Cert.KernelIdeal.κ "mask" .f32 0xF149F2CA#32 ⊥ rfl,
    Cert.Swa.algebraic, trivial, Cert.Ffn.algebraic,
    ⟨IdealRules.named_const.statement Cert.Kernel3Ideal.κ "log2e" .f32 0x3FB8AA3B#32 (((Real.log 2)⁻¹ : ℝ) : EReal) rfl,
      IdealRules.named_const.statement Cert.Kernel3Ideal.κ "floor" .f32 0xC3160A50#32 ⊥ rfl⟩,
    Cert.Sb.algebraic, trivial, Cert.Out.algebraic, trivial, Cert.Proj.algebraic⟩

end Cert.Proof

end
